-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fair [hPre_fair : Cert.Pre_fair.Facts] (m : (ℓ : Loc Cert.KernelIdeal.nD Cert.KernelIdeal.τ Cert.KernelIdeal.sig) → Buf (Elt Ideal) ℓ) : Prop :=
  ∀ c : Dev Cert.KernelIdeal.nD,
    (Cert.Pre_fair.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_fair.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_fair.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_fair.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_fair.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_fair.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_fair.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_fair.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_fair.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_fair.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fair [hPre_fair : Cert.Pre_fair.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fair.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_fair.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_fair.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_fair.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_fair.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_fair.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_fair.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_fair.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_fair.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_fair.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_fair [hKernelIdeal : Cert.KernelIdeal.Facts] [hPre_fair : Cert.Pre_fair.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fair m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_fair [hReferenceIdeal : Cert.ReferenceIdeal.Facts] [hPre_fair : Cert.Pre_fair.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fair m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "ratio" .f32 0x3ED2D2D3#32 ((11744051 / 28521267 : ℝ) : EReal)

def algebraic_KernelIdeal_ReferenceIdeal_pre_fair [hKernelIdeal : Cert.KernelIdeal.Facts] [hReferenceIdeal : Cert.ReferenceIdeal.Facts] [hPre_fair : Cert.Pre_fair.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fair m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_values_26)) (v1 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_values_26) = v0 c
          ∧ r.2.mem ((c.tc : Thread Cert.KernelIdeal.nD Cert.KernelIdeal.τ).loc Cert.KernelIdeal.main_v111) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values_49) = v0 c
          ∧ r.2.mem ((c.tc : Thread Cert.ReferenceIdeal.nD Cert.ReferenceIdeal.τ).loc Cert.ReferenceIdeal.main_v234) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_fair : Cert.Pre_fair.Facts),
    quiescent_Kernel (hKernel := hKernel)
    ∧ quiescent_KernelIdeal (hKernelIdeal := hKernelIdeal)
    ∧ quiescent_KernelIdeal_pre_fair (hKernelIdeal := hKernelIdeal) (hPre_fair := hPre_fair)
    ∧ quiescent_ReferenceIdeal (hReferenceIdeal := hReferenceIdeal)
    ∧ quiescent_ReferenceIdeal_pre_fair (hReferenceIdeal := hReferenceIdeal) (hPre_fair := hPre_fair)
    ∧ preserves_Kernel_KernelIdeal
    ∧ algebraic_KernelIdeal_ReferenceIdeal_pre_fair (hKernelIdeal := hKernelIdeal) (hReferenceIdeal := hReferenceIdeal) (hPre_fair := hPre_fair)
-- ==== Pre_fair.lean ====
abbrev S2x256x256x3 : Shape := ⟨4, ![2, 256, 256, 3]⟩
abbrev S2x128x128x3 : Shape := ⟨4, ![2, 128, 128, 3]⟩
abbrev S2x64x64x3 : Shape := ⟨4, ![2, 64, 64, 3]⟩
abbrev S2x32x32x3 : Shape := ⟨4, ![2, 32, 32, 3]⟩
abbrev S2x256x256x12 : Shape := ⟨4, ![2, 256, 256, 12]⟩
abbrev S2x128x128x12 : Shape := ⟨4, ![2, 128, 128, 12]⟩
abbrev S2x64x64x12 : Shape := ⟨4, ![2, 64, 64, 12]⟩
abbrev S2x32x32x12 : Shape := ⟨4, ![2, 32, 32, 12]⟩
abbrev S2x5 : Shape := ⟨2, ![2, 5]⟩
abbrev S2x2 : Shape := ⟨2, ![2, 2]⟩
abbrev S_ : Shape := ⟨0, ![]⟩
abbrev S2x196608x4 : Shape := ⟨3, ![2, 196608, 4]⟩
abbrev S2x196608x1 : Shape := ⟨3, ![2, 196608, 1]⟩
abbrev S2x196608 : Shape := ⟨2, ![2, 196608]⟩
abbrev S2x49152x4 : Shape := ⟨3, ![2, 49152, 4]⟩
abbrev S2x49152x1 : Shape := ⟨3, ![2, 49152, 1]⟩
abbrev S2x49152 : Shape := ⟨2, ![2, 49152]⟩
abbrev S2x12288x4 : Shape := ⟨3, ![2, 12288, 4]⟩
abbrev S2x12288x1 : Shape := ⟨3, ![2, 12288, 1]⟩
abbrev S2x12288 : Shape := ⟨2, ![2, 12288]⟩
abbrev S2x3072x4 : Shape := ⟨3, ![2, 3072, 4]⟩
abbrev S2x3072x1 : Shape := ⟨3, ![2, 3072, 1]⟩
abbrev S2x3072 : Shape := ⟨2, ![2, 3072]⟩

class Facts : Prop where
  slices_S2x5_S2x2_0_0 : S2x5.Slices ![0, 0] S2x2
  bcast_S_S2x2 : S_.BroadcastsInDim S2x2 (![] : Fin 0 → Fin S2x2.rank)
  shapeCasts_S2x256x256x12_S2x196608x4 : S2x256x256x12.ShapeCasts S2x196608x4
  slices_S2x196608x4_S2x196608x1_0_0_2 : S2x196608x4.Slices ![0, 0, 2] S2x196608x1
  shapeCasts_S2x196608x1_S2x196608 : S2x196608x1.ShapeCasts S2x196608
  slices_S2x196608x4_S2x196608x1_0_0_0 : S2x196608x4.Slices ![0, 0, 0] S2x196608x1
  bcast_S_S2x196608 : S_.BroadcastsInDim S2x196608 (![] : Fin 0 → Fin S2x196608.rank)
  slices_S2x196608x4_S2x196608x1_0_0_3 : S2x196608x4.Slices ![0, 0, 3] S2x196608x1
  slices_S2x196608x4_S2x196608x1_0_0_1 : S2x196608x4.Slices ![0, 0, 1] S2x196608x1
  shapeCasts_S2x128x128x12_S2x49152x4 : S2x128x128x12.ShapeCasts S2x49152x4
  slices_S2x49152x4_S2x49152x1_0_0_2 : S2x49152x4.Slices ![0, 0, 2] S2x49152x1
  shapeCasts_S2x49152x1_S2x49152 : S2x49152x1.ShapeCasts S2x49152
  slices_S2x49152x4_S2x49152x1_0_0_0 : S2x49152x4.Slices ![0, 0, 0] S2x49152x1
  bcast_S_S2x49152 : S_.BroadcastsInDim S2x49152 (![] : Fin 0 → Fin S2x49152.rank)
  slices_S2x49152x4_S2x49152x1_0_0_3 : S2x49152x4.Slices ![0, 0, 3] S2x49152x1
  slices_S2x49152x4_S2x49152x1_0_0_1 : S2x49152x4.Slices ![0, 0, 1] S2x49152x1
  shapeCasts_S2x64x64x12_S2x12288x4 : S2x64x64x12.ShapeCasts S2x12288x4
  slices_S2x12288x4_S2x12288x1_0_0_2 : S2x12288x4.Slices ![0, 0, 2] S2x12288x1
  shapeCasts_S2x12288x1_S2x12288 : S2x12288x1.ShapeCasts S2x12288
  slices_S2x12288x4_S2x12288x1_0_0_0 : S2x12288x4.Slices ![0, 0, 0] S2x12288x1
  bcast_S_S2x12288 : S_.BroadcastsInDim S2x12288 (![] : Fin 0 → Fin S2x12288.rank)
  slices_S2x12288x4_S2x12288x1_0_0_3 : S2x12288x4.Slices ![0, 0, 3] S2x12288x1
  slices_S2x12288x4_S2x12288x1_0_0_1 : S2x12288x4.Slices ![0, 0, 1] S2x12288x1
  shapeCasts_S2x32x32x12_S2x3072x4 : S2x32x32x12.ShapeCasts S2x3072x4
  slices_S2x3072x4_S2x3072x1_0_0_2 : S2x3072x4.Slices ![0, 0, 2] S2x3072x1
  shapeCasts_S2x3072x1_S2x3072 : S2x3072x1.ShapeCasts S2x3072
  slices_S2x3072x4_S2x3072x1_0_0_0 : S2x3072x4.Slices ![0, 0, 0] S2x3072x1
  bcast_S_S2x3072 : S_.BroadcastsInDim S2x3072 (![] : Fin 0 → Fin S2x3072.rank)
  slices_S2x3072x4_S2x3072x1_0_0_3 : S2x3072x4.Slices ![0, 0, 3] S2x3072x1
  slices_S2x3072x4_S2x3072x1_0_0_1 : S2x3072x4.Slices ![0, 0, 1] S2x3072x1

variable [Facts]

def fn_part4 {F : FTy → Type} [FloatOps F] (main_v2 : IVec S2x2 1) (main_v4 : IVec S2x2 1) (main_v14 : IVec S2x196608 1) (main_v23 : IVec S2x196608 1) (main_v33 : IVec S2x49152 1) (main_v42 : IVec S2x49152 1) (main_v52 : IVec S2x12288 1) (main_v61 : IVec S2x12288 1) (main_v71 : IVec S2x3072 1) (main_v78 : FVec F S2x3072 .f32) : IVec S2x2 1 × IVec S2x2 1 × IVec S2x196608 1 × IVec S2x196608 1 × IVec S2x49152 1 × IVec S2x49152 1 × IVec S2x12288 1 × IVec S2x12288 1 × IVec S2x3072 1 × IVec S2x3072 1 :=
  let main_cst_16 : FVec F S_ .f32 := constant S_ .f32 0x00000000#32
  let main_v79 : FVec F S2x3072 .f32 := broadcastInDim S2x3072 ![] bcast_S_S2x3072 main_cst_16
  let main_v80 : IVec S2x3072 1 := cmpf .oge main_v78 main_v79
  (main_v2, main_v4, main_v14, main_v23, main_v33, main_v42, main_v52, main_v61, main_v71, main_v80)

def fn_part3 {F : FTy → Type} [FloatOps F] (main_arg11 : FVec F S2x32x32x12 .f32) (main_v2 : IVec S2x2 1) (main_v4 : IVec S2x2 1) (main_v14 : IVec S2x196608 1) (main_v23 : IVec S2x196608 1) (main_v33 : IVec S2x49152 1) (main_v42 : IVec S2x49152 1) (main_v52 : IVec S2x12288 1) (main_v57 : FVec F S2x12288 .f32) (main_v58 : FVec F S2x12288 .f32) : IVec S2x2 1 × IVec S2x2 1 × IVec S2x196608 1 × IVec S2x196608 1 × IVec S2x49152 1 × IVec S2x49152 1 × IVec S2x12288 1 × IVec S2x12288 1 × IVec S2x3072 1 × IVec S2x3072 1 :=
  let main_v59 : FVec F S2x12288 .f32 := addf main_v57 main_v58
  let main_cst_12 : FVec F S_ .f32 := constant S_ .f32 0x00000000#32
  let main_v60 : FVec F S2x12288 .f32 := broadcastInDim S2x12288 ![] bcast_S_S2x12288 main_cst_12
  let main_v61 : IVec S2x12288 1 := cmpf .oge main_v59 main_v60
  let main_v62 : FVec F S2x3072x4 .f32 := shapeCast S2x3072x4 main_arg11 shapeCasts_S2x32x32x12_S2x3072x4
  let main_v63 : FVec F S2x3072x1 .f32 := (extractStridedSlice S2x3072x1 ![0, 0, 2] · slices_S2x3072x4_S2x3072x1_0_0_2) main_v62
  let main_v64 : FVec F S2x3072 .f32 := shapeCast S2x3072 main_v63 shapeCasts_S2x3072x1_S2x3072
  let main_v65 : FVec F S2x3072x1 .f32 := (extractStridedSlice S2x3072x1 ![0, 0, 0] · slices_S2x3072x4_S2x3072x1_0_0_0) main_v62
  let main_v66 : FVec F S2x3072 .f32 := shapeCast S2x3072 main_v65 shapeCasts_S2x3072x1_S2x3072
  let main_v67 : FVec F S2x3072 .f32 := subf main_v64 main_v66
  let main_cst_13 : FVec F S_ .f32 := constant S_ .f32 0x3F800000#32
  let main_v68 : FVec F S2x3072 .f32 := broadcastInDim S2x3072 ![] bcast_S_S2x3072 main_cst_13
  let main_v69 : FVec F S2x3072 .f32 := addf main_v67 main_v68
  let main_cst_14 : FVec F S_ .f32 := constant S_ .f32 0x00000000#32
  let main_v70 : FVec F S2x3072 .f32 := broadcastInDim S2x3072 ![] bcast_S_S2x3072 main_cst_14
  let main_v71 : IVec S2x3072 1 := cmpf .oge main_v69 main_v70
  let main_v72 : FVec F S2x3072x1 .f32 := (extractStridedSlice S2x3072x1 ![0, 0, 3] · slices_S2x3072x4_S2x3072x1_0_0_3) main_v62
  let main_v73 : FVec F S2x3072 .f32 := shapeCast S2x3072 main_v72 shapeCasts_S2x3072x1_S2x3072
  let main_v74 : FVec F S2x3072x1 .f32 := (extractStridedSlice S2x3072x1 ![0, 0, 1] · slices_S2x3072x4_S2x3072x1_0_0_1) main_v62
  let main_v75 : FVec F S2x3072 .f32 := shapeCast S2x3072 main_v74 shapeCasts_S2x3072x1_S2x3072
  let main_v76 : FVec F S2x3072 .f32 := subf main_v73 main_v75
  let main_cst_15 : FVec F S_ .f32 := constant S_ .f32 0x3F800000#32
  let main_v77 : FVec F S2x3072 .f32 := broadcastInDim S2x3072 ![] bcast_S_S2x3072 main_cst_15
  let main_v78 : FVec F S2x3072 .f32 := addf main_v76 main_v77
  fn_part4 (F := F) main_v2 main_v4 main_v14 main_v23 main_v33 main_v42 main_v52 main_v61 main_v71 main_v78

def fn_part2 {F : FTy → Type} [FloatOps F] (main_arg10 : FVec F S2x64x64x12 .f32) (main_arg11 : FVec F S2x32x32x12 .f32) (main_v2 : IVec S2x2 1) (main_v4 : IVec S2x2 1) (main_v14 : IVec S2x196608 1) (main_v23 : IVec S2x196608 1) (main_v33 : IVec S2x49152 1) (main_v38 : FVec F S2x49152 .f32) (main_cst_7 : FVec F S_ .f32) : IVec S2x2 1 × IVec S2x2 1 × IVec S2x196608 1 × IVec S2x196608 1 × IVec S2x49152 1 × IVec S2x49152 1 × IVec S2x12288 1 × IVec S2x12288 1 × IVec S2x3072 1 × IVec S2x3072 1 :=
  let main_v39 : FVec F S2x49152 .f32 := broadcastInDim S2x49152 ![] bcast_S_S2x49152 main_cst_7
  let main_v40 : FVec F S2x49152 .f32 := addf main_v38 main_v39
  let main_cst_8 : FVec F S_ .f32 := constant S_ .f32 0x00000000#32
  let main_v41 : FVec F S2x49152 .f32 := broadcastInDim S2x49152 ![] bcast_S_S2x49152 main_cst_8
  let main_v42 : IVec S2x49152 1 := cmpf .oge main_v40 main_v41
  let main_v43 : FVec F S2x12288x4 .f32 := shapeCast S2x12288x4 main_arg10 shapeCasts_S2x64x64x12_S2x12288x4
  let main_v44 : FVec F S2x12288x1 .f32 := (extractStridedSlice S2x12288x1 ![0, 0, 2] · slices_S2x12288x4_S2x12288x1_0_0_2) main_v43
  let main_v45 : FVec F S2x12288 .f32 := shapeCast S2x12288 main_v44 shapeCasts_S2x12288x1_S2x12288
  let main_v46 : FVec F S2x12288x1 .f32 := (extractStridedSlice S2x12288x1 ![0, 0, 0] · slices_S2x12288x4_S2x12288x1_0_0_0) main_v43
  let main_v47 : FVec F S2x12288 .f32 := shapeCast S2x12288 main_v46 shapeCasts_S2x12288x1_S2x12288
  let main_v48 : FVec F S2x12288 .f32 := subf main_v45 main_v47
  let main_cst_9 : FVec F S_ .f32 := constant S_ .f32 0x3F800000#32
  let main_v49 : FVec F S2x12288 .f32 := broadcastInDim S2x12288 ![] bcast_S_S2x12288 main_cst_9
  let main_v50 : FVec F S2x12288 .f32 := addf main_v48 main_v49
  let main_cst_10 : FVec F S_ .f32 := constant S_ .f32 0x00000000#32
  let main_v51 : FVec F S2x12288 .f32 := broadcastInDim S2x12288 ![] bcast_S_S2x12288 main_cst_10
  let main_v52 : IVec S2x12288 1 := cmpf .oge main_v50 main_v51
  let main_v53 : FVec F S2x12288x1 .f32 := (extractStridedSlice S2x12288x1 ![0, 0, 3] · slices_S2x12288x4_S2x12288x1_0_0_3) main_v43
  let main_v54 : FVec F S2x12288 .f32 := shapeCast S2x12288 main_v53 shapeCasts_S2x12288x1_S2x12288
  let main_v55 : FVec F S2x12288x1 .f32 := (extractStridedSlice S2x12288x1 ![0, 0, 1] · slices_S2x12288x4_S2x12288x1_0_0_1) main_v43
  let main_v56 : FVec F S2x12288 .f32 := shapeCast S2x12288 main_v55 shapeCasts_S2x12288x1_S2x12288
  let main_v57 : FVec F S2x12288 .f32 := subf main_v54 main_v56
  let main_cst_11 : FVec F S_ .f32 := constant S_ .f32 0x3F800000#32
  let main_v58 : FVec F S2x12288 .f32 := broadcastInDim S2x12288 ![] bcast_S_S2x12288 main_cst_11
  fn_part3 (F := F) main_arg11 main_v2 main_v4 main_v14 main_v23 main_v33 main_v42 main_v52 main_v57 main_v58

def fn_part1 {F : FTy → Type} [FloatOps F] (main_arg9 : FVec F S2x128x128x12 .f32) (main_arg10 : FVec F S2x64x64x12 .f32) (main_arg11 : FVec F S2x32x32x12 .f32) (main_v2 : IVec S2x2 1) (main_v4 : IVec S2x2 1) (main_v14 : IVec S2x196608 1) (main_v19 : FVec F S2x196608 .f32) : IVec S2x2 1 × IVec S2x2 1 × IVec S2x196608 1 × IVec S2x196608 1 × IVec S2x49152 1 × IVec S2x49152 1 × IVec S2x12288 1 × IVec S2x12288 1 × IVec S2x3072 1 × IVec S2x3072 1 :=
  let main_cst_3 : FVec F S_ .f32 := constant S_ .f32 0x3F800000#32
  let main_v20 : FVec F S2x196608 .f32 := broadcastInDim S2x196608 ![] bcast_S_S2x196608 main_cst_3
  let main_v21 : FVec F S2x196608 .f32 := addf main_v19 main_v20
  let main_cst_4 : FVec F S_ .f32 := constant S_ .f32 0x00000000#32
  let main_v22 : FVec F S2x196608 .f32 := broadcastInDim S2x196608 ![] bcast_S_S2x196608 main_cst_4
  let main_v23 : IVec S2x196608 1 := cmpf .oge main_v21 main_v22
  let main_v24 : FVec F S2x49152x4 .f32 := shapeCast S2x49152x4 main_arg9 shapeCasts_S2x128x128x12_S2x49152x4
  let main_v25 : FVec F S2x49152x1 .f32 := (extractStridedSlice S2x49152x1 ![0, 0, 2] · slices_S2x49152x4_S2x49152x1_0_0_2) main_v24
  let main_v26 : FVec F S2x49152 .f32 := shapeCast S2x49152 main_v25 shapeCasts_S2x49152x1_S2x49152
  let main_v27 : FVec F S2x49152x1 .f32 := (extractStridedSlice S2x49152x1 ![0, 0, 0] · slices_S2x49152x4_S2x49152x1_0_0_0) main_v24
  let main_v28 : FVec F S2x49152 .f32 := shapeCast S2x49152 main_v27 shapeCasts_S2x49152x1_S2x49152
  let main_v29 : FVec F S2x49152 .f32 := subf main_v26 main_v28
  let main_cst_5 : FVec F S_ .f32 := constant S_ .f32 0x3F800000#32
  let main_v30 : FVec F S2x49152 .f32 := broadcastInDim S2x49152 ![] bcast_S_S2x49152 main_cst_5
  let main_v31 : FVec F S2x49152 .f32 := addf main_v29 main_v30
  let main_cst_6 : FVec F S_ .f32 := constant S_ .f32 0x00000000#32
  let main_v32 : FVec F S2x49152 .f32 := broadcastInDim S2x49152 ![] bcast_S_S2x49152 main_cst_6
  let main_v33 : IVec S2x49152 1 := cmpf .oge main_v31 main_v32
  let main_v34 : FVec F S2x49152x1 .f32 := (extractStridedSlice S2x49152x1 ![0, 0, 3] · slices_S2x49152x4_S2x49152x1_0_0_3) main_v24
  let main_v35 : FVec F S2x49152 .f32 := shapeCast S2x49152 main_v34 shapeCasts_S2x49152x1_S2x49152
  let main_v36 : FVec F S2x49152x1 .f32 := (extractStridedSlice S2x49152x1 ![0, 0, 1] · slices_S2x49152x4_S2x49152x1_0_0_1) main_v24
  let main_v37 : FVec F S2x49152 .f32 := shapeCast S2x49152 main_v36 shapeCasts_S2x49152x1_S2x49152
  let main_v38 : FVec F S2x49152 .f32 := subf main_v35 main_v37
  let main_cst_7 : FVec F S_ .f32 := constant S_ .f32 0x3F800000#32
  fn_part2 (F := F) main_arg10 main_arg11 main_v2 main_v4 main_v14 main_v23 main_v33 main_v38 main_cst_7

def fn {F : FTy → Type} [FloatOps F] (main_arg0 : FVec F S2x256x256x3 .f32) (main_arg1 : FVec F S2x128x128x3 .f32) (main_arg2 : FVec F S2x64x64x3 .f32) (main_arg3 : FVec F S2x32x32x3 .f32) (main_arg4 : FVec F S2x256x256x12 .f32) (main_arg5 : FVec F S2x128x128x12 .f32) (main_arg6 : FVec F S2x64x64x12 .f32) (main_arg7 : FVec F S2x32x32x12 .f32) (main_arg8 : FVec F S2x256x256x12 .f32) (main_arg9 : FVec F S2x128x128x12 .f32) (main_arg10 : FVec F S2x64x64x12 .f32) (main_arg11 : FVec F S2x32x32x12 .f32) (main_arg12 : FVec F S2x5 .f32) : IVec S2x2 1 × IVec S2x2 1 × IVec S2x196608 1 × IVec S2x196608 1 × IVec S2x49152 1 × IVec S2x49152 1 × IVec S2x12288 1 × IVec S2x12288 1 × IVec S2x3072 1 × IVec S2x3072 1 :=
  let main_v0 : FVec F S2x2 .f32 := (extractStridedSlice S2x2 ![0, 0] · slices_S2x5_S2x2_0_0) main_arg12
  let main_cst : FVec F S_ .f32 := constant S_ .f32 0x7F800000#32
  let main_v1 : FVec F S2x2 .f32 := broadcastInDim S2x2 ![] bcast_S_S2x2 main_cst
  let main_v2 : IVec S2x2 1 := cmpf .olt main_v0 main_v1
  let main_cst_0 : FVec F S_ .f32 := constant S_ .f32 0xFF800000#32
  let main_v3 : FVec F S2x2 .f32 := broadcastInDim S2x2 ![] bcast_S_S2x2 main_cst_0
  let main_v4 : IVec S2x2 1 := cmpf .ogt main_v0 main_v3
  let main_v5 : FVec F S2x196608x4 .f32 := shapeCast S2x196608x4 main_arg8 shapeCasts_S2x256x256x12_S2x196608x4
  let main_v6 : FVec F S2x196608x1 .f32 := (extractStridedSlice S2x196608x1 ![0, 0, 2] · slices_S2x196608x4_S2x196608x1_0_0_2) main_v5
  let main_v7 : FVec F S2x196608 .f32 := shapeCast S2x196608 main_v6 shapeCasts_S2x196608x1_S2x196608
  let main_v8 : FVec F S2x196608x1 .f32 := (extractStridedSlice S2x196608x1 ![0, 0, 0] · slices_S2x196608x4_S2x196608x1_0_0_0) main_v5
  let main_v9 : FVec F S2x196608 .f32 := shapeCast S2x196608 main_v8 shapeCasts_S2x196608x1_S2x196608
  let main_v10 : FVec F S2x196608 .f32 := subf main_v7 main_v9
  let main_cst_1 : FVec F S_ .f32 := constant S_ .f32 0x3F800000#32
  let main_v11 : FVec F S2x196608 .f32 := broadcastInDim S2x196608 ![] bcast_S_S2x196608 main_cst_1
  let main_v12 : FVec F S2x196608 .f32 := addf main_v10 main_v11
  let main_cst_2 : FVec F S_ .f32 := constant S_ .f32 0x00000000#32
  let main_v13 : FVec F S2x196608 .f32 := broadcastInDim S2x196608 ![] bcast_S_S2x196608 main_cst_2
  let main_v14 : IVec S2x196608 1 := cmpf .oge main_v12 main_v13
  let main_v15 : FVec F S2x196608x1 .f32 := (extractStridedSlice S2x196608x1 ![0, 0, 3] · slices_S2x196608x4_S2x196608x1_0_0_3) main_v5
  let main_v16 : FVec F S2x196608 .f32 := shapeCast S2x196608 main_v15 shapeCasts_S2x196608x1_S2x196608
  let main_v17 : FVec F S2x196608x1 .f32 := (extractStridedSlice S2x196608x1 ![0, 0, 1] · slices_S2x196608x4_S2x196608x1_0_0_1) main_v5
  let main_v18 : FVec F S2x196608 .f32 := shapeCast S2x196608 main_v17 shapeCasts_S2x196608x1_S2x196608
  let main_v19 : FVec F S2x196608 .f32 := subf main_v16 main_v18
  fn_part1 (F := F) main_arg9 main_arg10 main_arg11 main_v2 main_v4 main_v14 main_v19
-- ==== Kernel.lean ====
abbrev S2x256x256x3 : Shape := ⟨4, ![2, 256, 256, 3]⟩
abbrev S2x128x128x3 : Shape := ⟨4, ![2, 128, 128, 3]⟩
abbrev S2x64x64x3 : Shape := ⟨4, ![2, 64, 64, 3]⟩
abbrev S2x32x32x3 : Shape := ⟨4, ![2, 32, 32, 3]⟩
abbrev S2x256x256x12 : Shape := ⟨4, ![2, 256, 256, 12]⟩
abbrev S2x128x128x12 : Shape := ⟨4, ![2, 128, 128, 12]⟩
abbrev S2x64x64x12 : Shape := ⟨4, ![2, 64, 64, 12]⟩
abbrev S2x32x32x12 : Shape := ⟨4, ![2, 32, 32, 12]⟩
abbrev S2x5 : Shape := ⟨2, ![2, 5]⟩
abbrev S2x1 : Shape := ⟨2, ![2, 1]⟩
abbrev S2 : Shape := ⟨1, ![2]⟩
abbrev S_ : Shape := ⟨0, ![]⟩
abbrev S2x196608 : Shape := ⟨2, ![2, 196608]⟩
abbrev S2x196608x4 : Shape := ⟨3, ![2, 196608, 4]⟩
abbrev S2x2000 : Shape := ⟨2, ![2, 2000]⟩
abbrev S2x2000x1 : Shape := ⟨3, ![2, 2000, 1]⟩
abbrev S1 : Shape := ⟨1, ![1]⟩
abbrev S1x1x1 : Shape := ⟨3, ![1, 1, 1]⟩
abbrev S2x2000x4 : Shape := ⟨3, ![2, 2000, 4]⟩
abbrev S2x2048 : Shape := ⟨2, ![2, 2048]⟩
abbrev S2x2048x4 : Shape := ⟨3, ![2, 2048, 4]⟩
abbrev S2x1x16x128 : Shape := ⟨4, ![2, 1, 16, 128]⟩
abbrev S2x4x2048 : Shape := ⟨3, ![2, 4, 2048]⟩
abbrev S2x4x16x128 : Shape := ⟨4, ![2, 4, 16, 128]⟩
abbrev S2x1x1x1 : Shape := ⟨4, ![2, 1, 1, 1]⟩
abbrev S2x1x1x128 : Shape := ⟨4, ![2, 1, 1, 128]⟩
abbrev S1x1x16x128 : Shape := ⟨4, ![1, 1, 16, 128]⟩
abbrev S1x4x16x128 : Shape := ⟨4, ![1, 4, 16, 128]⟩
abbrev S1x1x1x128 : Shape := ⟨4, ![1, 1, 1, 128]⟩
abbrev S16x128 : Shape := ⟨2, ![16, 128]⟩
abbrev S1x128 : Shape := ⟨2, ![1, 128]⟩
abbrev S1x1x128 : Shape := ⟨3, ![1, 1, 128]⟩
abbrev S15x128 : Shape := ⟨2, ![15, 128]⟩
abbrev S14x128 : Shape := ⟨2, ![14, 128]⟩
abbrev S13x128 : Shape := ⟨2, ![13, 128]⟩
abbrev S12x128 : Shape := ⟨2, ![12, 128]⟩
abbrev S11x128 : Shape := ⟨2, ![11, 128]⟩
abbrev S10x128 : Shape := ⟨2, ![10, 128]⟩
abbrev S9x128 : Shape := ⟨2, ![9, 128]⟩
abbrev S8x128 : Shape := ⟨2, ![8, 128]⟩
abbrev S7x128 : Shape := ⟨2, ![7, 128]⟩
abbrev S6x128 : Shape := ⟨2, ![6, 128]⟩
abbrev S5x128 : Shape := ⟨2, ![5, 128]⟩
abbrev S4x128 : Shape := ⟨2, ![4, 128]⟩
abbrev S3x128 : Shape := ⟨2, ![3, 128]⟩
abbrev S2x128 : Shape := ⟨2, ![2, 128]⟩
abbrev S2x1000 : Shape := ⟨2, ![2, 1000]⟩
abbrev S2x1000x1 : Shape := ⟨3, ![2, 1000, 1]⟩
abbrev S2x1000x4 : Shape := ⟨3, ![2, 1000, 4]⟩
abbrev S2x49152 : Shape := ⟨2, ![2, 49152]⟩
abbrev S2x49152x4 : Shape := ⟨3, ![2, 49152, 4]⟩
abbrev S2x12288 : Shape := ⟨2, ![2, 12288]⟩
abbrev S2x12288x4 : Shape := ⟨3, ![2, 12288, 4]⟩
abbrev S2x3072 : Shape := ⟨2, ![2, 3072]⟩
abbrev S2x3072x4 : Shape := ⟨3, ![2, 3072, 4]⟩
abbrev S2x4000 : Shape := ⟨2, ![2, 4000]⟩
abbrev S2x4000x4 : Shape := ⟨3, ![2, 4000, 4]⟩

abbrev nBuf : Space → Nat
  | .hbm => 446
  | .vmem => 56
  | .smem => 0
  | _ => 0

abbrev hbmTy0_0 (i : Nat) : BufTy := match i % 128 with
  | 0 => ⟨S2x256x256x3, .f32⟩
  | 1 => ⟨S2x128x128x3, .f32⟩
  | 2 => ⟨S2x64x64x3, .f32⟩
  | 3 => ⟨S2x32x32x3, .f32⟩
  | 4 => ⟨S2x256x256x12, .f32⟩
  | 5 => ⟨S2x128x128x12, .f32⟩
  | 6 => ⟨S2x64x64x12, .f32⟩
  | 7 => ⟨S2x32x32x12, .f32⟩
  | 8 => ⟨S2x256x256x12, .f32⟩
  | 9 => ⟨S2x128x128x12, .f32⟩
  | 10 => ⟨S2x64x64x12, .f32⟩
  | 11 => ⟨S2x32x32x12, .f32⟩
  | 12 => ⟨S2x5, .f32⟩
  | 13 => ⟨S2x1, .f32⟩
  | 14 => ⟨S2, .f32⟩
  | 15 => ⟨S_, .f32⟩
  | 16 => ⟨S2, .f32⟩
  | 17 => ⟨S2, .f32⟩
  | 18 => ⟨S2x1, .f32⟩
  | 19 => ⟨S2, .f32⟩
  | 20 => ⟨S_, .f32⟩
  | 21 => ⟨S2, .f32⟩
  | 22 => ⟨S2, .f32⟩
  | 23 => ⟨S2x196608, .f32⟩
  | 24 => ⟨S2x196608x4, .f32⟩
  | 25 => ⟨S2x196608x4, .f32⟩
  | 26 => ⟨S2x2000, .f32⟩
  | 27 => ⟨S2x2000, .i32⟩
  | 28 => ⟨S2x2000x1, .i32⟩
  | 29 => ⟨S_, .i32⟩
  | 30 => ⟨S2x2000x1, .i32⟩
  | 31 => ⟨S2x2000x1, .i1⟩
  | 32 => ⟨S_, .i32⟩
  | 33 => ⟨S2x2000x1, .i32⟩
  | 34 => ⟨S2x2000x1, .i32⟩
  | 35 => ⟨S2x2000x1, .i32⟩
  | 36 => ⟨S1, .i32⟩
  | 37 => ⟨S_, .i32⟩
  | 38 => ⟨S2x2000x1, .i32⟩
  | 39 => ⟨S2x2000x1, .i1⟩
  | 40 => ⟨S1x1x1, .i32⟩
  | 41 => ⟨S2x2000x1, .i32⟩
  | 42 => ⟨S2x2000x1, .i1⟩
  | 43 => ⟨S2x2000x1, .i1⟩
  | 44 => ⟨S_, .i1⟩
  | 45 => ⟨S2x2000, .i1⟩
  | 46 => ⟨S2x2000x4, .f32⟩
  | 47 => ⟨S2x2000x4, .i1⟩
  | 48 => ⟨S_, .f32⟩
  | 49 => ⟨S2x2000x4, .f32⟩
  | 50 => ⟨S2x2000x4, .f32⟩
  | 51 => ⟨S2x2000x1, .i32⟩
  | 52 => ⟨S_, .i32⟩
  | 53 => ⟨S2x2000x1, .i32⟩
  | 54 => ⟨S2x2000x1, .i1⟩
  | 55 => ⟨S_, .i32⟩
  | 56 => ⟨S2x2000x1, .i32⟩
  | 57 => ⟨S2x2000x1, .i32⟩
  | 58 => ⟨S2x2000x1, .i32⟩
  | 59 => ⟨S1, .i32⟩
  | 60 => ⟨S_, .i32⟩
  | 61 => ⟨S2x2000x1, .i32⟩
  | 62 => ⟨S2x2000x1, .i1⟩
  | 63 => ⟨S1x1x1, .i32⟩
  | 64 => ⟨S2x2000x1, .i32⟩
  | 65 => ⟨S2x2000x1, .i1⟩
  | 66 => ⟨S2x2000x1, .i1⟩
  | 67 => ⟨S_, .i1⟩
  | 68 => ⟨S2x2000, .i1⟩
  | 69 => ⟨S2x2000x4, .f32⟩
  | 70 => ⟨S2x2000x4, .i1⟩
  | 71 => ⟨S_, .f32⟩
  | 72 => ⟨S2x2000x4, .f32⟩
  | 73 => ⟨S2x2000x4, .f32⟩
  | 74 => ⟨S_, .i32⟩
  | 75 => ⟨S_, .f32⟩
  | 76 => ⟨S2x2048, .f32⟩
  | 77 => ⟨S_, .i32⟩
  | 78 => ⟨S_, .f32⟩
  | 79 => ⟨S2x2048x4, .f32⟩
  | 80 => ⟨S_, .i32⟩
  | 81 => ⟨S_, .f32⟩
  | 82 => ⟨S2x2048x4, .f32⟩
  | 83 => ⟨S2x1x16x128, .f32⟩
  | 84 => ⟨S2x4x2048, .f32⟩
  | 85 => ⟨S2x4x16x128, .f32⟩
  | 86 => ⟨S2x4x2048, .f32⟩
  | 87 => ⟨S2x4x16x128, .f32⟩
  | 88 => ⟨S2x1x1x1, .f32⟩
  | 89 => ⟨S2x1x1x128, .f32⟩
  | 90 => ⟨S2x1x1x1, .f32⟩
  | 91 => ⟨S2x1x1x128, .f32⟩
  | 92 => ⟨S2x4x16x128, .f32⟩
  | 93 => ⟨S2x1x16x128, .f32⟩
  | 94 => ⟨S2x4x2048, .f32⟩
  | 95 => ⟨S2x2048x4, .f32⟩
  | 96 => ⟨S2x2048, .f32⟩
  | 97 => ⟨S2x1000, .f32⟩
  | 98 => ⟨S2x1000, .i32⟩
  | 99 => ⟨S2x1000x1, .i32⟩
  | 100 => ⟨S_, .i32⟩
  | 101 => ⟨S2x1000x1, .i32⟩
  | 102 => ⟨S2x1000x1, .i1⟩
  | 103 => ⟨S_, .i32⟩
  | 104 => ⟨S2x1000x1, .i32⟩
  | 105 => ⟨S2x1000x1, .i32⟩
  | 106 => ⟨S2x1000x1, .i32⟩
  | 107 => ⟨S1, .i32⟩
  | 108 => ⟨S_, .i32⟩
  | 109 => ⟨S2x1000x1, .i32⟩
  | 110 => ⟨S2x1000x1, .i1⟩
  | 111 => ⟨S1x1x1, .i32⟩
  | 112 => ⟨S2x1000x1, .i32⟩
  | 113 => ⟨S2x1000x1, .i1⟩
  | 114 => ⟨S2x1000x1, .i1⟩
  | 115 => ⟨S_, .i1⟩
  | 116 => ⟨S2x1000, .i1⟩
  | 117 => ⟨S2x1000x4, .f32⟩
  | 118 => ⟨S2x1000x4, .i1⟩
  | 119 => ⟨S_, .f32⟩
  | 120 => ⟨S2x1000x4, .f32⟩
  | 121 => ⟨S2x1000x4, .f32⟩
  | 122 => ⟨S2x49152, .f32⟩
  | 123 => ⟨S2x49152x4, .f32⟩
  | 124 => ⟨S2x49152x4, .f32⟩
  | 125 => ⟨S2x2000, .f32⟩
  | 126 => ⟨S2x2000, .i32⟩
  | 127 => ⟨S2x2000x1, .i32⟩
  | _ => ⟨S2x256x256x3, .f32⟩

abbrev hbmTy0_1 (i : Nat) : BufTy := match i % 128 with
  | 0 => ⟨S_, .i32⟩
  | 1 => ⟨S2x2000x1, .i32⟩
  | 2 => ⟨S2x2000x1, .i1⟩
  | 3 => ⟨S_, .i32⟩
  | 4 => ⟨S2x2000x1, .i32⟩
  | 5 => ⟨S2x2000x1, .i32⟩
  | 6 => ⟨S2x2000x1, .i32⟩
  | 7 => ⟨S1, .i32⟩
  | 8 => ⟨S_, .i32⟩
  | 9 => ⟨S2x2000x1, .i32⟩
  | 10 => ⟨S2x2000x1, .i1⟩
  | 11 => ⟨S1x1x1, .i32⟩
  | 12 => ⟨S2x2000x1, .i32⟩
  | 13 => ⟨S2x2000x1, .i1⟩
  | 14 => ⟨S2x2000x1, .i1⟩
  | 15 => ⟨S_, .i1⟩
  | 16 => ⟨S2x2000, .i1⟩
  | 17 => ⟨S2x2000x4, .f32⟩
  | 18 => ⟨S2x2000x4, .i1⟩
  | 19 => ⟨S_, .f32⟩
  | 20 => ⟨S2x2000x4, .f32⟩
  | 21 => ⟨S2x2000x4, .f32⟩
  | 22 => ⟨S2x2000x1, .i32⟩
  | 23 => ⟨S_, .i32⟩
  | 24 => ⟨S2x2000x1, .i32⟩
  | 25 => ⟨S2x2000x1, .i1⟩
  | 26 => ⟨S_, .i32⟩
  | 27 => ⟨S2x2000x1, .i32⟩
  | 28 => ⟨S2x2000x1, .i32⟩
  | 29 => ⟨S2x2000x1, .i32⟩
  | 30 => ⟨S1, .i32⟩
  | 31 => ⟨S_, .i32⟩
  | 32 => ⟨S2x2000x1, .i32⟩
  | 33 => ⟨S2x2000x1, .i1⟩
  | 34 => ⟨S1x1x1, .i32⟩
  | 35 => ⟨S2x2000x1, .i32⟩
  | 36 => ⟨S2x2000x1, .i1⟩
  | 37 => ⟨S2x2000x1, .i1⟩
  | 38 => ⟨S_, .i1⟩
  | 39 => ⟨S2x2000, .i1⟩
  | 40 => ⟨S2x2000x4, .f32⟩
  | 41 => ⟨S2x2000x4, .i1⟩
  | 42 => ⟨S_, .f32⟩
  | 43 => ⟨S2x2000x4, .f32⟩
  | 44 => ⟨S2x2000x4, .f32⟩
  | 45 => ⟨S_, .i32⟩
  | 46 => ⟨S_, .f32⟩
  | 47 => ⟨S2x2048, .f32⟩
  | 48 => ⟨S_, .i32⟩
  | 49 => ⟨S_, .f32⟩
  | 50 => ⟨S2x2048x4, .f32⟩
  | 51 => ⟨S_, .i32⟩
  | 52 => ⟨S_, .f32⟩
  | 53 => ⟨S2x2048x4, .f32⟩
  | 54 => ⟨S2x1x16x128, .f32⟩
  | 55 => ⟨S2x4x2048, .f32⟩
  | 56 => ⟨S2x4x16x128, .f32⟩
  | 57 => ⟨S2x4x2048, .f32⟩
  | 58 => ⟨S2x4x16x128, .f32⟩
  | 59 => ⟨S2x1x1x1, .f32⟩
  | 60 => ⟨S2x1x1x128, .f32⟩
  | 61 => ⟨S2x1x1x1, .f32⟩
  | 62 => ⟨S2x1x1x128, .f32⟩
  | 63 => ⟨S2x4x16x128, .f32⟩
  | 64 => ⟨S2x1x16x128, .f32⟩
  | 65 => ⟨S2x4x2048, .f32⟩
  | 66 => ⟨S2x2048x4, .f32⟩
  | 67 => ⟨S2x2048, .f32⟩
  | 68 => ⟨S2x1000, .f32⟩
  | 69 => ⟨S2x1000, .i32⟩
  | 70 => ⟨S2x1000x1, .i32⟩
  | 71 => ⟨S_, .i32⟩
  | 72 => ⟨S2x1000x1, .i32⟩
  | 73 => ⟨S2x1000x1, .i1⟩
  | 74 => ⟨S_, .i32⟩
  | 75 => ⟨S2x1000x1, .i32⟩
  | 76 => ⟨S2x1000x1, .i32⟩
  | 77 => ⟨S2x1000x1, .i32⟩
  | 78 => ⟨S1, .i32⟩
  | 79 => ⟨S_, .i32⟩
  | 80 => ⟨S2x1000x1, .i32⟩
  | 81 => ⟨S2x1000x1, .i1⟩
  | 82 => ⟨S1x1x1, .i32⟩
  | 83 => ⟨S2x1000x1, .i32⟩
  | 84 => ⟨S2x1000x1, .i1⟩
  | 85 => ⟨S2x1000x1, .i1⟩
  | 86 => ⟨S_, .i1⟩
  | 87 => ⟨S2x1000, .i1⟩
  | 88 => ⟨S2x1000x4, .f32⟩
  | 89 => ⟨S2x1000x4, .i1⟩
  | 90 => ⟨S_, .f32⟩
  | 91 => ⟨S2x1000x4, .f32⟩
  | 92 => ⟨S2x1000x4, .f32⟩
  | 93 => ⟨S2x12288, .f32⟩
  | 94 => ⟨S2x12288x4, .f32⟩
  | 95 => ⟨S2x12288x4, .f32⟩
  | 96 => ⟨S2x2000, .f32⟩
  | 97 => ⟨S2x2000, .i32⟩
  | 98 => ⟨S2x2000x1, .i32⟩
  | 99 => ⟨S_, .i32⟩
  | 100 => ⟨S2x2000x1, .i32⟩
  | 101 => ⟨S2x2000x1, .i1⟩
  | 102 => ⟨S_, .i32⟩
  | 103 => ⟨S2x2000x1, .i32⟩
  | 104 => ⟨S2x2000x1, .i32⟩
  | 105 => ⟨S2x2000x1, .i32⟩
  | 106 => ⟨S1, .i32⟩
  | 107 => ⟨S_, .i32⟩
  | 108 => ⟨S2x2000x1, .i32⟩
  | 109 => ⟨S2x2000x1, .i1⟩
  | 110 => ⟨S1x1x1, .i32⟩
  | 111 => ⟨S2x2000x1, .i32⟩
  | 112 => ⟨S2x2000x1, .i1⟩
  | 113 => ⟨S2x2000x1, .i1⟩
  | 114 => ⟨S_, .i1⟩
  | 115 => ⟨S2x2000, .i1⟩
  | 116 => ⟨S2x2000x4, .f32⟩
  | 117 => ⟨S2x2000x4, .i1⟩
  | 118 => ⟨S_, .f32⟩
  | 119 => ⟨S2x2000x4, .f32⟩
  | 120 => ⟨S2x2000x4, .f32⟩
  | 121 => ⟨S2x2000x1, .i32⟩
  | 122 => ⟨S_, .i32⟩
  | 123 => ⟨S2x2000x1, .i32⟩
  | 124 => ⟨S2x2000x1, .i1⟩
  | 125 => ⟨S_, .i32⟩
  | 126 => ⟨S2x2000x1, .i32⟩
  | 127 => ⟨S2x2000x1, .i32⟩
  | _ => ⟨S2x256x256x3, .f32⟩

abbrev hbmTy0_2 (i : Nat) : BufTy := match i % 128 with
  | 0 => ⟨S2x2000x1, .i32⟩
  | 1 => ⟨S1, .i32⟩
  | 2 => ⟨S_, .i32⟩
  | 3 => ⟨S2x2000x1, .i32⟩
  | 4 => ⟨S2x2000x1, .i1⟩
  | 5 => ⟨S1x1x1, .i32⟩
  | 6 => ⟨S2x2000x1, .i32⟩
  | 7 => ⟨S2x2000x1, .i1⟩
  | 8 => ⟨S2x2000x1, .i1⟩
  | 9 => ⟨S_, .i1⟩
  | 10 => ⟨S2x2000, .i1⟩
  | 11 => ⟨S2x2000x4, .f32⟩
  | 12 => ⟨S2x2000x4, .i1⟩
  | 13 => ⟨S_, .f32⟩
  | 14 => ⟨S2x2000x4, .f32⟩
  | 15 => ⟨S2x2000x4, .f32⟩
  | 16 => ⟨S_, .i32⟩
  | 17 => ⟨S_, .f32⟩
  | 18 => ⟨S2x2048, .f32⟩
  | 19 => ⟨S_, .i32⟩
  | 20 => ⟨S_, .f32⟩
  | 21 => ⟨S2x2048x4, .f32⟩
  | 22 => ⟨S_, .i32⟩
  | 23 => ⟨S_, .f32⟩
  | 24 => ⟨S2x2048x4, .f32⟩
  | 25 => ⟨S2x1x16x128, .f32⟩
  | 26 => ⟨S2x4x2048, .f32⟩
  | 27 => ⟨S2x4x16x128, .f32⟩
  | 28 => ⟨S2x4x2048, .f32⟩
  | 29 => ⟨S2x4x16x128, .f32⟩
  | 30 => ⟨S2x1x1x1, .f32⟩
  | 31 => ⟨S2x1x1x128, .f32⟩
  | 32 => ⟨S2x1x1x1, .f32⟩
  | 33 => ⟨S2x1x1x128, .f32⟩
  | 34 => ⟨S2x4x16x128, .f32⟩
  | 35 => ⟨S2x1x16x128, .f32⟩
  | 36 => ⟨S2x4x2048, .f32⟩
  | 37 => ⟨S2x2048x4, .f32⟩
  | 38 => ⟨S2x2048, .f32⟩
  | 39 => ⟨S2x1000, .f32⟩
  | 40 => ⟨S2x1000, .i32⟩
  | 41 => ⟨S2x1000x1, .i32⟩
  | 42 => ⟨S_, .i32⟩
  | 43 => ⟨S2x1000x1, .i32⟩
  | 44 => ⟨S2x1000x1, .i1⟩
  | 45 => ⟨S_, .i32⟩
  | 46 => ⟨S2x1000x1, .i32⟩
  | 47 => ⟨S2x1000x1, .i32⟩
  | 48 => ⟨S2x1000x1, .i32⟩
  | 49 => ⟨S1, .i32⟩
  | 50 => ⟨S_, .i32⟩
  | 51 => ⟨S2x1000x1, .i32⟩
  | 52 => ⟨S2x1000x1, .i1⟩
  | 53 => ⟨S1x1x1, .i32⟩
  | 54 => ⟨S2x1000x1, .i32⟩
  | 55 => ⟨S2x1000x1, .i1⟩
  | 56 => ⟨S2x1000x1, .i1⟩
  | 57 => ⟨S_, .i1⟩
  | 58 => ⟨S2x1000, .i1⟩
  | 59 => ⟨S2x1000x4, .f32⟩
  | 60 => ⟨S2x1000x4, .i1⟩
  | 61 => ⟨S_, .f32⟩
  | 62 => ⟨S2x1000x4, .f32⟩
  | 63 => ⟨S2x1000x4, .f32⟩
  | 64 => ⟨S2x3072, .f32⟩
  | 65 => ⟨S2x3072x4, .f32⟩
  | 66 => ⟨S2x3072x4, .f32⟩
  | 67 => ⟨S2x2000, .f32⟩
  | 68 => ⟨S2x2000, .i32⟩
  | 69 => ⟨S2x2000x1, .i32⟩
  | 70 => ⟨S_, .i32⟩
  | 71 => ⟨S2x2000x1, .i32⟩
  | 72 => ⟨S2x2000x1, .i1⟩
  | 73 => ⟨S_, .i32⟩
  | 74 => ⟨S2x2000x1, .i32⟩
  | 75 => ⟨S2x2000x1, .i32⟩
  | 76 => ⟨S2x2000x1, .i32⟩
  | 77 => ⟨S1, .i32⟩
  | 78 => ⟨S_, .i32⟩
  | 79 => ⟨S2x2000x1, .i32⟩
  | 80 => ⟨S2x2000x1, .i1⟩
  | 81 => ⟨S1x1x1, .i32⟩
  | 82 => ⟨S2x2000x1, .i32⟩
  | 83 => ⟨S2x2000x1, .i1⟩
  | 84 => ⟨S2x2000x1, .i1⟩
  | 85 => ⟨S_, .i1⟩
  | 86 => ⟨S2x2000, .i1⟩
  | 87 => ⟨S2x2000x4, .f32⟩
  | 88 => ⟨S2x2000x4, .i1⟩
  | 89 => ⟨S_, .f32⟩
  | 90 => ⟨S2x2000x4, .f32⟩
  | 91 => ⟨S2x2000x4, .f32⟩
  | 92 => ⟨S2x2000x1, .i32⟩
  | 93 => ⟨S_, .i32⟩
  | 94 => ⟨S2x2000x1, .i32⟩
  | 95 => ⟨S2x2000x1, .i1⟩
  | 96 => ⟨S_, .i32⟩
  | 97 => ⟨S2x2000x1, .i32⟩
  | 98 => ⟨S2x2000x1, .i32⟩
  | 99 => ⟨S2x2000x1, .i32⟩
  | 100 => ⟨S1, .i32⟩
  | 101 => ⟨S_, .i32⟩
  | 102 => ⟨S2x2000x1, .i32⟩
  | 103 => ⟨S2x2000x1, .i1⟩
  | 104 => ⟨S1x1x1, .i32⟩
  | 105 => ⟨S2x2000x1, .i32⟩
  | 106 => ⟨S2x2000x1, .i1⟩
  | 107 => ⟨S2x2000x1, .i1⟩
  | 108 => ⟨S_, .i1⟩
  | 109 => ⟨S2x2000, .i1⟩
  | 110 => ⟨S2x2000x4, .f32⟩
  | 111 => ⟨S2x2000x4, .i1⟩
  | 112 => ⟨S_, .f32⟩
  | 113 => ⟨S2x2000x4, .f32⟩
  | 114 => ⟨S2x2000x4, .f32⟩
  | 115 => ⟨S_, .i32⟩
  | 116 => ⟨S_, .f32⟩
  | 117 => ⟨S2x2048, .f32⟩
  | 118 => ⟨S_, .i32⟩
  | 119 => ⟨S_, .f32⟩
  | 120 => ⟨S2x2048x4, .f32⟩
  | 121 => ⟨S_, .i32⟩
  | 122 => ⟨S_, .f32⟩
  | 123 => ⟨S2x2048x4, .f32⟩
  | 124 => ⟨S2x1x16x128, .f32⟩
  | 125 => ⟨S2x4x2048, .f32⟩
  | 126 => ⟨S2x4x16x128, .f32⟩
  | 127 => ⟨S2x4x2048, .f32⟩
  | _ => ⟨S2x256x256x3, .f32⟩

abbrev hbmTy0_3 (i : Nat) : BufTy := match i % 128 with
  | 0 => ⟨S2x4x16x128, .f32⟩
  | 1 => ⟨S2x1x1x1, .f32⟩
  | 2 => ⟨S2x1x1x128, .f32⟩
  | 3 => ⟨S2x1x1x1, .f32⟩
  | 4 => ⟨S2x1x1x128, .f32⟩
  | 5 => ⟨S2x4x16x128, .f32⟩
  | 6 => ⟨S2x1x16x128, .f32⟩
  | 7 => ⟨S2x4x2048, .f32⟩
  | 8 => ⟨S2x2048x4, .f32⟩
  | 9 => ⟨S2x2048, .f32⟩
  | 10 => ⟨S2x1000, .f32⟩
  | 11 => ⟨S2x1000, .i32⟩
  | 12 => ⟨S2x1000x1, .i32⟩
  | 13 => ⟨S_, .i32⟩
  | 14 => ⟨S2x1000x1, .i32⟩
  | 15 => ⟨S2x1000x1, .i1⟩
  | 16 => ⟨S_, .i32⟩
  | 17 => ⟨S2x1000x1, .i32⟩
  | 18 => ⟨S2x1000x1, .i32⟩
  | 19 => ⟨S2x1000x1, .i32⟩
  | 20 => ⟨S1, .i32⟩
  | 21 => ⟨S_, .i32⟩
  | 22 => ⟨S2x1000x1, .i32⟩
  | 23 => ⟨S2x1000x1, .i1⟩
  | 24 => ⟨S1x1x1, .i32⟩
  | 25 => ⟨S2x1000x1, .i32⟩
  | 26 => ⟨S2x1000x1, .i1⟩
  | 27 => ⟨S2x1000x1, .i1⟩
  | 28 => ⟨S_, .i1⟩
  | 29 => ⟨S2x1000, .i1⟩
  | 30 => ⟨S2x1000x4, .f32⟩
  | 31 => ⟨S2x1000x4, .i1⟩
  | 32 => ⟨S_, .f32⟩
  | 33 => ⟨S2x1000x4, .f32⟩
  | 34 => ⟨S2x1000x4, .f32⟩
  | 35 => ⟨S2x4000, .f32⟩
  | 36 => ⟨S2x4000x4, .f32⟩
  | 37 => ⟨S2x1000, .f32⟩
  | 38 => ⟨S2x1000, .i32⟩
  | 39 => ⟨S2x1000x1, .i32⟩
  | 40 => ⟨S_, .i32⟩
  | 41 => ⟨S2x1000x1, .i32⟩
  | 42 => ⟨S2x1000x1, .i1⟩
  | 43 => ⟨S_, .i32⟩
  | 44 => ⟨S2x1000x1, .i32⟩
  | 45 => ⟨S2x1000x1, .i32⟩
  | 46 => ⟨S2x1000x1, .i32⟩
  | 47 => ⟨S1, .i32⟩
  | 48 => ⟨S_, .i32⟩
  | 49 => ⟨S2x1000x1, .i32⟩
  | 50 => ⟨S2x1000x1, .i1⟩
  | 51 => ⟨S1x1x1, .i32⟩
  | 52 => ⟨S2x1000x1, .i32⟩
  | 53 => ⟨S2x1000x1, .i1⟩
  | 54 => ⟨S2x1000x1, .i1⟩
  | 55 => ⟨S_, .i1⟩
  | 56 => ⟨S2x1000, .i1⟩
  | 57 => ⟨S2x1000x4, .f32⟩
  | 58 => ⟨S2x1000x4, .i1⟩
  | 59 => ⟨S_, .f32⟩
  | 60 => ⟨S2x1000x4, .f32⟩
  | 61 => ⟨S2x1000x4, .f32⟩
  | _ => ⟨S2x256x256x3, .f32⟩

abbrev hbmTy (i : Nat) : BufTy := match i / 128 with
  | 0 => hbmTy0_0 i
  | 1 => hbmTy0_1 i
  | 2 => hbmTy0_2 i
  | 3 => hbmTy0_3 i
  | _ => ⟨S2x256x256x3, .f32⟩

abbrev bufTy : (tb : Table) → Fin (tcTables nBuf tb) → BufTy
  | .hbm, ⟨i, _⟩ => hbmTy i
  | .local _ .vmem, ⟨0, _⟩ => ⟨S1x1x16x128, .f32⟩
  | .local _ .vmem, ⟨1, _⟩ => ⟨S1x1x16x128, .f32⟩
  | .local _ .vmem, ⟨2, _⟩ => ⟨S1x4x16x128, .f32⟩
  | .local _ .vmem, ⟨3, _⟩ => ⟨S1x4x16x128, .f32⟩
  | .local _ .vmem, ⟨4, _⟩ => ⟨S1x4x16x128, .f32⟩
  | .local _ .vmem, ⟨5, _⟩ => ⟨S1x4x16x128, .f32⟩
  | .local _ .vmem, ⟨6, _⟩ => ⟨S1x1x1x128, .f32⟩
  | .local _ .vmem, ⟨7, _⟩ => ⟨S1x1x1x128, .f32⟩
  | .local _ .vmem, ⟨8, _⟩ => ⟨S1x1x1x128, .f32⟩
  | .local _ .vmem, ⟨9, _⟩ => ⟨S1x1x1x128, .f32⟩
  | .local _ .vmem, ⟨10, _⟩ => ⟨S1x4x16x128, .f32⟩
  | .local _ .vmem, ⟨11, _⟩ => ⟨S1x4x16x128, .f32⟩
  | .local _ .vmem, ⟨12, _⟩ => ⟨S1x1x16x128, .f32⟩
  | .local _ .vmem, ⟨13, _⟩ => ⟨S1x1x16x128, .f32⟩
  | .local _ .vmem, ⟨14, _⟩ => ⟨S1x1x16x128, .f32⟩
  | .local _ .vmem, ⟨15, _⟩ => ⟨S1x1x16x128, .f32⟩
  | .local _ .vmem, ⟨16, _⟩ => ⟨S1x4x16x128, .f32⟩
  | .local _ .vmem, ⟨17, _⟩ => ⟨S1x4x16x128, .f32⟩
  | .local _ .vmem, ⟨18, _⟩ => ⟨S1x4x16x128, .f32⟩
  | .local _ .vmem, ⟨19, _⟩ => ⟨S1x4x16x128, .f32⟩
  | .local _ .vmem, ⟨20, _⟩ => ⟨S1x1x1x128, .f32⟩
  | .local _ .vmem, ⟨21, _⟩ => ⟨S1x1x1x128, .f32⟩
  | .local _ .vmem, ⟨22, _⟩ => ⟨S1x1x1x128, .f32⟩
  | .local _ .vmem, ⟨23, _⟩ => ⟨S1x1x1x128, .f32⟩
  | .local _ .vmem, ⟨24, _⟩ => ⟨S1x4x16x128, .f32⟩
  | .local _ .vmem, ⟨25, _⟩ => ⟨S1x4x16x128, .f32⟩
  | .local _ .vmem, ⟨26, _⟩ => ⟨S1x1x16x128, .f32⟩
  | .local _ .vmem, ⟨27, _⟩ => ⟨S1x1x16x128, .f32⟩
  | .local _ .vmem, ⟨28, _⟩ => ⟨S1x1x16x128, .f32⟩
  | .local _ .vmem, ⟨29, _⟩ => ⟨S1x1x16x128, .f32⟩
  | .local _ .vmem, ⟨30, _⟩ => ⟨S1x4x16x128, .f32⟩
  | .local _ .vmem, ⟨31, _⟩ => ⟨S1x4x16x128, .f32⟩
  | .local _ .vmem, ⟨32, _⟩ => ⟨S1x4x16x128, .f32⟩
  | .local _ .vmem, ⟨33, _⟩ => ⟨S1x4x16x128, .f32⟩
  | .local _ .vmem, ⟨34, _⟩ => ⟨S1x1x1x128, .f32⟩
  | .local _ .vmem, ⟨35, _⟩ => ⟨S1x1x1x128, .f32⟩
  | .local _ .vmem, ⟨36, _⟩ => ⟨S1x1x1x128, .f32⟩
  | .local _ .vmem, ⟨37, _⟩ => ⟨S1x1x1x128, .f32⟩
  | .local _ .vmem, ⟨38, _⟩ => ⟨S1x4x16x128, .f32⟩
  | .local _ .vmem, ⟨39, _⟩ => ⟨S1x4x16x128, .f32⟩
  | .local _ .vmem, ⟨40, _⟩ => ⟨S1x1x16x128, .f32⟩
  | .local _ .vmem, ⟨41, _⟩ => ⟨S1x1x16x128, .f32⟩
  | .local _ .vmem, ⟨42, _⟩ => ⟨S1x1x16x128, .f32⟩
  | .local _ .vmem, ⟨43, _⟩ => ⟨S1x1x16x128, .f32⟩
  | .local _ .vmem, ⟨44, _⟩ => ⟨S1x4x16x128, .f32⟩
  | .local _ .vmem, ⟨45, _⟩ => ⟨S1x4x16x128, .f32⟩
  | .local _ .vmem, ⟨46, _⟩ => ⟨S1x4x16x128, .f32⟩
  | .local _ .vmem, ⟨47, _⟩ => ⟨S1x4x16x128, .f32⟩
  | .local _ .vmem, ⟨48, _⟩ => ⟨S1x1x1x128, .f32⟩
  | .local _ .vmem, ⟨49, _⟩ => ⟨S1x1x1x128, .f32⟩
  | .local _ .vmem, ⟨50, _⟩ => ⟨S1x1x1x128, .f32⟩
  | .local _ .vmem, ⟨51, _⟩ => ⟨S1x1x1x128, .f32⟩
  | .local _ .vmem, ⟨52, _⟩ => ⟨S1x4x16x128, .f32⟩
  | .local _ .vmem, ⟨53, _⟩ => ⟨S1x4x16x128, .f32⟩
  | .local _ .vmem, ⟨54, _⟩ => ⟨S1x1x16x128, .f32⟩
  | .local _ .vmem, ⟨55, _⟩ => ⟨S1x1x16x128, .f32⟩
  | _, _ => ⟨S2x256x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_values : Ref sig .tc := ⟨.hbm, 26, rfl⟩
abbrev main_indices : Ref sig .tc := ⟨.hbm, 27, rfl⟩
abbrev main_v11 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_1 : Ref sig .tc := ⟨.hbm, 36, rfl⟩
abbrev main_call0_c_2 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_c_3 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_cst : Ref sig .tc := ⟨.hbm, 48, rfl⟩
abbrev main_call0_v14 : Ref sig .tc := ⟨.hbm, 49, rfl⟩
abbrev main_v12 : Ref sig .tc := ⟨.hbm, 50, rfl⟩
abbrev main_v13 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_1 : Ref sig .tc := ⟨.hbm, 59, rfl⟩
abbrev main_call1_c_2 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_c_3 : Ref sig .tc := ⟨.hbm, 67, rfl⟩
abbrev main_call1_v11 : Ref sig .tc := ⟨.hbm, 68, rfl⟩
abbrev main_call1_v12 : Ref sig .tc := ⟨.hbm, 69, rfl⟩
abbrev main_call1_v13 : Ref sig .tc := ⟨.hbm, 70, rfl⟩
abbrev main_call1_cst : Ref sig .tc := ⟨.hbm, 71, rfl⟩
abbrev main_call1_v14 : Ref sig .tc := ⟨.hbm, 72, rfl⟩
abbrev main_v14 : Ref sig .tc := ⟨.hbm, 73, rfl⟩
abbrev main_c : Ref sig .tc := ⟨.hbm, 74, rfl⟩
abbrev main_call2_v0 : Ref sig .tc := ⟨.hbm, 75, rfl⟩
abbrev main_v15 : Ref sig .tc := ⟨.hbm, 76, rfl⟩
abbrev main_c_1 : Ref sig .tc := ⟨.hbm, 77, rfl⟩
abbrev main_call3_v0 : Ref sig .tc := ⟨.hbm, 78, rfl⟩
abbrev main_v16 : Ref sig .tc := ⟨.hbm, 79, rfl⟩
abbrev main_c_2 : Ref sig .tc := ⟨.hbm, 80, rfl⟩
abbrev main_call4_v0 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27_0 : Ref sig .tc := ⟨.hbm, 92, rfl⟩
abbrev main_v27_1 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_values_3 : Ref sig .tc := ⟨.hbm, 97, rfl⟩
abbrev main_indices_4 : Ref sig .tc := ⟨.hbm, 98, rfl⟩
abbrev main_v31 : Ref sig .tc := ⟨.hbm, 99, rfl⟩
abbrev main_call5_c : Ref sig .tc := ⟨.hbm, 100, rfl⟩
abbrev main_call5_v0 : Ref sig .tc := ⟨.hbm, 101, rfl⟩
abbrev main_call5_v1 : Ref sig .tc := ⟨.hbm, 102, rfl⟩
abbrev main_call5_c_0 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_call5_c_1 : Ref sig .tc := ⟨.hbm, 107, rfl⟩
abbrev main_call5_c_2 : Ref sig .tc := ⟨.hbm, 108, rfl⟩
abbrev main_call5_v5 : Ref sig .tc := ⟨.hbm, 109, rfl⟩
abbrev main_call5_v6 : Ref sig .tc := ⟨.hbm, 110, rfl⟩
abbrev main_call5_v7 : Ref sig .tc := ⟨.hbm, 111, rfl⟩
abbrev main_call5_v8 : Ref sig .tc := ⟨.hbm, 112, rfl⟩
abbrev main_call5_v9 : Ref sig .tc := ⟨.hbm, 113, rfl⟩
abbrev main_call5_v10 : Ref sig .tc := ⟨.hbm, 114, rfl⟩
abbrev main_call5_c_3 : Ref sig .tc := ⟨.hbm, 115, rfl⟩
abbrev main_call5_v11 : Ref sig .tc := ⟨.hbm, 116, rfl⟩
abbrev main_call5_v12 : Ref sig .tc := ⟨.hbm, 117, rfl⟩
abbrev main_call5_v13 : Ref sig .tc := ⟨.hbm, 118, rfl⟩
abbrev main_call5_cst : Ref sig .tc := ⟨.hbm, 119, rfl⟩
abbrev main_call5_v14 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev main_values_5 : Ref sig .tc := ⟨.hbm, 125, rfl⟩
abbrev main_indices_6 : Ref sig .tc := ⟨.hbm, 126, rfl⟩
abbrev main_v36 : Ref sig .tc := ⟨.hbm, 127, rfl⟩
abbrev main_call6_c : Ref sig .tc := ⟨.hbm, 128, rfl⟩
abbrev main_call6_v0 : Ref sig .tc := ⟨.hbm, 129, rfl⟩
abbrev main_call6_v1 : Ref sig .tc := ⟨.hbm, 130, rfl⟩
abbrev main_call6_c_0 : Ref sig .tc := ⟨.hbm, 131, rfl⟩
abbrev main_call6_v2 : Ref sig .tc := ⟨.hbm, 132, rfl⟩
abbrev main_call6_v3 : Ref sig .tc := ⟨.hbm, 133, rfl⟩
abbrev main_call6_v4 : Ref sig .tc := ⟨.hbm, 134, rfl⟩
abbrev main_call6_c_1 : Ref sig .tc := ⟨.hbm, 135, rfl⟩
abbrev main_call6_c_2 : Ref sig .tc := ⟨.hbm, 136, rfl⟩
abbrev main_call6_v5 : Ref sig .tc := ⟨.hbm, 137, rfl⟩
abbrev main_call6_v6 : Ref sig .tc := ⟨.hbm, 138, rfl⟩
abbrev main_call6_v7 : Ref sig .tc := ⟨.hbm, 139, rfl⟩
abbrev main_call6_v8 : Ref sig .tc := ⟨.hbm, 140, rfl⟩
abbrev main_call6_v9 : Ref sig .tc := ⟨.hbm, 141, rfl⟩
abbrev main_call6_v10 : Ref sig .tc := ⟨.hbm, 142, rfl⟩
abbrev main_call6_c_3 : Ref sig .tc := ⟨.hbm, 143, rfl⟩
abbrev main_call6_v11 : Ref sig .tc := ⟨.hbm, 144, rfl⟩
abbrev main_call6_v12 : Ref sig .tc := ⟨.hbm, 145, rfl⟩
abbrev main_call6_v13 : Ref sig .tc := ⟨.hbm, 146, rfl⟩
abbrev main_call6_cst : Ref sig .tc := ⟨.hbm, 147, rfl⟩
abbrev main_call6_v14 : Ref sig .tc := ⟨.hbm, 148, rfl⟩
abbrev main_v37 : Ref sig .tc := ⟨.hbm, 149, rfl⟩
abbrev main_v38 : Ref sig .tc := ⟨.hbm, 150, rfl⟩
abbrev main_call7_c : Ref sig .tc := ⟨.hbm, 151, rfl⟩
abbrev main_call7_v0 : Ref sig .tc := ⟨.hbm, 152, rfl⟩
abbrev main_call7_v1 : Ref sig .tc := ⟨.hbm, 153, rfl⟩
abbrev main_call7_c_0 : Ref sig .tc := ⟨.hbm, 154, rfl⟩
abbrev main_call7_v2 : Ref sig .tc := ⟨.hbm, 155, rfl⟩
abbrev main_call7_v3 : Ref sig .tc := ⟨.hbm, 156, rfl⟩
abbrev main_call7_v4 : Ref sig .tc := ⟨.hbm, 157, rfl⟩
abbrev main_call7_c_1 : Ref sig .tc := ⟨.hbm, 158, rfl⟩
abbrev main_call7_c_2 : Ref sig .tc := ⟨.hbm, 159, rfl⟩
abbrev main_call7_v5 : Ref sig .tc := ⟨.hbm, 160, rfl⟩
abbrev main_call7_v6 : Ref sig .tc := ⟨.hbm, 161, rfl⟩
abbrev main_call7_v7 : Ref sig .tc := ⟨.hbm, 162, rfl⟩
abbrev main_call7_v8 : Ref sig .tc := ⟨.hbm, 163, rfl⟩
abbrev main_call7_v9 : Ref sig .tc := ⟨.hbm, 164, rfl⟩
abbrev main_call7_v10 : Ref sig .tc := ⟨.hbm, 165, rfl⟩
abbrev main_call7_c_3 : Ref sig .tc := ⟨.hbm, 166, rfl⟩
abbrev main_call7_v11 : Ref sig .tc := ⟨.hbm, 167, rfl⟩
abbrev main_call7_v12 : Ref sig .tc := ⟨.hbm, 168, rfl⟩
abbrev main_call7_v13 : Ref sig .tc := ⟨.hbm, 169, rfl⟩
abbrev main_call7_cst : Ref sig .tc := ⟨.hbm, 170, rfl⟩
abbrev main_call7_v14 : Ref sig .tc := ⟨.hbm, 171, rfl⟩
abbrev main_v39 : Ref sig .tc := ⟨.hbm, 172, rfl⟩
abbrev main_c_7 : Ref sig .tc := ⟨.hbm, 173, rfl⟩
abbrev main_call8_v0 : Ref sig .tc := ⟨.hbm, 174, rfl⟩
abbrev main_v40 : Ref sig .tc := ⟨.hbm, 175, rfl⟩
abbrev main_c_8 : Ref sig .tc := ⟨.hbm, 176, rfl⟩
abbrev main_call9_v0 : Ref sig .tc := ⟨.hbm, 177, rfl⟩
abbrev main_v41 : Ref sig .tc := ⟨.hbm, 178, rfl⟩
abbrev main_c_9 : Ref sig .tc := ⟨.hbm, 179, rfl⟩
abbrev main_call10_v0 : Ref sig .tc := ⟨.hbm, 180, rfl⟩
abbrev main_v42 : Ref sig .tc := ⟨.hbm, 181, rfl⟩
abbrev main_v43 : Ref sig .tc := ⟨.hbm, 182, rfl⟩
abbrev main_v44 : Ref sig .tc := ⟨.hbm, 183, rfl⟩
abbrev main_v45 : Ref sig .tc := ⟨.hbm, 184, rfl⟩
abbrev main_v46 : Ref sig .tc := ⟨.hbm, 185, rfl⟩
abbrev main_v47 : Ref sig .tc := ⟨.hbm, 186, rfl⟩
abbrev main_v48 : Ref sig .tc := ⟨.hbm, 187, rfl⟩
abbrev main_v49 : Ref sig .tc := ⟨.hbm, 188, rfl⟩
abbrev main_v50 : Ref sig .tc := ⟨.hbm, 189, rfl⟩
abbrev main_v51 : Ref sig .tc := ⟨.hbm, 190, rfl⟩
abbrev main_v52_0 : Ref sig .tc := ⟨.hbm, 191, rfl⟩
abbrev main_v52_1 : Ref sig .tc := ⟨.hbm, 192, rfl⟩
abbrev main_v53 : Ref sig .tc := ⟨.hbm, 193, rfl⟩
abbrev main_v54 : Ref sig .tc := ⟨.hbm, 194, rfl⟩
abbrev main_v55 : Ref sig .tc := ⟨.hbm, 195, rfl⟩
abbrev main_values_10 : Ref sig .tc := ⟨.hbm, 196, rfl⟩
abbrev main_indices_11 : Ref sig .tc := ⟨.hbm, 197, rfl⟩
abbrev main_v56 : Ref sig .tc := ⟨.hbm, 198, rfl⟩
abbrev main_call11_c : Ref sig .tc := ⟨.hbm, 199, rfl⟩
abbrev main_call11_v0 : Ref sig .tc := ⟨.hbm, 200, rfl⟩
abbrev main_call11_v1 : Ref sig .tc := ⟨.hbm, 201, rfl⟩
abbrev main_call11_c_0 : Ref sig .tc := ⟨.hbm, 202, rfl⟩
abbrev main_call11_v2 : Ref sig .tc := ⟨.hbm, 203, rfl⟩
abbrev main_call11_v3 : Ref sig .tc := ⟨.hbm, 204, rfl⟩
abbrev main_call11_v4 : Ref sig .tc := ⟨.hbm, 205, rfl⟩
abbrev main_call11_c_1 : Ref sig .tc := ⟨.hbm, 206, rfl⟩
abbrev main_call11_c_2 : Ref sig .tc := ⟨.hbm, 207, rfl⟩
abbrev main_call11_v5 : Ref sig .tc := ⟨.hbm, 208, rfl⟩
abbrev main_call11_v6 : Ref sig .tc := ⟨.hbm, 209, rfl⟩
abbrev main_call11_v7 : Ref sig .tc := ⟨.hbm, 210, rfl⟩
abbrev main_call11_v8 : Ref sig .tc := ⟨.hbm, 211, rfl⟩
abbrev main_call11_v9 : Ref sig .tc := ⟨.hbm, 212, rfl⟩
abbrev main_call11_v10 : Ref sig .tc := ⟨.hbm, 213, rfl⟩
abbrev main_call11_c_3 : Ref sig .tc := ⟨.hbm, 214, rfl⟩
abbrev main_call11_v11 : Ref sig .tc := ⟨.hbm, 215, rfl⟩
abbrev main_call11_v12 : Ref sig .tc := ⟨.hbm, 216, rfl⟩
abbrev main_call11_v13 : Ref sig .tc := ⟨.hbm, 217, rfl⟩
abbrev main_call11_cst : Ref sig .tc := ⟨.hbm, 218, rfl⟩
abbrev main_call11_v14 : Ref sig .tc := ⟨.hbm, 219, rfl⟩
abbrev main_v57 : Ref sig .tc := ⟨.hbm, 220, rfl⟩
abbrev main_v58 : Ref sig .tc := ⟨.hbm, 221, rfl⟩
abbrev main_v59 : Ref sig .tc := ⟨.hbm, 222, rfl⟩
abbrev main_v60 : Ref sig .tc := ⟨.hbm, 223, rfl⟩
abbrev main_values_12 : Ref sig .tc := ⟨.hbm, 224, rfl⟩
abbrev main_indices_13 : Ref sig .tc := ⟨.hbm, 225, rfl⟩
abbrev main_v61 : Ref sig .tc := ⟨.hbm, 226, rfl⟩
abbrev main_call12_c : Ref sig .tc := ⟨.hbm, 227, rfl⟩
abbrev main_call12_v0 : Ref sig .tc := ⟨.hbm, 228, rfl⟩
abbrev main_call12_v1 : Ref sig .tc := ⟨.hbm, 229, rfl⟩
abbrev main_call12_c_0 : Ref sig .tc := ⟨.hbm, 230, rfl⟩
abbrev main_call12_v2 : Ref sig .tc := ⟨.hbm, 231, rfl⟩
abbrev main_call12_v3 : Ref sig .tc := ⟨.hbm, 232, rfl⟩
abbrev main_call12_v4 : Ref sig .tc := ⟨.hbm, 233, rfl⟩
abbrev main_call12_c_1 : Ref sig .tc := ⟨.hbm, 234, rfl⟩
abbrev main_call12_c_2 : Ref sig .tc := ⟨.hbm, 235, rfl⟩
abbrev main_call12_v5 : Ref sig .tc := ⟨.hbm, 236, rfl⟩
abbrev main_call12_v6 : Ref sig .tc := ⟨.hbm, 237, rfl⟩
abbrev main_call12_v7 : Ref sig .tc := ⟨.hbm, 238, rfl⟩
abbrev main_call12_v8 : Ref sig .tc := ⟨.hbm, 239, rfl⟩
abbrev main_call12_v9 : Ref sig .tc := ⟨.hbm, 240, rfl⟩
abbrev main_call12_v10 : Ref sig .tc := ⟨.hbm, 241, rfl⟩
abbrev main_call12_c_3 : Ref sig .tc := ⟨.hbm, 242, rfl⟩
abbrev main_call12_v11 : Ref sig .tc := ⟨.hbm, 243, rfl⟩
abbrev main_call12_v12 : Ref sig .tc := ⟨.hbm, 244, rfl⟩
abbrev main_call12_v13 : Ref sig .tc := ⟨.hbm, 245, rfl⟩
abbrev main_call12_cst : Ref sig .tc := ⟨.hbm, 246, rfl⟩
abbrev main_call12_v14 : Ref sig .tc := ⟨.hbm, 247, rfl⟩
abbrev main_v62 : Ref sig .tc := ⟨.hbm, 248, rfl⟩
abbrev main_v63 : Ref sig .tc := ⟨.hbm, 249, rfl⟩
abbrev main_call13_c : Ref sig .tc := ⟨.hbm, 250, rfl⟩
abbrev main_call13_v0 : Ref sig .tc := ⟨.hbm, 251, rfl⟩
abbrev main_call13_v1 : Ref sig .tc := ⟨.hbm, 252, rfl⟩
abbrev main_call13_c_0 : Ref sig .tc := ⟨.hbm, 253, rfl⟩
abbrev main_call13_v2 : Ref sig .tc := ⟨.hbm, 254, rfl⟩
abbrev main_call13_v3 : Ref sig .tc := ⟨.hbm, 255, rfl⟩
abbrev main_call13_v4 : Ref sig .tc := ⟨.hbm, 256, rfl⟩
abbrev main_call13_c_1 : Ref sig .tc := ⟨.hbm, 257, rfl⟩
abbrev main_call13_c_2 : Ref sig .tc := ⟨.hbm, 258, rfl⟩
abbrev main_call13_v5 : Ref sig .tc := ⟨.hbm, 259, rfl⟩
abbrev main_call13_v6 : Ref sig .tc := ⟨.hbm, 260, rfl⟩
abbrev main_call13_v7 : Ref sig .tc := ⟨.hbm, 261, rfl⟩
abbrev main_call13_v8 : Ref sig .tc := ⟨.hbm, 262, rfl⟩
abbrev main_call13_v9 : Ref sig .tc := ⟨.hbm, 263, rfl⟩
abbrev main_call13_v10 : Ref sig .tc := ⟨.hbm, 264, rfl⟩
abbrev main_call13_c_3 : Ref sig .tc := ⟨.hbm, 265, rfl⟩
abbrev main_call13_v11 : Ref sig .tc := ⟨.hbm, 266, rfl⟩
abbrev main_call13_v12 : Ref sig .tc := ⟨.hbm, 267, rfl⟩
abbrev main_call13_v13 : Ref sig .tc := ⟨.hbm, 268, rfl⟩
abbrev main_call13_cst : Ref sig .tc := ⟨.hbm, 269, rfl⟩
abbrev main_call13_v14 : Ref sig .tc := ⟨.hbm, 270, rfl⟩
abbrev main_v64 : Ref sig .tc := ⟨.hbm, 271, rfl⟩
abbrev main_c_14 : Ref sig .tc := ⟨.hbm, 272, rfl⟩
abbrev main_call14_v0 : Ref sig .tc := ⟨.hbm, 273, rfl⟩
abbrev main_v65 : Ref sig .tc := ⟨.hbm, 274, rfl⟩
abbrev main_c_15 : Ref sig .tc := ⟨.hbm, 275, rfl⟩
abbrev main_call15_v0 : Ref sig .tc := ⟨.hbm, 276, rfl⟩
abbrev main_v66 : Ref sig .tc := ⟨.hbm, 277, rfl⟩
abbrev main_c_16 : Ref sig .tc := ⟨.hbm, 278, rfl⟩
abbrev main_call16_v0 : Ref sig .tc := ⟨.hbm, 279, rfl⟩
abbrev main_v67 : Ref sig .tc := ⟨.hbm, 280, rfl⟩
abbrev main_v68 : Ref sig .tc := ⟨.hbm, 281, rfl⟩
abbrev main_v69 : Ref sig .tc := ⟨.hbm, 282, rfl⟩
abbrev main_v70 : Ref sig .tc := ⟨.hbm, 283, rfl⟩
abbrev main_v71 : Ref sig .tc := ⟨.hbm, 284, rfl⟩
abbrev main_v72 : Ref sig .tc := ⟨.hbm, 285, rfl⟩
abbrev main_v73 : Ref sig .tc := ⟨.hbm, 286, rfl⟩
abbrev main_v74 : Ref sig .tc := ⟨.hbm, 287, rfl⟩
abbrev main_v75 : Ref sig .tc := ⟨.hbm, 288, rfl⟩
abbrev main_v76 : Ref sig .tc := ⟨.hbm, 289, rfl⟩
abbrev main_v77_0 : Ref sig .tc := ⟨.hbm, 290, rfl⟩
abbrev main_v77_1 : Ref sig .tc := ⟨.hbm, 291, rfl⟩
abbrev main_v78 : Ref sig .tc := ⟨.hbm, 292, rfl⟩
abbrev main_v79 : Ref sig .tc := ⟨.hbm, 293, rfl⟩
abbrev main_v80 : Ref sig .tc := ⟨.hbm, 294, rfl⟩
abbrev main_values_17 : Ref sig .tc := ⟨.hbm, 295, rfl⟩
abbrev main_indices_18 : Ref sig .tc := ⟨.hbm, 296, rfl⟩
abbrev main_v81 : Ref sig .tc := ⟨.hbm, 297, rfl⟩
abbrev main_call17_c : Ref sig .tc := ⟨.hbm, 298, rfl⟩
abbrev main_call17_v0 : Ref sig .tc := ⟨.hbm, 299, rfl⟩
abbrev main_call17_v1 : Ref sig .tc := ⟨.hbm, 300, rfl⟩
abbrev main_call17_c_0 : Ref sig .tc := ⟨.hbm, 301, rfl⟩
abbrev main_call17_v2 : Ref sig .tc := ⟨.hbm, 302, rfl⟩
abbrev main_call17_v3 : Ref sig .tc := ⟨.hbm, 303, rfl⟩
abbrev main_call17_v4 : Ref sig .tc := ⟨.hbm, 304, rfl⟩
abbrev main_call17_c_1 : Ref sig .tc := ⟨.hbm, 305, rfl⟩
abbrev main_call17_c_2 : Ref sig .tc := ⟨.hbm, 306, rfl⟩
abbrev main_call17_v5 : Ref sig .tc := ⟨.hbm, 307, rfl⟩
abbrev main_call17_v6 : Ref sig .tc := ⟨.hbm, 308, rfl⟩
abbrev main_call17_v7 : Ref sig .tc := ⟨.hbm, 309, rfl⟩
abbrev main_call17_v8 : Ref sig .tc := ⟨.hbm, 310, rfl⟩
abbrev main_call17_v9 : Ref sig .tc := ⟨.hbm, 311, rfl⟩
abbrev main_call17_v10 : Ref sig .tc := ⟨.hbm, 312, rfl⟩
abbrev main_call17_c_3 : Ref sig .tc := ⟨.hbm, 313, rfl⟩
abbrev main_call17_v11 : Ref sig .tc := ⟨.hbm, 314, rfl⟩
abbrev main_call17_v12 : Ref sig .tc := ⟨.hbm, 315, rfl⟩
abbrev main_call17_v13 : Ref sig .tc := ⟨.hbm, 316, rfl⟩
abbrev main_call17_cst : Ref sig .tc := ⟨.hbm, 317, rfl⟩
abbrev main_call17_v14 : Ref sig .tc := ⟨.hbm, 318, rfl⟩
abbrev main_v82 : Ref sig .tc := ⟨.hbm, 319, rfl⟩
abbrev main_v83 : Ref sig .tc := ⟨.hbm, 320, rfl⟩
abbrev main_v84 : Ref sig .tc := ⟨.hbm, 321, rfl⟩
abbrev main_v85 : Ref sig .tc := ⟨.hbm, 322, rfl⟩
abbrev main_values_19 : Ref sig .tc := ⟨.hbm, 323, rfl⟩
abbrev main_indices_20 : Ref sig .tc := ⟨.hbm, 324, rfl⟩
abbrev main_v86 : Ref sig .tc := ⟨.hbm, 325, rfl⟩
abbrev main_call18_c : Ref sig .tc := ⟨.hbm, 326, rfl⟩
abbrev main_call18_v0 : Ref sig .tc := ⟨.hbm, 327, rfl⟩
abbrev main_call18_v1 : Ref sig .tc := ⟨.hbm, 328, rfl⟩
abbrev main_call18_c_0 : Ref sig .tc := ⟨.hbm, 329, rfl⟩
abbrev main_call18_v2 : Ref sig .tc := ⟨.hbm, 330, rfl⟩
abbrev main_call18_v3 : Ref sig .tc := ⟨.hbm, 331, rfl⟩
abbrev main_call18_v4 : Ref sig .tc := ⟨.hbm, 332, rfl⟩
abbrev main_call18_c_1 : Ref sig .tc := ⟨.hbm, 333, rfl⟩
abbrev main_call18_c_2 : Ref sig .tc := ⟨.hbm, 334, rfl⟩
abbrev main_call18_v5 : Ref sig .tc := ⟨.hbm, 335, rfl⟩
abbrev main_call18_v6 : Ref sig .tc := ⟨.hbm, 336, rfl⟩
abbrev main_call18_v7 : Ref sig .tc := ⟨.hbm, 337, rfl⟩
abbrev main_call18_v8 : Ref sig .tc := ⟨.hbm, 338, rfl⟩
abbrev main_call18_v9 : Ref sig .tc := ⟨.hbm, 339, rfl⟩
abbrev main_call18_v10 : Ref sig .tc := ⟨.hbm, 340, rfl⟩
abbrev main_call18_c_3 : Ref sig .tc := ⟨.hbm, 341, rfl⟩
abbrev main_call18_v11 : Ref sig .tc := ⟨.hbm, 342, rfl⟩
abbrev main_call18_v12 : Ref sig .tc := ⟨.hbm, 343, rfl⟩
abbrev main_call18_v13 : Ref sig .tc := ⟨.hbm, 344, rfl⟩
abbrev main_call18_cst : Ref sig .tc := ⟨.hbm, 345, rfl⟩
abbrev main_call18_v14 : Ref sig .tc := ⟨.hbm, 346, rfl⟩
abbrev main_v87 : Ref sig .tc := ⟨.hbm, 347, rfl⟩
abbrev main_v88 : Ref sig .tc := ⟨.hbm, 348, rfl⟩
abbrev main_call19_c : Ref sig .tc := ⟨.hbm, 349, rfl⟩
abbrev main_call19_v0 : Ref sig .tc := ⟨.hbm, 350, rfl⟩
abbrev main_call19_v1 : Ref sig .tc := ⟨.hbm, 351, rfl⟩
abbrev main_call19_c_0 : Ref sig .tc := ⟨.hbm, 352, rfl⟩
abbrev main_call19_v2 : Ref sig .tc := ⟨.hbm, 353, rfl⟩
abbrev main_call19_v3 : Ref sig .tc := ⟨.hbm, 354, rfl⟩
abbrev main_call19_v4 : Ref sig .tc := ⟨.hbm, 355, rfl⟩
abbrev main_call19_c_1 : Ref sig .tc := ⟨.hbm, 356, rfl⟩
abbrev main_call19_c_2 : Ref sig .tc := ⟨.hbm, 357, rfl⟩
abbrev main_call19_v5 : Ref sig .tc := ⟨.hbm, 358, rfl⟩
abbrev main_call19_v6 : Ref sig .tc := ⟨.hbm, 359, rfl⟩
abbrev main_call19_v7 : Ref sig .tc := ⟨.hbm, 360, rfl⟩
abbrev main_call19_v8 : Ref sig .tc := ⟨.hbm, 361, rfl⟩
abbrev main_call19_v9 : Ref sig .tc := ⟨.hbm, 362, rfl⟩
abbrev main_call19_v10 : Ref sig .tc := ⟨.hbm, 363, rfl⟩
abbrev main_call19_c_3 : Ref sig .tc := ⟨.hbm, 364, rfl⟩
abbrev main_call19_v11 : Ref sig .tc := ⟨.hbm, 365, rfl⟩
abbrev main_call19_v12 : Ref sig .tc := ⟨.hbm, 366, rfl⟩
abbrev main_call19_v13 : Ref sig .tc := ⟨.hbm, 367, rfl⟩
abbrev main_call19_cst : Ref sig .tc := ⟨.hbm, 368, rfl⟩
abbrev main_call19_v14 : Ref sig .tc := ⟨.hbm, 369, rfl⟩
abbrev main_v89 : Ref sig .tc := ⟨.hbm, 370, rfl⟩
abbrev main_c_21 : Ref sig .tc := ⟨.hbm, 371, rfl⟩
abbrev main_call20_v0 : Ref sig .tc := ⟨.hbm, 372, rfl⟩
abbrev main_v90 : Ref sig .tc := ⟨.hbm, 373, rfl⟩
abbrev main_c_22 : Ref sig .tc := ⟨.hbm, 374, rfl⟩
abbrev main_call21_v0 : Ref sig .tc := ⟨.hbm, 375, rfl⟩
abbrev main_v91 : Ref sig .tc := ⟨.hbm, 376, rfl⟩
abbrev main_c_23 : Ref sig .tc := ⟨.hbm, 377, rfl⟩
abbrev main_call22_v0 : Ref sig .tc := ⟨.hbm, 378, rfl⟩
abbrev main_v92 : Ref sig .tc := ⟨.hbm, 379, rfl⟩
abbrev main_v93 : Ref sig .tc := ⟨.hbm, 380, rfl⟩
abbrev main_v94 : Ref sig .tc := ⟨.hbm, 381, rfl⟩
abbrev main_v95 : Ref sig .tc := ⟨.hbm, 382, rfl⟩
abbrev main_v96 : Ref sig .tc := ⟨.hbm, 383, rfl⟩
abbrev main_v97 : Ref sig .tc := ⟨.hbm, 384, rfl⟩
abbrev main_v98 : Ref sig .tc := ⟨.hbm, 385, rfl⟩
abbrev main_v99 : Ref sig .tc := ⟨.hbm, 386, rfl⟩
abbrev main_v100 : Ref sig .tc := ⟨.hbm, 387, rfl⟩
abbrev main_v101 : Ref sig .tc := ⟨.hbm, 388, rfl⟩
abbrev main_v102_0 : Ref sig .tc := ⟨.hbm, 389, rfl⟩
abbrev main_v102_1 : Ref sig .tc := ⟨.hbm, 390, rfl⟩
abbrev main_v103 : Ref sig .tc := ⟨.hbm, 391, rfl⟩
abbrev main_v104 : Ref sig .tc := ⟨.hbm, 392, rfl⟩
abbrev main_v105 : Ref sig .tc := ⟨.hbm, 393, rfl⟩
abbrev main_values_24 : Ref sig .tc := ⟨.hbm, 394, rfl⟩
abbrev main_indices_25 : Ref sig .tc := ⟨.hbm, 395, rfl⟩
abbrev main_v106 : Ref sig .tc := ⟨.hbm, 396, rfl⟩
abbrev main_call23_c : Ref sig .tc := ⟨.hbm, 397, rfl⟩
abbrev main_call23_v0 : Ref sig .tc := ⟨.hbm, 398, rfl⟩
abbrev main_call23_v1 : Ref sig .tc := ⟨.hbm, 399, rfl⟩
abbrev main_call23_c_0 : Ref sig .tc := ⟨.hbm, 400, rfl⟩
abbrev main_call23_v2 : Ref sig .tc := ⟨.hbm, 401, rfl⟩
abbrev main_call23_v3 : Ref sig .tc := ⟨.hbm, 402, rfl⟩
abbrev main_call23_v4 : Ref sig .tc := ⟨.hbm, 403, rfl⟩
abbrev main_call23_c_1 : Ref sig .tc := ⟨.hbm, 404, rfl⟩
abbrev main_call23_c_2 : Ref sig .tc := ⟨.hbm, 405, rfl⟩
abbrev main_call23_v5 : Ref sig .tc := ⟨.hbm, 406, rfl⟩
abbrev main_call23_v6 : Ref sig .tc := ⟨.hbm, 407, rfl⟩
abbrev main_call23_v7 : Ref sig .tc := ⟨.hbm, 408, rfl⟩
abbrev main_call23_v8 : Ref sig .tc := ⟨.hbm, 409, rfl⟩
abbrev main_call23_v9 : Ref sig .tc := ⟨.hbm, 410, rfl⟩
abbrev main_call23_v10 : Ref sig .tc := ⟨.hbm, 411, rfl⟩
abbrev main_call23_c_3 : Ref sig .tc := ⟨.hbm, 412, rfl⟩
abbrev main_call23_v11 : Ref sig .tc := ⟨.hbm, 413, rfl⟩
abbrev main_call23_v12 : Ref sig .tc := ⟨.hbm, 414, rfl⟩
abbrev main_call23_v13 : Ref sig .tc := ⟨.hbm, 415, rfl⟩
abbrev main_call23_cst : Ref sig .tc := ⟨.hbm, 416, rfl⟩
abbrev main_call23_v14 : Ref sig .tc := ⟨.hbm, 417, rfl⟩
abbrev main_v107 : Ref sig .tc := ⟨.hbm, 418, rfl⟩
abbrev main_v108 : Ref sig .tc := ⟨.hbm, 419, rfl⟩
abbrev main_v109 : Ref sig .tc := ⟨.hbm, 420, rfl⟩
abbrev main_values_26 : Ref sig .tc := ⟨.hbm, 421, rfl⟩
abbrev main_indices_27 : Ref sig .tc := ⟨.hbm, 422, rfl⟩
abbrev main_v110 : Ref sig .tc := ⟨.hbm, 423, rfl⟩
abbrev main_call24_c : Ref sig .tc := ⟨.hbm, 424, rfl⟩
abbrev main_call24_v0 : Ref sig .tc := ⟨.hbm, 425, rfl⟩
abbrev main_call24_v1 : Ref sig .tc := ⟨.hbm, 426, rfl⟩
abbrev main_call24_c_0 : Ref sig .tc := ⟨.hbm, 427, rfl⟩
abbrev main_call24_v2 : Ref sig .tc := ⟨.hbm, 428, rfl⟩
abbrev main_call24_v3 : Ref sig .tc := ⟨.hbm, 429, rfl⟩
abbrev main_call24_v4 : Ref sig .tc := ⟨.hbm, 430, rfl⟩
abbrev main_call24_c_1 : Ref sig .tc := ⟨.hbm, 431, rfl⟩
abbrev main_call24_c_2 : Ref sig .tc := ⟨.hbm, 432, rfl⟩
abbrev main_call24_v5 : Ref sig .tc := ⟨.hbm, 433, rfl⟩
abbrev main_call24_v6 : Ref sig .tc := ⟨.hbm, 434, rfl⟩
abbrev main_call24_v7 : Ref sig .tc := ⟨.hbm, 435, rfl⟩
abbrev main_call24_v8 : Ref sig .tc := ⟨.hbm, 436, rfl⟩
abbrev main_call24_v9 : Ref sig .tc := ⟨.hbm, 437, rfl⟩
abbrev main_call24_v10 : Ref sig .tc := ⟨.hbm, 438, rfl⟩
abbrev main_call24_c_3 : Ref sig .tc := ⟨.hbm, 439, rfl⟩
abbrev main_call24_v11 : Ref sig .tc := ⟨.hbm, 440, rfl⟩
abbrev main_call24_v12 : Ref sig .tc := ⟨.hbm, 441, rfl⟩
abbrev main_call24_v13 : Ref sig .tc := ⟨.hbm, 442, rfl⟩
abbrev main_call24_cst : Ref sig .tc := ⟨.hbm, 443, rfl⟩
abbrev main_call24_v14 : Ref sig .tc := ⟨.hbm, 444, rfl⟩
abbrev main_v111 : Ref sig .tc := ⟨.hbm, 445, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg3_1 : Ref sig .tc := ⟨.vmem, 49, rfl⟩
abbrev cc3_stg4_0 : Ref sig .tc := ⟨.vmem, 50, rfl⟩
abbrev cc3_stg4_1 : Ref sig .tc := ⟨.vmem, 51, rfl⟩
abbrev cc3_stg5_0 : Ref sig .tc := ⟨.vmem, 52, rfl⟩
abbrev cc3_stg5_1 : Ref sig .tc := ⟨.vmem, 53, rfl⟩
abbrev cc3_stg6_0 : Ref sig .tc := ⟨.vmem, 54, rfl⟩
abbrev cc3_stg6_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51
abbrev cc3_sem5_0 : DmaSem sig := 52
abbrev cc3_sem5_1 : DmaSem sig := 53
abbrev cc3_sem6_0 : DmaSem sig := 54
abbrev cc3_sem6_1 : DmaSem sig := 55

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c128_i32_71 : BitVec 32 := 128#32
  let v108 : BitVec 32 := Scalar.addi c0_i32 c128_i32_71
  let c1_i32 : BitVec 32 := 1#32
  ⟨c0_i32, v108, c1_i32⟩
@[reducible] def k0_t2_loop : Scf.Loop 32 :=
  let c0_i32_73 : BitVec 32 := 0#32
  let c128_i32_74 : BitVec 32 := 128#32
  let v122 : BitVec 32 := Scalar.addi c0_i32_73 c128_i32_74
  let c1_i32_75 : BitVec 32 := 1#32
  ⟨c0_i32_73, v122, c1_i32_75⟩
@[reducible] def k0_t3_loop : Scf.Loop 32 :=
  let c0_i32_77 : BitVec 32 := 0#32
  let c128_i32_78 : BitVec 32 := 128#32
  let v136 : BitVec 32 := Scalar.addi c0_i32_77 c128_i32_78
  let c1_i32_79 : BitVec 32 := 1#32
  ⟨c0_i32_77, v136, c1_i32_79⟩
@[reducible] def k0_t4_loop : Scf.Loop 32 :=
  let c0_i32_81 : BitVec 32 := 0#32
  let c128_i32_82 : BitVec 32 := 128#32
  let v150 : BitVec 32 := Scalar.addi c0_i32_81 c128_i32_82
  let c1_i32_83 : BitVec 32 := 1#32
  ⟨c0_i32_81, v150, c1_i32_83⟩
@[reducible] def k0_t5_loop : Scf.Loop 32 :=
  let c0_i32_85 : BitVec 32 := 0#32
  let c128_i32_86 : BitVec 32 := 128#32
  let v164 : BitVec 32 := Scalar.addi c0_i32_85 c128_i32_86
  let c1_i32_87 : BitVec 32 := 1#32
  ⟨c0_i32_85, v164, c1_i32_87⟩
@[reducible] def k0_t6_loop : Scf.Loop 32 :=
  let c0_i32_89 : BitVec 32 := 0#32
  let c128_i32_90 : BitVec 32 := 128#32
  let v178 : BitVec 32 := Scalar.addi c0_i32_89 c128_i32_90
  let c1_i32_91 : BitVec 32 := 1#32
  ⟨c0_i32_89, v178, c1_i32_91⟩
@[reducible] def k0_t7_loop : Scf.Loop 32 :=
  let c0_i32_93 : BitVec 32 := 0#32
  let c128_i32_94 : BitVec 32 := 128#32
  let v192 : BitVec 32 := Scalar.addi c0_i32_93 c128_i32_94
  let c1_i32_95 : BitVec 32 := 1#32
  ⟨c0_i32_93, v192, c1_i32_95⟩
@[reducible] def k0_t8_loop : Scf.Loop 32 :=
  let c0_i32_97 : BitVec 32 := 0#32
  let c128_i32_98 : BitVec 32 := 128#32
  let v206 : BitVec 32 := Scalar.addi c0_i32_97 c128_i32_98
  let c1_i32_99 : BitVec 32 := 1#32
  ⟨c0_i32_97, v206, c1_i32_99⟩
@[reducible] def k0_t9_loop : Scf.Loop 32 :=
  let c0_i32_101 : BitVec 32 := 0#32
  let c128_i32_102 : BitVec 32 := 128#32
  let v220 : BitVec 32 := Scalar.addi c0_i32_101 c128_i32_102
  let c1_i32_103 : BitVec 32 := 1#32
  ⟨c0_i32_101, v220, c1_i32_103⟩
@[reducible] def k0_t10_loop : Scf.Loop 32 :=
  let c0_i32_105 : BitVec 32 := 0#32
  let c128_i32_106 : BitVec 32 := 128#32
  let v234 : BitVec 32 := Scalar.addi c0_i32_105 c128_i32_106
  let c1_i32_107 : BitVec 32 := 1#32
  ⟨c0_i32_105, v234, c1_i32_107⟩
@[reducible] def k0_t11_loop : Scf.Loop 32 :=
  let c0_i32_109 : BitVec 32 := 0#32
  let c128_i32_110 : BitVec 32 := 128#32
  let v248 : BitVec 32 := Scalar.addi c0_i32_109 c128_i32_110
  let c1_i32_111 : BitVec 32 := 1#32
  ⟨c0_i32_109, v248, c1_i32_111⟩
@[reducible] def k0_t12_loop : Scf.Loop 32 :=
  let c0_i32_113 : BitVec 32 := 0#32
  let c128_i32_114 : BitVec 32 := 128#32
  let v262 : BitVec 32 := Scalar.addi c0_i32_113 c128_i32_114
  let c1_i32_115 : BitVec 32 := 1#32
  ⟨c0_i32_113, v262, c1_i32_115⟩
@[reducible] def k0_t13_loop : Scf.Loop 32 :=
  let c0_i32_117 : BitVec 32 := 0#32
  let c128_i32_118 : BitVec 32 := 128#32
  let v276 : BitVec 32 := Scalar.addi c0_i32_117 c128_i32_118
  let c1_i32_119 : BitVec 32 := 1#32
  ⟨c0_i32_117, v276, c1_i32_119⟩
@[reducible] def k0_t14_loop : Scf.Loop 32 :=
  let c0_i32_121 : BitVec 32 := 0#32
  let c128_i32_122 : BitVec 32 := 128#32
  let v290 : BitVec 32 := Scalar.addi c0_i32_121 c128_i32_122
  let c1_i32_123 : BitVec 32 := 1#32
  ⟨c0_i32_121, v290, c1_i32_123⟩
@[reducible] def k0_t15_loop : Scf.Loop 32 :=
  let c0_i32_125 : BitVec 32 := 0#32
  let c128_i32_126 : BitVec 32 := 128#32
  let v304 : BitVec 32 := Scalar.addi c0_i32_125 c128_i32_126
  let c1_i32_127 : BitVec 32 := 1#32
  ⟨c0_i32_125, v304, c1_i32_127⟩
@[reducible] def k0_t16_loop : Scf.Loop 32 :=
  let c0_i32_129 : BitVec 32 := 0#32
  let c80_i32 : BitVec 32 := 80#32
  let v318 : BitVec 32 := Scalar.addi c0_i32_129 c80_i32
  let c1_i32_130 : BitVec 32 := 1#32
  ⟨c0_i32_129, v318, c1_i32_130⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![2], ![false]⟩

@[reducible] def k1_t1_loop : Scf.Loop 32 :=
  let c0_i32 : BitVec 32 := 0#32
  let c128_i32_71 : BitVec 32 := 128#32
  let v108 : BitVec 32 := Scalar.addi c0_i32 c128_i32_71
  let c1_i32 : BitVec 32 := 1#32
  ⟨c0_i32, v108, c1_i32⟩
@[reducible] def k1_t2_loop : Scf.Loop 32 :=
  let c0_i32_73 : BitVec 32 := 0#32
  let c128_i32_74 : BitVec 32 := 128#32
  let v122 : BitVec 32 := Scalar.addi c0_i32_73 c128_i32_74
  let c1_i32_75 : BitVec 32 := 1#32
  ⟨c0_i32_73, v122, c1_i32_75⟩
@[reducible] def k1_t3_loop : Scf.Loop 32 :=
  let c0_i32_77 : BitVec 32 := 0#32
  let c128_i32_78 : BitVec 32 := 128#32
  let v136 : BitVec 32 := Scalar.addi c0_i32_77 c128_i32_78
  let c1_i32_79 : BitVec 32 := 1#32
  ⟨c0_i32_77, v136, c1_i32_79⟩
@[reducible] def k1_t4_loop : Scf.Loop 32 :=
  let c0_i32_81 : BitVec 32 := 0#32
  let c128_i32_82 : BitVec 32 := 128#32
  let v150 : BitVec 32 := Scalar.addi c0_i32_81 c128_i32_82
  let c1_i32_83 : BitVec 32 := 1#32
  ⟨c0_i32_81, v150, c1_i32_83⟩
@[reducible] def k1_t5_loop : Scf.Loop 32 :=
  let c0_i32_85 : BitVec 32 := 0#32
  let c128_i32_86 : BitVec 32 := 128#32
  let v164 : BitVec 32 := Scalar.addi c0_i32_85 c128_i32_86
  let c1_i32_87 : BitVec 32 := 1#32
  ⟨c0_i32_85, v164, c1_i32_87⟩
@[reducible] def k1_t6_loop : Scf.Loop 32 :=
  let c0_i32_89 : BitVec 32 := 0#32
  let c128_i32_90 : BitVec 32 := 128#32
  let v178 : BitVec 32 := Scalar.addi c0_i32_89 c128_i32_90
  let c1_i32_91 : BitVec 32 := 1#32
  ⟨c0_i32_89, v178, c1_i32_91⟩
@[reducible] def k1_t7_loop : Scf.Loop 32 :=
  let c0_i32_93 : BitVec 32 := 0#32
  let c128_i32_94 : BitVec 32 := 128#32
  let v192 : BitVec 32 := Scalar.addi c0_i32_93 c128_i32_94
  let c1_i32_95 : BitVec 32 := 1#32
  ⟨c0_i32_93, v192, c1_i32_95⟩
@[reducible] def k1_t8_loop : Scf.Loop 32 :=
  let c0_i32_97 : BitVec 32 := 0#32
  let c128_i32_98 : BitVec 32 := 128#32
  let v206 : BitVec 32 := Scalar.addi c0_i32_97 c128_i32_98
  let c1_i32_99 : BitVec 32 := 1#32
  ⟨c0_i32_97, v206, c1_i32_99⟩
@[reducible] def k1_t9_loop : Scf.Loop 32 :=
  let c0_i32_101 : BitVec 32 := 0#32
  let c128_i32_102 : BitVec 32 := 128#32
  let v220 : BitVec 32 := Scalar.addi c0_i32_101 c128_i32_102
  let c1_i32_103 : BitVec 32 := 1#32
  ⟨c0_i32_101, v220, c1_i32_103⟩
@[reducible] def k1_t10_loop : Scf.Loop 32 :=
  let c0_i32_105 : BitVec 32 := 0#32
  let c128_i32_106 : BitVec 32 := 128#32
  let v234 : BitVec 32 := Scalar.addi c0_i32_105 c128_i32_106
  let c1_i32_107 : BitVec 32 := 1#32
  ⟨c0_i32_105, v234, c1_i32_107⟩
@[reducible] def k1_t11_loop : Scf.Loop 32 :=
  let c0_i32_109 : BitVec 32 := 0#32
  let c128_i32_110 : BitVec 32 := 128#32
  let v248 : BitVec 32 := Scalar.addi c0_i32_109 c128_i32_110
  let c1_i32_111 : BitVec 32 := 1#32
  ⟨c0_i32_109, v248, c1_i32_111⟩
@[reducible] def k1_t12_loop : Scf.Loop 32 :=
  let c0_i32_113 : BitVec 32 := 0#32
  let c128_i32_114 : BitVec 32 := 128#32
  let v262 : BitVec 32 := Scalar.addi c0_i32_113 c128_i32_114
  let c1_i32_115 : BitVec 32 := 1#32
  ⟨c0_i32_113, v262, c1_i32_115⟩
@[reducible] def k1_t13_loop : Scf.Loop 32 :=
  let c0_i32_117 : BitVec 32 := 0#32
  let c128_i32_118 : BitVec 32 := 128#32
  let v276 : BitVec 32 := Scalar.addi c0_i32_117 c128_i32_118
  let c1_i32_119 : BitVec 32 := 1#32
  ⟨c0_i32_117, v276, c1_i32_119⟩
@[reducible] def k1_t14_loop : Scf.Loop 32 :=
  let c0_i32_121 : BitVec 32 := 0#32
  let c128_i32_122 : BitVec 32 := 128#32
  let v290 : BitVec 32 := Scalar.addi c0_i32_121 c128_i32_122
  let c1_i32_123 : BitVec 32 := 1#32
  ⟨c0_i32_121, v290, c1_i32_123⟩
@[reducible] def k1_t15_loop : Scf.Loop 32 :=
  let c0_i32_125 : BitVec 32 := 0#32
  let c128_i32_126 : BitVec 32 := 128#32
  let v304 : BitVec 32 := Scalar.addi c0_i32_125 c128_i32_126
  let c1_i32_127 : BitVec 32 := 1#32
  ⟨c0_i32_125, v304, c1_i32_127⟩
@[reducible] def k1_t16_loop : Scf.Loop 32 :=
  let c0_i32_129 : BitVec 32 := 0#32
  let c80_i32 : BitVec 32 := 80#32
  let v318 : BitVec 32 := Scalar.addi c0_i32_129 c80_i32
  let c1_i32_130 : BitVec 32 := 1#32
  ⟨c0_i32_129, v318, c1_i32_130⟩
def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x1x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4x16x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x4x16x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x16x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![2], ![false]⟩

@[reducible] def k2_t1_loop : Scf.Loop 32 :=
  let c0_i32 : BitVec 32 := 0#32
  let c128_i32_71 : BitVec 32 := 128#32
  let v108 : BitVec 32 := Scalar.addi c0_i32 c128_i32_71
  let c1_i32 : BitVec 32 := 1#32
  ⟨c0_i32, v108, c1_i32⟩
@[reducible] def k2_t2_loop : Scf.Loop 32 :=
  let c0_i32_73 : BitVec 32 := 0#32
  let c128_i32_74 : BitVec 32 := 128#32
  let v122 : BitVec 32 := Scalar.addi c0_i32_73 c128_i32_74
  let c1_i32_75 : BitVec 32 := 1#32
  ⟨c0_i32_73, v122, c1_i32_75⟩
@[reducible] def k2_t3_loop : Scf.Loop 32 :=
  let c0_i32_77 : BitVec 32 := 0#32
  let c128_i32_78 : BitVec 32 := 128#32
  let v136 : BitVec 32 := Scalar.addi c0_i32_77 c128_i32_78
  let c1_i32_79 : BitVec 32 := 1#32
  ⟨c0_i32_77, v136, c1_i32_79⟩
@[reducible] def k2_t4_loop : Scf.Loop 32 :=
  let c0_i32_81 : BitVec 32 := 0#32
  let c128_i32_82 : BitVec 32 := 128#32
  let v150 : BitVec 32 := Scalar.addi c0_i32_81 c128_i32_82
  let c1_i32_83 : BitVec 32 := 1#32
  ⟨c0_i32_81, v150, c1_i32_83⟩
@[reducible] def k2_t5_loop : Scf.Loop 32 :=
  let c0_i32_85 : BitVec 32 := 0#32
  let c128_i32_86 : BitVec 32 := 128#32
  let v164 : BitVec 32 := Scalar.addi c0_i32_85 c128_i32_86
  let c1_i32_87 : BitVec 32 := 1#32
  ⟨c0_i32_85, v164, c1_i32_87⟩
@[reducible] def k2_t6_loop : Scf.Loop 32 :=
  let c0_i32_89 : BitVec 32 := 0#32
  let c128_i32_90 : BitVec 32 := 128#32
  let v178 : BitVec 32 := Scalar.addi c0_i32_89 c128_i32_90
  let c1_i32_91 : BitVec 32 := 1#32
  ⟨c0_i32_89, v178, c1_i32_91⟩
@[reducible] def k2_t7_loop : Scf.Loop 32 :=
  let c0_i32_93 : BitVec 32 := 0#32
  let c128_i32_94 : BitVec 32 := 128#32
  let v192 : BitVec 32 := Scalar.addi c0_i32_93 c128_i32_94
  let c1_i32_95 : BitVec 32 := 1#32
  ⟨c0_i32_93, v192, c1_i32_95⟩
@[reducible] def k2_t8_loop : Scf.Loop 32 :=
  let c0_i32_97 : BitVec 32 := 0#32
  let c128_i32_98 : BitVec 32 := 128#32
  let v206 : BitVec 32 := Scalar.addi c0_i32_97 c128_i32_98
  let c1_i32_99 : BitVec 32 := 1#32
  ⟨c0_i32_97, v206, c1_i32_99⟩
@[reducible] def k2_t9_loop : Scf.Loop 32 :=
  let c0_i32_101 : BitVec 32 := 0#32
  let c128_i32_102 : BitVec 32 := 128#32
  let v220 : BitVec 32 := Scalar.addi c0_i32_101 c128_i32_102
  let c1_i32_103 : BitVec 32 := 1#32
  ⟨c0_i32_101, v220, c1_i32_103⟩
@[reducible] def k2_t10_loop : Scf.Loop 32 :=
  let c0_i32_105 : BitVec 32 := 0#32
  let c128_i32_106 : BitVec 32 := 128#32
  let v234 : BitVec 32 := Scalar.addi c0_i32_105 c128_i32_106
  let c1_i32_107 : BitVec 32 := 1#32
  ⟨c0_i32_105, v234, c1_i32_107⟩
@[reducible] def k2_t11_loop : Scf.Loop 32 :=
  let c0_i32_109 : BitVec 32 := 0#32
  let c128_i32_110 : BitVec 32 := 128#32
  let v248 : BitVec 32 := Scalar.addi c0_i32_109 c128_i32_110
  let c1_i32_111 : BitVec 32 := 1#32
  ⟨c0_i32_109, v248, c1_i32_111⟩
@[reducible] def k2_t12_loop : Scf.Loop 32 :=
  let c0_i32_113 : BitVec 32 := 0#32
  let c128_i32_114 : BitVec 32 := 128#32
  let v262 : BitVec 32 := Scalar.addi c0_i32_113 c128_i32_114
  let c1_i32_115 : BitVec 32 := 1#32
  ⟨c0_i32_113, v262, c1_i32_115⟩
@[reducible] def k2_t13_loop : Scf.Loop 32 :=
  let c0_i32_117 : BitVec 32 := 0#32
  let c128_i32_118 : BitVec 32 := 128#32
  let v276 : BitVec 32 := Scalar.addi c0_i32_117 c128_i32_118
  let c1_i32_119 : BitVec 32 := 1#32
  ⟨c0_i32_117, v276, c1_i32_119⟩
@[reducible] def k2_t14_loop : Scf.Loop 32 :=
  let c0_i32_121 : BitVec 32 := 0#32
  let c128_i32_122 : BitVec 32 := 128#32
  let v290 : BitVec 32 := Scalar.addi c0_i32_121 c128_i32_122
  let c1_i32_123 : BitVec 32 := 1#32
  ⟨c0_i32_121, v290, c1_i32_123⟩
@[reducible] def k2_t15_loop : Scf.Loop 32 :=
  let c0_i32_125 : BitVec 32 := 0#32
  let c128_i32_126 : BitVec 32 := 128#32
  let v304 : BitVec 32 := Scalar.addi c0_i32_125 c128_i32_126
  let c1_i32_127 : BitVec 32 := 1#32
  ⟨c0_i32_125, v304, c1_i32_127⟩
@[reducible] def k2_t16_loop : Scf.Loop 32 :=
  let c0_i32_129 : BitVec 32 := 0#32
  let c80_i32 : BitVec 32 := 80#32
  let v318 : BitVec 32 := Scalar.addi c0_i32_129 c80_i32
  let c1_i32_130 : BitVec 32 := 1#32
  ⟨c0_i32_129, v318, c1_i32_130⟩
def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_5 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_6 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x1x16x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x4x16x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x4x16x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x1x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x4x16x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x16x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![2], ![false]⟩

@[reducible] def k3_t1_loop : Scf.Loop 32 :=
  let c0_i32 : BitVec 32 := 0#32
  let c128_i32_71 : BitVec 32 := 128#32
  let v108 : BitVec 32 := Scalar.addi c0_i32 c128_i32_71
  let c1_i32 : BitVec 32 := 1#32
  ⟨c0_i32, v108, c1_i32⟩
@[reducible] def k3_t2_loop : Scf.Loop 32 :=
  let c0_i32_73 : BitVec 32 := 0#32
  let c128_i32_74 : BitVec 32 := 128#32
  let v122 : BitVec 32 := Scalar.addi c0_i32_73 c128_i32_74
  let c1_i32_75 : BitVec 32 := 1#32
  ⟨c0_i32_73, v122, c1_i32_75⟩
@[reducible] def k3_t3_loop : Scf.Loop 32 :=
  let c0_i32_77 : BitVec 32 := 0#32
  let c128_i32_78 : BitVec 32 := 128#32
  let v136 : BitVec 32 := Scalar.addi c0_i32_77 c128_i32_78
  let c1_i32_79 : BitVec 32 := 1#32
  ⟨c0_i32_77, v136, c1_i32_79⟩
@[reducible] def k3_t4_loop : Scf.Loop 32 :=
  let c0_i32_81 : BitVec 32 := 0#32
  let c128_i32_82 : BitVec 32 := 128#32
  let v150 : BitVec 32 := Scalar.addi c0_i32_81 c128_i32_82
  let c1_i32_83 : BitVec 32 := 1#32
  ⟨c0_i32_81, v150, c1_i32_83⟩
@[reducible] def k3_t5_loop : Scf.Loop 32 :=
  let c0_i32_85 : BitVec 32 := 0#32
  let c128_i32_86 : BitVec 32 := 128#32
  let v164 : BitVec 32 := Scalar.addi c0_i32_85 c128_i32_86
  let c1_i32_87 : BitVec 32 := 1#32
  ⟨c0_i32_85, v164, c1_i32_87⟩
@[reducible] def k3_t6_loop : Scf.Loop 32 :=
  let c0_i32_89 : BitVec 32 := 0#32
  let c128_i32_90 : BitVec 32 := 128#32
  let v178 : BitVec 32 := Scalar.addi c0_i32_89 c128_i32_90
  let c1_i32_91 : BitVec 32 := 1#32
  ⟨c0_i32_89, v178, c1_i32_91⟩
@[reducible] def k3_t7_loop : Scf.Loop 32 :=
  let c0_i32_93 : BitVec 32 := 0#32
  let c128_i32_94 : BitVec 32 := 128#32
  let v192 : BitVec 32 := Scalar.addi c0_i32_93 c128_i32_94
  let c1_i32_95 : BitVec 32 := 1#32
  ⟨c0_i32_93, v192, c1_i32_95⟩
@[reducible] def k3_t8_loop : Scf.Loop 32 :=
  let c0_i32_97 : BitVec 32 := 0#32
  let c128_i32_98 : BitVec 32 := 128#32
  let v206 : BitVec 32 := Scalar.addi c0_i32_97 c128_i32_98
  let c1_i32_99 : BitVec 32 := 1#32
  ⟨c0_i32_97, v206, c1_i32_99⟩
@[reducible] def k3_t9_loop : Scf.Loop 32 :=
  let c0_i32_101 : BitVec 32 := 0#32
  let c128_i32_102 : BitVec 32 := 128#32
  let v220 : BitVec 32 := Scalar.addi c0_i32_101 c128_i32_102
  let c1_i32_103 : BitVec 32 := 1#32
  ⟨c0_i32_101, v220, c1_i32_103⟩
@[reducible] def k3_t10_loop : Scf.Loop 32 :=
  let c0_i32_105 : BitVec 32 := 0#32
  let c128_i32_106 : BitVec 32 := 128#32
  let v234 : BitVec 32 := Scalar.addi c0_i32_105 c128_i32_106
  let c1_i32_107 : BitVec 32 := 1#32
  ⟨c0_i32_105, v234, c1_i32_107⟩
@[reducible] def k3_t11_loop : Scf.Loop 32 :=
  let c0_i32_109 : BitVec 32 := 0#32
  let c128_i32_110 : BitVec 32 := 128#32
  let v248 : BitVec 32 := Scalar.addi c0_i32_109 c128_i32_110
  let c1_i32_111 : BitVec 32 := 1#32
  ⟨c0_i32_109, v248, c1_i32_111⟩
@[reducible] def k3_t12_loop : Scf.Loop 32 :=
  let c0_i32_113 : BitVec 32 := 0#32
  let c128_i32_114 : BitVec 32 := 128#32
  let v262 : BitVec 32 := Scalar.addi c0_i32_113 c128_i32_114
  let c1_i32_115 : BitVec 32 := 1#32
  ⟨c0_i32_113, v262, c1_i32_115⟩
@[reducible] def k3_t13_loop : Scf.Loop 32 :=
  let c0_i32_117 : BitVec 32 := 0#32
  let c128_i32_118 : BitVec 32 := 128#32
  let v276 : BitVec 32 := Scalar.addi c0_i32_117 c128_i32_118
  let c1_i32_119 : BitVec 32 := 1#32
  ⟨c0_i32_117, v276, c1_i32_119⟩
@[reducible] def k3_t14_loop : Scf.Loop 32 :=
  let c0_i32_121 : BitVec 32 := 0#32
  let c128_i32_122 : BitVec 32 := 128#32
  let v290 : BitVec 32 := Scalar.addi c0_i32_121 c128_i32_122
  let c1_i32_123 : BitVec 32 := 1#32
  ⟨c0_i32_121, v290, c1_i32_123⟩
@[reducible] def k3_t15_loop : Scf.Loop 32 :=
  let c0_i32_125 : BitVec 32 := 0#32
  let c128_i32_126 : BitVec 32 := 128#32
  let v304 : BitVec 32 := Scalar.addi c0_i32_125 c128_i32_126
  let c1_i32_127 : BitVec 32 := 1#32
  ⟨c0_i32_125, v304, c1_i32_127⟩
@[reducible] def k3_t16_loop : Scf.Loop 32 :=
  let c0_i32_129 : BitVec 32 := 0#32
  let c80_i32 : BitVec 32 := 80#32
  let v318 : BitVec 32 := Scalar.addi c0_i32_129 c80_i32
  let c1_i32_130 : BitVec 32 := 1#32
  ⟨c0_i32_129, v318, c1_i32_130⟩
def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_4 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_5 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_6 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x1x16x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x4x16x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x4x16x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x1x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x1x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x4x16x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x1x16x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]
-- ==== KernelIdeal.lean ====
variable {F : FTy → Type} [FloatOps F] [Named F]
def κ : String → Option EReal := fun
  | "ratio" => some ((11744051 / 28521267 : ℝ) : EReal)
  | _ => none
-- ==== ReferenceIdeal.lean ====
abbrev S2x256x256x3 : Shape := ⟨4, ![2, 256, 256, 3]⟩
abbrev S2x128x128x3 : Shape := ⟨4, ![2, 128, 128, 3]⟩
abbrev S2x64x64x3 : Shape := ⟨4, ![2, 64, 64, 3]⟩
abbrev S2x32x32x3 : Shape := ⟨4, ![2, 32, 32, 3]⟩
abbrev S2x256x256x12 : Shape := ⟨4, ![2, 256, 256, 12]⟩
abbrev S2x128x128x12 : Shape := ⟨4, ![2, 128, 128, 12]⟩
abbrev S2x64x64x12 : Shape := ⟨4, ![2, 64, 64, 12]⟩
abbrev S2x32x32x12 : Shape := ⟨4, ![2, 32, 32, 12]⟩
abbrev S2x5 : Shape := ⟨2, ![2, 5]⟩
abbrev S2x196608 : Shape := ⟨2, ![2, 196608]⟩
abbrev S_ : Shape := ⟨0, ![]⟩
abbrev S2x196608x4 : Shape := ⟨3, ![2, 196608, 4]⟩
abbrev S2x2000 : Shape := ⟨2, ![2, 2000]⟩
abbrev S2x2000x1 : Shape := ⟨3, ![2, 2000, 1]⟩
abbrev S1 : Shape := ⟨1, ![1]⟩
abbrev S1x1x1 : Shape := ⟨3, ![1, 1, 1]⟩
abbrev S2x2000x4 : Shape := ⟨3, ![2, 2000, 4]⟩
abbrev S2x49152 : Shape := ⟨2, ![2, 49152]⟩
abbrev S2x49152x4 : Shape := ⟨3, ![2, 49152, 4]⟩
abbrev S2x12288 : Shape := ⟨2, ![2, 12288]⟩
abbrev S2x12288x4 : Shape := ⟨3, ![2, 12288, 4]⟩
abbrev S2x3072 : Shape := ⟨2, ![2, 3072]⟩
abbrev S2x3072x4 : Shape := ⟨3, ![2, 3072, 4]⟩
abbrev S8x2000x4 : Shape := ⟨3, ![8, 2000, 4]⟩
abbrev S8x2000x1 : Shape := ⟨3, ![8, 2000, 1]⟩
abbrev S8x2000 : Shape := ⟨2, ![8, 2000]⟩
abbrev S2x2 : Shape := ⟨2, ![2, 2]⟩
abbrev S8x2 : Shape := ⟨2, ![8, 2]⟩
abbrev S8x1 : Shape := ⟨2, ![8, 1]⟩
abbrev S8 : Shape := ⟨1, ![8]⟩
abbrev S8x1x2000 : Shape := ⟨3, ![8, 1, 2000]⟩
abbrev S8x2000x2000 : Shape := ⟨3, ![8, 2000, 2000]⟩
abbrev S2000 : Shape := ⟨1, ![2000]⟩
abbrev S1x2000 : Shape := ⟨2, ![1, 2000]⟩
abbrev S8x1000 : Shape := ⟨2, ![8, 1000]⟩
abbrev S8x1000x1 : Shape := ⟨3, ![8, 1000, 1]⟩
abbrev S8x1000x4 : Shape := ⟨3, ![8, 1000, 4]⟩
abbrev S2x1000 : Shape := ⟨2, ![2, 1000]⟩
abbrev S2x4000 : Shape := ⟨2, ![2, 4000]⟩
abbrev S2x1000x4 : Shape := ⟨3, ![2, 1000, 4]⟩
abbrev S2x4000x4 : Shape := ⟨3, ![2, 4000, 4]⟩
abbrev S2x1000x1 : Shape := ⟨3, ![2, 1000, 1]⟩

abbrev nBuf : Space → Nat
  | .hbm => 622
  | .vmem => 0
  | .smem => 0
  | _ => 0

abbrev hbmTy0_0 (i : Nat) : BufTy := match i % 128 with
  | 0 => ⟨S2x256x256x3, .f32⟩
  | 1 => ⟨S2x128x128x3, .f32⟩
  | 2 => ⟨S2x64x64x3, .f32⟩
  | 3 => ⟨S2x32x32x3, .f32⟩
  | 4 => ⟨S2x256x256x12, .f32⟩
  | 5 => ⟨S2x128x128x12, .f32⟩
  | 6 => ⟨S2x64x64x12, .f32⟩
  | 7 => ⟨S2x32x32x12, .f32⟩
  | 8 => ⟨S2x256x256x12, .f32⟩
  | 9 => ⟨S2x128x128x12, .f32⟩
  | 10 => ⟨S2x64x64x12, .f32⟩
  | 11 => ⟨S2x32x32x12, .f32⟩
  | 12 => ⟨S2x5, .f32⟩
  | 13 => ⟨S2x196608, .f32⟩
  | 14 => ⟨S2x196608, .f32⟩
  | 15 => ⟨S2x196608, .f32⟩
  | 16 => ⟨S_, .f32⟩
  | 17 => ⟨S2x196608, .f32⟩
  | 18 => ⟨S2x196608, .f32⟩
  | 19 => ⟨S_, .f32⟩
  | 20 => ⟨S2x196608, .f32⟩
  | 21 => ⟨S2x196608, .f32⟩
  | 22 => ⟨S2x196608x4, .f32⟩
  | 23 => ⟨S2x196608x4, .f32⟩
  | 24 => ⟨S2x2000, .f32⟩
  | 25 => ⟨S2x2000, .i32⟩
  | 26 => ⟨S2x2000x1, .i32⟩
  | 27 => ⟨S_, .i32⟩
  | 28 => ⟨S2x2000x1, .i32⟩
  | 29 => ⟨S2x2000x1, .i1⟩
  | 30 => ⟨S_, .i32⟩
  | 31 => ⟨S2x2000x1, .i32⟩
  | 32 => ⟨S2x2000x1, .i32⟩
  | 33 => ⟨S2x2000x1, .i32⟩
  | 34 => ⟨S1, .i32⟩
  | 35 => ⟨S_, .i32⟩
  | 36 => ⟨S2x2000x1, .i32⟩
  | 37 => ⟨S2x2000x1, .i1⟩
  | 38 => ⟨S1x1x1, .i32⟩
  | 39 => ⟨S2x2000x1, .i32⟩
  | 40 => ⟨S2x2000x1, .i1⟩
  | 41 => ⟨S2x2000x1, .i1⟩
  | 42 => ⟨S_, .i1⟩
  | 43 => ⟨S2x2000, .i1⟩
  | 44 => ⟨S2x2000x4, .f32⟩
  | 45 => ⟨S2x2000x4, .i1⟩
  | 46 => ⟨S_, .f32⟩
  | 47 => ⟨S2x2000x4, .f32⟩
  | 48 => ⟨S2x2000x4, .f32⟩
  | 49 => ⟨S2x2000x1, .i32⟩
  | 50 => ⟨S_, .i32⟩
  | 51 => ⟨S2x2000x1, .i32⟩
  | 52 => ⟨S2x2000x1, .i1⟩
  | 53 => ⟨S_, .i32⟩
  | 54 => ⟨S2x2000x1, .i32⟩
  | 55 => ⟨S2x2000x1, .i32⟩
  | 56 => ⟨S2x2000x1, .i32⟩
  | 57 => ⟨S1, .i32⟩
  | 58 => ⟨S_, .i32⟩
  | 59 => ⟨S2x2000x1, .i32⟩
  | 60 => ⟨S2x2000x1, .i1⟩
  | 61 => ⟨S1x1x1, .i32⟩
  | 62 => ⟨S2x2000x1, .i32⟩
  | 63 => ⟨S2x2000x1, .i1⟩
  | 64 => ⟨S2x2000x1, .i1⟩
  | 65 => ⟨S_, .i1⟩
  | 66 => ⟨S2x2000, .i1⟩
  | 67 => ⟨S2x2000x4, .f32⟩
  | 68 => ⟨S2x2000x4, .i1⟩
  | 69 => ⟨S_, .f32⟩
  | 70 => ⟨S2x2000x4, .f32⟩
  | 71 => ⟨S2x2000x4, .f32⟩
  | 72 => ⟨S2x49152, .f32⟩
  | 73 => ⟨S2x49152, .f32⟩
  | 74 => ⟨S2x49152, .f32⟩
  | 75 => ⟨S_, .f32⟩
  | 76 => ⟨S2x49152, .f32⟩
  | 77 => ⟨S2x49152, .f32⟩
  | 78 => ⟨S_, .f32⟩
  | 79 => ⟨S2x49152, .f32⟩
  | 80 => ⟨S2x49152, .f32⟩
  | 81 => ⟨S2x49152x4, .f32⟩
  | 82 => ⟨S2x49152x4, .f32⟩
  | 83 => ⟨S2x2000, .f32⟩
  | 84 => ⟨S2x2000, .i32⟩
  | 85 => ⟨S2x2000x1, .i32⟩
  | 86 => ⟨S_, .i32⟩
  | 87 => ⟨S2x2000x1, .i32⟩
  | 88 => ⟨S2x2000x1, .i1⟩
  | 89 => ⟨S_, .i32⟩
  | 90 => ⟨S2x2000x1, .i32⟩
  | 91 => ⟨S2x2000x1, .i32⟩
  | 92 => ⟨S2x2000x1, .i32⟩
  | 93 => ⟨S1, .i32⟩
  | 94 => ⟨S_, .i32⟩
  | 95 => ⟨S2x2000x1, .i32⟩
  | 96 => ⟨S2x2000x1, .i1⟩
  | 97 => ⟨S1x1x1, .i32⟩
  | 98 => ⟨S2x2000x1, .i32⟩
  | 99 => ⟨S2x2000x1, .i1⟩
  | 100 => ⟨S2x2000x1, .i1⟩
  | 101 => ⟨S_, .i1⟩
  | 102 => ⟨S2x2000, .i1⟩
  | 103 => ⟨S2x2000x4, .f32⟩
  | 104 => ⟨S2x2000x4, .i1⟩
  | 105 => ⟨S_, .f32⟩
  | 106 => ⟨S2x2000x4, .f32⟩
  | 107 => ⟨S2x2000x4, .f32⟩
  | 108 => ⟨S2x2000x1, .i32⟩
  | 109 => ⟨S_, .i32⟩
  | 110 => ⟨S2x2000x1, .i32⟩
  | 111 => ⟨S2x2000x1, .i1⟩
  | 112 => ⟨S_, .i32⟩
  | 113 => ⟨S2x2000x1, .i32⟩
  | 114 => ⟨S2x2000x1, .i32⟩
  | 115 => ⟨S2x2000x1, .i32⟩
  | 116 => ⟨S1, .i32⟩
  | 117 => ⟨S_, .i32⟩
  | 118 => ⟨S2x2000x1, .i32⟩
  | 119 => ⟨S2x2000x1, .i1⟩
  | 120 => ⟨S1x1x1, .i32⟩
  | 121 => ⟨S2x2000x1, .i32⟩
  | 122 => ⟨S2x2000x1, .i1⟩
  | 123 => ⟨S2x2000x1, .i1⟩
  | 124 => ⟨S_, .i1⟩
  | 125 => ⟨S2x2000, .i1⟩
  | 126 => ⟨S2x2000x4, .f32⟩
  | 127 => ⟨S2x2000x4, .i1⟩
  | _ => ⟨S2x256x256x3, .f32⟩

abbrev hbmTy0_1 (i : Nat) : BufTy := match i % 128 with
  | 0 => ⟨S_, .f32⟩
  | 1 => ⟨S2x2000x4, .f32⟩
  | 2 => ⟨S2x2000x4, .f32⟩
  | 3 => ⟨S2x12288, .f32⟩
  | 4 => ⟨S2x12288, .f32⟩
  | 5 => ⟨S2x12288, .f32⟩
  | 6 => ⟨S_, .f32⟩
  | 7 => ⟨S2x12288, .f32⟩
  | 8 => ⟨S2x12288, .f32⟩
  | 9 => ⟨S_, .f32⟩
  | 10 => ⟨S2x12288, .f32⟩
  | 11 => ⟨S2x12288, .f32⟩
  | 12 => ⟨S2x12288x4, .f32⟩
  | 13 => ⟨S2x12288x4, .f32⟩
  | 14 => ⟨S2x2000, .f32⟩
  | 15 => ⟨S2x2000, .i32⟩
  | 16 => ⟨S2x2000x1, .i32⟩
  | 17 => ⟨S_, .i32⟩
  | 18 => ⟨S2x2000x1, .i32⟩
  | 19 => ⟨S2x2000x1, .i1⟩
  | 20 => ⟨S_, .i32⟩
  | 21 => ⟨S2x2000x1, .i32⟩
  | 22 => ⟨S2x2000x1, .i32⟩
  | 23 => ⟨S2x2000x1, .i32⟩
  | 24 => ⟨S1, .i32⟩
  | 25 => ⟨S_, .i32⟩
  | 26 => ⟨S2x2000x1, .i32⟩
  | 27 => ⟨S2x2000x1, .i1⟩
  | 28 => ⟨S1x1x1, .i32⟩
  | 29 => ⟨S2x2000x1, .i32⟩
  | 30 => ⟨S2x2000x1, .i1⟩
  | 31 => ⟨S2x2000x1, .i1⟩
  | 32 => ⟨S_, .i1⟩
  | 33 => ⟨S2x2000, .i1⟩
  | 34 => ⟨S2x2000x4, .f32⟩
  | 35 => ⟨S2x2000x4, .i1⟩
  | 36 => ⟨S_, .f32⟩
  | 37 => ⟨S2x2000x4, .f32⟩
  | 38 => ⟨S2x2000x4, .f32⟩
  | 39 => ⟨S2x2000x1, .i32⟩
  | 40 => ⟨S_, .i32⟩
  | 41 => ⟨S2x2000x1, .i32⟩
  | 42 => ⟨S2x2000x1, .i1⟩
  | 43 => ⟨S_, .i32⟩
  | 44 => ⟨S2x2000x1, .i32⟩
  | 45 => ⟨S2x2000x1, .i32⟩
  | 46 => ⟨S2x2000x1, .i32⟩
  | 47 => ⟨S1, .i32⟩
  | 48 => ⟨S_, .i32⟩
  | 49 => ⟨S2x2000x1, .i32⟩
  | 50 => ⟨S2x2000x1, .i1⟩
  | 51 => ⟨S1x1x1, .i32⟩
  | 52 => ⟨S2x2000x1, .i32⟩
  | 53 => ⟨S2x2000x1, .i1⟩
  | 54 => ⟨S2x2000x1, .i1⟩
  | 55 => ⟨S_, .i1⟩
  | 56 => ⟨S2x2000, .i1⟩
  | 57 => ⟨S2x2000x4, .f32⟩
  | 58 => ⟨S2x2000x4, .i1⟩
  | 59 => ⟨S_, .f32⟩
  | 60 => ⟨S2x2000x4, .f32⟩
  | 61 => ⟨S2x2000x4, .f32⟩
  | 62 => ⟨S2x3072, .f32⟩
  | 63 => ⟨S2x3072, .f32⟩
  | 64 => ⟨S2x3072, .f32⟩
  | 65 => ⟨S_, .f32⟩
  | 66 => ⟨S2x3072, .f32⟩
  | 67 => ⟨S2x3072, .f32⟩
  | 68 => ⟨S_, .f32⟩
  | 69 => ⟨S2x3072, .f32⟩
  | 70 => ⟨S2x3072, .f32⟩
  | 71 => ⟨S2x3072x4, .f32⟩
  | 72 => ⟨S2x3072x4, .f32⟩
  | 73 => ⟨S2x2000, .f32⟩
  | 74 => ⟨S2x2000, .i32⟩
  | 75 => ⟨S2x2000x1, .i32⟩
  | 76 => ⟨S_, .i32⟩
  | 77 => ⟨S2x2000x1, .i32⟩
  | 78 => ⟨S2x2000x1, .i1⟩
  | 79 => ⟨S_, .i32⟩
  | 80 => ⟨S2x2000x1, .i32⟩
  | 81 => ⟨S2x2000x1, .i32⟩
  | 82 => ⟨S2x2000x1, .i32⟩
  | 83 => ⟨S1, .i32⟩
  | 84 => ⟨S_, .i32⟩
  | 85 => ⟨S2x2000x1, .i32⟩
  | 86 => ⟨S2x2000x1, .i1⟩
  | 87 => ⟨S1x1x1, .i32⟩
  | 88 => ⟨S2x2000x1, .i32⟩
  | 89 => ⟨S2x2000x1, .i1⟩
  | 90 => ⟨S2x2000x1, .i1⟩
  | 91 => ⟨S_, .i1⟩
  | 92 => ⟨S2x2000, .i1⟩
  | 93 => ⟨S2x2000x4, .f32⟩
  | 94 => ⟨S2x2000x4, .i1⟩
  | 95 => ⟨S_, .f32⟩
  | 96 => ⟨S2x2000x4, .f32⟩
  | 97 => ⟨S2x2000x4, .f32⟩
  | 98 => ⟨S2x2000x1, .i32⟩
  | 99 => ⟨S_, .i32⟩
  | 100 => ⟨S2x2000x1, .i32⟩
  | 101 => ⟨S2x2000x1, .i1⟩
  | 102 => ⟨S_, .i32⟩
  | 103 => ⟨S2x2000x1, .i32⟩
  | 104 => ⟨S2x2000x1, .i32⟩
  | 105 => ⟨S2x2000x1, .i32⟩
  | 106 => ⟨S1, .i32⟩
  | 107 => ⟨S_, .i32⟩
  | 108 => ⟨S2x2000x1, .i32⟩
  | 109 => ⟨S2x2000x1, .i1⟩
  | 110 => ⟨S1x1x1, .i32⟩
  | 111 => ⟨S2x2000x1, .i32⟩
  | 112 => ⟨S2x2000x1, .i1⟩
  | 113 => ⟨S2x2000x1, .i1⟩
  | 114 => ⟨S_, .i1⟩
  | 115 => ⟨S2x2000, .i1⟩
  | 116 => ⟨S2x2000x4, .f32⟩
  | 117 => ⟨S2x2000x4, .i1⟩
  | 118 => ⟨S_, .f32⟩
  | 119 => ⟨S2x2000x4, .f32⟩
  | 120 => ⟨S2x2000x4, .f32⟩
  | 121 => ⟨S8x2000x4, .f32⟩
  | 122 => ⟨S8x2000x4, .f32⟩
  | 123 => ⟨S8x2000x1, .f32⟩
  | 124 => ⟨S8x2000, .f32⟩
  | 125 => ⟨S8x2000x1, .f32⟩
  | 126 => ⟨S8x2000, .f32⟩
  | 127 => ⟨S8x2000x1, .f32⟩
  | _ => ⟨S2x256x256x3, .f32⟩

abbrev hbmTy0_2 (i : Nat) : BufTy := match i % 128 with
  | 0 => ⟨S8x2000, .f32⟩
  | 1 => ⟨S8x2000x1, .f32⟩
  | 2 => ⟨S8x2000, .f32⟩
  | 3 => ⟨S8x2000, .f32⟩
  | 4 => ⟨S_, .f32⟩
  | 5 => ⟨S8x2000, .f32⟩
  | 6 => ⟨S8x2000, .f32⟩
  | 7 => ⟨S8x2000, .f32⟩
  | 8 => ⟨S_, .f32⟩
  | 9 => ⟨S8x2000, .f32⟩
  | 10 => ⟨S8x2000, .f32⟩
  | 11 => ⟨S_, .f32⟩
  | 12 => ⟨S8x2000, .f32⟩
  | 13 => ⟨S8x2000, .f32⟩
  | 14 => ⟨S8x2000, .f32⟩
  | 15 => ⟨S_, .f32⟩
  | 16 => ⟨S8x2000, .f32⟩
  | 17 => ⟨S8x2000, .f32⟩
  | 18 => ⟨S8x2000, .f32⟩
  | 19 => ⟨S8x2000x1, .f32⟩
  | 20 => ⟨S8x2000, .f32⟩
  | 21 => ⟨S_, .f32⟩
  | 22 => ⟨S8x2000, .f32⟩
  | 23 => ⟨S8x2000, .f32⟩
  | 24 => ⟨S8x2000x1, .f32⟩
  | 25 => ⟨S8x2000, .f32⟩
  | 26 => ⟨S_, .f32⟩
  | 27 => ⟨S8x2000, .f32⟩
  | 28 => ⟨S8x2000, .f32⟩
  | 29 => ⟨S8x2000x1, .f32⟩
  | 30 => ⟨S8x2000, .f32⟩
  | 31 => ⟨S_, .f32⟩
  | 32 => ⟨S8x2000, .f32⟩
  | 33 => ⟨S8x2000, .f32⟩
  | 34 => ⟨S_, .f32⟩
  | 35 => ⟨S8x2000, .f32⟩
  | 36 => ⟨S8x2000, .f32⟩
  | 37 => ⟨S8x2000x1, .f32⟩
  | 38 => ⟨S8x2000, .f32⟩
  | 39 => ⟨S_, .f32⟩
  | 40 => ⟨S8x2000, .f32⟩
  | 41 => ⟨S8x2000, .f32⟩
  | 42 => ⟨S_, .f32⟩
  | 43 => ⟨S8x2000, .f32⟩
  | 44 => ⟨S8x2000, .f32⟩
  | 45 => ⟨S8x2000, .f32⟩
  | 46 => ⟨S8x2000, .f32⟩
  | 47 => ⟨S8x2000, .f32⟩
  | 48 => ⟨S8x2000, .f32⟩
  | 49 => ⟨S8x2000, .f32⟩
  | 50 => ⟨S8x2000, .f32⟩
  | 51 => ⟨S8x2000, .f32⟩
  | 52 => ⟨S8x2000, .f32⟩
  | 53 => ⟨S_, .f32⟩
  | 54 => ⟨S8x2000, .f32⟩
  | 55 => ⟨S8x2000, .f32⟩
  | 56 => ⟨S8x2000, .f32⟩
  | 57 => ⟨S_, .f32⟩
  | 58 => ⟨S8x2000, .f32⟩
  | 59 => ⟨S8x2000, .f32⟩
  | 60 => ⟨S8x2000, .f32⟩
  | 61 => ⟨S_, .f32⟩
  | 62 => ⟨S8x2000, .f32⟩
  | 63 => ⟨S8x2000, .f32⟩
  | 64 => ⟨S8x2000, .f32⟩
  | 65 => ⟨S_, .f32⟩
  | 66 => ⟨S8x2000, .f32⟩
  | 67 => ⟨S8x2000, .f32⟩
  | 68 => ⟨S_, .f32⟩
  | 69 => ⟨S8x2000, .f32⟩
  | 70 => ⟨S8x2000, .f32⟩
  | 71 => ⟨S8x2000, .f32⟩
  | 72 => ⟨S_, .f32⟩
  | 73 => ⟨S8x2000, .f32⟩
  | 74 => ⟨S8x2000, .f32⟩
  | 75 => ⟨S8x2000x1, .f32⟩
  | 76 => ⟨S8x2000x1, .f32⟩
  | 77 => ⟨S8x2000x1, .f32⟩
  | 78 => ⟨S8x2000x1, .f32⟩
  | 79 => ⟨S8x2000x4, .f32⟩
  | 80 => ⟨S2x2, .f32⟩
  | 81 => ⟨S8x2, .f32⟩
  | 82 => ⟨S8x1, .f32⟩
  | 83 => ⟨S8, .f32⟩
  | 84 => ⟨S8x1, .f32⟩
  | 85 => ⟨S8x1, .f32⟩
  | 86 => ⟨S8, .f32⟩
  | 87 => ⟨S8x1, .f32⟩
  | 88 => ⟨S8x2000x1, .f32⟩
  | 89 => ⟨S8x2000, .f32⟩
  | 90 => ⟨S_, .f32⟩
  | 91 => ⟨S8x1, .f32⟩
  | 92 => ⟨S8x1, .f32⟩
  | 93 => ⟨S_, .f32⟩
  | 94 => ⟨S_, .f32⟩
  | 95 => ⟨S8x2000, .f32⟩
  | 96 => ⟨S8x2000, .f32⟩
  | 97 => ⟨S8x2000, .f32⟩
  | 98 => ⟨S8x2000, .f32⟩
  | 99 => ⟨S8x2000x1, .f32⟩
  | 100 => ⟨S8x2000, .f32⟩
  | 101 => ⟨S_, .f32⟩
  | 102 => ⟨S8x1, .f32⟩
  | 103 => ⟨S8x1, .f32⟩
  | 104 => ⟨S_, .f32⟩
  | 105 => ⟨S_, .f32⟩
  | 106 => ⟨S8x2000, .f32⟩
  | 107 => ⟨S8x2000, .f32⟩
  | 108 => ⟨S8x2000, .f32⟩
  | 109 => ⟨S8x2000, .f32⟩
  | 110 => ⟨S8x2000x1, .f32⟩
  | 111 => ⟨S8x2000, .f32⟩
  | 112 => ⟨S_, .f32⟩
  | 113 => ⟨S8x1, .f32⟩
  | 114 => ⟨S8x1, .f32⟩
  | 115 => ⟨S_, .f32⟩
  | 116 => ⟨S_, .f32⟩
  | 117 => ⟨S8x2000, .f32⟩
  | 118 => ⟨S8x2000, .f32⟩
  | 119 => ⟨S8x2000, .f32⟩
  | 120 => ⟨S8x2000, .f32⟩
  | 121 => ⟨S8x2000x1, .f32⟩
  | 122 => ⟨S8x2000, .f32⟩
  | 123 => ⟨S_, .f32⟩
  | 124 => ⟨S8x1, .f32⟩
  | 125 => ⟨S8x1, .f32⟩
  | 126 => ⟨S_, .f32⟩
  | 127 => ⟨S_, .f32⟩
  | _ => ⟨S2x256x256x3, .f32⟩

abbrev hbmTy0_3 (i : Nat) : BufTy := match i % 128 with
  | 0 => ⟨S8x2000, .f32⟩
  | 1 => ⟨S8x2000, .f32⟩
  | 2 => ⟨S8x2000, .f32⟩
  | 3 => ⟨S8x2000, .f32⟩
  | 4 => ⟨S8x2000x1, .f32⟩
  | 5 => ⟨S8x2000x1, .f32⟩
  | 6 => ⟨S8x2000x1, .f32⟩
  | 7 => ⟨S8x2000x1, .f32⟩
  | 8 => ⟨S8x2000x4, .f32⟩
  | 9 => ⟨S8x2000, .f32⟩
  | 10 => ⟨S8x2000, .f32⟩
  | 11 => ⟨S8x2000, .i32⟩
  | 12 => ⟨S8x2000, .f32⟩
  | 13 => ⟨S8x2000, .i32⟩
  | 14 => ⟨S8x2000x1, .i32⟩
  | 15 => ⟨S_, .i32⟩
  | 16 => ⟨S8x2000x1, .i32⟩
  | 17 => ⟨S8x2000x1, .i1⟩
  | 18 => ⟨S_, .i32⟩
  | 19 => ⟨S8x2000x1, .i32⟩
  | 20 => ⟨S8x2000x1, .i32⟩
  | 21 => ⟨S8x2000x1, .i32⟩
  | 22 => ⟨S1, .i32⟩
  | 23 => ⟨S_, .i32⟩
  | 24 => ⟨S8x2000x1, .i32⟩
  | 25 => ⟨S8x2000x1, .i1⟩
  | 26 => ⟨S1x1x1, .i32⟩
  | 27 => ⟨S8x2000x1, .i32⟩
  | 28 => ⟨S8x2000x1, .i1⟩
  | 29 => ⟨S8x2000x1, .i1⟩
  | 30 => ⟨S_, .i1⟩
  | 31 => ⟨S8x2000, .i1⟩
  | 32 => ⟨S8x2000x4, .f32⟩
  | 33 => ⟨S8x2000x4, .i1⟩
  | 34 => ⟨S_, .f32⟩
  | 35 => ⟨S8x2000x4, .f32⟩
  | 36 => ⟨S8x2000x4, .f32⟩
  | 37 => ⟨S_, .i32⟩
  | 38 => ⟨S8x2000, .i32⟩
  | 39 => ⟨S8x2000, .i1⟩
  | 40 => ⟨S_, .i32⟩
  | 41 => ⟨S8x2000, .i32⟩
  | 42 => ⟨S8x2000, .i32⟩
  | 43 => ⟨S8x2000, .i32⟩
  | 44 => ⟨S8x2000x1, .i32⟩
  | 45 => ⟨S1, .i32⟩
  | 46 => ⟨S_, .i32⟩
  | 47 => ⟨S8x2000x1, .i32⟩
  | 48 => ⟨S8x2000x1, .i1⟩
  | 49 => ⟨S1x1x1, .i32⟩
  | 50 => ⟨S8x2000x1, .i32⟩
  | 51 => ⟨S8x2000x1, .i1⟩
  | 52 => ⟨S8x2000x1, .i1⟩
  | 53 => ⟨S_, .i1⟩
  | 54 => ⟨S8x2000, .i1⟩
  | 55 => ⟨S8x2000, .f32⟩
  | 56 => ⟨S_, .f32⟩
  | 57 => ⟨S8x2000, .f32⟩
  | 58 => ⟨S8x2000, .f32⟩
  | 59 => ⟨S8x2000x1, .f32⟩
  | 60 => ⟨S8x2000, .f32⟩
  | 61 => ⟨S8x2000x1, .f32⟩
  | 62 => ⟨S8x2000, .f32⟩
  | 63 => ⟨S8x2000x1, .f32⟩
  | 64 => ⟨S8x2000, .f32⟩
  | 65 => ⟨S8x2000x1, .f32⟩
  | 66 => ⟨S8x2000, .f32⟩
  | 67 => ⟨S8x2000, .f32⟩
  | 68 => ⟨S_, .f32⟩
  | 69 => ⟨S8x2000, .f32⟩
  | 70 => ⟨S8x2000, .f32⟩
  | 71 => ⟨S8x2000, .f32⟩
  | 72 => ⟨S_, .f32⟩
  | 73 => ⟨S8x2000, .f32⟩
  | 74 => ⟨S8x2000, .f32⟩
  | 75 => ⟨S8x2000, .f32⟩
  | 76 => ⟨S8x2000x1, .f32⟩
  | 77 => ⟨S8x1x2000, .f32⟩
  | 78 => ⟨S8x2000x2000, .f32⟩
  | 79 => ⟨S8x2000x2000, .f32⟩
  | 80 => ⟨S8x2000x2000, .f32⟩
  | 81 => ⟨S8x2000x1, .f32⟩
  | 82 => ⟨S8x1x2000, .f32⟩
  | 83 => ⟨S8x2000x2000, .f32⟩
  | 84 => ⟨S8x2000x2000, .f32⟩
  | 85 => ⟨S8x2000x2000, .f32⟩
  | 86 => ⟨S8x2000x1, .f32⟩
  | 87 => ⟨S8x1x2000, .f32⟩
  | 88 => ⟨S8x2000x2000, .f32⟩
  | 89 => ⟨S8x2000x2000, .f32⟩
  | 90 => ⟨S8x2000x2000, .f32⟩
  | 91 => ⟨S8x2000x1, .f32⟩
  | 92 => ⟨S8x1x2000, .f32⟩
  | 93 => ⟨S8x2000x2000, .f32⟩
  | 94 => ⟨S8x2000x2000, .f32⟩
  | 95 => ⟨S8x2000x2000, .f32⟩
  | 96 => ⟨S8x2000x2000, .f32⟩
  | 97 => ⟨S_, .f32⟩
  | 98 => ⟨S8x2000x2000, .f32⟩
  | 99 => ⟨S8x2000x2000, .f32⟩
  | 100 => ⟨S_, .f32⟩
  | 101 => ⟨S8x2000x2000, .f32⟩
  | 102 => ⟨S8x2000x2000, .f32⟩
  | 103 => ⟨S8x2000x2000, .f32⟩
  | 104 => ⟨S_, .f32⟩
  | 105 => ⟨S8x2000x2000, .f32⟩
  | 106 => ⟨S8x2000x2000, .f32⟩
  | 107 => ⟨S_, .f32⟩
  | 108 => ⟨S8x2000x2000, .f32⟩
  | 109 => ⟨S8x2000x2000, .f32⟩
  | 110 => ⟨S8x2000x2000, .f32⟩
  | 111 => ⟨S8x2000x1, .f32⟩
  | 112 => ⟨S8x1x2000, .f32⟩
  | 113 => ⟨S8x2000x2000, .f32⟩
  | 114 => ⟨S8x2000x2000, .f32⟩
  | 115 => ⟨S8x2000x2000, .f32⟩
  | 116 => ⟨S8x2000x2000, .f32⟩
  | 117 => ⟨S8x2000x2000, .f32⟩
  | 118 => ⟨S2000, .i32⟩
  | 119 => ⟨S_, .f32⟩
  | 120 => ⟨S8x2000, .f32⟩
  | 121 => ⟨S_, .i32⟩
  | 122 => ⟨S_, .i32⟩
  | 123 => ⟨S8x2000x2000, .f32⟩
  | 124 => ⟨S2000, .i32⟩
  | 125 => ⟨S_, .i32⟩
  | 126 => ⟨S_, .i32⟩
  | 127 => ⟨S8x2000, .f32⟩
  | _ => ⟨S2x256x256x3, .f32⟩

abbrev hbmTy0_4 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S8x1x2000, .f32⟩
  | 13 => ⟨S8x2000, .f32⟩
  | 14 => ⟨S_, .f32⟩
  | 15 => ⟨S8x2000, .f32⟩
  | 16 => ⟨S8x2000, .i1⟩
  | 17 => ⟨S_, .f32⟩
  | 18 => ⟨S8x2000, .f32⟩
  | 19 => ⟨S8x2000, .i1⟩
  | 20 => ⟨S8x2000, .i1⟩
  | 21 => ⟨S1x2000, .i32⟩
  | 22 => ⟨S_, .i32⟩
  | 23 => ⟨S1x2000, .i32⟩
  | 24 => ⟨S1x2000, .i1⟩
  | 25 => ⟨S8x2000, .i1⟩
  | 26 => ⟨S8x2000, .i1⟩
  | 27 => ⟨S_, .i1⟩
  | 28 => ⟨S8, .i1⟩
  | 29 => ⟨S8x1, .i1⟩
  | 30 => ⟨S1x2000, .i32⟩
  | 31 => ⟨S_, .i32⟩
  | 32 => ⟨S1x2000, .i32⟩
  | 33 => ⟨S1x2000, .i1⟩
  | 34 => ⟨S8x2000, .i1⟩
  | 35 => ⟨S8x2000, .i1⟩
  | 36 => ⟨S8x2000, .i1⟩
  | 37 => ⟨S_, .f32⟩
  | 38 => ⟨S_, .f32⟩
  | 39 => ⟨S8x2000, .f32⟩
  | 40 => ⟨S8x2000, .f32⟩
  | 41 => ⟨S_, .i32⟩
  | 42 => ⟨S_, .i32⟩
  | 43 => ⟨S_, .f32⟩
  | 44 => ⟨S8x2000, .f32⟩
  | 45 => ⟨S8x2000, .i1⟩
  | 46 => ⟨S_, .f32⟩
  | 47 => ⟨S_, .f32⟩
  | 48 => ⟨S8x2000, .f32⟩
  | 49 => ⟨S8x2000, .f32⟩
  | 50 => ⟨S8x1000, .f32⟩
  | 51 => ⟨S8x1000, .i32⟩
  | 52 => ⟨S8x1000x1, .i32⟩
  | 53 => ⟨S_, .i32⟩
  | 54 => ⟨S8x1000x1, .i32⟩
  | 55 => ⟨S8x1000x1, .i1⟩
  | 56 => ⟨S_, .i32⟩
  | 57 => ⟨S8x1000x1, .i32⟩
  | 58 => ⟨S8x1000x1, .i32⟩
  | 59 => ⟨S8x1000x1, .i32⟩
  | 60 => ⟨S1, .i32⟩
  | 61 => ⟨S_, .i32⟩
  | 62 => ⟨S8x1000x1, .i32⟩
  | 63 => ⟨S8x1000x1, .i1⟩
  | 64 => ⟨S1x1x1, .i32⟩
  | 65 => ⟨S8x1000x1, .i32⟩
  | 66 => ⟨S8x1000x1, .i1⟩
  | 67 => ⟨S8x1000x1, .i1⟩
  | 68 => ⟨S_, .i1⟩
  | 69 => ⟨S8x1000, .i1⟩
  | 70 => ⟨S8x1000x4, .f32⟩
  | 71 => ⟨S8x1000x4, .i1⟩
  | 72 => ⟨S_, .f32⟩
  | 73 => ⟨S8x1000x4, .f32⟩
  | 74 => ⟨S8x1000x4, .f32⟩
  | 75 => ⟨S2x1000, .f32⟩
  | 76 => ⟨S2x1000, .f32⟩
  | 77 => ⟨S2x1000, .f32⟩
  | 78 => ⟨S2x1000, .f32⟩
  | 79 => ⟨S2x4000, .f32⟩
  | 80 => ⟨S2x1000x4, .f32⟩
  | 81 => ⟨S2x1000x4, .f32⟩
  | 82 => ⟨S2x1000x4, .f32⟩
  | 83 => ⟨S2x1000x4, .f32⟩
  | 84 => ⟨S2x4000x4, .f32⟩
  | 85 => ⟨S2x1000, .f32⟩
  | 86 => ⟨S2x1000, .i32⟩
  | 87 => ⟨S2x1000x1, .i32⟩
  | 88 => ⟨S_, .i32⟩
  | 89 => ⟨S2x1000x1, .i32⟩
  | 90 => ⟨S2x1000x1, .i1⟩
  | 91 => ⟨S_, .i32⟩
  | 92 => ⟨S2x1000x1, .i32⟩
  | 93 => ⟨S2x1000x1, .i32⟩
  | 94 => ⟨S2x1000x1, .i32⟩
  | 95 => ⟨S1, .i32⟩
  | 96 => ⟨S_, .i32⟩
  | 97 => ⟨S2x1000x1, .i32⟩
  | 98 => ⟨S2x1000x1, .i1⟩
  | 99 => ⟨S1x1x1, .i32⟩
  | 100 => ⟨S2x1000x1, .i32⟩
  | 101 => ⟨S2x1000x1, .i1⟩
  | 102 => ⟨S2x1000x1, .i1⟩
  | 103 => ⟨S_, .i1⟩
  | 104 => ⟨S2x1000, .i1⟩
  | 105 => ⟨S2x1000x4, .f32⟩
  | 106 => ⟨S2x1000x4, .i1⟩
  | 107 => ⟨S_, .f32⟩
  | 108 => ⟨S2x1000x4, .f32⟩
  | 109 => ⟨S2x1000x4, .f32⟩
  | _ => ⟨S2x256x256x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x256x256x3, .f32⟩

abbrev bufTy : (tb : Table) → Fin (tcTables nBuf tb) → BufTy
  | .hbm, ⟨i, _⟩ => hbmTy i
  | _, _ => ⟨S2x256x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_values : Ref sig .tc := ⟨.hbm, 24, rfl⟩
abbrev main_indices : Ref sig .tc := ⟨.hbm, 25, rfl⟩
abbrev main_v9 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_c_2 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_c_3 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_cst : Ref sig .tc := ⟨.hbm, 46, rfl⟩
abbrev main_call0_v14 : Ref sig .tc := ⟨.hbm, 47, rfl⟩
abbrev main_v10 : Ref sig .tc := ⟨.hbm, 48, rfl⟩
abbrev main_v11 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_1 : Ref sig .tc := ⟨.hbm, 57, rfl⟩
abbrev main_call1_c_2 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_c_3 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_cst : Ref sig .tc := ⟨.hbm, 69, rfl⟩
abbrev main_call1_v14 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_cst_1 : Ref sig .tc := ⟨.hbm, 75, rfl⟩
abbrev main_v16 : Ref sig .tc := ⟨.hbm, 76, rfl⟩
abbrev main_v17 : Ref sig .tc := ⟨.hbm, 77, rfl⟩
abbrev main_cst_2 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_values_3 : Ref sig .tc := ⟨.hbm, 83, rfl⟩
abbrev main_indices_4 : Ref sig .tc := ⟨.hbm, 84, rfl⟩
abbrev main_v22 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_c_1 : Ref sig .tc := ⟨.hbm, 93, rfl⟩
abbrev main_call2_c_2 : Ref sig .tc := ⟨.hbm, 94, rfl⟩
abbrev main_call2_v5 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_c_3 : Ref sig .tc := ⟨.hbm, 101, rfl⟩
abbrev main_call2_v11 : Ref sig .tc := ⟨.hbm, 102, rfl⟩
abbrev main_call2_v12 : Ref sig .tc := ⟨.hbm, 103, rfl⟩
abbrev main_call2_v13 : Ref sig .tc := ⟨.hbm, 104, rfl⟩
abbrev main_call2_cst : Ref sig .tc := ⟨.hbm, 105, rfl⟩
abbrev main_call2_v14 : Ref sig .tc := ⟨.hbm, 106, rfl⟩
abbrev main_v23 : Ref sig .tc := ⟨.hbm, 107, rfl⟩
abbrev main_v24 : Ref sig .tc := ⟨.hbm, 108, rfl⟩
abbrev main_call3_c : Ref sig .tc := ⟨.hbm, 109, rfl⟩
abbrev main_call3_v0 : Ref sig .tc := ⟨.hbm, 110, rfl⟩
abbrev main_call3_v1 : Ref sig .tc := ⟨.hbm, 111, rfl⟩
abbrev main_call3_c_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_c_1 : Ref sig .tc := ⟨.hbm, 116, rfl⟩
abbrev main_call3_c_2 : Ref sig .tc := ⟨.hbm, 117, rfl⟩
abbrev main_call3_v5 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_v9 : Ref sig .tc := ⟨.hbm, 122, rfl⟩
abbrev main_call3_v10 : Ref sig .tc := ⟨.hbm, 123, rfl⟩
abbrev main_call3_c_3 : Ref sig .tc := ⟨.hbm, 124, rfl⟩
abbrev main_call3_v11 : Ref sig .tc := ⟨.hbm, 125, rfl⟩
abbrev main_call3_v12 : Ref sig .tc := ⟨.hbm, 126, rfl⟩
abbrev main_call3_v13 : Ref sig .tc := ⟨.hbm, 127, rfl⟩
abbrev main_call3_cst : Ref sig .tc := ⟨.hbm, 128, rfl⟩
abbrev main_call3_v14 : Ref sig .tc := ⟨.hbm, 129, rfl⟩
abbrev main_v25 : Ref sig .tc := ⟨.hbm, 130, rfl⟩
abbrev main_v26 : Ref sig .tc := ⟨.hbm, 131, rfl⟩
abbrev main_v27 : Ref sig .tc := ⟨.hbm, 132, rfl⟩
abbrev main_v28 : Ref sig .tc := ⟨.hbm, 133, rfl⟩
abbrev main_cst_5 : Ref sig .tc := ⟨.hbm, 134, rfl⟩
abbrev main_v29 : Ref sig .tc := ⟨.hbm, 135, rfl⟩
abbrev main_v30 : Ref sig .tc := ⟨.hbm, 136, rfl⟩
abbrev main_cst_6 : Ref sig .tc := ⟨.hbm, 137, rfl⟩
abbrev main_v31 : Ref sig .tc := ⟨.hbm, 138, rfl⟩
abbrev main_v32 : Ref sig .tc := ⟨.hbm, 139, rfl⟩
abbrev main_v33 : Ref sig .tc := ⟨.hbm, 140, rfl⟩
abbrev main_v34 : Ref sig .tc := ⟨.hbm, 141, rfl⟩
abbrev main_values_7 : Ref sig .tc := ⟨.hbm, 142, rfl⟩
abbrev main_indices_8 : Ref sig .tc := ⟨.hbm, 143, rfl⟩
abbrev main_v35 : Ref sig .tc := ⟨.hbm, 144, rfl⟩
abbrev main_call4_c : Ref sig .tc := ⟨.hbm, 145, rfl⟩
abbrev main_call4_v0 : Ref sig .tc := ⟨.hbm, 146, rfl⟩
abbrev main_call4_v1 : Ref sig .tc := ⟨.hbm, 147, rfl⟩
abbrev main_call4_c_0 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_c_1 : Ref sig .tc := ⟨.hbm, 152, rfl⟩
abbrev main_call4_c_2 : Ref sig .tc := ⟨.hbm, 153, rfl⟩
abbrev main_call4_v5 : Ref sig .tc := ⟨.hbm, 154, rfl⟩
abbrev main_call4_v6 : Ref sig .tc := ⟨.hbm, 155, rfl⟩
abbrev main_call4_v7 : Ref sig .tc := ⟨.hbm, 156, rfl⟩
abbrev main_call4_v8 : Ref sig .tc := ⟨.hbm, 157, rfl⟩
abbrev main_call4_v9 : Ref sig .tc := ⟨.hbm, 158, rfl⟩
abbrev main_call4_v10 : Ref sig .tc := ⟨.hbm, 159, rfl⟩
abbrev main_call4_c_3 : Ref sig .tc := ⟨.hbm, 160, rfl⟩
abbrev main_call4_v11 : Ref sig .tc := ⟨.hbm, 161, rfl⟩
abbrev main_call4_v12 : Ref sig .tc := ⟨.hbm, 162, rfl⟩
abbrev main_call4_v13 : Ref sig .tc := ⟨.hbm, 163, rfl⟩
abbrev main_call4_cst : Ref sig .tc := ⟨.hbm, 164, rfl⟩
abbrev main_call4_v14 : Ref sig .tc := ⟨.hbm, 165, rfl⟩
abbrev main_v36 : Ref sig .tc := ⟨.hbm, 166, rfl⟩
abbrev main_v37 : Ref sig .tc := ⟨.hbm, 167, rfl⟩
abbrev main_call5_c : Ref sig .tc := ⟨.hbm, 168, rfl⟩
abbrev main_call5_v0 : Ref sig .tc := ⟨.hbm, 169, rfl⟩
abbrev main_call5_v1 : Ref sig .tc := ⟨.hbm, 170, rfl⟩
abbrev main_call5_c_0 : Ref sig .tc := ⟨.hbm, 171, rfl⟩
abbrev main_call5_v2 : Ref sig .tc := ⟨.hbm, 172, rfl⟩
abbrev main_call5_v3 : Ref sig .tc := ⟨.hbm, 173, rfl⟩
abbrev main_call5_v4 : Ref sig .tc := ⟨.hbm, 174, rfl⟩
abbrev main_call5_c_1 : Ref sig .tc := ⟨.hbm, 175, rfl⟩
abbrev main_call5_c_2 : Ref sig .tc := ⟨.hbm, 176, rfl⟩
abbrev main_call5_v5 : Ref sig .tc := ⟨.hbm, 177, rfl⟩
abbrev main_call5_v6 : Ref sig .tc := ⟨.hbm, 178, rfl⟩
abbrev main_call5_v7 : Ref sig .tc := ⟨.hbm, 179, rfl⟩
abbrev main_call5_v8 : Ref sig .tc := ⟨.hbm, 180, rfl⟩
abbrev main_call5_v9 : Ref sig .tc := ⟨.hbm, 181, rfl⟩
abbrev main_call5_v10 : Ref sig .tc := ⟨.hbm, 182, rfl⟩
abbrev main_call5_c_3 : Ref sig .tc := ⟨.hbm, 183, rfl⟩
abbrev main_call5_v11 : Ref sig .tc := ⟨.hbm, 184, rfl⟩
abbrev main_call5_v12 : Ref sig .tc := ⟨.hbm, 185, rfl⟩
abbrev main_call5_v13 : Ref sig .tc := ⟨.hbm, 186, rfl⟩
abbrev main_call5_cst : Ref sig .tc := ⟨.hbm, 187, rfl⟩
abbrev main_call5_v14 : Ref sig .tc := ⟨.hbm, 188, rfl⟩
abbrev main_v38 : Ref sig .tc := ⟨.hbm, 189, rfl⟩
abbrev main_v39 : Ref sig .tc := ⟨.hbm, 190, rfl⟩
abbrev main_v40 : Ref sig .tc := ⟨.hbm, 191, rfl⟩
abbrev main_v41 : Ref sig .tc := ⟨.hbm, 192, rfl⟩
abbrev main_cst_9 : Ref sig .tc := ⟨.hbm, 193, rfl⟩
abbrev main_v42 : Ref sig .tc := ⟨.hbm, 194, rfl⟩
abbrev main_v43 : Ref sig .tc := ⟨.hbm, 195, rfl⟩
abbrev main_cst_10 : Ref sig .tc := ⟨.hbm, 196, rfl⟩
abbrev main_v44 : Ref sig .tc := ⟨.hbm, 197, rfl⟩
abbrev main_v45 : Ref sig .tc := ⟨.hbm, 198, rfl⟩
abbrev main_v46 : Ref sig .tc := ⟨.hbm, 199, rfl⟩
abbrev main_v47 : Ref sig .tc := ⟨.hbm, 200, rfl⟩
abbrev main_values_11 : Ref sig .tc := ⟨.hbm, 201, rfl⟩
abbrev main_indices_12 : Ref sig .tc := ⟨.hbm, 202, rfl⟩
abbrev main_v48 : Ref sig .tc := ⟨.hbm, 203, rfl⟩
abbrev main_call6_c : Ref sig .tc := ⟨.hbm, 204, rfl⟩
abbrev main_call6_v0 : Ref sig .tc := ⟨.hbm, 205, rfl⟩
abbrev main_call6_v1 : Ref sig .tc := ⟨.hbm, 206, rfl⟩
abbrev main_call6_c_0 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_call6_c_1 : Ref sig .tc := ⟨.hbm, 211, rfl⟩
abbrev main_call6_c_2 : Ref sig .tc := ⟨.hbm, 212, rfl⟩
abbrev main_call6_v5 : Ref sig .tc := ⟨.hbm, 213, rfl⟩
abbrev main_call6_v6 : Ref sig .tc := ⟨.hbm, 214, rfl⟩
abbrev main_call6_v7 : Ref sig .tc := ⟨.hbm, 215, rfl⟩
abbrev main_call6_v8 : Ref sig .tc := ⟨.hbm, 216, rfl⟩
abbrev main_call6_v9 : Ref sig .tc := ⟨.hbm, 217, rfl⟩
abbrev main_call6_v10 : Ref sig .tc := ⟨.hbm, 218, rfl⟩
abbrev main_call6_c_3 : Ref sig .tc := ⟨.hbm, 219, rfl⟩
abbrev main_call6_v11 : Ref sig .tc := ⟨.hbm, 220, rfl⟩
abbrev main_call6_v12 : Ref sig .tc := ⟨.hbm, 221, rfl⟩
abbrev main_call6_v13 : Ref sig .tc := ⟨.hbm, 222, rfl⟩
abbrev main_call6_cst : Ref sig .tc := ⟨.hbm, 223, rfl⟩
abbrev main_call6_v14 : Ref sig .tc := ⟨.hbm, 224, rfl⟩
abbrev main_v49 : Ref sig .tc := ⟨.hbm, 225, rfl⟩
abbrev main_v50 : Ref sig .tc := ⟨.hbm, 226, rfl⟩
abbrev main_call7_c : Ref sig .tc := ⟨.hbm, 227, rfl⟩
abbrev main_call7_v0 : Ref sig .tc := ⟨.hbm, 228, rfl⟩
abbrev main_call7_v1 : Ref sig .tc := ⟨.hbm, 229, rfl⟩
abbrev main_call7_c_0 : Ref sig .tc := ⟨.hbm, 230, rfl⟩
abbrev main_call7_v2 : Ref sig .tc := ⟨.hbm, 231, rfl⟩
abbrev main_call7_v3 : Ref sig .tc := ⟨.hbm, 232, rfl⟩
abbrev main_call7_v4 : Ref sig .tc := ⟨.hbm, 233, rfl⟩
abbrev main_call7_c_1 : Ref sig .tc := ⟨.hbm, 234, rfl⟩
abbrev main_call7_c_2 : Ref sig .tc := ⟨.hbm, 235, rfl⟩
abbrev main_call7_v5 : Ref sig .tc := ⟨.hbm, 236, rfl⟩
abbrev main_call7_v6 : Ref sig .tc := ⟨.hbm, 237, rfl⟩
abbrev main_call7_v7 : Ref sig .tc := ⟨.hbm, 238, rfl⟩
abbrev main_call7_v8 : Ref sig .tc := ⟨.hbm, 239, rfl⟩
abbrev main_call7_v9 : Ref sig .tc := ⟨.hbm, 240, rfl⟩
abbrev main_call7_v10 : Ref sig .tc := ⟨.hbm, 241, rfl⟩
abbrev main_call7_c_3 : Ref sig .tc := ⟨.hbm, 242, rfl⟩
abbrev main_call7_v11 : Ref sig .tc := ⟨.hbm, 243, rfl⟩
abbrev main_call7_v12 : Ref sig .tc := ⟨.hbm, 244, rfl⟩
abbrev main_call7_v13 : Ref sig .tc := ⟨.hbm, 245, rfl⟩
abbrev main_call7_cst : Ref sig .tc := ⟨.hbm, 246, rfl⟩
abbrev main_call7_v14 : Ref sig .tc := ⟨.hbm, 247, rfl⟩
abbrev main_v51 : Ref sig .tc := ⟨.hbm, 248, rfl⟩
abbrev main_v52 : Ref sig .tc := ⟨.hbm, 249, rfl⟩
abbrev main_v53 : Ref sig .tc := ⟨.hbm, 250, rfl⟩
abbrev main_v54 : Ref sig .tc := ⟨.hbm, 251, rfl⟩
abbrev main_v55 : Ref sig .tc := ⟨.hbm, 252, rfl⟩
abbrev main_v56 : Ref sig .tc := ⟨.hbm, 253, rfl⟩
abbrev main_v57 : Ref sig .tc := ⟨.hbm, 254, rfl⟩
abbrev main_v58 : Ref sig .tc := ⟨.hbm, 255, rfl⟩
abbrev main_v59 : Ref sig .tc := ⟨.hbm, 256, rfl⟩
abbrev main_v60 : Ref sig .tc := ⟨.hbm, 257, rfl⟩
abbrev main_v61 : Ref sig .tc := ⟨.hbm, 258, rfl⟩
abbrev main_v62 : Ref sig .tc := ⟨.hbm, 259, rfl⟩
abbrev main_cst_13 : Ref sig .tc := ⟨.hbm, 260, rfl⟩
abbrev main_v63 : Ref sig .tc := ⟨.hbm, 261, rfl⟩
abbrev main_v64 : Ref sig .tc := ⟨.hbm, 262, rfl⟩
abbrev main_v65 : Ref sig .tc := ⟨.hbm, 263, rfl⟩
abbrev main_cst_14 : Ref sig .tc := ⟨.hbm, 264, rfl⟩
abbrev main_v66 : Ref sig .tc := ⟨.hbm, 265, rfl⟩
abbrev main_v67 : Ref sig .tc := ⟨.hbm, 266, rfl⟩
abbrev main_cst_15 : Ref sig .tc := ⟨.hbm, 267, rfl⟩
abbrev main_v68 : Ref sig .tc := ⟨.hbm, 268, rfl⟩
abbrev main_v69 : Ref sig .tc := ⟨.hbm, 269, rfl⟩
abbrev main_v70 : Ref sig .tc := ⟨.hbm, 270, rfl⟩
abbrev main_cst_16 : Ref sig .tc := ⟨.hbm, 271, rfl⟩
abbrev main_v71 : Ref sig .tc := ⟨.hbm, 272, rfl⟩
abbrev main_v72 : Ref sig .tc := ⟨.hbm, 273, rfl⟩
abbrev main_v73 : Ref sig .tc := ⟨.hbm, 274, rfl⟩
abbrev main_v74 : Ref sig .tc := ⟨.hbm, 275, rfl⟩
abbrev main_v75 : Ref sig .tc := ⟨.hbm, 276, rfl⟩
abbrev main_cst_17 : Ref sig .tc := ⟨.hbm, 277, rfl⟩
abbrev main_v76 : Ref sig .tc := ⟨.hbm, 278, rfl⟩
abbrev main_v77 : Ref sig .tc := ⟨.hbm, 279, rfl⟩
abbrev main_v78 : Ref sig .tc := ⟨.hbm, 280, rfl⟩
abbrev main_v79 : Ref sig .tc := ⟨.hbm, 281, rfl⟩
abbrev main_cst_18 : Ref sig .tc := ⟨.hbm, 282, rfl⟩
abbrev main_v80 : Ref sig .tc := ⟨.hbm, 283, rfl⟩
abbrev main_v81 : Ref sig .tc := ⟨.hbm, 284, rfl⟩
abbrev main_v82 : Ref sig .tc := ⟨.hbm, 285, rfl⟩
abbrev main_v83 : Ref sig .tc := ⟨.hbm, 286, rfl⟩
abbrev main_cst_19 : Ref sig .tc := ⟨.hbm, 287, rfl⟩
abbrev main_v84 : Ref sig .tc := ⟨.hbm, 288, rfl⟩
abbrev main_v85 : Ref sig .tc := ⟨.hbm, 289, rfl⟩
abbrev main_cst_20 : Ref sig .tc := ⟨.hbm, 290, rfl⟩
abbrev main_v86 : Ref sig .tc := ⟨.hbm, 291, rfl⟩
abbrev main_v87 : Ref sig .tc := ⟨.hbm, 292, rfl⟩
abbrev main_v88 : Ref sig .tc := ⟨.hbm, 293, rfl⟩
abbrev main_v89 : Ref sig .tc := ⟨.hbm, 294, rfl⟩
abbrev main_cst_21 : Ref sig .tc := ⟨.hbm, 295, rfl⟩
abbrev main_v90 : Ref sig .tc := ⟨.hbm, 296, rfl⟩
abbrev main_v91 : Ref sig .tc := ⟨.hbm, 297, rfl⟩
abbrev main_cst_22 : Ref sig .tc := ⟨.hbm, 298, rfl⟩
abbrev main_v92 : Ref sig .tc := ⟨.hbm, 299, rfl⟩
abbrev main_v93 : Ref sig .tc := ⟨.hbm, 300, rfl⟩
abbrev main_v94 : Ref sig .tc := ⟨.hbm, 301, rfl⟩
abbrev main_v95 : Ref sig .tc := ⟨.hbm, 302, rfl⟩
abbrev main_v96 : Ref sig .tc := ⟨.hbm, 303, rfl⟩
abbrev main_v97 : Ref sig .tc := ⟨.hbm, 304, rfl⟩
abbrev main_v98 : Ref sig .tc := ⟨.hbm, 305, rfl⟩
abbrev main_v99 : Ref sig .tc := ⟨.hbm, 306, rfl⟩
abbrev main_v100 : Ref sig .tc := ⟨.hbm, 307, rfl⟩
abbrev main_v101 : Ref sig .tc := ⟨.hbm, 308, rfl⟩
abbrev main_cst_23 : Ref sig .tc := ⟨.hbm, 309, rfl⟩
abbrev main_v102 : Ref sig .tc := ⟨.hbm, 310, rfl⟩
abbrev main_v103 : Ref sig .tc := ⟨.hbm, 311, rfl⟩
abbrev main_v104 : Ref sig .tc := ⟨.hbm, 312, rfl⟩
abbrev main_cst_24 : Ref sig .tc := ⟨.hbm, 313, rfl⟩
abbrev main_v105 : Ref sig .tc := ⟨.hbm, 314, rfl⟩
abbrev main_v106 : Ref sig .tc := ⟨.hbm, 315, rfl⟩
abbrev main_v107 : Ref sig .tc := ⟨.hbm, 316, rfl⟩
abbrev main_cst_25 : Ref sig .tc := ⟨.hbm, 317, rfl⟩
abbrev main_v108 : Ref sig .tc := ⟨.hbm, 318, rfl⟩
abbrev main_v109 : Ref sig .tc := ⟨.hbm, 319, rfl⟩
abbrev main_v110 : Ref sig .tc := ⟨.hbm, 320, rfl⟩
abbrev main_cst_26 : Ref sig .tc := ⟨.hbm, 321, rfl⟩
abbrev main_v111 : Ref sig .tc := ⟨.hbm, 322, rfl⟩
abbrev main_v112 : Ref sig .tc := ⟨.hbm, 323, rfl⟩
abbrev main_cst_27 : Ref sig .tc := ⟨.hbm, 324, rfl⟩
abbrev main_v113 : Ref sig .tc := ⟨.hbm, 325, rfl⟩
abbrev main_v114 : Ref sig .tc := ⟨.hbm, 326, rfl⟩
abbrev main_v115 : Ref sig .tc := ⟨.hbm, 327, rfl⟩
abbrev main_cst_28 : Ref sig .tc := ⟨.hbm, 328, rfl⟩
abbrev main_v116 : Ref sig .tc := ⟨.hbm, 329, rfl⟩
abbrev main_v117 : Ref sig .tc := ⟨.hbm, 330, rfl⟩
abbrev main_v118 : Ref sig .tc := ⟨.hbm, 331, rfl⟩
abbrev main_v119 : Ref sig .tc := ⟨.hbm, 332, rfl⟩
abbrev main_v120 : Ref sig .tc := ⟨.hbm, 333, rfl⟩
abbrev main_v121 : Ref sig .tc := ⟨.hbm, 334, rfl⟩
abbrev main_v122 : Ref sig .tc := ⟨.hbm, 335, rfl⟩
abbrev main_v123 : Ref sig .tc := ⟨.hbm, 336, rfl⟩
abbrev main_v124 : Ref sig .tc := ⟨.hbm, 337, rfl⟩
abbrev main_v125 : Ref sig .tc := ⟨.hbm, 338, rfl⟩
abbrev main_v126 : Ref sig .tc := ⟨.hbm, 339, rfl⟩
abbrev main_v127 : Ref sig .tc := ⟨.hbm, 340, rfl⟩
abbrev main_v128 : Ref sig .tc := ⟨.hbm, 341, rfl⟩
abbrev main_v129 : Ref sig .tc := ⟨.hbm, 342, rfl⟩
abbrev main_v130 : Ref sig .tc := ⟨.hbm, 343, rfl⟩
abbrev main_v131 : Ref sig .tc := ⟨.hbm, 344, rfl⟩
abbrev main_v132 : Ref sig .tc := ⟨.hbm, 345, rfl⟩
abbrev main_cst_29 : Ref sig .tc := ⟨.hbm, 346, rfl⟩
abbrev main_v133 : Ref sig .tc := ⟨.hbm, 347, rfl⟩
abbrev main_v134 : Ref sig .tc := ⟨.hbm, 348, rfl⟩
abbrev main_cst_30 : Ref sig .tc := ⟨.hbm, 349, rfl⟩
abbrev main_call8_v0 : Ref sig .tc := ⟨.hbm, 350, rfl⟩
abbrev main_call8_v1 : Ref sig .tc := ⟨.hbm, 351, rfl⟩
abbrev main_call8_v2 : Ref sig .tc := ⟨.hbm, 352, rfl⟩
abbrev main_call8_v3 : Ref sig .tc := ⟨.hbm, 353, rfl⟩
abbrev main_v135 : Ref sig .tc := ⟨.hbm, 354, rfl⟩
abbrev main_v136 : Ref sig .tc := ⟨.hbm, 355, rfl⟩
abbrev main_v137 : Ref sig .tc := ⟨.hbm, 356, rfl⟩
abbrev main_cst_31 : Ref sig .tc := ⟨.hbm, 357, rfl⟩
abbrev main_v138 : Ref sig .tc := ⟨.hbm, 358, rfl⟩
abbrev main_v139 : Ref sig .tc := ⟨.hbm, 359, rfl⟩
abbrev main_cst_32 : Ref sig .tc := ⟨.hbm, 360, rfl⟩
abbrev main_call9_v0 : Ref sig .tc := ⟨.hbm, 361, rfl⟩
abbrev main_call9_v1 : Ref sig .tc := ⟨.hbm, 362, rfl⟩
abbrev main_call9_v2 : Ref sig .tc := ⟨.hbm, 363, rfl⟩
abbrev main_call9_v3 : Ref sig .tc := ⟨.hbm, 364, rfl⟩
abbrev main_v140 : Ref sig .tc := ⟨.hbm, 365, rfl⟩
abbrev main_v141 : Ref sig .tc := ⟨.hbm, 366, rfl⟩
abbrev main_v142 : Ref sig .tc := ⟨.hbm, 367, rfl⟩
abbrev main_cst_33 : Ref sig .tc := ⟨.hbm, 368, rfl⟩
abbrev main_v143 : Ref sig .tc := ⟨.hbm, 369, rfl⟩
abbrev main_v144 : Ref sig .tc := ⟨.hbm, 370, rfl⟩
abbrev main_cst_34 : Ref sig .tc := ⟨.hbm, 371, rfl⟩
abbrev main_call10_v0 : Ref sig .tc := ⟨.hbm, 372, rfl⟩
abbrev main_call10_v1 : Ref sig .tc := ⟨.hbm, 373, rfl⟩
abbrev main_call10_v2 : Ref sig .tc := ⟨.hbm, 374, rfl⟩
abbrev main_call10_v3 : Ref sig .tc := ⟨.hbm, 375, rfl⟩
abbrev main_v145 : Ref sig .tc := ⟨.hbm, 376, rfl⟩
abbrev main_v146 : Ref sig .tc := ⟨.hbm, 377, rfl⟩
abbrev main_v147 : Ref sig .tc := ⟨.hbm, 378, rfl⟩
abbrev main_cst_35 : Ref sig .tc := ⟨.hbm, 379, rfl⟩
abbrev main_v148 : Ref sig .tc := ⟨.hbm, 380, rfl⟩
abbrev main_v149 : Ref sig .tc := ⟨.hbm, 381, rfl⟩
abbrev main_cst_36 : Ref sig .tc := ⟨.hbm, 382, rfl⟩
abbrev main_call11_v0 : Ref sig .tc := ⟨.hbm, 383, rfl⟩
abbrev main_call11_v1 : Ref sig .tc := ⟨.hbm, 384, rfl⟩
abbrev main_call11_v2 : Ref sig .tc := ⟨.hbm, 385, rfl⟩
abbrev main_call11_v3 : Ref sig .tc := ⟨.hbm, 386, rfl⟩
abbrev main_v150 : Ref sig .tc := ⟨.hbm, 387, rfl⟩
abbrev main_v151 : Ref sig .tc := ⟨.hbm, 388, rfl⟩
abbrev main_v152 : Ref sig .tc := ⟨.hbm, 389, rfl⟩
abbrev main_v153 : Ref sig .tc := ⟨.hbm, 390, rfl⟩
abbrev main_v154 : Ref sig .tc := ⟨.hbm, 391, rfl⟩
abbrev main_v155 : Ref sig .tc := ⟨.hbm, 392, rfl⟩
abbrev main_v156 : Ref sig .tc := ⟨.hbm, 393, rfl⟩
abbrev main_v157 : Ref sig .tc := ⟨.hbm, 394, rfl⟩
abbrev main_call12_v0 : Ref sig .tc := ⟨.hbm, 395, rfl⟩
abbrev main_call12_v1_0 : Ref sig .tc := ⟨.hbm, 396, rfl⟩
abbrev main_v158 : Ref sig .tc := ⟨.hbm, 397, rfl⟩
abbrev main_v159 : Ref sig .tc := ⟨.hbm, 398, rfl⟩
abbrev main_call13_c : Ref sig .tc := ⟨.hbm, 399, rfl⟩
abbrev main_call13_v0 : Ref sig .tc := ⟨.hbm, 400, rfl⟩
abbrev main_call13_v1 : Ref sig .tc := ⟨.hbm, 401, rfl⟩
abbrev main_call13_c_0 : Ref sig .tc := ⟨.hbm, 402, rfl⟩
abbrev main_call13_v2 : Ref sig .tc := ⟨.hbm, 403, rfl⟩
abbrev main_call13_v3 : Ref sig .tc := ⟨.hbm, 404, rfl⟩
abbrev main_call13_v4 : Ref sig .tc := ⟨.hbm, 405, rfl⟩
abbrev main_call13_c_1 : Ref sig .tc := ⟨.hbm, 406, rfl⟩
abbrev main_call13_c_2 : Ref sig .tc := ⟨.hbm, 407, rfl⟩
abbrev main_call13_v5 : Ref sig .tc := ⟨.hbm, 408, rfl⟩
abbrev main_call13_v6 : Ref sig .tc := ⟨.hbm, 409, rfl⟩
abbrev main_call13_v7 : Ref sig .tc := ⟨.hbm, 410, rfl⟩
abbrev main_call13_v8 : Ref sig .tc := ⟨.hbm, 411, rfl⟩
abbrev main_call13_v9 : Ref sig .tc := ⟨.hbm, 412, rfl⟩
abbrev main_call13_v10 : Ref sig .tc := ⟨.hbm, 413, rfl⟩
abbrev main_call13_c_3 : Ref sig .tc := ⟨.hbm, 414, rfl⟩
abbrev main_call13_v11 : Ref sig .tc := ⟨.hbm, 415, rfl⟩
abbrev main_call13_v12 : Ref sig .tc := ⟨.hbm, 416, rfl⟩
abbrev main_call13_v13 : Ref sig .tc := ⟨.hbm, 417, rfl⟩
abbrev main_call13_cst : Ref sig .tc := ⟨.hbm, 418, rfl⟩
abbrev main_call13_v14 : Ref sig .tc := ⟨.hbm, 419, rfl⟩
abbrev main_v160 : Ref sig .tc := ⟨.hbm, 420, rfl⟩
abbrev main_call14_c : Ref sig .tc := ⟨.hbm, 421, rfl⟩
abbrev main_call14_v0 : Ref sig .tc := ⟨.hbm, 422, rfl⟩
abbrev main_call14_v1 : Ref sig .tc := ⟨.hbm, 423, rfl⟩
abbrev main_call14_c_0 : Ref sig .tc := ⟨.hbm, 424, rfl⟩
abbrev main_call14_v2 : Ref sig .tc := ⟨.hbm, 425, rfl⟩
abbrev main_call14_v3 : Ref sig .tc := ⟨.hbm, 426, rfl⟩
abbrev main_call14_v4 : Ref sig .tc := ⟨.hbm, 427, rfl⟩
abbrev main_call14_v5 : Ref sig .tc := ⟨.hbm, 428, rfl⟩
abbrev main_call14_c_1 : Ref sig .tc := ⟨.hbm, 429, rfl⟩
abbrev main_call14_c_2 : Ref sig .tc := ⟨.hbm, 430, rfl⟩
abbrev main_call14_v6 : Ref sig .tc := ⟨.hbm, 431, rfl⟩
abbrev main_call14_v7 : Ref sig .tc := ⟨.hbm, 432, rfl⟩
abbrev main_call14_v8 : Ref sig .tc := ⟨.hbm, 433, rfl⟩
abbrev main_call14_v9 : Ref sig .tc := ⟨.hbm, 434, rfl⟩
abbrev main_call14_v10 : Ref sig .tc := ⟨.hbm, 435, rfl⟩
abbrev main_call14_v11 : Ref sig .tc := ⟨.hbm, 436, rfl⟩
abbrev main_call14_c_3 : Ref sig .tc := ⟨.hbm, 437, rfl⟩
abbrev main_call14_v12 : Ref sig .tc := ⟨.hbm, 438, rfl⟩
abbrev main_call14_v13 : Ref sig .tc := ⟨.hbm, 439, rfl⟩
abbrev main_call14_cst : Ref sig .tc := ⟨.hbm, 440, rfl⟩
abbrev main_call14_v14 : Ref sig .tc := ⟨.hbm, 441, rfl⟩
abbrev main_v161 : Ref sig .tc := ⟨.hbm, 442, rfl⟩
abbrev main_v162 : Ref sig .tc := ⟨.hbm, 443, rfl⟩
abbrev main_v163 : Ref sig .tc := ⟨.hbm, 444, rfl⟩
abbrev main_v164 : Ref sig .tc := ⟨.hbm, 445, rfl⟩
abbrev main_v165 : Ref sig .tc := ⟨.hbm, 446, rfl⟩
abbrev main_v166 : Ref sig .tc := ⟨.hbm, 447, rfl⟩
abbrev main_v167 : Ref sig .tc := ⟨.hbm, 448, rfl⟩
abbrev main_v168 : Ref sig .tc := ⟨.hbm, 449, rfl⟩
abbrev main_v169 : Ref sig .tc := ⟨.hbm, 450, rfl⟩
abbrev main_v170 : Ref sig .tc := ⟨.hbm, 451, rfl⟩
abbrev main_cst_37 : Ref sig .tc := ⟨.hbm, 452, rfl⟩
abbrev main_v171 : Ref sig .tc := ⟨.hbm, 453, rfl⟩
abbrev main_v172 : Ref sig .tc := ⟨.hbm, 454, rfl⟩
abbrev main_v173 : Ref sig .tc := ⟨.hbm, 455, rfl⟩
abbrev main_cst_38 : Ref sig .tc := ⟨.hbm, 456, rfl⟩
abbrev main_v174 : Ref sig .tc := ⟨.hbm, 457, rfl⟩
abbrev main_v175 : Ref sig .tc := ⟨.hbm, 458, rfl⟩
abbrev main_v176 : Ref sig .tc := ⟨.hbm, 459, rfl⟩
abbrev main_v177 : Ref sig .tc := ⟨.hbm, 460, rfl⟩
abbrev main_v178 : Ref sig .tc := ⟨.hbm, 461, rfl⟩
abbrev main_v179 : Ref sig .tc := ⟨.hbm, 462, rfl⟩
abbrev main_v180 : Ref sig .tc := ⟨.hbm, 463, rfl⟩
abbrev main_v181 : Ref sig .tc := ⟨.hbm, 464, rfl⟩
abbrev main_v182 : Ref sig .tc := ⟨.hbm, 465, rfl⟩
abbrev main_v183 : Ref sig .tc := ⟨.hbm, 466, rfl⟩
abbrev main_v184 : Ref sig .tc := ⟨.hbm, 467, rfl⟩
abbrev main_v185 : Ref sig .tc := ⟨.hbm, 468, rfl⟩
abbrev main_v186 : Ref sig .tc := ⟨.hbm, 469, rfl⟩
abbrev main_v187 : Ref sig .tc := ⟨.hbm, 470, rfl⟩
abbrev main_v188 : Ref sig .tc := ⟨.hbm, 471, rfl⟩
abbrev main_v189 : Ref sig .tc := ⟨.hbm, 472, rfl⟩
abbrev main_v190 : Ref sig .tc := ⟨.hbm, 473, rfl⟩
abbrev main_v191 : Ref sig .tc := ⟨.hbm, 474, rfl⟩
abbrev main_v192 : Ref sig .tc := ⟨.hbm, 475, rfl⟩
abbrev main_v193 : Ref sig .tc := ⟨.hbm, 476, rfl⟩
abbrev main_v194 : Ref sig .tc := ⟨.hbm, 477, rfl⟩
abbrev main_v195 : Ref sig .tc := ⟨.hbm, 478, rfl⟩
abbrev main_v196 : Ref sig .tc := ⟨.hbm, 479, rfl⟩
abbrev main_v197 : Ref sig .tc := ⟨.hbm, 480, rfl⟩
abbrev main_cst_39 : Ref sig .tc := ⟨.hbm, 481, rfl⟩
abbrev main_v198 : Ref sig .tc := ⟨.hbm, 482, rfl⟩
abbrev main_v199 : Ref sig .tc := ⟨.hbm, 483, rfl⟩
abbrev main_cst_40 : Ref sig .tc := ⟨.hbm, 484, rfl⟩
abbrev main_v200 : Ref sig .tc := ⟨.hbm, 485, rfl⟩
abbrev main_v201 : Ref sig .tc := ⟨.hbm, 486, rfl⟩
abbrev main_v202 : Ref sig .tc := ⟨.hbm, 487, rfl⟩
abbrev main_cst_41 : Ref sig .tc := ⟨.hbm, 488, rfl⟩
abbrev main_v203 : Ref sig .tc := ⟨.hbm, 489, rfl⟩
abbrev main_v204 : Ref sig .tc := ⟨.hbm, 490, rfl⟩
abbrev main_cst_42 : Ref sig .tc := ⟨.hbm, 491, rfl⟩
abbrev main_v205 : Ref sig .tc := ⟨.hbm, 492, rfl⟩
abbrev main_v206 : Ref sig .tc := ⟨.hbm, 493, rfl⟩
abbrev main_v207 : Ref sig .tc := ⟨.hbm, 494, rfl⟩
abbrev main_v208 : Ref sig .tc := ⟨.hbm, 495, rfl⟩
abbrev main_v209 : Ref sig .tc := ⟨.hbm, 496, rfl⟩
abbrev main_v210 : Ref sig .tc := ⟨.hbm, 497, rfl⟩
abbrev main_v211 : Ref sig .tc := ⟨.hbm, 498, rfl⟩
abbrev main_v212 : Ref sig .tc := ⟨.hbm, 499, rfl⟩
abbrev main_v213 : Ref sig .tc := ⟨.hbm, 500, rfl⟩
abbrev main_v214 : Ref sig .tc := ⟨.hbm, 501, rfl⟩
abbrev main_v215 : Ref sig .tc := ⟨.hbm, 502, rfl⟩
abbrev main_cst_43 : Ref sig .tc := ⟨.hbm, 503, rfl⟩
abbrev main_v216 : Ref sig .tc := ⟨.hbm, 504, rfl⟩
abbrev main_c : Ref sig .tc := ⟨.hbm, 505, rfl⟩
abbrev main_c_44 : Ref sig .tc := ⟨.hbm, 506, rfl⟩
abbrev main_v217_0 : Ref sig .tc := ⟨.hbm, 507, rfl⟩
abbrev main_v217_1 : Ref sig .tc := ⟨.hbm, 508, rfl⟩
abbrev main_v217_2 : Ref sig .tc := ⟨.hbm, 509, rfl⟩
abbrev main_v217_3 : Ref sig .tc := ⟨.hbm, 510, rfl⟩
abbrev main_v217_4 : Ref sig .tc := ⟨.hbm, 511, rfl⟩
abbrev main_while0c_c_55 : Ref sig .tc := ⟨.hbm, 512, rfl⟩
abbrev main_while0c_v235 : Ref sig .tc := ⟨.hbm, 513, rfl⟩
abbrev main_while0b_c_55 : Ref sig .tc := ⟨.hbm, 514, rfl⟩
abbrev main_while0b_v235 : Ref sig .tc := ⟨.hbm, 515, rfl⟩
abbrev main_while0b_call15_c : Ref sig .tc := ⟨.hbm, 516, rfl⟩
abbrev main_while0b_call15_v0 : Ref sig .tc := ⟨.hbm, 517, rfl⟩
abbrev main_while0b_call15_v1 : Ref sig .tc := ⟨.hbm, 518, rfl⟩
abbrev main_while0b_call15_c_0 : Ref sig .tc := ⟨.hbm, 519, rfl⟩
abbrev main_while0b_call15_v2 : Ref sig .tc := ⟨.hbm, 520, rfl⟩
abbrev main_while0b_call15_v3 : Ref sig .tc := ⟨.hbm, 521, rfl⟩
abbrev main_while0b_call15_c_1 : Ref sig .tc := ⟨.hbm, 522, rfl⟩
abbrev main_while0b_call15_c_2 : Ref sig .tc := ⟨.hbm, 523, rfl⟩
abbrev main_while0b_call15_v4 : Ref sig .tc := ⟨.hbm, 524, rfl⟩
abbrev main_while0b_v236 : Ref sig .tc := ⟨.hbm, 525, rfl⟩
abbrev main_while0b_cst_56 : Ref sig .tc := ⟨.hbm, 526, rfl⟩
abbrev main_while0b_v237 : Ref sig .tc := ⟨.hbm, 527, rfl⟩
abbrev main_while0b_v238 : Ref sig .tc := ⟨.hbm, 528, rfl⟩
abbrev main_while0b_cst_57 : Ref sig .tc := ⟨.hbm, 529, rfl⟩
abbrev main_while0b_v239 : Ref sig .tc := ⟨.hbm, 530, rfl⟩
abbrev main_while0b_v240 : Ref sig .tc := ⟨.hbm, 531, rfl⟩
abbrev main_while0b_v241 : Ref sig .tc := ⟨.hbm, 532, rfl⟩
abbrev main_while0b_v242 : Ref sig .tc := ⟨.hbm, 533, rfl⟩
abbrev main_while0b_v243 : Ref sig .tc := ⟨.hbm, 534, rfl⟩
abbrev main_while0b_v244 : Ref sig .tc := ⟨.hbm, 535, rfl⟩
abbrev main_while0b_v245 : Ref sig .tc := ⟨.hbm, 536, rfl⟩
abbrev main_while0b_v246 : Ref sig .tc := ⟨.hbm, 537, rfl⟩
abbrev main_while0b_v247 : Ref sig .tc := ⟨.hbm, 538, rfl⟩
abbrev main_while0b_c_58 : Ref sig .tc := ⟨.hbm, 539, rfl⟩
abbrev main_while0b_v248 : Ref sig .tc := ⟨.hbm, 540, rfl⟩
abbrev main_while0b_v249 : Ref sig .tc := ⟨.hbm, 541, rfl⟩
abbrev main_while0b_v250 : Ref sig .tc := ⟨.hbm, 542, rfl⟩
abbrev main_while0b_v251 : Ref sig .tc := ⟨.hbm, 543, rfl⟩
abbrev main_while0b_v252 : Ref sig .tc := ⟨.hbm, 544, rfl⟩
abbrev main_while0b_v253 : Ref sig .tc := ⟨.hbm, 545, rfl⟩
abbrev main_while0b_v254 : Ref sig .tc := ⟨.hbm, 546, rfl⟩
abbrev main_while0b_v255 : Ref sig .tc := ⟨.hbm, 547, rfl⟩
abbrev main_while0b_v256 : Ref sig .tc := ⟨.hbm, 548, rfl⟩
abbrev main_while0b_cst_59 : Ref sig .tc := ⟨.hbm, 549, rfl⟩
abbrev main_while0b_call16_v0 : Ref sig .tc := ⟨.hbm, 550, rfl⟩
abbrev main_while0b_call16_v1 : Ref sig .tc := ⟨.hbm, 551, rfl⟩
abbrev main_while0b_v257 : Ref sig .tc := ⟨.hbm, 552, rfl⟩
abbrev main_while0b_c_60 : Ref sig .tc := ⟨.hbm, 553, rfl⟩
abbrev main_while0b_v258 : Ref sig .tc := ⟨.hbm, 554, rfl⟩
abbrev main_cst_45 : Ref sig .tc := ⟨.hbm, 555, rfl⟩
abbrev main_v218 : Ref sig .tc := ⟨.hbm, 556, rfl⟩
abbrev main_v219 : Ref sig .tc := ⟨.hbm, 557, rfl⟩
abbrev main_cst_46 : Ref sig .tc := ⟨.hbm, 558, rfl⟩
abbrev main_call17_v0 : Ref sig .tc := ⟨.hbm, 559, rfl⟩
abbrev main_call17_v1 : Ref sig .tc := ⟨.hbm, 560, rfl⟩
abbrev main_v220 : Ref sig .tc := ⟨.hbm, 561, rfl⟩
abbrev main_values_47 : Ref sig .tc := ⟨.hbm, 562, rfl⟩
abbrev main_indices_48 : Ref sig .tc := ⟨.hbm, 563, rfl⟩
abbrev main_v221 : Ref sig .tc := ⟨.hbm, 564, rfl⟩
abbrev main_call18_c : Ref sig .tc := ⟨.hbm, 565, rfl⟩
abbrev main_call18_v0 : Ref sig .tc := ⟨.hbm, 566, rfl⟩
abbrev main_call18_v1 : Ref sig .tc := ⟨.hbm, 567, rfl⟩
abbrev main_call18_c_0 : Ref sig .tc := ⟨.hbm, 568, rfl⟩
abbrev main_call18_v2 : Ref sig .tc := ⟨.hbm, 569, rfl⟩
abbrev main_call18_v3 : Ref sig .tc := ⟨.hbm, 570, rfl⟩
abbrev main_call18_v4 : Ref sig .tc := ⟨.hbm, 571, rfl⟩
abbrev main_call18_c_1 : Ref sig .tc := ⟨.hbm, 572, rfl⟩
abbrev main_call18_c_2 : Ref sig .tc := ⟨.hbm, 573, rfl⟩
abbrev main_call18_v5 : Ref sig .tc := ⟨.hbm, 574, rfl⟩
abbrev main_call18_v6 : Ref sig .tc := ⟨.hbm, 575, rfl⟩
abbrev main_call18_v7 : Ref sig .tc := ⟨.hbm, 576, rfl⟩
abbrev main_call18_v8 : Ref sig .tc := ⟨.hbm, 577, rfl⟩
abbrev main_call18_v9 : Ref sig .tc := ⟨.hbm, 578, rfl⟩
abbrev main_call18_v10 : Ref sig .tc := ⟨.hbm, 579, rfl⟩
abbrev main_call18_c_3 : Ref sig .tc := ⟨.hbm, 580, rfl⟩
abbrev main_call18_v11 : Ref sig .tc := ⟨.hbm, 581, rfl⟩
abbrev main_call18_v12 : Ref sig .tc := ⟨.hbm, 582, rfl⟩
abbrev main_call18_v13 : Ref sig .tc := ⟨.hbm, 583, rfl⟩
abbrev main_call18_cst : Ref sig .tc := ⟨.hbm, 584, rfl⟩
abbrev main_call18_v14 : Ref sig .tc := ⟨.hbm, 585, rfl⟩
abbrev main_v222 : Ref sig .tc := ⟨.hbm, 586, rfl⟩
abbrev main_v223 : Ref sig .tc := ⟨.hbm, 587, rfl⟩
abbrev main_v224 : Ref sig .tc := ⟨.hbm, 588, rfl⟩
abbrev main_v225 : Ref sig .tc := ⟨.hbm, 589, rfl⟩
abbrev main_v226 : Ref sig .tc := ⟨.hbm, 590, rfl⟩
abbrev main_v227 : Ref sig .tc := ⟨.hbm, 591, rfl⟩
abbrev main_v228 : Ref sig .tc := ⟨.hbm, 592, rfl⟩
abbrev main_v229 : Ref sig .tc := ⟨.hbm, 593, rfl⟩
abbrev main_v230 : Ref sig .tc := ⟨.hbm, 594, rfl⟩
abbrev main_v231 : Ref sig .tc := ⟨.hbm, 595, rfl⟩
abbrev main_v232 : Ref sig .tc := ⟨.hbm, 596, rfl⟩
abbrev main_values_49 : Ref sig .tc := ⟨.hbm, 597, rfl⟩
abbrev main_indices_50 : Ref sig .tc := ⟨.hbm, 598, rfl⟩
abbrev main_v233 : Ref sig .tc := ⟨.hbm, 599, rfl⟩
abbrev main_call19_c : Ref sig .tc := ⟨.hbm, 600, rfl⟩
abbrev main_call19_v0 : Ref sig .tc := ⟨.hbm, 601, rfl⟩
abbrev main_call19_v1 : Ref sig .tc := ⟨.hbm, 602, rfl⟩
abbrev main_call19_c_0 : Ref sig .tc := ⟨.hbm, 603, rfl⟩
abbrev main_call19_v2 : Ref sig .tc := ⟨.hbm, 604, rfl⟩
abbrev main_call19_v3 : Ref sig .tc := ⟨.hbm, 605, rfl⟩
abbrev main_call19_v4 : Ref sig .tc := ⟨.hbm, 606, rfl⟩
abbrev main_call19_c_1 : Ref sig .tc := ⟨.hbm, 607, rfl⟩
abbrev main_call19_c_2 : Ref sig .tc := ⟨.hbm, 608, rfl⟩
abbrev main_call19_v5 : Ref sig .tc := ⟨.hbm, 609, rfl⟩
abbrev main_call19_v6 : Ref sig .tc := ⟨.hbm, 610, rfl⟩
abbrev main_call19_v7 : Ref sig .tc := ⟨.hbm, 611, rfl⟩
abbrev main_call19_v8 : Ref sig .tc := ⟨.hbm, 612, rfl⟩
abbrev main_call19_v9 : Ref sig .tc := ⟨.hbm, 613, rfl⟩
abbrev main_call19_v10 : Ref sig .tc := ⟨.hbm, 614, rfl⟩
abbrev main_call19_c_3 : Ref sig .tc := ⟨.hbm, 615, rfl⟩
abbrev main_call19_v11 : Ref sig .tc := ⟨.hbm, 616, rfl⟩
abbrev main_call19_v12 : Ref sig .tc := ⟨.hbm, 617, rfl⟩
abbrev main_call19_v13 : Ref sig .tc := ⟨.hbm, 618, rfl⟩
abbrev main_call19_cst : Ref sig .tc := ⟨.hbm, 619, rfl⟩
abbrev main_call19_v14 : Ref sig .tc := ⟨.hbm, 620, rfl⟩
abbrev main_v234 : Ref sig .tc := ⟨.hbm, 621, rfl⟩

abbrev nD : Nat := 1
abbrev τ : Topo := Topo.v7x

variable {F : FTy → Type} [FloatOps F]

abbrev main_while0_count : Scf.Loop 32 := ⟨0#32, 2000#32, 1#32⟩
-- ==== Proof.Defs1.lean ====
module

public import Idealize.ShloMosaic.Lib.Pipeline
public import Idealize.ShloMosaic.Lib.Scf
public import Idealize.ShloMosaic.Lib.Exec
public import Idealize.ShloMosaic.PureOps
public import Idealize.ShloMosaic.PureOps.Ideal

@[expose] public section

/-! The suppression kernel's arithmetic, at any number `N` of rows of 128 lanes and any float instance:
    the decoded boxes, one trip of a row block's loop, a row block's loop, and the row blocks in turn. -/

noncomputable section

namespace Nms

open Idealize.ShloMosaic

variable {F : FTy → Type} [FloatOps F]

/-- `m` rows of 128 lanes. -/
abbrev M (m : ℕ) : Shape := ⟨2, ![m, 128]⟩
/-- One image's `c` channels of `m` rows of 128 lanes. -/
abbrev B4 (c m : ℕ) : Shape := ⟨4, ![1, c, m, 128]⟩
abbrev T3 : Shape := ⟨3, ![1, 1, 128]⟩
abbrev T1 : Shape := ⟨1, ![1]⟩
abbrev T111 : Shape := ⟨3, ![1, 1, 1]⟩

theorem slices_rows {a m r : ℕ} (h : r + m ≤ a) : (M a).Slices ![r, 0] (M m) :=
  ⟨rfl, fun x => by fin_cases x <;> simp <;> omega⟩

theorem casts_T3 : (M 1).ShapeCasts T3 := by decide
theorem reduces_T3 : T3.Reduces [1, 2] T1 := by decide
theorem casts_T111 : T1.ShapeCasts T111 := by decide
theorem pos_T111 : ∀ a, (![0, 0, 0] : Fin 3 → Nat) a < T111.size a := by decide
theorem iotas_M1 : (M 1).Iotas .tc 32 [1] := by decide

/-- Lane `iv` of a row: one at that lane, zero elsewhere. -/
def onehot (iv : BitVec 32) : FVec F (M 1) .f32 :=
  sitofp .f32 (extui 32 (cmpi .eq (iota .tc (M 1) 32 [1] iotas_M1) (broadcast (M 1) iv)) (by decide))

/-- The lane of `row` that `oh` marks: the sum of the products. -/
def pick (row oh : FVec F (M 1) .f32) : F .f32 :=
  extractAt ![0, 0, 0] (shapeCast T111 (multiReduction .add [1, 2] T1 (shapeCast T3 (mulf row oh) casts_T3) 0x00000000#32
    reduces_T3 (.inl rfl) rfl) casts_T111) pos_T111

/-- The first row of a block. -/
def headRow : {m : ℕ} → FVec F (M m) .f32 → FVec F (M 1) .f32
  | 0, _ => broadcast _ (Scalar.ofBits .f32 0x00000000#32)
  | 1, v => v
  | m + 2, v => extractStridedSlice (M 1) ![0, 0] v (slices_rows (by omega))

/-- A block without its first row. -/
def tailRows {m : ℕ} (v : FVec F (M (m + 1)) .f32) : FVec F (M m) .f32 :=
  extractStridedSlice (M m) ![1, 0] v (slices_rows (by omega))

/-- A block from row `r` on. -/
def fromRow {α : Type} {N : ℕ} : (r : ℕ) → r ≤ N → ((M N).Idx → α) → ((M (N - r)).Idx → α)
  | 0, _, v => v
  | r + 1, h, v => extractStridedSlice (M (N - (r + 1))) ![r + 1, 0] v (slices_rows (by omega))

/-- Row `r` of a block. -/
def rowAt {N : ℕ} (r : ℕ) (h : r < N) (v : FVec F (M N) .f32) : FVec F (M 1) .f32 :=
  extractStridedSlice (M 1) ![r, 0] v (slices_rows (by omega))

def one (m : ℕ) : FVec F (M m) .f32 := broadcast (M m) (Scalar.ofBits .f32 0x3F800000#32)
def zero (m : ℕ) : FVec F (M m) .f32 := broadcast (M m) (Scalar.ofBits .f32 0x00000000#32)
def half (m : ℕ) : FVec F (M m) .f32 := broadcast (M m) (Scalar.ofBits .f32 0x3F000000#32)

/-- One trip: the box at lane `iv` of the block's first row suppresses what it overlaps. `c` the threshold's ratio,
    `ta` the areas times `c`, `flat` the numbers of the boxes, `base` the number of the first. -/
def step (c : F .f32) {m : ℕ} (y1 x1 y2 x2 ta : FVec F (M m) .f32) (y1r x1r y2r x2r : FVec F (M 1) .f32)
    (flat : IVec (M m) 32) (base iv : BitVec 32) (acc : FVec F (M m) .f32) : FVec F (M m) .f32 :=
  let o : FVec F (M 1) .f32 := onehot iv
  let y1i := pick y1r o
  let x1i := pick x1r o
  let y2i := pick y2r o
  let x2i := pick x2r o
  let kept := Scalar.subf (Scalar.ofBits .f32 0x3F800000#32) (pick (headRow acc) o)
  let rhs := Scalar.mulf c (Scalar.mulf (Scalar.addf (Scalar.subf y2i y1i) (Scalar.ofBits .f32 0x3F800000#32))
    (Scalar.addf (Scalar.subf x2i x1i) (Scalar.ofBits .f32 0x3F800000#32)))
  let iy := maximumf (addf (subf (minimumf y2 (broadcast (M m) y2i)) (maximumf y1 (broadcast (M m) y1i))) (one m)) (zero m)
  let ix := maximumf (addf (subf (minimumf x2 (broadcast (M m) x2i)) (maximumf x1 (broadcast (M m) x1i))) (one m)) (zero m)
  let hit := andi (cmpf .ogt (mulf iy ix) (addf ta (broadcast (M m) rhs)))
    (cmpi .sgt flat (broadcast (M m) (Scalar.addi base iv)))
  maximumf acc (mulf (broadcast (M m) kept) (sitofp .f32 (extui 32 hit (by decide))))

theorem iotas_M {N : ℕ} (a : Fin 2) : (M N).Iotas .tc 32 [a] :=
  ⟨by simp, fun _ => ⟨.inr rfl, le_refl _⟩, fun h => absurd rfl h⟩
theorem casts_M {N : ℕ} : (M N).ShapeCasts (B4 1 N) := by
  simp [Shape.ShapeCasts, Shape.numel, Fin.prod_univ_succ]
theorem casts_B4 {N : ℕ} : (B4 1 N).ShapeCasts (M N) := casts_M.symm
theorem broadcasts_M {N : ℕ} : (M 1).Broadcasts (M N) := by
  refine ⟨le_refl _, fun a => ?_⟩
  fin_cases a
  · exact .inl rfl
  · exact .inr fun _ => rfl

/-- A channel of a block, as rows of lanes. -/
def flat4 {N : ℕ} (x : Vec F (B4 1 N) .f32) : FVec F (M N) .f32 := shapeCast (M N) x casts_B4
/-- Rows of lanes, as a channel of a block. -/
def unflat4 {N : ℕ} (x : FVec F (M N) .f32) : Vec F (B4 1 N) .f32 := shapeCast (B4 1 N) x casts_M

variable {N : ℕ}

/-- An anchor's extent on one axis. -/
def extent (lo hi : FVec F (M N) .f32) : FVec F (M N) .f32 := addf (subf hi lo) (one N)
/-- A box's centre on one axis, from the anchor's two ends and the box's shift. -/
def centre (lo hi d : FVec F (M N) .f32) : FVec F (M N) .f32 :=
  addf (mulf d (extent lo hi)) (addf lo (mulf (half N) (extent lo hi)))
/-- A box's extent on one axis, from the anchor's two ends and the logarithm of the scale, capped. -/
def size (lo hi d : FVec F (M N) .f32) : FVec F (M N) .f32 :=
  mulf (exp (minimumf d (broadcast (M N) (Scalar.ofBits .f32 0x40845349#32)))) (extent lo hi)
/-- Clipped to the image: at least zero, at most the limit. -/
def clip (lim : FVec F (M 1) .f32) (x : FVec F (M N) .f32) : FVec F (M N) .f32 :=
  minimumf (broadcastTo (M N) lim broadcasts_M) (maximumf (zero N) x)
/-- A box's first coordinate on one axis. -/
def corner1 (lo hi d s : FVec F (M N) .f32) (lim : FVec F (M 1) .f32) : FVec F (M N) .f32 :=
  clip lim (subf (centre lo hi d) (mulf (half N) (size lo hi s)))
/-- A box's second coordinate on one axis. -/
def corner2 (lo hi d s : FVec F (M N) .f32) (lim : FVec F (M 1) .f32) : FVec F (M N) .f32 :=
  clip lim (subf (addf (centre lo hi d) (mulf (half N) (size lo hi s))) (one N))

/-- The boxes' areas. -/
def area (y1 x1 y2 x2 : FVec F (M N) .f32) : FVec F (M N) .f32 := mulf (extent y1 y2) (extent x1 x2)

/-- The boxes' numbers, row by row. -/
def number (N : ℕ) : IVec (M N) 32 :=
  addi (muli (iota .tc (M N) 32 [0] (iotas_M 0)) (broadcast (M N) 128#32)) (iota .tc (M N) 32 [1] (iotas_M 1))

section Rows
variable (c : F .f32) (y1 x1 y2 x2 : FVec F (M N) .f32)

/-- Row block `r`'s loop over its first `n` lanes, from `acc`. -/
def block (r : ℕ) (h : r < N) (n : ℕ) (acc : FVec F (M (N - r)) .f32) : FVec F (M (N - r)) .f32 :=
  Scf.fold (fun (k : Fin n) acc => step c (fromRow r h.le y1) (fromRow r h.le x1) (fromRow r h.le y2) (fromRow r h.le x2)
    (fromRow r h.le (mulf (broadcast (M N) c) (area y1 x1 y2 x2)))
    (rowAt r h y1) (rowAt r h x1) (rowAt r h y2) (rowAt r h x2) (fromRow r h.le (number N))
    (BitVec.ofNat 32 (r * 128)) (Scf.iv 0#32 1#32 k.val) acc) acc

/-- The trips of row block `r` of `k` boxes. -/
def trips (k r : ℕ) : ℕ := min (k - r * 128) 128

/-- What row block `r` starts from. -/
def start (k : ℕ) : (r : ℕ) → r < N → FVec F (M (N - r)) .f32
  | 0, _ => zero N
  | r + 1, h => extractStridedSlice (M (N - (r + 1))) ![1, 0]
      (block c y1 x1 y2 x2 r (by omega) (trips k r) (start k r (by omega))) (slices_rows (by omega))

/-- Which boxes of row `r` are suppressed. -/
def supRow (k r : ℕ) (h : r < N) : FVec F (M 1) .f32 :=
  headRow (block c y1 x1 y2 x2 r h (trips k r) (start c y1 x1 y2 x2 k r h))

/-- The rows in turn, each with its shape. -/
def supRows (k : ℕ) : List ((s : Shape) × (s.Idx → F .f32)) :=
  List.ofFn fun r : Fin N => ⟨M 1, supRow c y1 x1 y2 x2 k r.1 r.2⟩

theorem concat_rows (hN : 2 ≤ N) (f : Fin N → FVec F (M 1) .f32) :
    Shape.Concatenates ((List.ofFn fun r => (⟨M 1, f r⟩ : (s : Shape) × (s.Idx → F .f32))).map (·.1)) (M N) 0 := by
  refine ⟨by simpa using hN, ?_, ?_⟩
  · intro s hs
    simp only [List.map_ofFn, List.mem_ofFn] at hs
    obtain ⟨r, rfl⟩ := hs
    refine ⟨rfl, fun b hb => ?_⟩
    fin_cases b
    · exact absurd rfl hb
    · rfl
  · simp [Function.comp_def]

/-- Which boxes are suppressed. -/
def sup (hN : 2 ≤ N) (k : ℕ) : FVec F (M N) .f32 :=
  concatenate (M N) 0 (supRows c y1 x1 y2 x2 k) (concat_rows hN _)

/-- The kept boxes' scores among the first `k`; `-1` elsewhere. -/
def masked (hN : 2 ≤ N) (k : ℕ) (s : FVec F (M N) .f32) : FVec F (M N) .f32 :=
  select (andi (cmpf .olt (sup c y1 x1 y2 x2 hN k) (half N)) (cmpi .slt (number N) (broadcast (M N) (BitVec.ofNat 32 k))))
    (logistic s) (broadcast (M N) (Scalar.ofBits .f32 0xBF800000#32))

end Rows
end Nms
-- ==== Proof.FrameKernelIdeal.lean ====
module

public import proofs.«01_k».proof.Proof.Gen.KernelIdeal.Regions
public import proofs.«01_k».proof.Proof.Gen.KernelIdeal.Points
public import Idealize.ShloMosaic.Lib.Pipeline.FrameBody
public import Idealize.ShloMosaic.Lib.Pipeline.FrameTail
public import Idealize.ShloMosaic.Lib.Pipeline.RegionArraysS
public import proofs.«01_k».proof.Proof.Gen.KernelIdeal.Skeleton
public import Idealize.ShloMosaic.Lib.Claim
public import Idealize.ShloMosaic.Lib.UnfoldOut
public import proofs.«01_k».proof.Proof.Defs1

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's accesses -/

abbrev r0_0 : Rect S1x4x16x128 := Rect.unit (s := S1x4x16x128) ![0, 0, 0, 0] S1x1x16x128.size inb_S1x4x16x128_S1x1x16x128_0_0_0_0
abbrev r0_1 : Rect S1x4x16x128 := Rect.unit (s := S1x4x16x128) ![0, 1, 0, 0] S1x1x16x128.size inb_S1x4x16x128_S1x1x16x128_0_1_0_0
abbrev r0_2 : Rect S1x4x16x128 := Rect.unit (s := S1x4x16x128) ![0, 2, 0, 0] S1x1x16x128.size inb_S1x4x16x128_S1x1x16x128_0_2_0_0
abbrev r0_3 : Rect S1x4x16x128 := Rect.unit (s := S1x4x16x128) ![0, 3, 0, 0] S1x1x16x128.size inb_S1x4x16x128_S1x1x16x128_0_3_0_0
abbrev r0_4 : Rect S1x1x1x128 := Rect.unit (s := S1x1x1x128) ![0, 0, 0, 0] S1x1x1x128.size inb_S1x1x1x128_S1x1x1x128_0_0_0_0
abbrev r0_5 : Rect S1x1x16x128 := Rect.unit (s := S1x1x16x128) ![0, 0, 0, 0] S1x1x16x128.size inb_S1x1x16x128_S1x1x16x128_0_0_0_0

/-! ## What the body leaves in each output window's buffer -/

/-- The clipped boxes' corners, one axis each. -/
def bx1 (k : Fin 2) (x0 : Vec F S1x1x16x128 .f32) (x1 : Vec F S1x4x16x128 .f32) (x2 : Vec F S1x4x16x128 .f32) (x3 : Vec F S1x1x1x128 .f32) (x4 : Vec F S1x1x1x128 .f32) : FVec F S16x128 .f32 :=
  match k with
  | 0 => Nms.corner1 (Nms.flat4 (View.ld x1 r0_0)) (Nms.flat4 (View.ld x1 r0_2)) (Nms.flat4 (View.ld x2 r0_0)) (Nms.flat4 (View.ld x2 r0_2))
    (Nms.flat4 (N := 1) (View.ld x3 r0_4))
  | 1 => Nms.corner1 (Nms.flat4 (View.ld x1 r0_1)) (Nms.flat4 (View.ld x1 r0_3)) (Nms.flat4 (View.ld x2 r0_1)) (Nms.flat4 (View.ld x2 r0_3))
    (Nms.flat4 (N := 1) (View.ld x4 r0_4))
def bx2 (k : Fin 2) (x0 : Vec F S1x1x16x128 .f32) (x1 : Vec F S1x4x16x128 .f32) (x2 : Vec F S1x4x16x128 .f32) (x3 : Vec F S1x1x1x128 .f32) (x4 : Vec F S1x1x1x128 .f32) : FVec F S16x128 .f32 :=
  match k with
  | 0 => Nms.corner2 (Nms.flat4 (View.ld x1 r0_0)) (Nms.flat4 (View.ld x1 r0_2)) (Nms.flat4 (View.ld x2 r0_0)) (Nms.flat4 (View.ld x2 r0_2))
    (Nms.flat4 (N := 1) (View.ld x3 r0_4))
  | 1 => Nms.corner2 (Nms.flat4 (View.ld x1 r0_1)) (Nms.flat4 (View.ld x1 r0_3)) (Nms.flat4 (View.ld x2 r0_1)) (Nms.flat4 (View.ld x2 r0_3))
    (Nms.flat4 (N := 1) (View.ld x4 r0_4))

/-- The box window's buffer after the body: its four channels. -/
def out0_5 (x0 : Vec F S1x1x16x128 .f32) (x1 : Vec F S1x4x16x128 .f32) (x2 : Vec F S1x4x16x128 .f32) (x3 : Vec F S1x1x1x128 .f32) (x4 : Vec F S1x1x1x128 .f32) : Vec F S1x4x16x128 .f32 :=
  View.canon [⟨r0_3, Nms.unflat4 (bx2 1 x0 x1 x2 x3 x4)⟩, ⟨r0_2, Nms.unflat4 (bx2 0 x0 x1 x2 x3 x4)⟩,
    ⟨r0_1, Nms.unflat4 (bx1 1 x0 x1 x2 x3 x4)⟩, ⟨r0_0, Nms.unflat4 (bx1 0 x0 x1 x2 x3 x4)⟩]

/-- Its stores tile the buffer (checked by evaluation), so they cover it. -/
theorem cover0_5 (p0 : Vec F S1x1x16x128 .f32) (p1 : Vec F S1x1x16x128 .f32) (p2 : Vec F S1x1x16x128 .f32) (p3 : Vec F S1x1x16x128 .f32) (y : S1x4x16x128.Idx) :
    ∃ pc ∈ ([⟨r0_3, p0⟩, ⟨r0_2, p1⟩, ⟨r0_1, p2⟩, ⟨r0_0, p3⟩] : List (View.Piece (Elt F) S1x4x16x128 .f32)), y ∈ pc.1.set :=
  View.cover_of_tiled [⟨r0_3, p0⟩, ⟨r0_2, p1⟩, ⟨r0_1, p2⟩, ⟨r0_0, p3⟩] S1x1x16x128.size (by rfl) y

/-- The score window's buffer after the body: the kept boxes' scores. -/
def out0_6 (x0 : Vec F S1x1x16x128 .f32) (x1 : Vec F S1x4x16x128 .f32) (x2 : Vec F S1x4x16x128 .f32) (x3 : Vec F S1x1x1x128 .f32) (x4 : Vec F S1x1x1x128 .f32) : Vec F S1x1x16x128 .f32 :=
  View.canon [⟨r0_5, Nms.unflat4 (Nms.masked (Named.named κ "ratio" 0x3ED2D2D3#32) (bx1 0 x0 x1 x2 x3 x4) (bx1 1 x0 x1 x2 x3 x4)
    (bx2 0 x0 x1 x2 x3 x4) (bx2 1 x0 x1 x2 x3 x4) (by decide) 2000 (Nms.flat4 (View.ld x0 r0_5)))⟩]

/-- Its stores tile the buffer (checked by evaluation), so they cover it. -/
theorem cover0_6 (p0 : Vec F S1x1x16x128 .f32) (y : S1x1x16x128.Idx) :
    ∃ pc ∈ ([⟨r0_5, p0⟩] : List (View.Piece (Elt F) S1x1x16x128 .f32)), y ∈ pc.1.set :=
  View.cover_of_tiled [⟨r0_5, p0⟩] S1x1x16x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S1x1x16x128 .f32) (harg1 : arg1.IsWhole) (arg2 : Memref sig .tc .vmem S1x4x16x128 .f32) (harg2 : arg2.IsWhole) (arg3 : Memref sig .tc .vmem S1x4x16x128 .f32) (harg3 : arg3.IsWhole) (arg4 : Memref sig .tc .vmem S1x1x1x128 .f32) (harg4 : arg4.IsWhole) (arg5 : Memref sig .tc .vmem S1x1x1x128 .f32) (harg5 : arg5.IsWhole) (arg6 : Memref sig .tc .vmem S1x4x16x128 .f32) (harg6 : arg6.IsWhole) (arg7 : Memref sig .tc .vmem S1x1x16x128 .f32) (harg7 : arg7.IsWhole)
    (x0 : Vec F S1x1x16x128 .f32) (x1 : Vec F S1x4x16x128 .f32) (x2 : Vec F S1x4x16x128 .f32) (x3 : Vec F S1x1x1x128 .f32) (x4 : Vec F S1x1x1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__nms_kernel i arg1 harg1 arg2 harg2 arg3 harg3 arg4 harg4 arg5 harg5 arg6 harg6 arg7 harg7) K := by
  simp only [cc0__nms_kernel_eq_skeleton]; unfold cc0__nms_kernel_skel
  simp only [k0_part17_eq_skeleton, k0_part18_eq_skeleton, k0_part19_eq_skeleton, k0_part20_eq_skeleton, k0_part21_eq_skeleton, k0_part22_eq_skeleton, k0_part23_eq_skeleton, k0_part24_eq_skeleton]
  unfold k0_part20_skel k0_part21_skel k0_part22_skel k0_part23_skel k0_part24_skel
  unfold k0_t1_body k0_t2_body k0_t3_body k0_t4_body k0_t5_body k0_t6_body k0_t7_body k0_t8_body k0_t9_body k0_t10_body k0_t11_body k0_t12_body k0_t13_body k0_t14_body k0_t15_body k0_t16_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [pure_bind, bind_assoc]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _ _ _ _)).trans ?_
    rfl
  iexists _; isplitr
  swap; · iexact H6
  ipureintro
  refine (View.read_writes_eq_canon _ _ _ (cover0_6 _)).trans ?_
  rfl

/-! ## The body at a point, whatever the call -/

/-- The body on buffers known to hold the blocks `x`: the invariant and what the core owes pass through unread. -/
theorem body_at (c : Dev nD) (i : grid0.Coords) (Φ O : sProp 𝕄)
    (a1 : Memref sig .tc .vmem S1x1x16x128 .f32) (h1 : a1.IsWhole) (a2 : Memref sig .tc .vmem S1x4x16x128 .f32) (h2 : a2.IsWhole)
    (a3 : Memref sig .tc .vmem S1x4x16x128 .f32) (h3 : a3.IsWhole) (a4 : Memref sig .tc .vmem S1x1x1x128 .f32) (h4 : a4.IsWhole)
    (a5 : Memref sig .tc .vmem S1x1x1x128 .f32) (h5 : a5.IsWhole) (a6 : Memref sig .tc .vmem S1x4x16x128 .f32) (h6 : a6.IsWhole)
    (a7 : Memref sig .tc .vmem S1x1x16x128 .f32) (h7 : a7.IsWhole)
    (x0 : Vec F S1x1x16x128 .f32) (x1 : Vec F S1x4x16x128 .f32) (x2 : Vec F S1x4x16x128 .f32) (x3 : Vec F S1x1x1x128 .f32) (x4 : Vec F S1x1x1x128 .f32)
    (b0 : Vec F S1x1x16x128 .f32 → Vec F S1x1x16x128 .f32) (b1 b2 : Vec F S1x4x16x128 .f32 → Vec F S1x4x16x128 .f32)
    (b3 b4 : Vec F S1x1x1x128 .f32 → Vec F S1x1x1x128 .f32) (b5 : Vec F S1x4x16x128 .f32 → Vec F S1x4x16x128 .f32)
    (b6 : Vec F S1x1x16x128 .f32 → Vec F S1x1x16x128 .f32)
    (e : (∀ d, b0 d = x0) ∧ (∀ d, b1 d = x1) ∧ (∀ d, b2 d = x2) ∧ (∀ d, b3 d = x3) ∧ ∀ d, b4 d = x4)
    (y0 : Vec F S1x1x16x128 .f32) (y1 : Vec F S1x4x16x128 .f32) (y2 : Vec F S1x4x16x128 .f32) (y3 : Vec F S1x1x1x128 .f32) (y4 : Vec F S1x1x1x128 .f32)
    (y5 : Vec F S1x4x16x128 .f32) (y6 : Vec F S1x1x16x128 .f32)
    (g : y0 = x0 ∧ y1 = x1 ∧ y2 = x2 ∧ y3 = x3 ∧ y4 = x4 ∧ y5 = out0_5 x0 x1 x2 x3 x4 ∧ y6 = out0_6 x0 x1 x2 x3 x4) :
    iprop(Φ ∗ O ∗ (∃ d, owns (c : Thread nD τ) a1 fullShare (b0 d)) ∗ (∃ d, owns (c : Thread nD τ) a2 fullShare (b1 d))
        ∗ (∃ d, owns (c : Thread nD τ) a3 fullShare (b2 d)) ∗ (∃ d, owns (c : Thread nD τ) a4 fullShare (b3 d))
        ∗ (∃ d, owns (c : Thread nD τ) a5 fullShare (b4 d)) ∗ (∃ d, owns (c : Thread nD τ) a6 fullShare (b5 d))
        ∗ (∃ d, owns (c : Thread nD τ) a7 fullShare (b6 d)))
      ⊢ wp frame (wpE (defs₀ (F := F)) Variants.none c none) Set.univ (cc0__nms_kernel i a1 h1 a2 h2 a3 h3 a4 h4 a5 h5 a6 h6 a7 h7)
        (fun _ => iprop(Φ ∗ O ∗ owns (c : Thread nD τ) a1 fullShare y0 ∗ owns (c : Thread nD τ) a2 fullShare y1
          ∗ owns (c : Thread nD τ) a3 fullShare y2 ∗ owns (c : Thread nD τ) a4 fullShare y3 ∗ owns (c : Thread nD τ) a5 fullShare y4
          ∗ owns (c : Thread nD τ) a6 fullShare y5 ∗ owns (c : Thread nD τ) a7 fullShare y6)) := by
  obtain ⟨e0, e1, e2, e3, e4⟩ := e
  obtain ⟨g0, g1, g2, g3, g4, g5, g6⟩ := g
  rw [g0, g1, g2, g3, g4, g5, g6]
  simp only [e0, e1, e2, e3, e4]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ i _ h1 _ h2 _ h3 _ h4 _ h5 _ h6 _ h7 x0 x1 x2 x3 x4 _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The four calls' proof data -/

/-- The four calls run one body. -/
theorem kernel1 : cc1__nms_kernel (F := F) = cc0__nms_kernel := rfl
theorem kernel2 : cc2__nms_kernel (F := F) = cc0__nms_kernel := rfl
theorem kernel3 : cc3__nms_kernel (F := F) = cc0__nms_kernel := rfl

/-- The block of window `w` at point `t`, the arrays as the valuation `W` has them. -/
abbrev blk (cfg : Cfg sig Λ₀) (W : Valuation τ sig (Elt F)) (w : Fin cfg.W) (t : Fin cfg.N) :
    ((cfg.win w).xblock (cfg.grid.coords t)).Idx → Elt F (cfg.win w).elt :=
  ((cfg.win w).blk t).view.read (Elt F) (W (Proc.devRef .tc (Pipeline.arrRef cfg.spec w)))

/-- Call 0's proof data: the arrays as `W` has them; after the body each input's buffer at its block and the outputs' at
    `out0_5`, `out0_6` of the input blocks. -/
def dat0 (W : Valuation τ sig (Elt F)) (c : Dev nD) : Dat τ (Elt F) Unit ℕ (UR sig nD τ) ℕ cfg0 c where
  A w := W (Proc.devRef .tc (Pipeline.arrRef spec0 w))
  after w t := match w with
    | ⟨0, _⟩ => blk cfg0 W 0 t
    | ⟨1, _⟩ => blk cfg0 W 1 t
    | ⟨2, _⟩ => blk cfg0 W 2 t
    | ⟨3, _⟩ => blk cfg0 W 3 t
    | ⟨4, _⟩ => blk cfg0 W 4 t
    | ⟨5, _⟩ => out0_5 (blk cfg0 W 0 t) (blk cfg0 W 1 t) (blk cfg0 W 2 t) (blk cfg0 W 3 t) (blk cfg0 W 4 t)
    | ⟨6, _⟩ => out0_6 (blk cfg0 W 0 t) (blk cfg0 W 1 t) (blk cfg0 W 2 t) (blk cfg0 W 3 t) (blk cfg0 W 4 t)
  Φ _ := Pipeline.ΦA spec0 c
  q _ := fullShare
  owed _ := 0

/-- Each input's buffer holds its block when the body is called. -/
theorem before0 (W : Valuation τ sig (Elt F)) (c : Dev nD) (t : Fin cfg0.N) :
    (∀ d, (dat0 W c).before 0 t d = blk cfg0 W 0 t) ∧ (∀ d, (dat0 W c).before 1 t d = blk cfg0 W 1 t) ∧ (∀ d, (dat0 W c).before 2 t d = blk cfg0 W 2 t)
      ∧ (∀ d, (dat0 W c).before 3 t d = blk cfg0 W 3 t) ∧ ∀ d, (dat0 W c).before 4 t d = blk cfg0 W 4 t := by
  refine ⟨fun d => ?_, fun d => ?_, fun d => ?_, fun d => ?_, fun d => ?_⟩ <;>
    exact ((dat0 W c).before_in_eq_fetched _ rfl (fun _ => rfl) (fun _ _ _ => rfl) (fun t => rfl) t d).trans rfl

theorem body0 (W : Valuation τ sig (Elt F)) (c : Dev nD) :
    BodyObligation (dat0 (F := F) W c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_at c (grid0.coords t) ((dat0 W c).Φ t.castSucc) ((dat0 W c).owesAt () t.castSucc) (st0_0 t) _ (st0_1 t) _ (st0_2 t) _
    (st0_3 t) _ (st0_4 t) _ (st0_5 t) _ (st0_6 t) _ (blk cfg0 W 0 t) (blk cfg0 W 1 t) (blk cfg0 W 2 t) (blk cfg0 W 3 t) (blk cfg0 W 4 t)
    ((dat0 W c).before 0 t) ((dat0 W c).before 1 t) ((dat0 W c).before 2 t) ((dat0 W c).before 3 t) ((dat0 W c).before 4 t) ((dat0 W c).before 5 t)
    ((dat0 W c).before 6 t) (before0 W c t)
    ((dat0 W c).after 0 t) ((dat0 W c).after 1 t) ((dat0 W c).after 2 t) ((dat0 W c).after 3 t) ((dat0 W c).after 4 t) ((dat0 W c).after 5 t)
    ((dat0 W c).after 6 t) (by dsimp only [dat0]; exact ⟨rfl, rfl, rfl, rfl, rfl, rfl, rfl⟩)) rfl .rfl fun _ => .rfl

/-- Call 1's proof data: the arrays as `W` has them; after the body each input's buffer at its block and the outputs' at
    `out0_5`, `out0_6` of the input blocks. -/
def dat1 (W : Valuation τ sig (Elt F)) (c : Dev nD) : Dat τ (Elt F) Unit ℕ (UR sig nD τ) ℕ cfg1 c where
  A w := W (Proc.devRef .tc (Pipeline.arrRef spec1 w))
  after w t := match w with
    | ⟨0, _⟩ => blk cfg1 W 0 t
    | ⟨1, _⟩ => blk cfg1 W 1 t
    | ⟨2, _⟩ => blk cfg1 W 2 t
    | ⟨3, _⟩ => blk cfg1 W 3 t
    | ⟨4, _⟩ => blk cfg1 W 4 t
    | ⟨5, _⟩ => out0_5 (blk cfg1 W 0 t) (blk cfg1 W 1 t) (blk cfg1 W 2 t) (blk cfg1 W 3 t) (blk cfg1 W 4 t)
    | ⟨6, _⟩ => out0_6 (blk cfg1 W 0 t) (blk cfg1 W 1 t) (blk cfg1 W 2 t) (blk cfg1 W 3 t) (blk cfg1 W 4 t)
  Φ _ := Pipeline.ΦA spec1 c
  q _ := fullShare
  owed _ := 0

/-- Each input's buffer holds its block when the body is called. -/
theorem before1 (W : Valuation τ sig (Elt F)) (c : Dev nD) (t : Fin cfg1.N) :
    (∀ d, (dat1 W c).before 0 t d = blk cfg1 W 0 t) ∧ (∀ d, (dat1 W c).before 1 t d = blk cfg1 W 1 t) ∧ (∀ d, (dat1 W c).before 2 t d = blk cfg1 W 2 t)
      ∧ (∀ d, (dat1 W c).before 3 t d = blk cfg1 W 3 t) ∧ ∀ d, (dat1 W c).before 4 t d = blk cfg1 W 4 t := by
  refine ⟨fun d => ?_, fun d => ?_, fun d => ?_, fun d => ?_, fun d => ?_⟩ <;>
    exact ((dat1 W c).before_in_eq_fetched _ rfl (fun _ => rfl) (fun _ _ _ => rfl) (fun t => rfl) t d).trans rfl

theorem body1 (W : Valuation τ sig (Elt F)) (c : Dev nD) :
    BodyObligation (dat1 (F := F) W c) (defs₀ (F := F)) Variants.none () Set.univ := fun t => by
  rw [bigSep_W1, bigSep_W1, show defs₀ (F := F) .tc cfg1.body (cfg1.bodyArgs t (cfg1.slots t)) = bodyAt1 t by unfold defs₀; rw [Defs.onTc_tc]]
  unfold bodyAt1
  rw [kernel1]
  exact triple_restated (body_at c (grid1.coords t) ((dat1 W c).Φ t.castSucc) ((dat1 W c).owesAt () t.castSucc) (st1_0 t) _ (st1_1 t) _ (st1_2 t) _
    (st1_3 t) _ (st1_4 t) _ (st1_5 t) _ (st1_6 t) _ (blk cfg1 W 0 t) (blk cfg1 W 1 t) (blk cfg1 W 2 t) (blk cfg1 W 3 t) (blk cfg1 W 4 t)
    ((dat1 W c).before 0 t) ((dat1 W c).before 1 t) ((dat1 W c).before 2 t) ((dat1 W c).before 3 t) ((dat1 W c).before 4 t) ((dat1 W c).before 5 t)
    ((dat1 W c).before 6 t) (before1 W c t)
    ((dat1 W c).after 0 t) ((dat1 W c).after 1 t) ((dat1 W c).after 2 t) ((dat1 W c).after 3 t) ((dat1 W c).after 4 t) ((dat1 W c).after 5 t)
    ((dat1 W c).after 6 t) (by dsimp only [dat1]; exact ⟨rfl, rfl, rfl, rfl, rfl, rfl, rfl⟩)) rfl .rfl fun _ => .rfl

/-- Call 2's proof data: the arrays as `W` has them; after the body each input's buffer at its block and the outputs' at
    `out0_5`, `out0_6` of the input blocks. -/
def dat2 (W : Valuation τ sig (Elt F)) (c : Dev nD) : Dat τ (Elt F) Unit ℕ (UR sig nD τ) ℕ cfg2 c where
  A w := W (Proc.devRef .tc (Pipeline.arrRef spec2 w))
  after w t := match w with
    | ⟨0, _⟩ => blk cfg2 W 0 t
    | ⟨1, _⟩ => blk cfg2 W 1 t
    | ⟨2, _⟩ => blk cfg2 W 2 t
    | ⟨3, _⟩ => blk cfg2 W 3 t
    | ⟨4, _⟩ => blk cfg2 W 4 t
    | ⟨5, _⟩ => out0_5 (blk cfg2 W 0 t) (blk cfg2 W 1 t) (blk cfg2 W 2 t) (blk cfg2 W 3 t) (blk cfg2 W 4 t)
    | ⟨6, _⟩ => out0_6 (blk cfg2 W 0 t) (blk cfg2 W 1 t) (blk cfg2 W 2 t) (blk cfg2 W 3 t) (blk cfg2 W 4 t)
  Φ _ := Pipeline.ΦA spec2 c
  q _ := fullShare
  owed _ := 0

/-- Each input's buffer holds its block when the body is called. -/
theorem before2 (W : Valuation τ sig (Elt F)) (c : Dev nD) (t : Fin cfg2.N) :
    (∀ d, (dat2 W c).before 0 t d = blk cfg2 W 0 t) ∧ (∀ d, (dat2 W c).before 1 t d = blk cfg2 W 1 t) ∧ (∀ d, (dat2 W c).before 2 t d = blk cfg2 W 2 t)
      ∧ (∀ d, (dat2 W c).before 3 t d = blk cfg2 W 3 t) ∧ ∀ d, (dat2 W c).before 4 t d = blk cfg2 W 4 t := by
  refine ⟨fun d => ?_, fun d => ?_, fun d => ?_, fun d => ?_, fun d => ?_⟩ <;>
    exact ((dat2 W c).before_in_eq_fetched _ rfl (fun _ => rfl) (fun _ _ _ => rfl) (fun t => rfl) t d).trans rfl

theorem body2 (W : Valuation τ sig (Elt F)) (c : Dev nD) :
    BodyObligation (dat2 (F := F) W c) (defs₀ (F := F)) Variants.none () Set.univ := fun t => by
  rw [bigSep_W2, bigSep_W2, show defs₀ (F := F) .tc cfg2.body (cfg2.bodyArgs t (cfg2.slots t)) = bodyAt2 t by unfold defs₀; rw [Defs.onTc_tc]]
  unfold bodyAt2
  rw [kernel2]
  exact triple_restated (body_at c (grid2.coords t) ((dat2 W c).Φ t.castSucc) ((dat2 W c).owesAt () t.castSucc) (st2_0 t) _ (st2_1 t) _ (st2_2 t) _
    (st2_3 t) _ (st2_4 t) _ (st2_5 t) _ (st2_6 t) _ (blk cfg2 W 0 t) (blk cfg2 W 1 t) (blk cfg2 W 2 t) (blk cfg2 W 3 t) (blk cfg2 W 4 t)
    ((dat2 W c).before 0 t) ((dat2 W c).before 1 t) ((dat2 W c).before 2 t) ((dat2 W c).before 3 t) ((dat2 W c).before 4 t) ((dat2 W c).before 5 t)
    ((dat2 W c).before 6 t) (before2 W c t)
    ((dat2 W c).after 0 t) ((dat2 W c).after 1 t) ((dat2 W c).after 2 t) ((dat2 W c).after 3 t) ((dat2 W c).after 4 t) ((dat2 W c).after 5 t)
    ((dat2 W c).after 6 t) (by dsimp only [dat2]; exact ⟨rfl, rfl, rfl, rfl, rfl, rfl, rfl⟩)) rfl .rfl fun _ => .rfl

/-- Call 3's proof data: the arrays as `W` has them; after the body each input's buffer at its block and the outputs' at
    `out0_5`, `out0_6` of the input blocks. -/
def dat3 (W : Valuation τ sig (Elt F)) (c : Dev nD) : Dat τ (Elt F) Unit ℕ (UR sig nD τ) ℕ cfg3 c where
  A w := W (Proc.devRef .tc (Pipeline.arrRef spec3 w))
  after w t := match w with
    | ⟨0, _⟩ => blk cfg3 W 0 t
    | ⟨1, _⟩ => blk cfg3 W 1 t
    | ⟨2, _⟩ => blk cfg3 W 2 t
    | ⟨3, _⟩ => blk cfg3 W 3 t
    | ⟨4, _⟩ => blk cfg3 W 4 t
    | ⟨5, _⟩ => out0_5 (blk cfg3 W 0 t) (blk cfg3 W 1 t) (blk cfg3 W 2 t) (blk cfg3 W 3 t) (blk cfg3 W 4 t)
    | ⟨6, _⟩ => out0_6 (blk cfg3 W 0 t) (blk cfg3 W 1 t) (blk cfg3 W 2 t) (blk cfg3 W 3 t) (blk cfg3 W 4 t)
  Φ _ := Pipeline.ΦA spec3 c
  q _ := fullShare
  owed _ := 0

/-- Each input's buffer holds its block when the body is called. -/
theorem before3 (W : Valuation τ sig (Elt F)) (c : Dev nD) (t : Fin cfg3.N) :
    (∀ d, (dat3 W c).before 0 t d = blk cfg3 W 0 t) ∧ (∀ d, (dat3 W c).before 1 t d = blk cfg3 W 1 t) ∧ (∀ d, (dat3 W c).before 2 t d = blk cfg3 W 2 t)
      ∧ (∀ d, (dat3 W c).before 3 t d = blk cfg3 W 3 t) ∧ ∀ d, (dat3 W c).before 4 t d = blk cfg3 W 4 t := by
  refine ⟨fun d => ?_, fun d => ?_, fun d => ?_, fun d => ?_, fun d => ?_⟩ <;>
    exact ((dat3 W c).before_in_eq_fetched _ rfl (fun _ => rfl) (fun _ _ _ => rfl) (fun t => rfl) t d).trans rfl

theorem body3 (W : Valuation τ sig (Elt F)) (c : Dev nD) :
    BodyObligation (dat3 (F := F) W c) (defs₀ (F := F)) Variants.none () Set.univ := fun t => by
  rw [bigSep_W3, bigSep_W3, show defs₀ (F := F) .tc cfg3.body (cfg3.bodyArgs t (cfg3.slots t)) = bodyAt3 t by unfold defs₀; rw [Defs.onTc_tc]]
  unfold bodyAt3
  rw [kernel3]
  exact triple_restated (body_at c (grid3.coords t) ((dat3 W c).Φ t.castSucc) ((dat3 W c).owesAt () t.castSucc) (st3_0 t) _ (st3_1 t) _ (st3_2 t) _
    (st3_3 t) _ (st3_4 t) _ (st3_5 t) _ (st3_6 t) _ (blk cfg3 W 0 t) (blk cfg3 W 1 t) (blk cfg3 W 2 t) (blk cfg3 W 3 t) (blk cfg3 W 4 t)
    ((dat3 W c).before 0 t) ((dat3 W c).before 1 t) ((dat3 W c).before 2 t) ((dat3 W c).before 3 t) ((dat3 W c).before 4 t) ((dat3 W c).before 5 t)
    ((dat3 W c).before 6 t) (before3 W c t)
    ((dat3 W c).after 0 t) ((dat3 W c).after 1 t) ((dat3 W c).after 2 t) ((dat3 W c).after 3 t) ((dat3 W c).after 4 t) ((dat3 W c).after 5 t)
    ((dat3 W c).after 6 t) (by dsimp only [dat3]; exact ⟨rfl, rfl, rfl, rfl, rfl, rfl, rfl⟩)) rfl .rfl fun _ => .rfl

/-! ## The regions' records -/

/-- Nothing is owed, so any levels do. -/
abbrev L₀ : GSem nD τ sig → Finset Unit := fun g => if g.1.2 = .tc then {()} else ∅
abbrev lv₀ : GSem nD τ sig → Unit → ℕ := fun _ _ => 0

/-- The generator register, at any state. -/
abbrev reg (c : Dev nD) : sProp 𝕄 := iprop(∃ r, prngReg c r)
/-- What rides beside the buffers between items. -/
abbrev rest (_ : Fin 5) (c : Dev nD) : sProp 𝕄 := iprop((∃ Wd, owes (c : Thread nD τ) (0 : CellTallies nD τ sig Unit) Wd) ∗ reg c ∗ emp)

variable (m : (ℓ : Loc nD τ sig) → Buf (Elt F) ℓ) (ρ : Dev nD → PrngReg)

/-- What each call leaves, the calls before it known. -/
abbrev left0 (c : Dev nD) : Valuation τ sig (Elt F) := Pipeline.afterRegion (dat0 (V11 m c) c) (V11 m c)
abbrev outs0 : Outs (F := F) := fun _ r c => left0 m c (Proc.devRef .tc r)
abbrev left1 (c : Dev nD) : Valuation τ sig (Elt F) := Pipeline.afterRegion (dat1 (V25 m (outs0 m) c) c) (V25 m (outs0 m) c)
abbrev outs1 : Outs (F := F) := fun J r c => match J with | 12 => outs0 m 12 r c | _ => left1 m c (Proc.devRef .tc r)
abbrev left2 (c : Dev nD) : Valuation τ sig (Elt F) := Pipeline.afterRegion (dat2 (V39 m (outs1 m) c) c) (V39 m (outs1 m) c)
abbrev outs2 : Outs (F := F) := fun J r c => match J with | 12 => outs0 m 12 r c | 26 => outs1 m 26 r c | _ => left2 m c (Proc.devRef .tc r)
abbrev left3 (c : Dev nD) : Valuation τ sig (Elt F) := Pipeline.afterRegion (dat3 (V53 m (outs2 m) c) c) (V53 m (outs2 m) c)
/-- What the four calls leave. -/
def outs : Outs (F := F) := fun J r c =>
  match J with | 12 => outs0 m 12 r c | 26 => outs1 m 26 r c | 40 => outs2 m 40 r c | _ => left3 m c (Proc.devRef .tc r)

theorem entry1 (c : Dev nD) : V25 m (outs m) c = V25 m (outs0 m) c := rfl
theorem entry2 (c : Dev nD) : V39 m (outs m) c = V39 m (outs1 m) c := rfl
theorem entry3 (c : Dev nD) : V53 m (outs m) c = V53 m (outs2 m) c := rfl

/-- The four calls' proof data, each at the contents it finds. -/
def dats : (p : Fin 4) → (c : Dev nD) → Dat τ (Elt F) Unit ℕ (UR sig nD τ) ℕ (cfgs p) c
  | 0 => fun c => dat0 (V11 m c) c
  | 1 => fun c => dat1 (V25 m (outs0 m) c) c
  | 2 => fun c => dat2 (V39 m (outs1 m) c) c
  | 3 => fun c => dat3 (V53 m (outs2 m) c) c

/-- A call's record: entered and left with every buffer held. -/
def record (p : Fin 4) (W : Dev nD → Valuation τ sig (Elt F)) (kit : Pipeline.LaunchFacts (nD := nD) (τ := τ) cfgs p)
    (hbody : ∀ c, Pipeline.BodyObligationLoose (dats m p c) (defs₀ (F := F)) Variants.none () Set.univ)
    (howed : ∀ c t, (dats m p c).owed t = 0) (hrec : ∀ c, (dats m p c).recorded 0 = Set.univ)
    (hshare : ∀ c w, (dats m p c).share w = fullShare) (hΦ : ∀ c t, (dats m p c).Φ t = Pipeline.ΦA (cfgs p).spec c)
    (hW : ∀ c w, (dats m p c).arrAt w 0 = W c (Proc.devRef .tc (Pipeline.arrRef (cfgs p).spec w))) :
    Pipeline.RegionSeg (pcfgs (F := F)) adm (dats m) () (defs₀ (F := F)) Variants.none L₀ lv₀ p :=
  Pipeline.RegionSeg.ofHeldIn (pcfgs (F := F)) adm (dats m) () (defs₀ (F := F)) Variants.none L₀ lv₀ p (fun _ => 0) (Pipeline.ucRefs τ sig) reg reg
    kit.toP rfl hbody howed hrec hshare
    (fun c => by rw [hΦ]; exact .rfl) (fun c => by rw [hΦ]; exact .rfl) (fun _ => 0)
    ⟨fun c w s => by simp [L₀], fun _ _ _ => le_refl _, fun _ _ _ h => absurd h (lt_irrefl _)⟩ (fun _ => iprop(emp)) W hW

/-- Two valuations that agree but at two references differ by two updates. -/
theorem two_updates (X Y : Valuation τ sig (Elt F)) (a b : Ref sig .tc) (h : ∀ r : Ref sig .tc, r ≠ a → r ≠ b → X (Proc.devRef .tc r) = Y (Proc.devRef .tc r)) :
    ∀ d ∈ Pipeline.ucRefs τ sig, X d = Function.update (Function.update Y (Proc.devRef .tc a) (X (Proc.devRef .tc a))) (Proc.devRef .tc b) (X (Proc.devRef .tc b)) d := by
  intro d hd
  obtain ⟨r, -, rfl⟩ := Finset.mem_map.mp (Finset.mem_filter.mp hd).1
  change X (Proc.devRef .tc r) = Function.update (Function.update Y (Proc.devRef .tc a) (X (Proc.devRef .tc a))) (Proc.devRef .tc b) (X (Proc.devRef .tc b)) (Proc.devRef .tc r)
  by_cases hb : r = b
  · subst hb; rw [Function.update_self]
  by_cases ha : r = a
  · subst ha
    rw [Function.update_of_ne (StableHlo.devRef_ne_of_ne hb), Function.update_self]
  rw [Function.update_of_ne (StableHlo.devRef_ne_of_ne hb), Function.update_of_ne (StableHlo.devRef_ne_of_ne ha), h r ha hb]

section
variable {m} {p : Fin 4} {W : Dev nD → Valuation τ sig (Elt F)} {kit : Pipeline.LaunchFacts (nD := nD) (τ := τ) cfgs p} {hbody howed hrec hshare hΦ hW}

set_option backward.isDefEq.respectTransparency.types false in
theorem record_pre (hu : ∀ w, (Pipeline.arrRef (cfgs p).spec w).isScoped = false) (c : Dev nD) (k : Fin 5) :
    iprop(StableHlo.held (c : Thread nD τ) (Pipeline.ucRefs τ sig) (W c) ∗ rest k c) ⊢ (record m p W kit hbody howed hrec hshare hΦ hW).pre c := by
  unfold record
  exact Pipeline.RegionSeg.ofHeldIn_pre (pcs := pcfgs (F := F)) (a := adm) (pdats := dats m) (p := p) (D := fun _ => 0) (X := reg) (Y := reg)
    (R := fun _ => iprop(emp)) (W := W) (Pipeline.arrRefs_sub_ucRefs (cfgs p).spec hu) c

set_option backward.isDefEq.respectTransparency.types false in
theorem record_post (hu : ∀ w, (Pipeline.arrRef (cfgs p).spec w).isScoped = false) (c : Dev nD) (k : Fin 5) (a b : Ref sig .tc)
    (hout : ∀ r, r ≠ a → r ≠ b → ∀ w, Pipeline.arrRef (cfgs p).spec w = r → ((cfgs p).win w).isOut = false) :
    (record m p W kit hbody howed hrec hshare hΦ hW).post c
      ⊢ iprop(StableHlo.held (c : Thread nD τ) (Pipeline.ucRefs τ sig) (Function.update (Function.update (W c) (Proc.devRef .tc a)
          (Pipeline.afterRegion (dats m p c) (W c) (Proc.devRef .tc a))) (Proc.devRef .tc b)
          (Pipeline.afterRegion (dats m p c) (W c) (Proc.devRef .tc b))) ∗ rest k c) := by
  unfold record
  refine (Pipeline.RegionSeg.ofHeldIn_post (Pipeline.arrRefs_sub_ucRefs _ hu) c).trans ?_
  rw [StableHlo.held_congr (c : Thread nD τ) (two_updates (Pipeline.afterRegion (dats m p c) (W c)) (W c) a b fun r ha hb =>
    Pipeline.afterRegion_keeps _ _ kit.win.arr_inj (hW c) r (hout r ha hb))]

end

def record0 : Pipeline.RegionSeg (pcfgs (F := F)) adm (dats m) () (defs₀ (F := F)) Variants.none L₀ lv₀ 0 :=
  record m 0 (V11 m) launch0 (fun c => (body0 _ c).loose) (fun _ _ => rfl) (fun _ => rfl) (fun c => (dats m 0 c).share_full fun _ => rfl)
    (fun _ _ => rfl) (fun _ _ => rfl)

theorem pre0 (c : Dev nD) : iprop(StableHlo.held (c : Thread nD τ) (Pipeline.ucRefs τ sig) (V11 m c) ∗ rest 0 c) ⊢ (record0 m).pre c := by
  exact record_pre (W := V11 m) (by decide) c 0

theorem post0 (c : Dev nD) :
    (record0 m).post c ⊢ iprop(StableHlo.held (c : Thread nD τ) (Pipeline.ucRefs τ sig) (V12 m (outs m) c) ∗ rest 1 c) := by
  refine (record_post (p := 0) (W := V11 m) (by decide) c 1 main_v27_0 main_v27_1 fun r ha hb w e => match w, e with
      | 0, _ => rfl | 1, _ => rfl | 2, _ => rfl | 3, _ => rfl | 4, _ => rfl | 5, e => absurd e.symm ha | 6, e => absurd e.symm hb).trans ?_
  exact .rfl

def record1 : Pipeline.RegionSeg (pcfgs (F := F)) adm (dats m) () (defs₀ (F := F)) Variants.none L₀ lv₀ 1 :=
  record m 1 (V25 m (outs0 m)) launch1 (fun c => (body1 _ c).loose) (fun _ _ => rfl) (fun _ => rfl) (fun c => (dats m 1 c).share_full fun _ => rfl)
    (fun _ _ => rfl) (fun _ _ => rfl)

theorem pre1 (c : Dev nD) : iprop(StableHlo.held (c : Thread nD τ) (Pipeline.ucRefs τ sig) (V25 m (outs m) c) ∗ rest 1 c) ⊢ (record1 m).pre c := by
  rw [entry1]
  exact record_pre (W := V25 m (outs0 m)) (by decide) c 1

theorem post1 (c : Dev nD) :
    (record1 m).post c ⊢ iprop(StableHlo.held (c : Thread nD τ) (Pipeline.ucRefs τ sig) (V26 m (outs m) c) ∗ rest 2 c) := by
  refine (record_post (p := 1) (W := V25 m (outs0 m)) (by decide) c 2 main_v52_0 main_v52_1 fun r ha hb w e => match w, e with
      | 0, _ => rfl | 1, _ => rfl | 2, _ => rfl | 3, _ => rfl | 4, _ => rfl | 5, e => absurd e.symm ha | 6, e => absurd e.symm hb).trans ?_
  exact .rfl

def record2 : Pipeline.RegionSeg (pcfgs (F := F)) adm (dats m) () (defs₀ (F := F)) Variants.none L₀ lv₀ 2 :=
  record m 2 (V39 m (outs1 m)) launch2 (fun c => (body2 _ c).loose) (fun _ _ => rfl) (fun _ => rfl) (fun c => (dats m 2 c).share_full fun _ => rfl)
    (fun _ _ => rfl) (fun _ _ => rfl)

theorem pre2 (c : Dev nD) : iprop(StableHlo.held (c : Thread nD τ) (Pipeline.ucRefs τ sig) (V39 m (outs m) c) ∗ rest 2 c) ⊢ (record2 m).pre c := by
  rw [entry2]
  exact record_pre (W := V39 m (outs1 m)) (by decide) c 2

theorem post2 (c : Dev nD) :
    (record2 m).post c ⊢ iprop(StableHlo.held (c : Thread nD τ) (Pipeline.ucRefs τ sig) (V40 m (outs m) c) ∗ rest 3 c) := by
  refine (record_post (p := 2) (W := V39 m (outs1 m)) (by decide) c 3 main_v77_0 main_v77_1 fun r ha hb w e => match w, e with
      | 0, _ => rfl | 1, _ => rfl | 2, _ => rfl | 3, _ => rfl | 4, _ => rfl | 5, e => absurd e.symm ha | 6, e => absurd e.symm hb).trans ?_
  exact .rfl

def record3 : Pipeline.RegionSeg (pcfgs (F := F)) adm (dats m) () (defs₀ (F := F)) Variants.none L₀ lv₀ 3 :=
  record m 3 (V53 m (outs2 m)) launch3 (fun c => (body3 _ c).loose) (fun _ _ => rfl) (fun _ => rfl) (fun c => (dats m 3 c).share_full fun _ => rfl)
    (fun _ _ => rfl) (fun _ _ => rfl)

theorem pre3 (c : Dev nD) : iprop(StableHlo.held (c : Thread nD τ) (Pipeline.ucRefs τ sig) (V53 m (outs m) c) ∗ rest 3 c) ⊢ (record3 m).pre c := by
  rw [entry3]
  exact record_pre (W := V53 m (outs2 m)) (by decide) c 3

theorem post3 (c : Dev nD) :
    (record3 m).post c ⊢ iprop(StableHlo.held (c : Thread nD τ) (Pipeline.ucRefs τ sig) (V54 m (outs m) c) ∗ rest 4 c) := by
  refine (record_post (p := 3) (W := V53 m (outs2 m)) (by decide) c 4 main_v102_0 main_v102_1 fun r ha hb w e => match w, e with
      | 0, _ => rfl | 1, _ => rfl | 2, _ => rfl | 3, _ => rfl | 4, _ => rfl | 5, e => absurd e.symm ha | 6, e => absurd e.symm hb).trans ?_
  exact .rfl

/-! ## The run -/

theorem end_ (c : Dev nD) : iprop(StableHlo.held (c : Thread nD τ) (Pipeline.ucRefs τ sig) (V58 m (outs m) c) ∗ rest 4 c)
    ⊢ iprop(StableHlo.held (c : Thread nD τ) (Pipeline.ucRefs τ sig) (V58 m (outs m) c) ∗ ∃ Wd, owes (c : Thread nD τ) (0 : CellTallies nD τ sig Unit) Wd) := by
  iintro ⟨Hh, HO, -⟩
  isplitl [Hh]; · iexact Hh
  iexact HO

-- the run theorem's implicit arguments are found by unifying its conclusion with this one, which takes unfolding plain
-- definitions in a metavariable's type
set_option backward.isDefEq.respectTransparency.types false in
/-- Every weakly fair execution terminates, and at every final state each array of @main holds the last valuation's contents
    and every counter is at zero. -/
theorem run : θ_run defs (onTc (τ := τ) (main (F := F))) ⟨m, fun _ => 0, ρ⟩ (fun r => (∀ c : Dev nD, ∀ b ∈ Pipeline.ucRefs τ sig,
      r.2.mem ((c : Thread nD τ).1, b) = V58 m (outs m) c b) ∧ r.2.sem = fun _ => 0) := by
  refine Pipeline.θ_run_regions_kit_dev_sems (pcfgs (F := F)) adm (dats m) () cellOf_inj emb₁ (defs₀ (F := F)) Variants.none L₀ lv₀ m ρ main
    (segs m (outs m) Variants.none L₀ lv₀ rest () (dats m) (record0 m) (record1 m) (record2 m) (record3 m))
    (fun c Q => by
      rewrite [main_chain c, Pipeline.Seg.run_eq_chain,
        show (segs m (outs m) Variants.none L₀ lv₀ rest () (dats m) (record0 m) (record1 m) (record2 m) (record3 m) c).map Pipeline.Seg.prog = [StableHlo.seq hostOps0, StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8, StableHlo.seq hostOps0_9,
          StableHlo.seq hostOps0_10, Prog.lift (.customCall (Pipeline.entry 0) ()), StableHlo.seq hostOps1, StableHlo.seq hostOps1_1, StableHlo.seq
          hostOps1_2, StableHlo.seq hostOps1_3, StableHlo.seq hostOps1_4, StableHlo.seq hostOps1_5, StableHlo.seq hostOps1_6, StableHlo.seq
          hostOps1_7, StableHlo.seq hostOps1_8, StableHlo.seq hostOps1_9, StableHlo.seq hostOps1_10, StableHlo.seq hostOps1_11, StableHlo.seq
          hostOps1_12, Prog.lift (.customCall (Pipeline.entry 1) ()), StableHlo.seq hostOps2, StableHlo.seq hostOps2_1, StableHlo.seq hostOps2_2,
          StableHlo.seq hostOps2_3, StableHlo.seq hostOps2_4, StableHlo.seq hostOps2_5, StableHlo.seq hostOps2_6, StableHlo.seq hostOps2_7,
          StableHlo.seq hostOps2_8, StableHlo.seq hostOps2_9, StableHlo.seq hostOps2_10, StableHlo.seq hostOps2_11, StableHlo.seq hostOps2_12,
          Prog.lift (.customCall (Pipeline.entry 2) ()), StableHlo.seq hostOps3, StableHlo.seq hostOps3_1, StableHlo.seq hostOps3_2, StableHlo.seq
          hostOps3_3, StableHlo.seq hostOps3_4, StableHlo.seq hostOps3_5, StableHlo.seq hostOps3_6, StableHlo.seq hostOps3_7, StableHlo.seq
          hostOps3_8, StableHlo.seq hostOps3_9, StableHlo.seq hostOps3_10, StableHlo.seq hostOps3_11, StableHlo.seq hostOps3_12, Prog.lift
          (.customCall (Pipeline.entry 3) ()), StableHlo.seq hostOps4, StableHlo.seq hostOps4_1, StableHlo.seq hostOps4_2, StableHlo.seq hostOps4_3 ] from rfl]
      dsimp (config := { failIfUnchanged := false }) only
      exact .rfl)
    (fun c => by simp only [segs, Pipeline.Seg.pipes_host, Pipeline.Seg.pipes_region, Pipeline.Seg.pipes_nil]; decide)
    (fun _ => 0) (fun g h => if_neg h) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ rest 0 c))
    (Tₙ := fun c => StableHlo.held (c : Thread nD τ) (Pipeline.ucRefs τ sig) (V58 m (outs m) c))
    (hch := fun c => ⟨.rfl, .rfl, .rfl, .rfl, .rfl, .rfl, .rfl, .rfl, .rfl, .rfl, .rfl, pre0 m c, post0 m c, .rfl, .rfl, .rfl, .rfl, .rfl, .rfl,
      .rfl, .rfl, .rfl, .rfl, .rfl, .rfl, pre1 m c, post1 m c, .rfl, .rfl, .rfl, .rfl, .rfl, .rfl, .rfl, .rfl, .rfl, .rfl, .rfl, .rfl, pre2 m c,
      post2 m c, .rfl, .rfl, .rfl, .rfl, .rfl, .rfl, .rfl, .rfl, .rfl, .rfl, .rfl, .rfl, pre3 m c, post3 m c, .rfl, .rfl, .rfl, end_ m c⟩)
    (hinit := ?_) (QY := fun c s => ∀ b ∈ Pipeline.ucRefs τ sig, s.mem ((c : Thread nD τ).1, b) = V58 m (outs m) c b)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L₀ lv₀ fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (V58 m (outs m) c) s') $$ [Hh HSI]
    · isplitl [Hh] <;> iassumption
    icases Hr with ⟨%h, HSI⟩
    imodintro
    isplitr
    · ipureintro
      exact h
    · iexact HSI

/-- THE FRAME: at any float instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c =>
    have at_ (b : Ref sig .tc) (hb : b.isScoped = false) : r.2.mem ((c : Thread nD τ).loc b) = V58 m (outs m) c (Proc.devRef .tc b) :=
      h.1 c _ (Pipeline.devRef_mem_ucRefs hb)
    ⟨(at_ main_arg0 rfl).trans (V58_main_arg0 m (outs m) c),
      (at_ main_arg1 rfl).trans (V58_main_arg1 m (outs m) c),
      (at_ main_arg2 rfl).trans (V58_main_arg2 m (outs m) c),
      (at_ main_arg3 rfl).trans (V58_main_arg3 m (outs m) c),
      (at_ main_arg4 rfl).trans (V58_main_arg4 m (outs m) c),
      (at_ main_arg5 rfl).trans (V58_main_arg5 m (outs m) c),
      (at_ main_arg6 rfl).trans (V58_main_arg6 m (outs m) c),
      (at_ main_arg7 rfl).trans (V58_main_arg7 m (outs m) c),
      (at_ main_arg8 rfl).trans (V58_main_arg8 m (outs m) c),
      (at_ main_arg9 rfl).trans (V58_main_arg9 m (outs m) c),
      (at_ main_arg10 rfl).trans (V58_main_arg10 m (outs m) c),
      (at_ main_arg11 rfl).trans (V58_main_arg11 m (outs m) c),
      (at_ main_arg12 rfl).trans (V58_main_arg12 m (outs m) c)⟩, h.2⟩) (run m ρ)

end Cert.Proof.KernelIdeal

end
-- ==== Proof.Step.lean ====
module

public import proofs.«01_k».proof.Proof.Defs1
public import Idealize.ShloMosaic.Lib.Pointwise

@[expose] public section

/-! One trip of the suppression loop over the extended reals: which boxes it marks. -/

noncomputable section

namespace Nms

open Idealize.ShloMosaic

theorem ofBits_one : Ideal.ofBits .f32 0x3F800000#32 = 1 := by simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul]; norm_num

/-- A predicate as a number. -/
def ind (p : Prop) : EReal := @ite _ p (Classical.propDecidable p) 1 0

theorem ind_pos {p : Prop} (h : p) : ind p = 1 := if_pos h
theorem ind_neg {p : Prop} (h : ¬p) : ind p = 0 := if_neg h
theorem ind_congr {p q : Prop} (h : p ↔ q) : ind p = ind q := by rw [propext h]
theorem one_sub_ind (p : Prop) : 1 - ind p = ind (¬p) := by
  by_cases h : p
  · rw [ind_pos h, ind_neg (not_not_intro h)]; exact EReal.sub_self (by decide) (by decide)
  · rw [ind_neg h, ind_pos h, sub_zero]
theorem ind_mul (p q : Prop) : ind p * ind q = ind (p ∧ q) := by
  by_cases h : p
  · rw [ind_pos h, one_mul]; exact ind_congr (by simp [h])
  · rw [ind_neg h, zero_mul, ind_neg fun e => h e.1]
theorem max_ind (p q : Prop) : max (ind p) (ind q) = ind (p ∨ q) := by
  by_cases h : p <;> by_cases h' : q <;> simp [ind, h, h']

/-- A comparison's bit as a number. -/
theorem sitofp_bool (b : Bool) :
    FloatOps.sitofp (F := Ideal) .f32 (BitVec.setWidth 32 (BitVec.ofBool b)) = ind (b = true) := by
  cases b
  · show (((BitVec.setWidth 32 (BitVec.ofBool false)).toInt : ℝ) : EReal) = ind _
    rw [ind_neg (by decide)]; simp
  · show (((BitVec.setWidth 32 (BitVec.ofBool true)).toInt : ℝ) : EReal) = ind _
    rw [ind_pos rfl]; simp

theorem onehot_apply (n : Fin 128) (i : Fin 1) (l : Fin 128) :
    onehot (F := Ideal) (BitVec.ofNat 32 n.val) (ix2 i l) = ind (l = n) := by
  have h : (BitVec.ofNat 32 l.val = BitVec.ofNat 32 n.val) ↔ l = n := by
    constructor
    · intro h
      have := congrArg BitVec.toNat h
      simp only [BitVec.toNat_ofNat] at this
      ext
      omega
    · rintro rfl; rfl
  unfold onehot
  pointwise
  simp only [IntOp.cmpi]
  rw [sitofp_bool]
  simp only [beq_iff_eq, h]

theorem pick_onehot (row : FVec Ideal (M 1) .f32) (n : Fin 128) :
    pick row (onehot (BitVec.ofNat 32 n.val)) = row (ix2 0 n) := by
  unfold pick extractAt
  show Ideal.reduceAdd reduces_T3 (shapeCast T3 (mulf row (onehot (BitVec.ofNat 32 n.val)) : FVec Ideal (M 1) .f32) casts_T3) _ = _
  rw [Ideal.reduceAdd_total _ (by intro b; fin_cases b; rfl)]
  unfold shapeCast
  rw [(Shape.reshapeEquiv casts_T3).sum_comp (fun i => (mulf row (onehot (BitVec.ofNat 32 n.val)) : FVec Ideal (M 1) .f32) i)]
  rw [Finset.sum_eq_single (ix2 0 n)]
  · show row _ * onehot _ _ = _
    rw [onehot_apply, ind_pos rfl, mul_one]
  · intro i _ hi
    obtain ⟨a, b, rfl⟩ : ∃ a b, i = ix2 a b := ⟨_, _, eq_ix2 i⟩
    show row _ * onehot _ _ = _
    rw [onehot_apply, ind_neg, mul_zero]
    rintro rfl
    exact hi (by rw [Subsingleton.elim a 0])
  · intro h; exact absurd (Finset.mem_univ _) h

theorem slice_rows_apply {α : Type} {a m r : ℕ} (h : (M a).Slices ![r, 0] (M m)) (h' : r + m ≤ a) (v : (M a).Idx → α) (i : Fin m)
    (l : Fin 128) : extractStridedSlice (M m) ![r, 0] v h (ix2 i l) = v (ix2 ⟨r + i.val, by omega⟩ l) := by
  unfold extractStridedSlice
  congr 1
  funext b
  fin_cases b
  · rfl
  · exact Fin.ext (Nat.zero_add _)

theorem headRow_apply {m : ℕ} (hm : 0 < m) (v : FVec Ideal (M m) .f32) (l : Fin 128) :
    headRow v (ix2 0 l) = v (ix2 ⟨0, hm⟩ l) := by
  match m, hm, v with
  | 1, _, v => rfl
  | m + 2, _, v => exact slice_rows_apply (slices_rows (by omega)) (by omega) v 0 l

theorem fromRow_apply {α : Type} {N r : ℕ} (h : r ≤ N) (v : (M N).Idx → α) (i : Fin (N - r)) (l : Fin 128) :
    fromRow r h v (ix2 i l) = v (ix2 ⟨r + i.val, by omega⟩ l) := by
  cases r with
  | zero =>
    show v _ = _
    congr 2
    exact Fin.ext (Nat.zero_add _).symm
  | succ r => exact slice_rows_apply (slices_rows (by omega)) (by omega) v i l

theorem rowAt_apply {N r : ℕ} (h : r < N) (v : FVec Ideal (M N) .f32) (l : Fin 128) :
    rowAt r h v (ix2 0 l) = v (ix2 ⟨r, h⟩ l) := slice_rows_apply (slices_rows (by omega)) (by omega) v 0 l

/-- An extent. -/
def ext (lo hi : EReal) : EReal := hi - lo + 1
/-- An overlap on one axis. -/
def lap (lo hi lo' hi' : EReal) : EReal := max (min hi hi' - max lo lo' + 1) 0

/-- One trip, read at a box: `n` the lane of the box that suppresses. -/
theorem step_apply (c : EReal) {m : ℕ} (hm : 0 < m) (y1 x1 y2 x2 ta : FVec Ideal (M m) .f32)
    (y1r x1r y2r x2r : FVec Ideal (M 1) .f32) (flat : IVec (M m) 32) (base : BitVec 32) (n : Fin 128)
    (acc : FVec Ideal (M m) .f32) (i : Fin m) (l : Fin 128) :
    step c y1 x1 y2 x2 ta y1r x1r y2r x2r flat base (BitVec.ofNat 32 n.val) acc (ix2 i l)
      = max (acc (ix2 i l)) ((1 - acc (ix2 ⟨0, hm⟩ n)) * ind
          (ta (ix2 i l) + c * (ext (y1r (ix2 0 n)) (y2r (ix2 0 n)) * ext (x1r (ix2 0 n)) (x2r (ix2 0 n)))
              < lap (y1 (ix2 i l)) (y2 (ix2 i l)) (y1r (ix2 0 n)) (y2r (ix2 0 n))
                * lap (x1 (ix2 i l)) (x2 (ix2 i l)) (x1r (ix2 0 n)) (x2r (ix2 0 n))
            ∧ (base + BitVec.ofNat 32 n.val).toInt < (flat (ix2 i l)).toInt)) := by
  unfold step
  simp only [pick_onehot, headRow_apply hm]
  unfold one zero
  pointwise
  have e : ∀ (a b : Bool), IntOp.andi (BitVec.ofBool a) (BitVec.ofBool b) = BitVec.ofBool (a && b) := by decide
  have e' : IntOp.cmpi CmpIPredicate.sgt (flat (ix2 i l)) (Scalar.addi base (BitVec.ofNat 32 n.val))
      = BitVec.ofBool (decide ((base + BitVec.ofNat 32 n.val).toInt < (flat (ix2 i l)).toInt)) := rfl
  rw [e', e, sitofp_bool]
  simp only [Bool.and_eq_true, decide_eq_true_eq, ext, lap]

end Nms
-- ==== Proof.Block.lean ====
module

public import proofs.«01_k».proof.Proof.Step

@[expose] public section

/-! What the row blocks' loops compute: which boxes the greedy rule drops. -/

noncomputable section

namespace Nms

open Idealize.ShloMosaic
open Idealize.ShloMosaic.Tactic

/-- The greedy rule: a box is kept when no kept box before it overlaps it. -/
def Kept (over : ℕ → ℕ → Prop) (j : ℕ) : Prop := ∀ k, (h : k < j) → Kept over k → ¬ over j k
termination_by j

/-- A kept box before `j`, and among the first `t`, overlaps `j`. -/
def HitBy (over : ℕ → ℕ → Prop) (t j : ℕ) : Prop := ∃ k, k < t ∧ k < j ∧ Kept over k ∧ over j k

theorem kept_iff (over : ℕ → ℕ → Prop) (t j : ℕ) (h : j ≤ t) : Kept over j ↔ ¬ HitBy over t j := by
  rw [Kept]
  constructor
  · rintro e ⟨k, -, hk, hk', ho⟩
    exact e k hk hk' ho
  · intro e k hk hk' ho
    exact e ⟨k, by omega, hk, hk', ho⟩

theorem hitBy_succ (over : ℕ → ℕ → Prop) (t j : ℕ) :
    HitBy over (t + 1) j ↔ HitBy over t j ∨ (¬ HitBy over t t ∧ over j t ∧ t < j) := by
  rw [← kept_iff over t t le_rfl]
  constructor
  · rintro ⟨k, hk, hj, hkk, ho⟩
    rcases Nat.lt_succ_iff_lt_or_eq.1 hk with h | rfl
    · exact .inl ⟨k, h, hj, hkk, ho⟩
    · exact .inr ⟨hkk, ho, hj⟩
  · rintro (⟨k, hk, h⟩ | ⟨h1, h2, h3⟩)
    · exact ⟨k, by omega, h⟩
    · exact ⟨t, by omega, h3, h1, h2⟩

/-- The kernel's overlap test, on the boxes' coordinates. -/
def OverK (c : EReal) (Y1 X1 Y2 X2 : ℕ → EReal) (j k : ℕ) : Prop :=
  c * (ext (Y1 j) (Y2 j) * ext (X1 j) (X2 j)) + c * (ext (Y1 k) (Y2 k) * ext (X1 k) (X2 k))
    < lap (Y1 j) (Y2 j) (Y1 k) (Y2 k) * lap (X1 j) (X2 j) (X1 k) (X2 k)

/-- The rows of lanes hold the sequence `Y`. -/
def Holds {N : ℕ} (y : FVec Ideal (M N) .f32) (Y : ℕ → EReal) : Prop :=
  ∀ (i : Fin N) (l : Fin 128), y (ix2 i l) = Y (i.val * 128 + l.val)

theorem number_apply {N : ℕ} (i : Fin N) (l : Fin 128) :
    number N (ix2 i l) = BitVec.ofNat 32 (i.val * 128 + l.val) := by
  unfold number
  pointwise
  show BitVec.ofNat 32 i.val * BitVec.ofNat 32 128 + BitVec.ofNat 32 l.val = _
  rw [← BitVec.ofNat_mul, ← BitVec.ofNat_add]

theorem toInt_ofNat {n : ℕ} (h : n < 2 ^ 31) : (BitVec.ofNat 32 n).toInt = n := by
  rw [BitVec.toInt_eq_toNat_cond, BitVec.toNat_ofNat, Nat.mod_eq_of_lt (by omega), if_pos (by omega)]

theorem area_apply {N : ℕ} (y1 x1 y2 x2 : FVec Ideal (M N) .f32) (i : Fin N) (l : Fin 128) :
    area y1 x1 y2 x2 (ix2 i l)
      = ext (y1 (ix2 i l)) (y2 (ix2 i l)) * ext (x1 (ix2 i l)) (x2 (ix2 i l)) := by
  unfold area extent one
  pointwise
  rfl

theorem foldl_last {α : Type} {n : ℕ} (g : ℕ → α → α) (a : α) :
    (List.finRange (n + 1)).foldl (fun a k => g k.val a) a
      = g n ((List.finRange n).foldl (fun a k => g k.val a) a) := by
  rw [List.finRange_succ_last, List.foldl_append, List.foldl_map]
  rfl

section
variable {N : ℕ} (hN : N ≤ 4096) (c : EReal) {y1 x1 y2 x2 : FVec Ideal (M N) .f32} {Y1 X1 Y2 X2 : ℕ → EReal}
  (hy1 : Holds y1 Y1) (hx1 : Holds x1 X1) (hy2 : Holds y2 Y2) (hx2 : Holds x2 X2)
include hN hy1 hx1 hy2 hx2

theorem block_apply (r : ℕ) (h : r < N) (acc : FVec Ideal (M (N - r)) .f32)
    (hacc : ∀ i l, acc (ix2 i l) = ind (HitBy (OverK c Y1 X1 Y2 X2) (r * 128) ((r + i.val) * 128 + l.val)))
    (n : ℕ) (hn : n ≤ 128) : ∀ i l, block c y1 x1 y2 x2 r h n acc (ix2 i l)
      = ind (HitBy (OverK c Y1 X1 Y2 X2) (r * 128 + n) ((r + i.val) * 128 + l.val)) := by
  induction n with
  | zero =>
    intro i l
    unfold block
    rw [Scf.fold_eq]
    exact hacc i l
  | succ n ih =>
    intro i l
    have ih := ih (by omega)
    unfold block at ih ⊢
    rw [Scf.fold_eq] at ih ⊢
    rw [foldl_last (fun k acc => step c (fromRow r h.le y1) (fromRow r h.le x1) (fromRow r h.le y2) (fromRow r h.le x2)
      (fromRow r h.le (mulf (broadcast (M N) c) (area y1 x1 y2 x2)))
      (rowAt r h y1) (rowAt r h x1) (rowAt r h y2) (rowAt r h x2) (fromRow r h.le (number N))
      (BitVec.ofNat 32 (r * 128)) (Scf.iv 0#32 1#32 k) acc) acc]
    have hiv : Scf.iv 0#32 1#32 n = BitVec.ofNat 32 n := by simp [Scf.iv]
    rw [hiv, step_apply c (by omega) _ _ _ _ _ _ _ _ _ _ _ ⟨n, by omega⟩, ih, ih]
    simp only [rowAt_apply, fromRow_apply, number_apply]
    rw [← BitVec.ofNat_add, toInt_ofNat (by omega), toInt_ofNat (by omega), one_sub_ind, ind_mul, max_ind]
    apply ind_congr
    rw [← Nat.add_assoc, hitBy_succ]
    have hm : (mulf (broadcast (M N) c) (area y1 x1 y2 x2) : FVec Ideal (M N) .f32) (ix2 ⟨r + i.val, by omega⟩ l)
        = c * area y1 x1 y2 x2 (ix2 ⟨r + i.val, by omega⟩ l) := rfl
    rw [hm, area_apply]
    simp only [hy1 _ _, hx1 _ _, hy2 _ _, hx2 _ _, Nat.add_zero, Nat.cast_lt]
    rfl

theorem start_apply (k : ℕ) (r : ℕ) (h : r < N) (hr : r * 128 ≤ k) : ∀ i l, start c y1 x1 y2 x2 k r h (ix2 i l)
      = ind (HitBy (OverK c Y1 X1 Y2 X2) (r * 128) ((r + i.val) * 128 + l.val)) := by
  induction r with
  | zero =>
    intro i l
    rw [ind_neg]
    · show (zero N : FVec Ideal (M N) .f32) (ix2 _ _) = 0
      unfold zero
      pointwise
    · rintro ⟨k, hk, -⟩; omega
  | succ r ih =>
    intro i l
    unfold start
    rw [slice_rows_apply _ (by omega),
      block_apply hN c hy1 hx1 hy2 hx2 r (by omega) _ (ih (by omega) (by omega)) _ (by unfold trips; omega)]
    have : trips k r = 128 := by unfold trips; omega
    rw [this]
    apply ind_congr
    rw [show r * 128 + 128 = (r + 1) * 128 by ring, show r + (1 + i.val) = r + 1 + i.val by ring]

theorem supRow_apply (k : ℕ) (r : ℕ) (h : r < N) (hr : r * 128 ≤ k) (l : Fin 128) (hl : r * 128 + l.val < k) :
    supRow c y1 x1 y2 x2 k r h (ix2 0 l) = ind (¬ Kept (OverK c Y1 X1 Y2 X2) (r * 128 + l.val)) := by
  unfold supRow
  rw [headRow_apply (by omega), block_apply hN c hy1 hx1 hy2 hx2 r h _ (start_apply hN c hy1 hx1 hy2 hx2 k r h hr) _
    (by unfold trips; omega)]
  apply ind_congr
  rw [kept_iff _ (r * 128 + trips k r) _ (by unfold trips; omega), not_not, Nat.add_zero]

theorem sup_apply (hN2 : 2 ≤ N) (k : ℕ) (i : Fin N) (l : Fin 128) (hl : i.val * 128 + l.val < k) :
    sup c y1 x1 y2 x2 hN2 k (ix2 i l) = ind (¬ Kept (OverK c Y1 X1 Y2 X2) (i.val * 128 + l.val)) := by
  unfold sup supRows
  rw [concatenate_ofFn_unit_apply' 0 (fun r : Fin N => supRow c y1 x1 y2 x2 k r.1 r.2) _ rfl]
  rw [← supRow_apply hN c hy1 hx1 hy2 hx2 k i i.2 (by omega) l hl]
  congr 1
  funext b
  fin_cases b <;> rfl

/-- The masked scores, read at a box. -/
theorem masked_apply (hN2 : 2 ≤ N) (k : ℕ) (hk : k < 2 ^ 31) (s : FVec Ideal (M N) .f32) (i : Fin N) (l : Fin 128) :
    masked c y1 x1 y2 x2 hN2 k s (ix2 i l)
      = @ite _ (i.val * 128 + l.val < k ∧ Kept (OverK c Y1 X1 Y2 X2) (i.val * 128 + l.val)) (Classical.propDecidable _)
          (Ideal.logistic (s (ix2 i l))) ((-1 : ℝ) : EReal) := by
  have e : ∀ (a b : Bool), IntOp.andi (BitVec.ofBool a) (BitVec.ofBool b) = BitVec.ofBool (a && b) := by decide
  have hlt : cmpi .slt (number N) (broadcast (M N) (BitVec.ofNat 32 k)) (ix2 i l)
      = BitVec.ofBool (decide (i.val * 128 + l.val < k)) := by
    have : cmpi .slt (number N) (broadcast (M N) (BitVec.ofNat 32 k)) (ix2 i l)
        = BitVec.ofBool (decide ((number N (ix2 i l)).toInt < (BitVec.ofNat 32 k).toInt)) := rfl
    rw [this, number_apply, toInt_ofNat (by omega), toInt_ofNat hk]
    simp only [Nat.cast_lt]
  have hm : masked c y1 x1 y2 x2 hN2 k s (ix2 i l)
      = Scalar.select (IntOp.andi (BitVec.ofBool (decide (sup c y1 x1 y2 x2 hN2 k (ix2 i l) < Ideal.ofBits .f32 0x3F000000#32)))
          (cmpi .slt (number N) (broadcast (M N) (BitVec.ofNat 32 k)) (ix2 i l)))
        (Ideal.logistic (s (ix2 i l))) (Ideal.ofBits .f32 0xBF800000#32) := rfl
  rw [hm, hlt, e, ofBits_half, ofBits_neg_one]
  by_cases hl : i.val * 128 + l.val < k
  · rw [sup_apply hN c hy1 hx1 hy2 hx2 hN2 k i l hl]
    by_cases hK : Kept (OverK c Y1 X1 Y2 X2) (i.val * 128 + l.val)
    · rw [if_pos ⟨hl, hK⟩, ind_neg (not_not_intro hK)]
      have : (0 : EReal) < ((1 / 2 : ℝ) : EReal) := by exact_mod_cast (by norm_num : (0 : ℝ) < 1 / 2)
      simp [this, hl, Scalar.select]
    · rw [if_neg (fun h => hK h.2), ind_pos hK]
      have : ¬ (1 : EReal) < ((1 / 2 : ℝ) : EReal) := by
        rw [not_lt]; exact_mod_cast (by norm_num : (1 / 2 : ℝ) ≤ 1)
      rw [decide_eq_false this]
      simp [Scalar.select]
  · rw [if_neg (fun h => hl h.1)]
    simp [hl, Scalar.select]

end

end Nms
-- ==== Proof.Over.lean ====
module

public import proofs.«01_k».proof.Proof.Block

@[expose] public section

/-! The real arithmetic: clipped boxes are real with extents that are not negative, the kernel's overlap test is the
    quotient's, and the logistic function keeps order. -/

noncomputable section

namespace Nms

open Idealize.ShloMosaic

/-! ## The logistic function -/

theorem logistic_pos {r : ℝ} : 0 < Ideal.logistic (r : EReal) := by
  rw [Ideal.logistic_coe]
  have : (0 : ℝ) < (1 + Real.exp (-r))⁻¹ := by positivity
  exact_mod_cast this

theorem logistic_lt_one {r : ℝ} : Ideal.logistic (r : EReal) < 1 := by
  rw [Ideal.logistic_coe]
  have : (1 + Real.exp (-r))⁻¹ < (1 : ℝ) := inv_lt_one_of_one_lt₀ (by have := Real.exp_pos (-r); linarith)
  exact_mod_cast this

theorem logistic_strictMono : StrictMono Ideal.logistic := by
  intro x y h
  induction x with
  | bot =>
    rw [Ideal.logistic_bot]
    induction y with
    | bot => exact absurd h (lt_irrefl _)
    | coe y => exact logistic_pos
    | top => rw [Ideal.logistic_top]; exact zero_lt_one
  | coe x =>
    induction y with
    | bot => exact absurd h not_lt_bot
    | coe y =>
      rw [Ideal.logistic_coe, Ideal.logistic_coe, EReal.coe_lt_coe_iff]
      have h : x < y := by exact_mod_cast h
      have h1 : Real.exp (-y) < Real.exp (-x) := Real.exp_lt_exp.2 (by linarith)
      have h2 := Real.exp_pos (-y)
      exact inv_strictAnti₀ (by linarith) (by linarith)
    | top => rw [Ideal.logistic_top]; exact logistic_lt_one
  | top => exact absurd h not_top_lt

theorem neg_one_le_logistic (x : EReal) : ((-1 : ℝ) : EReal) ≤ Ideal.logistic x := by
  have h : Ideal.logistic ⊥ ≤ Ideal.logistic x := logistic_strictMono.monotone bot_le
  rw [Ideal.logistic_bot] at h
  refine le_trans ?_ h
  exact_mod_cast (by norm_num : (-1 : ℝ) ≤ 0)

/-! ## Clipped corners -/

/-- Clipped to `[0, lim]`. -/
def clipE (lim x : EReal) : EReal := min lim (max 0 x)

theorem coe_min (a b : ℝ) : ((min a b : ℝ) : EReal) = min (a : EReal) (b : EReal) :=
  EReal.coe_strictMono.monotone.map_min
theorem coe_max (a b : ℝ) : ((max a b : ℝ) : EReal) = max (a : EReal) (b : EReal) :=
  EReal.coe_strictMono.monotone.map_max

theorem clipE_real (L : ℝ) (x : EReal) : ∃ r : ℝ, clipE L x = r := by
  unfold clipE
  induction x with
  | bot =>
    refine ⟨min L 0, ?_⟩
    rw [max_eq_left bot_le]
    exact (coe_min L 0).symm
  | coe x =>
    refine ⟨min L (max 0 x), ?_⟩
    rw [coe_min, coe_max]
    rfl
  | top => exact ⟨L, by rw [max_eq_right le_top, min_eq_left le_top]⟩

theorem clipE_le {L : ℝ} {p q : EReal} (h : p ≤ q + 1) : clipE L p ≤ clipE L q + 1 := by
  have hm : Monotone fun x : EReal => x + 1 := fun a b hab => add_le_add_left hab 1
  unfold clipE
  rw [hm.map_min (a := (L : EReal)) (b := max 0 q), hm.map_max (a := 0) (b := q)]
  have h0 : (0 : EReal) ≤ 0 + 1 := by rw [zero_add]; exact zero_le_one
  have hL : (L : EReal) ≤ L + 1 := by exact_mod_cast (by linarith : L ≤ L + 1)
  exact min_le_min hL (max_le_max h0 h)

theorem corners_le {c t : EReal} (ht : 0 ≤ t) : c - t ≤ c + t - 1 + 1 := by
  induction t with
  | bot => exact absurd ht (by decide)
  | top => rw [EReal.sub_top]; exact bot_le
  | coe t =>
    have ht : 0 ≤ t := by exact_mod_cast ht
    induction c with
    | bot => rw [EReal.bot_sub]; exact bot_le
    | top => rw [EReal.top_add_coe]; exact le_top
    | coe c =>
      exact_mod_cast (by linarith : c - t ≤ c + t - 1 + 1)

theorem exp_nonneg (x : EReal) : 0 ≤ Ideal.exp x := by
  induction x with
  | bot => exact le_refl _
  | coe x => rw [Ideal.exp_coe]; exact_mod_cast (Real.exp_pos x).le
  | top => exact le_top

/-- A centre, from the two ends of the anchor and the shift. -/
def centreE (lo hi d : EReal) : EReal := d * ext lo hi + (lo + ((1 / 2 : ℝ) : EReal) * ext lo hi)
/-- Half an extent, from the two ends of the anchor and the logarithm of the scale. -/
def halfE (lo hi s : EReal) : EReal :=
  ((1 / 2 : ℝ) : EReal) * (Ideal.exp (min s (Ideal.ofBits .f32 0x40845349#32)) * ext lo hi)
/-- The first corner. -/
def lowE (lo hi d s lim : EReal) : EReal := clipE lim (centreE lo hi d - halfE lo hi s)
/-- The second corner. -/
def highE (lo hi d s lim : EReal) : EReal := clipE lim (centreE lo hi d + halfE lo hi s - 1)

/-- Two ends that are real, with an extent that is not negative. -/
def Fine (lo hi : EReal) : Prop := ∃ a b : ℝ, lo = a ∧ hi = b ∧ 0 ≤ b - a + 1

theorem fine_corners {lo hi : EReal} (h : 0 ≤ ext lo hi) (d s : EReal) (L : ℝ) :
    Fine (lowE lo hi d s L) (highE lo hi d s L) := by
  obtain ⟨a, ha⟩ := clipE_real L (centreE lo hi d - halfE lo hi s)
  obtain ⟨b, hb⟩ := clipE_real L (centreE lo hi d + halfE lo hi s - 1)
  refine ⟨a, b, ha, hb, ?_⟩
  have ht : 0 ≤ halfE lo hi s := by
    refine mul_nonneg ?_ (mul_nonneg (exp_nonneg _) h)
    exact_mod_cast (by norm_num : (0 : ℝ) ≤ 1 / 2)
  have := clipE_le (L := L) (corners_le (c := centreE lo hi d) ht)
  rw [ha, hb] at this
  have : a ≤ b + 1 := by exact_mod_cast this
  linarith

/-! ## The two overlap tests -/

/-- The reference's overlap test. -/
def OverR (c : EReal) (Y1 X1 Y2 X2 : ℕ → EReal) (j k : ℕ) : Prop :=
  c < Ideal.div (lap (Y1 j) (Y2 j) (Y1 k) (Y2 k) * lap (X1 j) (X2 j) (X1 k) (X2 k))
    (ext (Y1 j) (Y2 j) * ext (X1 j) (X2 j) + ext (Y1 k) (Y2 k) * ext (X1 k) (X2 k)
      - lap (Y1 j) (Y2 j) (Y1 k) (Y2 k) * lap (X1 j) (X2 j) (X1 k) (X2 k))

theorem ext_real {lo hi : EReal} {a b : ℝ} (h : lo = a) (h' : hi = b) : ext lo hi = ((b - a + 1 : ℝ) : EReal) := by
  subst h h'
  unfold ext
  exact_mod_cast rfl

theorem lap_real {lo hi lo' hi' : EReal} {a b a' b' : ℝ} (h : lo = a) (h' : hi = b) (e : lo' = a') (e' : hi' = b') :
    lap lo hi lo' hi' = ((max (min b b' - max a a' + 1) 0 : ℝ) : EReal) := by
  subst h h' e e'
  unfold lap
  rw [coe_max, EReal.coe_add, EReal.coe_sub, coe_min, coe_max]
  rfl

/-- The quotient's test, without the quotient. -/
theorem div_test {A B I : ℝ} (hA : I ≤ A) (hB : I ≤ B) (hI : 0 ≤ I) :
    (((11744051 / 16777216 : ℝ) : EReal) < Ideal.div (I : EReal) ((A : EReal) + (B : EReal) - (I : EReal)))
      ↔ ((11744051 / 28521267 : ℝ) : EReal) * (A : EReal) + ((11744051 / 28521267 : ℝ) : EReal) * (B : EReal) < (I : EReal) := by
  have hs : (A : EReal) + (B : EReal) - (I : EReal) = ((A + B - I : ℝ) : EReal) := by exact_mod_cast rfl
  have hr : ((11744051 / 28521267 : ℝ) : EReal) * (A : EReal) + ((11744051 / 28521267 : ℝ) : EReal) * (B : EReal)
      = ((11744051 / 28521267 * A + 11744051 / 28521267 * B : ℝ) : EReal) := by
    rw [EReal.coe_add, EReal.coe_mul, EReal.coe_mul]
  rw [hs, hr, EReal.coe_lt_coe_iff]
  by_cases hU : A + B - I = 0
  · have h0 : I = 0 := by linarith
    have hA0 : A = 0 := by linarith
    have hB0 : B = 0 := by linarith
    subst h0 hA0 hB0
    rw [hU]
    simp [Ideal.div]
  · rw [Ideal.div_coe hU, ← EReal.coe_mul, EReal.coe_lt_coe_iff, mul_one_div]
    have hpos : 0 < A + B - I := lt_of_le_of_ne (by linarith) (Ne.symm hU)
    rw [lt_div_iff₀ hpos]
    constructor <;> intro h <;> linarith

theorem over_iff {Y1 X1 Y2 X2 : ℕ → EReal} {j k : ℕ} (yj : Fine (Y1 j) (Y2 j)) (xj : Fine (X1 j) (X2 j))
    (yk : Fine (Y1 k) (Y2 k)) (xk : Fine (X1 k) (X2 k)) :
    OverR ((11744051 / 16777216 : ℝ) : EReal) Y1 X1 Y2 X2 j k ↔ OverK ((11744051 / 28521267 : ℝ) : EReal) Y1 X1 Y2 X2 j k := by
  obtain ⟨a, b, ha, hb, hab⟩ := yj
  obtain ⟨c, d, hc, hd, hcd⟩ := xj
  obtain ⟨a', b', ha', hb', hab'⟩ := yk
  obtain ⟨c', d', hc', hd', hcd'⟩ := xk
  unfold OverR OverK
  rw [ext_real ha hb, ext_real hc hd, ext_real ha' hb', ext_real hc' hd', lap_real ha hb ha' hb', lap_real hc hd hc' hd']
  have h1 : max (min b b' - max a a' + 1) 0 ≤ b - a + 1 := max_le (by
    have := min_le_left b b'; have := le_max_left a a'; linarith) hab
  have h2 : max (min b b' - max a a' + 1) 0 ≤ b' - a' + 1 := max_le (by
    have := min_le_right b b'; have := le_max_right a a'; linarith) hab'
  have h3 : max (min d d' - max c c' + 1) 0 ≤ d - c + 1 := max_le (by
    have := min_le_left d d'; have := le_max_left c c'; linarith) hcd
  have h4 : max (min d d' - max c c' + 1) 0 ≤ d' - c' + 1 := max_le (by
    have := min_le_right d d'; have := le_max_right c c'; linarith) hcd'
  have := div_test (A := (b - a + 1) * (d - c + 1)) (B := (b' - a' + 1) * (d' - c' + 1))
    (I := max (min b b' - max a a' + 1) 0 * max (min d d' - max c c' + 1) 0)
    (mul_le_mul h1 h3 (le_max_right _ _) hab) (mul_le_mul h2 h4 (le_max_right _ _) hab')
    (mul_nonneg (le_max_right _ _) (le_max_right _ _))
  simpa only [EReal.coe_mul] using this

theorem kept_congr {over over' : ℕ → ℕ → Prop} {n : ℕ} (h : ∀ j k, j < n → k < j → (over j k ↔ over' j k)) :
    ∀ j, j < n → (Kept over j ↔ Kept over' j) := by
  intro j
  induction j using Nat.strong_induction_on with
  | _ j ih =>
    intro hj
    rw [Kept, Kept]
    constructor
    · intro e k hk hK ho
      exact e k hk ((ih k hk (by omega)).2 hK) ((h j k hj hk).2 ho)
    · intro e k hk hK ho
      exact e k hk ((ih k hk (by omega)).1 hK) ((h j k hj hk).1 ho)

end Nms
-- ==== Proof.Sorts.lean ====
module

public import Idealize.ShloMosaic.Lib.SortFacts
public import Idealize.ShloMosaic.Lib.ValueIdx
public import Idealize.ShloMosaic.PureOps.Ideal

@[expose] public section

/-! Stable sorts by a key of a linear order, greatest first: what they do to a list that is sorted already, to a list with
    a tail of least elements, and what they return. -/

noncomputable section

namespace Nms

open Idealize.ShloMosaic

section Order
variable {α : Type} [LinearOrder α] {n : ℕ}

/-- Before: the greater key. -/
def gtBefore (key : Fin n → α) (a b : Fin n) : Bool := decide (key b < key a)
/-- Before: the greater key, and of equal keys the earlier position. -/
def gtLex (key : Fin n → α) (a b : Fin n) : Bool := decide (key b < key a ∨ key b = key a ∧ a < b)

/-- A stable sort of ascending positions never needs to ask about ties: it is the sort by key and position. -/
theorem stableSort_lex (key : Fin n → α) (l : List (Fin n)) (hl : l.Pairwise (· < ·)) :
    stableSort (gtBefore key) l = stableSort (gtLex key) l := by
  induction l with
  | nil => rfl
  | cons a l ih =>
    obtain ⟨ha, hl⟩ := List.pairwise_cons.1 hl
    simp only [stableSort]
    rw [ih hl]
    refine insertBefore_congr _ _ a _ fun b hb => ?_
    have hb' : b ∈ l := (perm_stableSort _ l).mem_iff.1 hb
    have := ha b hb'
    simp only [gtBefore, gtLex, decide_eq_decide]
    constructor
    · exact Or.inl
    · rintro (h | ⟨_, h⟩)
      · exact h
      · omega

theorem gtLex_asymm (key : Fin n → α) {a b : Fin n} (h : gtLex key a b = true) : gtLex key b a = false := by
  simp only [gtLex, decide_eq_true_eq, decide_eq_false_iff_not] at h ⊢
  rintro (h' | ⟨h', h''⟩)
  · rcases h with h | ⟨h, -⟩
    · exact absurd h h'.asymm
    · exact absurd h h'.ne'
  · rcases h with h | ⟨-, h⟩
    · exact absurd h' h.ne'
    · omega

/-- The sort by key and position goes down. -/
theorem pairwise_lex (key : Fin n → α) :
    (sortPositions n (gtLex key)).Pairwise fun b c => gtLex key c b = false :=
  pairwise_stableSort (gtLex key) (gtLex key) (fun a b h => gtLex_asymm key h) (fun _ _ h => h)
      (fun a b c h₁ h₂ => by
        simp only [gtLex, decide_eq_false_iff_not, not_or, not_and, not_lt] at h₁ h₂ ⊢
        refine ⟨by order, fun h => ?_⟩
        have e1 : key b = key a := by order
        have e2 : key c = key b := by order
        first
          | exact le_trans (h₂.2 (by order)) (h₁.2 (by order))
          | exact le_trans (h₁.2 (by order)) (h₂.2 (by order))) (List.finRange n)

/-- The positions in a list along which key and position go down strictly are the sorted ones. -/
theorem sortPositions_of_sorted (key : Fin n → α) (L : List (Fin n)) (hperm : L.Perm (List.finRange n))
    (hs : L.Pairwise fun a b => gtLex key a b = true) : sortPositions n (gtBefore key) = L := by
  have h0 : sortPositions n (gtBefore key) = sortPositions n (gtLex key) :=
    stableSort_lex key _ (List.pairwise_lt_finRange n)
  rw [h0]
  have hp := pairwise_lex key
  let r : Fin n → Fin n → Prop := fun a b => gtLex key b a = false
  have : Std.Antisymm r := ⟨fun a b h₁ h₂ => by
    simp only [r, gtLex, decide_eq_false_iff_not, not_or, not_and, not_lt] at h₁ h₂
    have e : key a = key b := by order
    exact le_antisymm (h₁.2 e) (h₂.2 e.symm)⟩
  exact ((perm_sortPositions n _).trans hperm.symm).eq_of_pairwise' hp (hs.imp fun h => gtLex_asymm key h)

/-- The sorted positions go down in key and position. -/
theorem pairwise_sortPositions (key : Fin n → α) :
    (sortPositions n (gtBefore key)).Pairwise fun a b => gtLex key a b = true := by
  have h0 : sortPositions n (gtBefore key) = sortPositions n (gtLex key) :=
    stableSort_lex key _ (List.pairwise_lt_finRange n)
  have hp := pairwise_lex key
  have hn : (sortPositions n (gtLex key)).Nodup := (perm_sortPositions n _).nodup_iff.2 (List.nodup_finRange n)
  rw [h0]
  refine (List.Pairwise.and hp hn).imp fun {a b} h => ?_
  obtain ⟨h, hne⟩ := h
  simp only [gtLex, decide_eq_false_iff_not, decide_eq_true_eq, not_or, not_and, not_lt] at h ⊢
  rcases lt_or_eq_of_le h.1 with h' | h'
  · exact .inl h'
  · refine .inr ⟨h', lt_of_le_of_ne (h.2 h'.symm) hne⟩

/-- The sorted keys go down. -/
theorem key_sortedFrom_antitone (key : Fin n → α) {a b : Fin n} (h : a ≤ b) :
    key (sortedFrom (gtBefore key) b) ≤ key (sortedFrom (gtBefore key) a) := by
  rcases lt_or_eq_of_le h with h | rfl
  · have := List.pairwise_iff_getElem.1 (pairwise_sortPositions key) a.val b.val
      (by rw [length_sortPositions]; exact a.isLt) (by rw [length_sortPositions]; exact b.isLt) h
    simp only [gtLex, decide_eq_true_eq] at this
    rcases this with h' | ⟨h', -⟩
    · exact h'.le
    · exact h'.le
  · exact le_refl _

/-- A list that goes down already keeps its order. -/
theorem sortedFrom_sorted (key : Fin n → α) (h : ∀ a b, a ≤ b → key b ≤ key a) (k : Fin n) :
    sortedFrom (gtBefore key) k = k := by
  have e := sortPositions_of_sorted key (List.finRange n) (.refl _) ((List.pairwise_lt_finRange n).imp fun {a b} hab => by
    simp only [gtLex, decide_eq_true_eq]
    rcases lt_or_eq_of_le (h a b hab.le) with h' | h'
    · exact .inl h'
    · exact .inr ⟨h', hab⟩)
  unfold sortedFrom
  rw [List.get_of_eq e]
  simp

/-- A tail of least elements, all alike, changes nothing in front. -/
theorem sortedFrom_padded {n' : ℕ} (hn : n ≤ n') (key : Fin n → α) (key' : Fin n' → α) (v : α)
    (h₁ : ∀ i : Fin n, key' (i.castLE hn) = key i) (h₂ : ∀ i : Fin n', n ≤ i.val → key' i = v) (h₃ : ∀ i, v ≤ key i)
    (k : Fin n) : sortedFrom (gtBefore key') (k.castLE hn) = (sortedFrom (gtBefore key) k).castLE hn := by
  set L₁ := (sortPositions n (gtBefore key)).map (Fin.castLE hn) with hL₁
  set L₂ := (List.finRange n').filter (fun i => n ≤ i.val) with hL₂
  have m₁ : ∀ i ∈ L₁, i.val < n := by
    intro i hi
    obtain ⟨j, -, rfl⟩ := List.mem_map.1 hi
    exact j.isLt
  have m₂ : ∀ i ∈ L₂, n ≤ i.val := fun i hi => by simpa using (List.mem_filter.1 hi).2
  have d₁ : L₁.Nodup := ((perm_sortPositions n _).nodup_iff.2 (List.nodup_finRange n)).map (Fin.castLE_injective hn)
  have d₂ : L₂.Nodup := (List.nodup_finRange n').filter _
  have e := sortPositions_of_sorted key' (L₁ ++ L₂) (by
      refine (List.perm_ext_iff_of_nodup ?_ (List.nodup_finRange n')).2 fun i => ?_
      · refine List.nodup_append.2 ⟨d₁, d₂, fun a ha b hb => ?_⟩
        rintro rfl
        exact absurd (m₁ _ ha) (by have := m₂ _ hb; omega)
      · simp only [List.mem_append, List.mem_finRange, iff_true]
        by_cases hi : i.val < n
        · refine .inl (List.mem_map.2 ⟨⟨i.val, hi⟩, (perm_sortPositions n _).mem_iff.2 (List.mem_finRange _), rfl⟩)
        · exact .inr (List.mem_filter.2 ⟨List.mem_finRange _, by simpa using hi⟩)) (by
      refine List.pairwise_append.2 ⟨?_, ?_, ?_⟩
      · refine List.pairwise_map.2 ((pairwise_sortPositions key).imp fun {a b} h => ?_)
        simp only [gtLex, h₁, decide_eq_true_eq] at h ⊢
        exact h
      · refine List.Pairwise.imp_of_mem (R := (· < ·)) (fun {a b} ha hb h => ?_) ((List.pairwise_lt_finRange n').filter _)
        simp only [gtLex, h₂ a (m₂ a ha), h₂ b (m₂ b hb), decide_eq_true_eq]
        exact .inr ⟨trivial, h⟩
      · intro a ha b hb
        simp only [gtLex, decide_eq_true_eq]
        have hab : a < b := Fin.lt_def.2 (lt_of_lt_of_le (m₁ a ha) (m₂ b hb))
        rw [h₂ b (m₂ b hb)]
        have : v ≤ key' a := by
          have := h₃ ⟨a.val, m₁ a ha⟩
          rw [← h₁] at this
          exact this
        rcases lt_or_eq_of_le this with h | h
        · exact .inl h
        · exact .inr ⟨h, hab⟩)
  unfold sortedFrom
  rw [List.get_of_eq e]
  simp only [List.get_eq_getElem, Fin.val_cast, Fin.val_castLE]
  rw [List.getElem_append_left (by rw [hL₁, List.length_map, length_sortPositions]; exact k.isLt)]
  simp [hL₁]

end Order
end Nms
-- ==== Proof.Takes.lean ====
module

public import proofs.«01_k».proof.Proof.Sorts
public import proofs.«01_k».proof.Proof.Step
public import Idealize.ShloMosaic.Lib.ReduceAll
public import Idealize.ShloMosaic.Lib.Pointwise
public import Idealize.ShloMosaic.PureOps

@[expose] public section

/-! The host's sorts and gathers, read at a place: the greatest of each row in order, and the rows picked at given places. -/

noncomputable section

namespace Nms

open Idealize.ShloMosaic
open Idealize.ShloMosaic.Tactic

abbrev P (a b : ℕ) : Shape := ⟨2, ![a, b]⟩
abbrev Q (a b c : ℕ) : Shape := ⟨3, ![a, b, c]⟩
abbrev Z : Shape := ⟨0, ![]⟩

/-- Where the `k`-th greatest of row `b` stands, of equal ones the first first. -/
def place {B n : ℕ} (x : FVec Ideal (P B n) .f32) (b : Fin B) (k : Fin n) : Fin n :=
  sortedFrom (gtBefore fun i => x (ix2 b i)) k

theorem along_one {a n : ℕ} (b : Fin a) (j k : Fin n) : (ix2 b j : (P a n).Idx).along 1 k = ix2 b k := by
  funext i
  fin_cases i <;> rfl

theorem sort2_place {B n : ℕ} (cmp : EReal × BitVec 32 → EReal × BitVec 32 → BitVec 1)
    (key : EReal → EReal) (hc : ∀ l r, cmp l r = BitVec.ofBool (decide (key r.1 < key l.1)))
    (x : FVec Ideal (P B n) .f32) (y : IVec (P B n) 32) (b : Fin B) (j : Fin n) :
    (Host.sort2 (P B n) 1 cmp x y).1 (ix2 b j) = x (ix2 b (place (fun i => key (x i)) b j))
    ∧ (Host.sort2 (P B n) 1 cmp x y).2 (ix2 b j) = y (ix2 b (place (fun i => key (x i)) b j)) := by
  have e : (fun k k' : Fin n => cmp (x ((ix2 b j : (P B n).Idx).along 1 k), y ((ix2 b j : (P B n).Idx).along 1 k))
      (x ((ix2 b j : (P B n).Idx).along 1 k'), y ((ix2 b j : (P B n).Idx).along 1 k')) == 1#1)
      = gtBefore fun i => key (x (ix2 b i)) := by
    funext k k'
    rw [hc, along_one, along_one]
    unfold gtBefore
    by_cases h : key (x (ix2 b k')) < key (x (ix2 b k)) <;> simp [h]
  constructor
  · exact (congrArg x (along_one b j _)).trans (congrArg (fun f => x (ix2 b (sortedFrom f j))) e)
  · exact (congrArg y (along_one b j _)).trans (congrArg (fun f => y (ix2 b (sortedFrom f j))) e)

section
variable {B n k : ℕ} (h : (P B n).Slices (fun _ => 0) (P B k)) (hk : k ≤ n) (x : FVec Ideal (P B n) .f32) (b : Fin B) (j : Fin k)

theorem slice_zero {α : Type} (v : (P B n).Idx → α) :
    extractStridedSlice (P B k) (fun _ => 0) v h (ix2 b j) = v (ix2 b (j.castLE hk)) := by
  unfold extractStridedSlice
  congr 1
  funext i
  fin_cases i <;> exact Fin.ext (Nat.zero_add _)

theorem topK_fst : (Host.topK (P B k) 1 (FloatOps.cmpfTotal (F := Ideal) (φ := .f32) .gt) x h).1 (ix2 b j)
    = x (ix2 b (place x b (j.castLE hk))) := by
  refine (slice_zero h hk b j (Host.sort2 (P B n) 1 (fun l r => FloatOps.cmpfTotal (F := Ideal) (φ := .f32) .gt l.1 r.1) x
    (fun i => if hd : 1 < (P B n).rank then iotaInDim (P B n) 32 ⟨1, hd⟩ i else 0#32)).1).trans ?_
  exact (sort2_place _ id (fun l r => rfl) x _ b _).1

theorem topK_snd : (Host.topK (P B k) 1 (FloatOps.cmpfTotal (F := Ideal) (φ := .f32) .gt) x h).2 (ix2 b j)
    = BitVec.ofNat 32 (place x b (j.castLE hk)).val := by
  refine (slice_zero h hk b j (Host.sort2 (P B n) 1 (fun l r => FloatOps.cmpfTotal (F := Ideal) (φ := .f32) .gt l.1 r.1) x
    (fun i => if hd : 1 < (P B n).rank then iotaInDim (P B n) 32 ⟨1, hd⟩ i else 0#32)).2).trans ?_
  exact (sort2_place _ id (fun l r => rfl) x _ b _).2

end

/-! ## Gathers -/

theorem reduce_unit {B m : ℕ} (x : IVec (Q B m 1) 1) (init : IVec Z 1) (h : (Q B m 1).ReducesTo [2] (P B m)) (hu : 0 < Z.numel)
    (h1 : init (Shape.Idx.first hu) = 1#1) (b : Fin B) (j : Fin m) (hx : x (ix3 b j 0) = 1#1) :
    Host.reduce IntOp.andi x init h hu (ix2 b j) = 1#1 := by
  rw [Host.reduce_eq_foldl]
  refine IntOp.foldl_andi_one x _ _ h1 fun i hi => ?_
  rw [List.mem_filter] at hi
  have hd := of_decide_eq_true hi.2
  obtain ⟨b', j', c', rfl⟩ : ∃ b' j' c', i = ix3 b' j' c' := ⟨_, _, _, eq_ix3 i⟩
  have e0 : b' = b := congrFun hd 0
  have e1 : j' = j := congrFun hd 1
  rw [e0, e1, Subsingleton.elim c' 0]
  exact hx

theorem place_word {n : ℕ} (hn : n < 2 ^ 31) (p : Fin n) :
    (BitVec.ofNat 32 p.val).slt 0#32 = false ∧ (0#32).sle (BitVec.ofNat 32 p.val) = true
      ∧ (BitVec.ofNat 32 p.val).sle (BitVec.ofNat 32 (n - 1)) = true ∧ (BitVec.ofNat 32 p.val).toInt.toNat = p.val := by
  have h : (BitVec.ofNat 32 p.val).toInt = p.val := by
    rw [BitVec.toInt_eq_toNat_cond, BitVec.toNat_ofNat, Nat.mod_eq_of_lt (by omega), if_pos (by omega)]
  have h' : (BitVec.ofNat 32 (n - 1)).toInt = ((n - 1 : ℕ) : ℤ) := by
    rw [BitVec.toInt_eq_toNat_cond, BitVec.toNat_ofNat, Nat.mod_eq_of_lt (by omega), if_pos (by omega)]
  refine ⟨?_, ?_, ?_, ?_⟩
  · rw [BitVec.slt, h]; simp
  · rw [BitVec.sle, h]; simp
  · rw [BitVec.sle, h, h']; simp; omega
  · rw [h]; simp

section Take4
variable {B n m : ℕ} (d : GatherDims (Q B n 4) (Q B m 1) (Q B m 4))
  (h1 : Z.BroadcastsInDim (Q B m 1) ![]) (h2 : T1.BroadcastsInDim (Q 1 1 1) ![2])
  (h3 : (Q 1 1 1).BroadcastsInDim (Q B m 1) ![0, 1, 2]) (h4 : (Q B m 1).ReducesTo [2] (P B m)) (h5 : 0 < Z.numel)
  (h6 : (P B m).BroadcastsInDim (Q B m 4) ![0, 1]) (h7 : Z.BroadcastsInDim (Q B m 4) ![])
  (nb mb : BitVec 32) (x : FVec Ideal (Q B n 4) .f32) (idx : IVec (Q B m 1) 32)

/-- Places counted from the end when negative. -/
def wrap (nb : BitVec 32) (idx : IVec (Q B m 1) 32) : IVec (Q B m 1) 32 :=
  select (cmpi .slt idx (broadcastInDim (Q B m 1) ![] h1 (constantI Z 32 0#32)))
    (addi idx (broadcastInDim (Q B m 1) ![] h1 (constantI Z 32 nb))) idx

/-- Which places are within the row. -/
def within (mb : BitVec 32) (w : IVec (Q B m 1) 32) : IVec (P B m) 1 :=
  Host.reduce IntOp.andi (andi (cmpi .sge w (broadcastInDim (Q B m 1) ![] h1 (constantI Z 32 0#32)))
    (cmpi .sle w (broadcastInDim (Q B m 1) ![0, 1, 2] h3 (broadcastInDim (Q 1 1 1) ![2] h2 (constantI T1 32 mb)))))
    (constantI Z 1 1#1) h4 h5

/-- The rows at the given places. -/
def take4 : FVec Ideal (Q B m 4) .f32 :=
  select (broadcastInDim (Q B m 4) ![0, 1] h6 (within h1 h2 h3 h4 h5 mb (wrap h1 nb idx))) (Host.gather d x (wrap h1 nb idx))
    (broadcastInDim (Q B m 4) ![] h7 (constant (F := Ideal) Z .f32 0x7FC00000#32))

theorem wrap_apply (hn : n < 2 ^ 31) (b : Fin B) (j : Fin m) (p : Fin n) (hp : idx (ix3 b j 0) = BitVec.ofNat 32 p.val) :
    wrap h1 nb idx (ix3 b j 0) = BitVec.ofNat 32 p.val := by
  show Scalar.select (BitVec.ofBool ((idx (ix3 b j 0)).slt 0#32)) _ (idx (ix3 b j 0)) = _
  rw [hp, (place_word hn p).1]
  rfl

theorem within_apply (hn : n < 2 ^ 31) (w : IVec (Q B m 1) 32) (b : Fin B) (j : Fin m) (p : Fin n)
    (hp : w (ix3 b j 0) = BitVec.ofNat 32 p.val) (hmb : mb = BitVec.ofNat 32 (n - 1)) :
    within h1 h2 h3 h4 h5 mb w (ix2 b j) = 1#1 := by
  refine reduce_unit _ _ h4 h5 rfl b j ?_
  show IntOp.andi (BitVec.ofBool ((0#32).sle (w (ix3 b j 0)))) (BitVec.ofBool ((w (ix3 b j 0)).sle mb)) = 1#1
  rw [hp, hmb, (place_word hn p).2.1, (place_word hn p).2.2.1]
  rfl

theorem take4_apply (hn : n < 2 ^ 31) (hm : m ≠ 1) (hd : d.offsetDims = [2] ∧ d.collapsedSliceDims = [1] ∧ d.operandBatchingDims = [0]
      ∧ d.startIndicesBatchingDims = [0] ∧ d.startIndexMap = [1] ∧ d.indexVectorDim = 2 ∧ d.sliceSizes = ![1, 1, 4])
    (hmb : mb = BitVec.ofNat 32 (n - 1)) (b : Fin B) (j : Fin m) (c : Fin 4) (p : Fin n)
    (hp : idx (ix3 b j 0) = BitVec.ofNat 32 p.val) (hB : B ≠ 1 := by decide) :
    take4 d h1 h2 h3 h4 h5 h6 h7 nb mb x idx (ix3 b j c) = x (ix3 b p c) := by
  have hw := wrap_apply h1 nb idx hn b j p hp
  have hi := within_apply h1 h2 h3 h4 h5 mb hn _ b j p hw hmb
  have hs : take4 d h1 h2 h3 h4 h5 h6 h7 nb mb x idx (ix3 b j c)
      = Scalar.select (within h1 h2 h3 h4 h5 mb (wrap h1 nb idx) (ix2 b j)) (Host.gather d x (wrap h1 nb idx) (ix3 b j c))
        (Ideal.ofBits .f32 0x7FC00000#32) := by
    unfold take4
    pointwise
    congr 2
    funext a
    fin_cases a
    · apply Fin.ext
      simp [Shape.Idx.norm_def, hB]
    · apply Fin.ext
      simp [Shape.Idx.norm_def, hm]
  rw [hs, hi]
  show Host.gather d x (wrap h1 nb idx) (ix3 b j c) = _
  show x (d.operandIdx (ix3 b j c) (wrap h1 nb idx)) = _
  obtain ⟨od, cd, ob, sb, sm, iv, ss, wf⟩ := d
  obtain ⟨rfl, rfl, rfl, rfl, rfl, rfl, rfl⟩ := hd
  congr 1
  funext a
  apply Fin.ext
  fin_cases a
  · show 0 + b.val + 0 = b.val
    omega
  · show min ((wrap h1 nb idx) _).toInt.toNat (n - 1) + 0 + 0 = p.val
    have : ∀ i : (Q B m 1).Idx, i = ix3 b j 0 → min ((wrap h1 nb idx) i).toInt.toNat (n - 1) + 0 + 0 = p.val := by
      rintro _ rfl
      rw [hw, (place_word hn p).2.2.2]
      omega
    apply this
    funext a'
    fin_cases a' <;> rfl
  · show 0 + 0 + c.val = c.val
    omega

end Take4

section Take1
variable {B n m : ℕ} (d : GatherDims (P B n) (Q B m 1) (P B m))
  (h0 : Z.BroadcastsInDim (P B m) ![]) (hc : (P B m).ShapeCasts (Q B m 1))
  (h1 : Z.BroadcastsInDim (Q B m 1) ![]) (h2 : T1.BroadcastsInDim (Q 1 1 1) ![2])
  (h3 : (Q 1 1 1).BroadcastsInDim (Q B m 1) ![0, 1, 2]) (h4 : (Q B m 1).ReducesTo [2] (P B m)) (h5 : 0 < Z.numel)
  (nb mb : BitVec 32) (x : FVec Ideal (P B n) .f32) (idx : IVec (P B m) 32)

/-- Places counted from the end when negative. -/
def wrap1 : IVec (P B m) 32 :=
  select (cmpi .slt idx (broadcastInDim (P B m) ![] h0 (constantI Z 32 0#32)))
    (addi idx (broadcastInDim (P B m) ![] h0 (constantI Z 32 nb))) idx

/-- The elements at the given places. -/
def take1 : FVec Ideal (P B m) .f32 :=
  select (within h1 h2 h3 h4 h5 mb (shapeCast (Q B m 1) (wrap1 h0 nb idx) hc))
    (Host.gather d x (shapeCast (Q B m 1) (wrap1 h0 nb idx) hc))
    (broadcastInDim (P B m) ![] h0 (constant (F := Ideal) Z .f32 0x7FC00000#32))

theorem take1_apply (hn : n < 2 ^ 31) (hd : d.offsetDims = [] ∧ d.collapsedSliceDims = [1] ∧ d.operandBatchingDims = [0]
      ∧ d.startIndicesBatchingDims = [0] ∧ d.startIndexMap = [1] ∧ d.indexVectorDim = 2 ∧ d.sliceSizes = ![1, 1])
    (hmb : mb = BitVec.ofNat 32 (n - 1)) (b : Fin B) (j : Fin m) (p : Fin n)
    (hp : idx (ix2 b j) = BitVec.ofNat 32 p.val) :
    take1 d h0 hc h1 h2 h3 h4 h5 nb mb x idx (ix2 b j) = x (ix2 b p) := by
  have hw : shapeCast (Q B m 1) (wrap1 h0 nb idx) hc (ix3 b j 0) = BitVec.ofNat 32 p.val := by
    have : shapeCast (Q B m 1) (wrap1 h0 nb idx) hc (ix3 b j 0) = wrap1 h0 nb idx (ix2 b j) := by
      unfold shapeCast
      rw [Shape.reshapeEquiv_eq_of_rowMajor (y := ix2 b j) hc (by
        rw [Shape.rowMajor_val_three, Shape.rowMajor_val_two]
        show b.val * m + j.val = (b.val * m + j.val) * 1 + 0
        omega)]
    rw [this]
    show Scalar.select (BitVec.ofBool ((idx (ix2 b j)).slt 0#32)) _ (idx (ix2 b j)) = _
    rw [hp, (place_word hn p).1]
    rfl
  have hi := within_apply h1 h2 h3 h4 h5 mb hn _ b j p hw hmb
  have hs : take1 d h0 hc h1 h2 h3 h4 h5 nb mb x idx (ix2 b j)
      = Scalar.select (within h1 h2 h3 h4 h5 mb (shapeCast (Q B m 1) (wrap1 h0 nb idx) hc) (ix2 b j))
        (Host.gather d x (shapeCast (Q B m 1) (wrap1 h0 nb idx) hc) (ix2 b j)) (Ideal.ofBits .f32 0x7FC00000#32) := rfl
  rw [hs, hi]
  show x (d.operandIdx (ix2 b j) _) = _
  obtain ⟨od, cd, ob, sb, sm, iv, ss, wf⟩ := d
  obtain ⟨rfl, rfl, rfl, rfl, rfl, rfl, rfl⟩ := hd
  congr 1
  funext a
  apply Fin.ext
  fin_cases a
  · show 0 + b.val + 0 = b.val
    omega
  · show min (shapeCast (Q B m 1) (wrap1 h0 nb idx) hc _).toInt.toNat (n - 1) + 0 + 0 = p.val
    have : ∀ i : (Q B m 1).Idx, i = ix3 b j 0 →
        min (shapeCast (Q B m 1) (wrap1 h0 nb idx) hc i).toInt.toNat (n - 1) + 0 + 0 = p.val := by
      rintro _ rfl
      rw [hw, (place_word hn p).2.2.2]
      omega
    apply this
    funext a'
    fin_cases a' <;> rfl

end Take1

end Nms
-- ==== Proof.Level.lean ====
module

public import proofs.«01_k».proof.Proof.Over
public import proofs.«01_k».proof.Proof.Takes

@[expose] public section

/-! One level's boxes and scores: what both programs compute, in terms of the level's inputs. -/

noncomputable section

namespace Nms

open Idealize.ShloMosaic
open Idealize.ShloMosaic.Tactic

section Body
variable {N : ℕ}

theorem flat4_apply (x : FVec Ideal (B4 1 N) .f32) (r : Fin N) (l : Fin 128) : flat4 x (ix2 r l) = x (ix4 0 0 r l) := by
  unfold flat4 shapeCast
  rw [Shape.reshapeEquiv_eq_of_rowMajor (y := (ix4 0 0 r l : (B4 1 N).Idx)) _ (by
    rw [Shape.rowMajor_val_two, Shape.rowMajor_val_four]
    show (((0 * 1 + 0) * N) + r.val) * 128 + l.val = r.val * 128 + l.val
    omega)]

theorem unflat4_apply (x : FVec Ideal (M N) .f32) (r : Fin N) (l : Fin 128) : unflat4 x (ix4 0 0 r l) = x (ix2 r l) := by
  unfold unflat4 shapeCast
  rw [Shape.reshapeEquiv_eq_of_rowMajor (y := (ix2 r l : (M N).Idx)) _ (by
    rw [Shape.rowMajor_val_two, Shape.rowMajor_val_four]
    show r.val * 128 + l.val = (((0 * 1 + 0) * N) + r.val) * 128 + l.val
    omega)]

variable (lo hi d s : FVec Ideal (M N) .f32) (lim : FVec Ideal (M 1) .f32) (r : Fin N) (l : Fin 128)

theorem zero_apply : zero (F := Ideal) N (ix2 r l) = 0 := Ideal.ofBits_zero_f32
theorem one_apply : one (F := Ideal) N (ix2 r l) = 1 := ofBits_one
theorem half_apply : half (F := Ideal) N (ix2 r l) = ((1 / 2 : ℝ) : EReal) := ofBits_half

theorem corner1_apply :
    corner1 lo hi d s lim (ix2 r l) = lowE (lo (ix2 r l)) (hi (ix2 r l)) (d (ix2 r l)) (s (ix2 r l)) (lim (ix2 0 l)) := by
  unfold corner1 clip centre size extent lowE centreE halfE clipE ext
  pointwise
  rw [zero_apply, one_apply, half_apply]

theorem corner2_apply :
    corner2 lo hi d s lim (ix2 r l) = highE (lo (ix2 r l)) (hi (ix2 r l)) (d (ix2 r l)) (s (ix2 r l)) (lim (ix2 0 l)) := by
  unfold corner2 clip centre size extent highE centreE halfE clipE ext
  pointwise
  rw [zero_apply, one_apply, half_apply]

/-- The elements by number. -/
def lanes (y : FVec Ideal (M N) .f32) (n : ℕ) : EReal :=
  if h : n < N * 128 then y (ix2 ⟨n / 128, by omega⟩ ⟨n % 128, by omega⟩) else 0

theorem holds_lanes (y : FVec Ideal (M N) .f32) : Holds y (lanes y) := by
  intro i l
  unfold lanes
  rw [dif_pos (by omega)]
  congr 1
  congr 1 <;> apply Fin.ext
  · show i.val = (i.val * 128 + l.val) / 128; omega
  · show l.val = (i.val * 128 + l.val) % 128; omega

/-- The masked scores, when only the boxes that count are known. -/
theorem masked_of_agree {c : EReal} {y1 x1 y2 x2 : FVec Ideal (M N) .f32} {Y1 X1 Y2 X2 : ℕ → EReal} {k : ℕ} (hN : N ≤ 4096)
    (hkN : k ≤ N * 128)
    (h1 : ∀ i l, i.val * 128 + l.val < k → y1 (ix2 i l) = Y1 (i.val * 128 + l.val))
    (h2 : ∀ i l, i.val * 128 + l.val < k → x1 (ix2 i l) = X1 (i.val * 128 + l.val))
    (h3 : ∀ i l, i.val * 128 + l.val < k → y2 (ix2 i l) = Y2 (i.val * 128 + l.val))
    (h4 : ∀ i l, i.val * 128 + l.val < k → x2 (ix2 i l) = X2 (i.val * 128 + l.val))
    (hN2 : 2 ≤ N) (s : FVec Ideal (M N) .f32) (i : Fin N) (l : Fin 128) :
    masked c y1 x1 y2 x2 hN2 k s (ix2 i l)
      = @ite _ (i.val * 128 + l.val < k ∧ Kept (OverK c Y1 X1 Y2 X2) (i.val * 128 + l.val)) (Classical.propDecidable _)
          (Ideal.logistic (s (ix2 i l))) ((-1 : ℝ) : EReal) := by
  have hl : ∀ (y : FVec Ideal (M N) .f32) (Y : ℕ → EReal), (∀ i l, i.val * 128 + l.val < k → y (ix2 i l) = Y (i.val * 128 + l.val)) →
      ∀ n, n < k → lanes y n = Y n := by
    intro y Y h n hn
    unfold lanes
    rw [dif_pos (by omega), h _ _ (by show n / 128 * 128 + n % 128 < k; omega)]
    congr 1
    show n / 128 * 128 + n % 128 = n
    omega
  rw [masked_apply hN c (holds_lanes y1) (holds_lanes x1) (holds_lanes y2) (holds_lanes x2) hN2 k (by omega) s i l]
  have e : (i.val * 128 + l.val < k ∧ Kept (OverK c (lanes y1) (lanes x1) (lanes y2) (lanes x2)) (i.val * 128 + l.val))
      ↔ (i.val * 128 + l.val < k ∧ Kept (OverK c Y1 X1 Y2 X2) (i.val * 128 + l.val)) := by
    refine and_congr_right fun h => kept_congr (fun a b ha hb => ?_) _ h
    unfold OverK
    rw [hl _ _ h1 a ha, hl _ _ h2 a ha, hl _ _ h3 a ha, hl _ _ h4 a ha, hl _ _ h1 b (by omega), hl _ _ h2 b (by omega),
      hl _ _ h3 b (by omega), hl _ _ h4 b (by omega)]
  by_cases h : i.val * 128 + l.val < k ∧ Kept (OverK c Y1 X1 Y2 X2) (i.val * 128 + l.val)
  · rw [if_pos h, if_pos (e.2 h)]
  · rw [if_neg h, if_neg fun h' => h (e.1 h')]

end Body

section Level
variable {n k : ℕ} (hk : k ≤ n) (SV : FVec Ideal (P 2 n) .f32) (BV AV : FVec Ideal (Q 2 n 4) .f32) (lim : Fin 2 → Fin 2 → EReal)
  (b : Fin 2)

/-- Where the `j`-th best score stands. -/
def spot (j : Fin k) : Fin n := place SV b (j.castLE hk)

/-- A box's coordinates. -/
def box (p : Fin n) : Fin 4 → EReal
  | 0 => lowE (AV (ix3 b p 0)) (AV (ix3 b p 2)) (BV (ix3 b p 0)) (BV (ix3 b p 2)) (lim b 0)
  | 1 => lowE (AV (ix3 b p 1)) (AV (ix3 b p 3)) (BV (ix3 b p 1)) (BV (ix3 b p 3)) (lim b 1)
  | 2 => highE (AV (ix3 b p 0)) (AV (ix3 b p 2)) (BV (ix3 b p 0)) (BV (ix3 b p 2)) (lim b 0)
  | 3 => highE (AV (ix3 b p 1)) (AV (ix3 b p 3)) (BV (ix3 b p 1)) (BV (ix3 b p 3)) (lim b 1)

/-- The boxes' coordinates, best first. -/
def line (e : Fin 4) (j : ℕ) : EReal := if h : j < k then box BV AV lim b (spot hk SV b ⟨j, h⟩) e else 0

/-- The raw scores, best first. -/
def raw (j : ℕ) : EReal := if h : j < k then SV (ix2 b (spot hk SV b ⟨j, h⟩)) else 0

/-- The `j`-th best box is kept. -/
def Stays (j : ℕ) : Prop :=
  Kept (OverK ((11744051 / 28521267 : ℝ) : EReal) (line hk SV BV AV lim b 0) (line hk SV BV AV lim b 1) (line hk SV BV AV lim b 2) (line hk SV BV AV lim b 3)) j

open Classical in
/-- The score of a box that is kept, −1 otherwise. -/
def score (j : ℕ) : EReal := if j < k ∧ Stays hk SV BV AV lim b j then Ideal.logistic (raw hk SV b j) else ((-1 : ℝ) : EReal)

end Level

end Nms

end
-- ==== Proof.KernelPoint.lean ====
module

public import proofs.«01_k».proof.Proof.FrameKernelIdeal
public import proofs.«01_k».proof.Proof.Level
public import Idealize.ShloMosaic.Lib.Pipeline.ValueKit.Point
public import Idealize.ShloMosaic.Lib.KernelVsHost

@[expose] public section

set_option maxRecDepth 16384

/-! The kernel's windows and results read element by element. -/

noncomputable section

namespace Cert.Proof.KernelIdeal

open Cert.KernelIdeal Cert.KernelIdeal.Gen
open Idealize.ShloMosaic Idealize.ShloMosaic.TcCoe Idealize.ShloMosaic.Tactic

/-- Columns padded and laid in lanes. -/
def laid (x : FVec Ideal (Nms.Q 2 2000 4) .f32) : FVec Ideal S2x4x16x128 .f32 :=
  shapeCast S2x4x16x128 (transpose S2x4x2048 [0, 2, 1]
    (pad S2x2048x4 ![0, 0, 0] ![0, 48, 0] ![0, 0, 0] x (sitofp (F := Ideal) .f32 (constantI S_ 32 0#32)) pads_S2x2000x4_S2x2048x4_000_0480_000 h_S_)
    transposes_S2x2048x4_S2x4x2048_0_2_1) shapeCasts_S2x4x2048_S2x4x16x128

def laidScores (x : FVec Ideal (Nms.P 2 2000) .f32) : FVec Ideal S2x1x16x128 .f32 :=
  shapeCast S2x1x16x128
    (pad S2x2048 ![0, 0] ![0, 48] ![0, 0] x (sitofp (F := Ideal) .f32 (constantI S_ 32 0#32)) pads_S2x2000_S2x2048_000_0480 h_S_)
    shapeCasts_S2x2048_S2x1x16x128

/-- One less than an image size, in lanes. -/
def limit (x : FVec Ideal S2x1 .f32) : FVec Ideal S2x1x1x128 .f32 :=
  broadcastInDim S2x1x1x128 ![0, 1, 2, 3] bcast_S2x1x1x1_S2x1x1x128_0_1_2_3 (broadcastInDim S2x1x1x1 ![0] bcast_S2_S2x1x1x1_0
    (subf (shapeCast S2 x shapeCasts_S2x1_S2) (broadcastInDim S2 ![] bcast_S_S2 (constant (F := Ideal) S_ .f32 0x3F800000#32))))

/-- The scores and the boxes as rows, from the two results of the call. -/
def outScores (x : FVec Ideal S2x1x16x128 .f32) : FVec Ideal (Nms.P 2 2048) .f32 := shapeCast S2x2048 x shapeCasts_S2x1x16x128_S2x2048
def outBoxes (x : FVec Ideal S2x4x16x128 .f32) : FVec Ideal (Nms.Q 2 2048 4) .f32 :=
  transpose S2x2048x4 [0, 2, 1] (shapeCast S2x4x2048 x shapeCasts_S2x4x16x128_S2x4x2048) transposes_S2x4x2048_S2x2048x4_0_2_1

/-- The lane of a row and a column. -/
def lane (r : Fin 16) (l : Fin 128) : Fin 2048 := ⟨r.val * 128 + l.val, by omega⟩

theorem laid_apply (x : FVec Ideal (Nms.Q 2 2000 4) .f32) (b : Fin 2) (k : Fin 4) (r : Fin 16) (l : Fin 128) (n : Fin 2000)
    (hn : n.val = r.val * 128 + l.val) : laid x (ix4 b k r l) = x (ix3 b n k) := by
  unfold laid
  pointwise
  exact (dif_pos (by omega)).trans (congrArg x (by congr 1; exact Fin.ext hn.symm))

theorem laidScores_apply (x : FVec Ideal (Nms.P 2 2000) .f32) (b : Fin 2) (r : Fin 16) (l : Fin 128) (n : Fin 2000)
    (hn : n.val = r.val * 128 + l.val) : laidScores x (ix4 b 0 r l) = x (ix2 b n) := by
  unfold laidScores
  pointwise
  exact (dif_pos (by omega)).trans (congrArg x (by congr 1; exact Fin.ext hn.symm))

theorem limit_apply (x : FVec Ideal S2x1 .f32) (b : Fin 2) (l : Fin 128) : limit x (ix4 b 0 0 l) = x (ix2 b 0) - 1 := by
  unfold limit
  pointwise

theorem outScores_apply (x : FVec Ideal S2x1x16x128 .f32) (b : Fin 2) (r : Fin 16) (l : Fin 128) :
    outScores x (ix2 b (lane r l)) = x (ix4 b 0 r l) := by
  unfold outScores
  pointwise
  congr 1
  have h : (lane r l).val = r.val * 128 + l.val := rfl
  congr 1 <;> apply Fin.ext <;> simp only [h] <;> omega

theorem outBoxes_apply (x : FVec Ideal S2x4x16x128 .f32) (b : Fin 2) (k : Fin 4) (r : Fin 16) (l : Fin 128) :
    outBoxes x (ix3 b (lane r l) k) = x (ix4 b k r l) := by
  unfold outBoxes
  pointwise
  congr 1
  have h : (lane r l).val = r.val * 128 + l.val := rfl
  congr 1 <;> apply Fin.ext <;> simp only [h] <;> omega

/-- The point of the grid for a batch. -/
abbrev pt (b : Fin 2) : Fin cfg0.N := ⟨b.val, b.isLt⟩

theorem index4 {a b c d : ℕ} (y : (⟨4, ![a, b, c, d]⟩ : Shape).Idx) : ∃ i j k l, y = ix4 i j k l :=
  ⟨y 0, y 1, y 2, y 3, funext fun t => by fin_cases t <;> rfl⟩

theorem emb0 (b : Fin 2) (k : Fin 1) (r : Fin 16) (l : Fin 128) :
    (((cfg0.win 0).blk (pt b)).view.emb (ix4 0 k r l) : S2x1x16x128.Idx) = ix4 b k r l := by
  funext a
  apply Fin.ext
  fin_cases b <;> fin_cases a <;> first | rfl | (blk_simp; first | rfl | exact Nat.zero_add _)

theorem emb1 (b : Fin 2) (k : Fin 4) (r : Fin 16) (l : Fin 128) :
    (((cfg0.win 1).blk (pt b)).view.emb (ix4 0 k r l) : S2x4x16x128.Idx) = ix4 b k r l := by
  funext a
  apply Fin.ext
  fin_cases b <;> fin_cases a <;> first | rfl | (blk_simp; first | rfl | exact Nat.zero_add _)

theorem emb3 (b : Fin 2) (k r : Fin 1) (l : Fin 128) :
    (((cfg0.win 3).blk (pt b)).view.emb (ix4 0 k r l) : S2x1x1x128.Idx) = ix4 b k r l := by
  funext a
  apply Fin.ext
  fin_cases b <;> fin_cases a <;> first | rfl | (blk_simp; first | rfl | exact Nat.zero_add _)

/-- One image's part of an array. -/
def part {n r l : ℕ} (x : FVec Ideal ⟨4, ![2, n, r, l]⟩ .f32) (b : Fin 2) : FVec Ideal ⟨4, ![1, n, r, l]⟩ .f32 := fun i => x (ix4 b (i 1) (i 2) (i 3))

/-- A function that puts an image in front reads that image's part. -/
theorem part_of_emb {n r l : ℕ} (x : FVec Ideal ⟨4, ![2, n, r, l]⟩ .f32) (b : Fin 2)
    (f : (⟨4, ![1, n, r, l]⟩ : Shape).Idx → (⟨4, ![2, n, r, l]⟩ : Shape).Idx)
    (hf : ∀ (k : Fin n) (i : Fin r) (j : Fin l), f (ix4 0 k i j) = ix4 b k i j) : (fun y => x (f y)) = part x b := by
  funext y
  obtain ⟨z, k, i, j, rfl⟩ := index4 y
  obtain rfl : z = 0 := Subsingleton.elim _ _
  exact congrArg x (hf k i j)

section Calls
variable (x0 : FVec Ideal S2x1x16x128 .f32) (x1 x2 : FVec Ideal S2x4x16x128 .f32) (x3 x4 : FVec Ideal S2x1x1x128 .f32)

/-- The two results of a call, image by image. -/
def boxesOut : FVec Ideal S2x4x16x128 .f32 := fun i =>
  out0_5 (F := Ideal) (part x0 (i 0)) (part x1 (i 0)) (part x2 (i 0)) (part x3 (i 0)) (part x4 (i 0)) (ix4 0 (i 1) (i 2) (i 3))
def scoresOut : FVec Ideal S2x1x16x128 .f32 := fun i =>
  out0_6 (F := Ideal) (part x0 (i 0)) (part x1 (i 0)) (part x2 (i 0)) (part x3 (i 0)) (part x4 (i 0)) (ix4 0 (i 1) (i 2) (i 3))
end Calls

variable (W : Valuation τ sig (Elt Ideal)) (c : Dev nD)

theorem parts0 (b : Fin 2) : blk cfg0 W 0 (pt b) = part (W (Proc.devRef .tc main_v18)) b ∧ blk cfg0 W 1 (pt b) = part (W (Proc.devRef .tc main_v20)) b
    ∧ blk cfg0 W 2 (pt b) = part (W (Proc.devRef .tc main_v22)) b ∧ blk cfg0 W 3 (pt b) = part (W (Proc.devRef .tc main_v24)) b
    ∧ blk cfg0 W 4 (pt b) = part (W (Proc.devRef .tc main_v26)) b :=
  ⟨part_of_emb _ b _ (emb0 b), part_of_emb _ b _ (emb1 b), part_of_emb _ b _ (emb1 b), part_of_emb _ b _ (emb3 b), part_of_emb _ b _ (emb3 b)⟩

theorem callBoxes0 : (dat0 W c).arrAt 5 cfg0.N
    = boxesOut (W (Proc.devRef .tc main_v18)) (W (Proc.devRef .tc main_v20)) (W (Proc.devRef .tc main_v22)) (W (Proc.devRef .tc main_v24)) (W (Proc.devRef .tc main_v26)) := by
  refine (dat0 W c).arrAt_eq_of_covers 5 _ (by decide +kernel) fun t hf y => ?_
  obtain ⟨b, rfl⟩ : ∃ b, t = pt b := ⟨⟨t.val, t.isLt⟩, rfl⟩
  obtain ⟨z, k, r, l, rfl⟩ := index4 (a := 1) (b := 4) (c := 16) (d := 128) y
  obtain rfl : z = 0 := Subsingleton.elim _ _
  refine Eq.trans ?_ (congrArg (boxesOut _ _ _ _ _) (emb1 b k r l)).symm
  obtain ⟨e0, e1, e2, e3, e4⟩ := parts0 W b
  show (dat0 W c).after 5 (pt b) (ix4 0 k r l) = _
  dsimp only [dat0]
  rw [e0, e1, e2, e3, e4]
  rfl

theorem callScores0 : (dat0 W c).arrAt 6 cfg0.N
    = scoresOut (W (Proc.devRef .tc main_v18)) (W (Proc.devRef .tc main_v20)) (W (Proc.devRef .tc main_v22)) (W (Proc.devRef .tc main_v24)) (W (Proc.devRef .tc main_v26)) := by
  refine (dat0 W c).arrAt_eq_of_covers 6 _ (by decide +kernel) fun t hf y => ?_
  obtain ⟨b, rfl⟩ : ∃ b, t = pt b := ⟨⟨t.val, t.isLt⟩, rfl⟩
  obtain ⟨z, k, r, l, rfl⟩ := index4 (a := 1) (b := 1) (c := 16) (d := 128) y
  obtain rfl : z = 0 := Subsingleton.elim _ _
  refine Eq.trans ?_ (congrArg (scoresOut _ _ _ _ _) (emb0 b k r l)).symm
  obtain ⟨e0, e1, e2, e3, e4⟩ := parts0 W b
  show (dat0 W c).after 6 (pt b) (ix4 0 k r l) = _
  dsimp only [dat0]
  rw [e0, e1, e2, e3, e4]
  rfl

theorem parts1 (b : Fin 2) : blk cfg1 W 0 (pt b) = part (W (Proc.devRef .tc main_v43)) b ∧ blk cfg1 W 1 (pt b) = part (W (Proc.devRef .tc main_v45)) b
    ∧ blk cfg1 W 2 (pt b) = part (W (Proc.devRef .tc main_v47)) b ∧ blk cfg1 W 3 (pt b) = part (W (Proc.devRef .tc main_v49)) b
    ∧ blk cfg1 W 4 (pt b) = part (W (Proc.devRef .tc main_v51)) b :=
  ⟨part_of_emb _ b _ (emb0 b), part_of_emb _ b _ (emb1 b), part_of_emb _ b _ (emb1 b), part_of_emb _ b _ (emb3 b), part_of_emb _ b _ (emb3 b)⟩

theorem callBoxes1 : (dat1 W c).arrAt 5 cfg1.N
    = boxesOut (W (Proc.devRef .tc main_v43)) (W (Proc.devRef .tc main_v45)) (W (Proc.devRef .tc main_v47)) (W (Proc.devRef .tc main_v49)) (W (Proc.devRef .tc main_v51)) := by
  refine (dat1 W c).arrAt_eq_of_covers 5 _ (by decide +kernel) fun t hf y => ?_
  obtain ⟨b, rfl⟩ : ∃ b, t = pt b := ⟨⟨t.val, t.isLt⟩, rfl⟩
  obtain ⟨z, k, r, l, rfl⟩ := index4 (a := 1) (b := 4) (c := 16) (d := 128) y
  obtain rfl : z = 0 := Subsingleton.elim _ _
  refine Eq.trans ?_ (congrArg (boxesOut _ _ _ _ _) (emb1 b k r l)).symm
  obtain ⟨e0, e1, e2, e3, e4⟩ := parts1 W b
  show (dat1 W c).after 5 (pt b) (ix4 0 k r l) = _
  dsimp only [dat1]
  rw [e0, e1, e2, e3, e4]
  rfl

theorem callScores1 : (dat1 W c).arrAt 6 cfg1.N
    = scoresOut (W (Proc.devRef .tc main_v43)) (W (Proc.devRef .tc main_v45)) (W (Proc.devRef .tc main_v47)) (W (Proc.devRef .tc main_v49)) (W (Proc.devRef .tc main_v51)) := by
  refine (dat1 W c).arrAt_eq_of_covers 6 _ (by decide +kernel) fun t hf y => ?_
  obtain ⟨b, rfl⟩ : ∃ b, t = pt b := ⟨⟨t.val, t.isLt⟩, rfl⟩
  obtain ⟨z, k, r, l, rfl⟩ := index4 (a := 1) (b := 1) (c := 16) (d := 128) y
  obtain rfl : z = 0 := Subsingleton.elim _ _
  refine Eq.trans ?_ (congrArg (scoresOut _ _ _ _ _) (emb0 b k r l)).symm
  obtain ⟨e0, e1, e2, e3, e4⟩ := parts1 W b
  show (dat1 W c).after 6 (pt b) (ix4 0 k r l) = _
  dsimp only [dat1]
  rw [e0, e1, e2, e3, e4]
  rfl

theorem parts2 (b : Fin 2) : blk cfg2 W 0 (pt b) = part (W (Proc.devRef .tc main_v68)) b ∧ blk cfg2 W 1 (pt b) = part (W (Proc.devRef .tc main_v70)) b
    ∧ blk cfg2 W 2 (pt b) = part (W (Proc.devRef .tc main_v72)) b ∧ blk cfg2 W 3 (pt b) = part (W (Proc.devRef .tc main_v74)) b
    ∧ blk cfg2 W 4 (pt b) = part (W (Proc.devRef .tc main_v76)) b :=
  ⟨part_of_emb _ b _ (emb0 b), part_of_emb _ b _ (emb1 b), part_of_emb _ b _ (emb1 b), part_of_emb _ b _ (emb3 b), part_of_emb _ b _ (emb3 b)⟩

theorem callBoxes2 : (dat2 W c).arrAt 5 cfg2.N
    = boxesOut (W (Proc.devRef .tc main_v68)) (W (Proc.devRef .tc main_v70)) (W (Proc.devRef .tc main_v72)) (W (Proc.devRef .tc main_v74)) (W (Proc.devRef .tc main_v76)) := by
  refine (dat2 W c).arrAt_eq_of_covers 5 _ (by decide +kernel) fun t hf y => ?_
  obtain ⟨b, rfl⟩ : ∃ b, t = pt b := ⟨⟨t.val, t.isLt⟩, rfl⟩
  obtain ⟨z, k, r, l, rfl⟩ := index4 (a := 1) (b := 4) (c := 16) (d := 128) y
  obtain rfl : z = 0 := Subsingleton.elim _ _
  refine Eq.trans ?_ (congrArg (boxesOut _ _ _ _ _) (emb1 b k r l)).symm
  obtain ⟨e0, e1, e2, e3, e4⟩ := parts2 W b
  show (dat2 W c).after 5 (pt b) (ix4 0 k r l) = _
  dsimp only [dat2]
  rw [e0, e1, e2, e3, e4]
  rfl

theorem callScores2 : (dat2 W c).arrAt 6 cfg2.N
    = scoresOut (W (Proc.devRef .tc main_v68)) (W (Proc.devRef .tc main_v70)) (W (Proc.devRef .tc main_v72)) (W (Proc.devRef .tc main_v74)) (W (Proc.devRef .tc main_v76)) := by
  refine (dat2 W c).arrAt_eq_of_covers 6 _ (by decide +kernel) fun t hf y => ?_
  obtain ⟨b, rfl⟩ : ∃ b, t = pt b := ⟨⟨t.val, t.isLt⟩, rfl⟩
  obtain ⟨z, k, r, l, rfl⟩ := index4 (a := 1) (b := 1) (c := 16) (d := 128) y
  obtain rfl : z = 0 := Subsingleton.elim _ _
  refine Eq.trans ?_ (congrArg (scoresOut _ _ _ _ _) (emb0 b k r l)).symm
  obtain ⟨e0, e1, e2, e3, e4⟩ := parts2 W b
  show (dat2 W c).after 6 (pt b) (ix4 0 k r l) = _
  dsimp only [dat2]
  rw [e0, e1, e2, e3, e4]
  rfl

theorem parts3 (b : Fin 2) : blk cfg3 W 0 (pt b) = part (W (Proc.devRef .tc main_v93)) b ∧ blk cfg3 W 1 (pt b) = part (W (Proc.devRef .tc main_v95)) b
    ∧ blk cfg3 W 2 (pt b) = part (W (Proc.devRef .tc main_v97)) b ∧ blk cfg3 W 3 (pt b) = part (W (Proc.devRef .tc main_v99)) b
    ∧ blk cfg3 W 4 (pt b) = part (W (Proc.devRef .tc main_v101)) b :=
  ⟨part_of_emb _ b _ (emb0 b), part_of_emb _ b _ (emb1 b), part_of_emb _ b _ (emb1 b), part_of_emb _ b _ (emb3 b), part_of_emb _ b _ (emb3 b)⟩

theorem callBoxes3 : (dat3 W c).arrAt 5 cfg3.N
    = boxesOut (W (Proc.devRef .tc main_v93)) (W (Proc.devRef .tc main_v95)) (W (Proc.devRef .tc main_v97)) (W (Proc.devRef .tc main_v99)) (W (Proc.devRef .tc main_v101)) := by
  refine (dat3 W c).arrAt_eq_of_covers 5 _ (by decide +kernel) fun t hf y => ?_
  obtain ⟨b, rfl⟩ : ∃ b, t = pt b := ⟨⟨t.val, t.isLt⟩, rfl⟩
  obtain ⟨z, k, r, l, rfl⟩ := index4 (a := 1) (b := 4) (c := 16) (d := 128) y
  obtain rfl : z = 0 := Subsingleton.elim _ _
  refine Eq.trans ?_ (congrArg (boxesOut _ _ _ _ _) (emb1 b k r l)).symm
  obtain ⟨e0, e1, e2, e3, e4⟩ := parts3 W b
  show (dat3 W c).after 5 (pt b) (ix4 0 k r l) = _
  dsimp only [dat3]
  rw [e0, e1, e2, e3, e4]
  rfl

theorem callScores3 : (dat3 W c).arrAt 6 cfg3.N
    = scoresOut (W (Proc.devRef .tc main_v93)) (W (Proc.devRef .tc main_v95)) (W (Proc.devRef .tc main_v97)) (W (Proc.devRef .tc main_v99)) (W (Proc.devRef .tc main_v101)) := by
  refine (dat3 W c).arrAt_eq_of_covers 6 _ (by decide +kernel) fun t hf y => ?_
  obtain ⟨b, rfl⟩ : ∃ b, t = pt b := ⟨⟨t.val, t.isLt⟩, rfl⟩
  obtain ⟨z, k, r, l, rfl⟩ := index4 (a := 1) (b := 1) (c := 16) (d := 128) y
  obtain rfl : z = 0 := Subsingleton.elim _ _
  refine Eq.trans ?_ (congrArg (scoresOut _ _ _ _ _) (emb0 b k r l)).symm
  obtain ⟨e0, e1, e2, e3, e4⟩ := parts3 W b
  show (dat3 W c).after 6 (pt b) (ix4 0 k r l) = _
  dsimp only [dat3]
  rw [e0, e1, e2, e3, e4]
  rfl

/-- A place in another channel is not in the channel's rectangle. -/
theorem not_in_channel (o : ℕ) (inb : ∀ a, (![0, o, 0, 0] : Fin 4 → ℕ) a + S1x1x16x128.size a ≤ S1x4x16x128.size a) (k : Fin 4) (r : Fin 16) (l : Fin 128)
    (h : k.val ≠ o) : (ix4 0 k r l : S1x4x16x128.Idx) ∉ (Rect.unit (s := S1x4x16x128) ![0, o, 0, 0] S1x1x16x128.size inb).set := by
  intro hm
  obtain ⟨x, hx⟩ := (Rect.unit (s := S1x4x16x128) ![0, o, 0, 0] S1x1x16x128.size inb).exists_idx_of_mem hm
  have e := congrArg (fun i : S1x4x16x128.Idx => (i 1).val) hx
  have e' : o + (x 1).val = k.val := (Rect.idx_unit_val _ _ inb x 1).symm.trans e
  have : (x 1).val < 1 := (x 1).isLt
  omega

theorem in_channel (o : ℕ) (inb : ∀ a, (![0, o, 0, 0] : Fin 4 → ℕ) a + S1x1x16x128.size a ≤ S1x4x16x128.size a) (k : Fin 4) (r : Fin 16) (l : Fin 128)
    (h : k.val = o) : (Rect.unit (s := S1x4x16x128) ![0, o, 0, 0] S1x1x16x128.size inb).emb (ix4 0 0 r l) = (ix4 0 k r l : S1x4x16x128.Idx) := by
  funext a
  refine Fin.ext ((Rect.idx_unit_val _ _ inb _ a).trans ?_)
  fin_cases a
  · rfl
  · exact h.symm
  · exact Nat.zero_add _
  · exact Nat.zero_add _

/-- A channel of a block, loaded and laid in rows. -/
theorem channel_apply (x : FVec Ideal S1x4x16x128 .f32) (o : ℕ)
    (inb : ∀ a, (![0, o, 0, 0] : Fin 4 → ℕ) a + S1x1x16x128.size a ≤ S1x4x16x128.size a) (k : Fin 4) (h : k.val = o) (r : Fin 16) (l : Fin 128) :
    Nms.flat4 (F := Ideal) (N := 16) (View.ld (e' := .f32) x (Rect.unit (s := S1x4x16x128) ![0, o, 0, 0] S1x1x16x128.size inb)) (ix2 r l)
      = x (ix4 0 k r l) :=
  (Nms.flat4_apply _ r l).trans (congrArg x (in_channel o inb k r l h))

section Blocks
variable (x0 : FVec Ideal S1x1x16x128 .f32) (x1 x2 : FVec Ideal S1x4x16x128 .f32) (x3 x4 : FVec Ideal S1x1x1x128 .f32)
  (r : Fin 16) (l : Fin 128)

theorem lane_apply (x : FVec Ideal S1x1x1x128 .f32) : Nms.flat4 (F := Ideal) (N := 1) (View.ld (e' := .f32) x r0_4) (ix2 0 l) = x (ix4 0 0 0 l) := by
  refine (Nms.flat4_apply _ 0 l).trans (congrArg x ?_)
  funext a
  refine Fin.ext ((Rect.idx_unit_val _ _ _ _ a).trans ?_)
  fin_cases a <;> exact Nat.zero_add _

theorem score_apply : Nms.flat4 (F := Ideal) (N := 16) (View.ld (e' := .f32) x0 r0_5) (ix2 r l) = x0 (ix4 0 0 r l) := by
  refine (Nms.flat4_apply _ r l).trans (congrArg x0 ?_)
  funext a
  refine Fin.ext ((Rect.idx_unit_val _ _ _ _ a).trans ?_)
  fin_cases a <;> exact Nat.zero_add _

theorem bx1_y : bx1 (F := Ideal) 0 x0 x1 x2 x3 x4 (ix2 r l)
    = Nms.lowE (x1 (ix4 0 0 r l)) (x1 (ix4 0 2 r l)) (x2 (ix4 0 0 r l)) (x2 (ix4 0 2 r l)) (x3 (ix4 0 0 0 l)) := by
  refine (Nms.corner1_apply _ _ _ _ _ r l).trans ?_
  rw [channel_apply x1 0 _ 0 rfl, channel_apply x1 2 _ 2 rfl, channel_apply x2 0 _ 0 rfl, channel_apply x2 2 _ 2 rfl, lane_apply]
theorem bx1_x : bx1 (F := Ideal) 1 x0 x1 x2 x3 x4 (ix2 r l)
    = Nms.lowE (x1 (ix4 0 1 r l)) (x1 (ix4 0 3 r l)) (x2 (ix4 0 1 r l)) (x2 (ix4 0 3 r l)) (x4 (ix4 0 0 0 l)) := by
  refine (Nms.corner1_apply _ _ _ _ _ r l).trans ?_
  rw [channel_apply x1 1 _ 1 rfl, channel_apply x1 3 _ 3 rfl, channel_apply x2 1 _ 1 rfl, channel_apply x2 3 _ 3 rfl, lane_apply]
theorem bx2_y : bx2 (F := Ideal) 0 x0 x1 x2 x3 x4 (ix2 r l)
    = Nms.highE (x1 (ix4 0 0 r l)) (x1 (ix4 0 2 r l)) (x2 (ix4 0 0 r l)) (x2 (ix4 0 2 r l)) (x3 (ix4 0 0 0 l)) := by
  refine (Nms.corner2_apply _ _ _ _ _ r l).trans ?_
  rw [channel_apply x1 0 _ 0 rfl, channel_apply x1 2 _ 2 rfl, channel_apply x2 0 _ 0 rfl, channel_apply x2 2 _ 2 rfl, lane_apply]
theorem bx2_x : bx2 (F := Ideal) 1 x0 x1 x2 x3 x4 (ix2 r l)
    = Nms.highE (x1 (ix4 0 1 r l)) (x1 (ix4 0 3 r l)) (x2 (ix4 0 1 r l)) (x2 (ix4 0 3 r l)) (x4 (ix4 0 0 0 l)) := by
  refine (Nms.corner2_apply _ _ _ _ _ r l).trans ?_
  rw [channel_apply x1 1 _ 1 rfl, channel_apply x1 3 _ 3 rfl, channel_apply x2 1 _ 1 rfl, channel_apply x2 3 _ 3 rfl, lane_apply]

/-- The box's coordinate in channel `k`. -/
def bx (k : Fin 4) : FVec Ideal S16x128 .f32 :=
  match k with
  | 0 => bx1 0 x0 x1 x2 x3 x4
  | 1 => bx1 1 x0 x1 x2 x3 x4
  | 2 => bx2 0 x0 x1 x2 x3 x4
  | 3 => bx2 1 x0 x1 x2 x3 x4

section Four
variable (p0 p1 p2 p3 : FVec Ideal S1x1x16x128 .f32)

/-- Four channels stored, the last written first in the list. -/
abbrev four : Vec Ideal S1x4x16x128 .f32 :=
  View.canon (Val := Elt Ideal) (e := .f32) [⟨r0_3, p3⟩, ⟨r0_2, p2⟩, ⟨r0_1, p1⟩, ⟨r0_0, p0⟩]

/-- A channel stored last, read. -/
theorem stored (o : ℕ) (inb : ∀ a, (![0, o, 0, 0] : Fin 4 → ℕ) a + S1x1x16x128.size a ≤ S1x4x16x128.size a) (k : Fin 4)
    (h : k.val = o) (p : FVec Ideal S1x1x16x128 .f32) (L : List (View.Piece (Elt Ideal) S1x4x16x128 .f32)) :
    View.canon (Val := Elt Ideal) (⟨Rect.unit (s := S1x4x16x128) ![0, o, 0, 0] S1x1x16x128.size inb, p⟩ :: L) (ix4 0 k r l)
      = p (ix4 0 0 r l) := by
  rw [← in_channel o inb k r l h]
  exact View.canon_cons_emb (Val := Elt Ideal) (e := .f32) (Rect.unit (s := S1x4x16x128) ![0, o, 0, 0] S1x1x16x128.size inb) p L _

/-- Another channel stored last changes nothing here. -/
theorem skipped (o : ℕ) (inb : ∀ a, (![0, o, 0, 0] : Fin 4 → ℕ) a + S1x1x16x128.size a ≤ S1x4x16x128.size a) (k : Fin 4)
    (h : k.val ≠ o) (p : FVec Ideal S1x1x16x128 .f32) (L : List (View.Piece (Elt Ideal) S1x4x16x128 .f32)) :
    View.canon (Val := Elt Ideal) (⟨Rect.unit (s := S1x4x16x128) ![0, o, 0, 0] S1x1x16x128.size inb, p⟩ :: L) (ix4 0 k r l)
      = View.canon (Val := Elt Ideal) L (ix4 0 k r l) :=
  View.canon_cons_of_not_mem (Val := Elt Ideal) (e := .f32) _ L (not_in_channel o inb k r l h)

theorem four_0 : four p0 p1 p2 p3 (ix4 0 0 r l) = p0 (ix4 0 0 r l) :=
  (skipped r l 3 _ 0 (by decide) _ _).trans ((skipped r l 2 _ 0 (by decide) _ _).trans ((skipped r l 1 _ 0 (by decide) _ _).trans
    (stored r l 0 _ 0 rfl _ _)))
theorem four_1 : four p0 p1 p2 p3 (ix4 0 1 r l) = p1 (ix4 0 0 r l) :=
  (skipped r l 3 _ 1 (by decide) _ _).trans ((skipped r l 2 _ 1 (by decide) _ _).trans (stored r l 1 _ 1 rfl _ _))
theorem four_2 : four p0 p1 p2 p3 (ix4 0 2 r l) = p2 (ix4 0 0 r l) :=
  (skipped r l 3 _ 2 (by decide) _ _).trans (stored r l 2 _ 2 rfl _ _)
theorem four_3 : four p0 p1 p2 p3 (ix4 0 3 r l) = p3 (ix4 0 0 r l) := stored r l 3 _ 3 rfl _ _
end Four

theorem out0_5_apply (k : Fin 4) : out0_5 (F := Ideal) x0 x1 x2 x3 x4 (ix4 0 k r l) = bx x0 x1 x2 x3 x4 k (ix2 r l) := by
  unfold out0_5
  match k with
  | 0 => exact (four_0 r l _ _ _ _).trans (Nms.unflat4_apply _ r l)
  | 1 => exact (four_1 r l _ _ _ _).trans (Nms.unflat4_apply _ r l)
  | 2 => exact (four_2 r l _ _ _ _).trans (Nms.unflat4_apply _ r l)
  | 3 => exact (four_3 r l _ _ _ _).trans (Nms.unflat4_apply _ r l)

theorem ratio : Named.named (F := Ideal) κ "ratio" (φ := .f32) 0x3ED2D2D3#32 = ((11744051 / 28521267 : ℝ) : EReal) := rfl

theorem out0_6_apply : out0_6 (F := Ideal) x0 x1 x2 x3 x4 (ix4 0 0 r l)
    = Nms.masked ((11744051 / 28521267 : ℝ) : EReal) (bx x0 x1 x2 x3 x4 0) (bx x0 x1 x2 x3 x4 1) (bx x0 x1 x2 x3 x4 2) (bx x0 x1 x2 x3 x4 3) (by decide) 2000
      (Nms.flat4 (F := Ideal) (N := 16) (View.ld (e' := .f32) x0 r0_5)) (ix2 r l) := by
  unfold out0_6
  rw [View.canon_cons_unit_lit _ _ _ (by decide), ratio]
  exact Nms.unflat4_apply _ r l

end Blocks

end Cert.Proof.KernelIdeal

end
-- ==== Proof.KernelLevel.lean ====
module

public import proofs.«01_k».proof.Proof.KernelPoint
public import proofs.«01_k».proof.Proof.Takes

@[expose] public section

set_option maxRecDepth 16384

/-! A call's boxes and masked scores are the level's, and the best thousand of them are the level's best thousand. -/

noncomputable section

namespace Cert.Proof.KernelIdeal

open Cert.KernelIdeal Cert.KernelIdeal.Gen
open Idealize.ShloMosaic Idealize.ShloMosaic.TcCoe Idealize.ShloMosaic.Tactic

/-- The image sizes, less one. -/
def lim (im : FVec Ideal (Nms.P 2 5) .f32) (b a : Fin 2) : EReal := im (ix2 b (a.castLE (by decide))) - 1

section Level
variable {N : ℕ} (hk : 2000 ≤ N) (s : FVec Ideal (Nms.P 2 N) .f32) (d a : FVec Ideal (Nms.Q 2 N 4) .f32) (im : FVec Ideal (Nms.P 2 5) .f32)

abbrev spot (b : Fin 2) (j : Fin 2000) : Fin N := Nms.spot hk s b j
abbrev line (b : Fin 2) (e : Fin 4) (j : ℕ) : EReal := Nms.line hk s d a (lim im) b e j
abbrev score (b : Fin 2) (j : ℕ) : EReal := Nms.score hk s d a (lim im) b j

/-- The scores and the boxes by rows, the padding included or not. -/
def padded : FVec Ideal (Nms.P 2 2048) .f32 := fun i => score hk s d a im (i 0) (i 1).val
def masked : FVec Ideal (Nms.P 2 2000) .f32 := fun i => score hk s d a im (i 0) (i 1).val

theorem hq : 1000 ≤ 2048 := by decide
theorem hq' : 1000 ≤ 2000 := by decide

/-- The best of the level's masked scores, in order, and their boxes. -/
def topScores : FVec Ideal (Nms.P 2 1000) .f32 :=
  fun i => score hk s d a im (i 0) (Nms.place (masked hk s d a im) (i 0) ((i 1).castLE hq')).val
def topBoxes : FVec Ideal (Nms.Q 2 1000 4) .f32 :=
  fun i => line hk s d a im (i 0) (i 2) (Nms.place (masked hk s d a im) (i 0) ((i 1).castLE hq')).val

/-- The padding never stands before a score. -/
theorem place_padded (b : Fin 2) (q : Fin 1000) :
    (Nms.place (padded hk s d a im) b (q.castLE hq)).val = (Nms.place (masked hk s d a im) b (q.castLE hq')).val := by
  have h := Nms.sortedFrom_padded (n := 2000) (n' := 2048) (by decide) (fun i => masked hk s d a im (ix2 b i))
    (fun i => padded hk s d a im (ix2 b i)) (((-1 : ℝ) : EReal)) (fun i => rfl)
    (fun i hi => if_neg fun h => absurd h.1 (by show ¬ i.val < 2000; omega))
    (fun i => by
      show _ ≤ Nms.score hk s d a (lim im) b i.val
      unfold Nms.score
      split
      · exact Nms.neg_one_le_logistic _
      · exact le_refl _) (q.castLE hq')
  have h' := congrArg Fin.val h
  rw [Fin.val_castLE, Fin.castLE_castLE] at h'
  unfold Nms.place
  exact h'

variable (w0 : FVec Ideal S2x1x16x128 .f32) (w1 w2 : FVec Ideal S2x4x16x128 .f32) (w3 w4 : FVec Ideal S2x1x1x128 .f32)

/-- The five windows hold the level's best two thousand and the image sizes. -/
structure Laid : Prop where
  scores : ∀ (b : Fin 2) (r : Fin 16) (l : Fin 128) (h : r.val * 128 + l.val < 2000), w0 (ix4 b 0 r l) = s (ix2 b (spot hk s b ⟨_, h⟩))
  anchors : ∀ (b : Fin 2) (e : Fin 4) (r : Fin 16) (l : Fin 128) (h : r.val * 128 + l.val < 2000),
    w1 (ix4 b e r l) = a (ix3 b (spot hk s b ⟨_, h⟩) e)
  deltas : ∀ (b : Fin 2) (e : Fin 4) (r : Fin 16) (l : Fin 128) (h : r.val * 128 + l.val < 2000),
    w2 (ix4 b e r l) = d (ix3 b (spot hk s b ⟨_, h⟩) e)
  ylim : ∀ (b : Fin 2) (l : Fin 128), w3 (ix4 b 0 0 l) = lim im b 0
  xlim : ∀ (b : Fin 2) (l : Fin 128), w4 (ix4 b 0 0 l) = lim im b 1

/-- The windows of a level, from the best two thousand scores and the rows that go with them. -/
theorem laid_of (x0 : FVec Ideal (Nms.P 2 2000) .f32) (x1 x2 : FVec Ideal (Nms.Q 2 2000 4) .f32)
    (h0 : ∀ b j, x0 (ix2 b j) = s (ix2 b (spot hk s b j))) (h1 : ∀ b j e, x1 (ix3 b j e) = a (ix3 b (spot hk s b j) e))
    (h2 : ∀ b j e, x2 (ix3 b j e) = d (ix3 b (spot hk s b j) e)) :
    Laid hk s d a im (laidScores x0) (laid x1) (laid x2) (limit (extractStridedSlice S2x1 ![0, 0] im slices_S2x5_S2x1_0_0))
      (limit (extractStridedSlice S2x1 ![0, 1] im slices_S2x5_S2x1_0_1)) where
  scores b r l h := by rw [laidScores_apply _ b r l ⟨_, h⟩ rfl]; exact h0 b _
  anchors b e r l h := by rw [laid_apply _ b e r l ⟨_, h⟩ rfl]; exact h1 b _ e
  deltas b e r l h := by rw [laid_apply _ b e r l ⟨_, h⟩ rfl]; exact h2 b _ e
  ylim b l := by
    rw [limit_apply]
    unfold lim
    pointwise
    rfl
  xlim b l := by
    rw [limit_apply]
    unfold lim
    pointwise
    rfl

section Whole
variable {w0 w1 w2 w3 w4} (H : Laid hk s d a im w0 w1 w2 w3 w4)

include H
theorem bx_line (b : Fin 2) (r : Fin 16) (l : Fin 128) (h : r.val * 128 + l.val < 2000) (e : Fin 4) :
    bx (part w0 b) (part w1 b) (part w2 b) (part w3 b) (part w4 b) e (ix2 r l) = line hk s d a im b e (r.val * 128 + l.val) := by
  have hl : line hk s d a im b e (r.val * 128 + l.val) = Nms.box d a (lim im) b (spot hk s b ⟨_, h⟩) e := dif_pos h
  have ha : ∀ e, part w1 b (ix4 0 e r l) = a (ix3 b (spot hk s b ⟨_, h⟩) e) := fun e => H.anchors b e r l h
  have hd : ∀ e, part w2 b (ix4 0 e r l) = d (ix3 b (spot hk s b ⟨_, h⟩) e) := fun e => H.deltas b e r l h
  have hy : part w3 b (ix4 0 0 0 l) = lim im b 0 := H.ylim b l
  have hx : part w4 b (ix4 0 0 0 l) = lim im b 1 := H.xlim b l
  rw [hl]
  unfold bx
  fin_cases e
  · refine (bx1_y (part w0 b) (part w1 b) (part w2 b) (part w3 b) (part w4 b) r l).trans ?_
    rw [ha, ha, hd, hd, hy]
    rfl
  · refine (bx1_x (part w0 b) (part w1 b) (part w2 b) (part w3 b) (part w4 b) r l).trans ?_
    rw [ha, ha, hd, hd, hx]
    rfl
  · refine (bx2_y (part w0 b) (part w1 b) (part w2 b) (part w3 b) (part w4 b) r l).trans ?_
    rw [ha, ha, hd, hd, hy]
    rfl
  · refine (bx2_x (part w0 b) (part w1 b) (part w2 b) (part w3 b) (part w4 b) r l).trans ?_
    rw [ha, ha, hd, hd, hx]
    rfl

omit H in
theorem exists_lane (n : Fin 2048) : ∃ r l, n = lane r l :=
  ⟨⟨n.val / 128, by omega⟩, ⟨n.val % 128, by omega⟩, Fin.ext (by show n.val = n.val / 128 * 128 + n.val % 128; omega)⟩

theorem boxes_level (b : Fin 2) (n : Fin 2048) (h : n.val < 2000) (e : Fin 4) :
    outBoxes (boxesOut w0 w1 w2 w3 w4) (ix3 b n e) = line hk s d a im b e n.val := by
  obtain ⟨r, l, rfl⟩ := exists_lane n
  rw [outBoxes_apply]
  refine (out0_5_apply _ _ _ _ _ r l e).trans ?_
  exact bx_line hk s d a im H b r l h e

theorem scores_level (b : Fin 2) (n : Fin 2048) : outScores (scoresOut w0 w1 w2 w3 w4) (ix2 b n) = score hk s d a im b n.val := by
  obtain ⟨r, l, rfl⟩ := exists_lane n
  rw [outScores_apply]
  refine (out0_6_apply (part w0 b) (part w1 b) (part w2 b) (part w3 b) (part w4 b) r l).trans ?_
  rw [Nms.masked_of_agree (by decide) (by decide) (fun i l h => bx_line hk s d a im H b i l h 0)
    (fun i l h => bx_line hk s d a im H b i l h 1) (fun i l h => bx_line hk s d a im H b i l h 2)
    (fun i l h => bx_line hk s d a im H b i l h 3)]
  show _ = Nms.score hk s d a (lim im) b (r.val * 128 + l.val)
  unfold Nms.score
  by_cases h : r.val * 128 + l.val < 2000 ∧ Nms.Stays hk s d a (lim im) b (r.val * 128 + l.val)
  · rw [if_pos h]
    refine (if_pos h).trans ?_
    have hs : part w0 b (ix4 0 0 r l) = s (ix2 b (spot hk s b ⟨_, h.1⟩)) := H.scores b r l h.1
    rw [score_apply, hs]
    unfold Nms.raw
    rw [dif_pos h.1]
  · rw [if_neg h]
    exact if_neg h

theorem outScores_eq : outScores (scoresOut w0 w1 w2 w3 w4) = padded hk s d a im := by
  funext i
  obtain ⟨b, n, rfl⟩ : ∃ b n, i = ix2 b n := ⟨_, _, Idealize.ShloMosaic.eq_ix2 i⟩
  exact scores_level hk s d a im H b n

theorem top_values :
    (Host.topK S2x1000 1 (FloatOps.cmpfTotal (F := Ideal) (φ := .f32) .gt) (outScores (scoresOut w0 w1 w2 w3 w4)) sliceFits_S2x2048_S2x1000).1
      = topScores hk s d a im := by
  rw [outScores_eq hk s d a im H]
  funext i
  obtain ⟨b, q, rfl⟩ : ∃ b q, i = ix2 b q := ⟨_, _, Idealize.ShloMosaic.eq_ix2 i⟩
  refine (Nms.topK_fst _ hq (padded hk s d a im) b q).trans ?_
  show score hk s d a im b (Nms.place (padded hk s d a im) b (q.castLE hq)).val
    = score hk s d a im b (Nms.place (masked hk s d a im) b (q.castLE hq')).val
  rw [place_padded]

/-- The places of the best thousand, as an array of one column. -/
def topAt (x : FVec Ideal (Nms.P 2 2048) .f32) : IVec (Nms.Q 2 1000 1) 32 :=
  broadcastInDim S2x1000x1 ![0, 1] bcast_S2x1000_S2x1000x1_0_1
    (Host.topK S2x1000 1 (FloatOps.cmpfTotal (F := Ideal) (φ := .f32) .gt) x sliceFits_S2x2048_S2x1000).2

/-- The rows of `x` at a thousand places. -/
def topRows (x : FVec Ideal (Nms.Q 2 2048 4) .f32) (i : IVec (Nms.Q 2 1000 1) 32) : FVec Ideal (Nms.Q 2 1000 4) .f32 :=
  Nms.take4 gather_S2x2048x4_S2x1000x1_S2x1000x4_2_1_0_0_1_2_114 bcast_S_S2x1000x1 bcast_S1_S1x1x1_2 bcast_S1x1x1_S2x1000x1_0_1_2
    reducesTo_S2x1000x1_S2x1000_d2 h_S_ bcast_S2x1000_S2x1000x4_0_1 bcast_S_S2x1000x4 2048#32 2047#32 x i

theorem top_boxes : topRows (outBoxes (boxesOut w0 w1 w2 w3 w4)) (topAt (outScores (scoresOut w0 w1 w2 w3 w4))) = topBoxes hk s d a im := by
  rw [outScores_eq hk s d a im H]
  funext i
  obtain ⟨b, q, e, rfl⟩ : ∃ b q e, i = ix3 b q e := ⟨_, _, _, Idealize.ShloMosaic.eq_ix3 i⟩
  refine (Nms.take4_apply _ _ _ _ _ _ _ _ _ _ _ _ (by decide) (by decide) ⟨rfl, rfl, rfl, rfl, rfl, rfl, rfl⟩ rfl b q e
    (Nms.place (padded hk s d a im) b (q.castLE hq)) ?_).trans ?_
  · refine Eq.trans ?_ (Nms.topK_snd sliceFits_S2x2048_S2x1000 hq (padded hk s d a im) b q)
    unfold topAt
    pointwise
  · have hp := place_padded hk s d a im b q
    refine (boxes_level hk s d a im H b _ (by rw [hp]; exact Fin.isLt _) e).trans ?_
    show line hk s d a im b e (Nms.place (padded hk s d a im) b (q.castLE hq)).val
      = line hk s d a im b e (Nms.place (masked hk s d a im) b (q.castLE hq')).val
    rw [hp]
end Whole

end Level

end Cert.Proof.KernelIdeal

end
-- ==== Proof.KernelReads.lean ====
module

public import proofs.«01_k».proof.Proof.KernelLevel
public import Idealize.ShloMosaic.Lib.StableHlo.RunRead

@[expose] public section

set_option maxRecDepth 16384

/-! What each stretch of the kernel's lines makes of the buffers it finds. -/

noncomputable section

namespace Cert.Proof.KernelIdeal

open Cert.KernelIdeal Cert.KernelIdeal.Gen
open Idealize.ShloMosaic Idealize.ShloMosaic.TcCoe Idealize.ShloMosaic.Tactic

/-- Two numbers, in lanes. -/
def wide (x : FVec Ideal S2 .f32) : FVec Ideal S2x1x1x128 .f32 :=
  broadcastInDim S2x1x1x128 ![0, 1, 2, 3] bcast_S2x1x1x1_S2x1x1x128_0_1_2_3 (broadcastInDim S2x1x1x1 ![0] bcast_S2_S2x1x1x1_0 x)

/-- A column less one. -/
def less (x : FVec Ideal S2x1 .f32) : FVec Ideal S2 .f32 :=
  subf (shapeCast S2 x shapeCasts_S2x1_S2) (broadcastInDim S2 ![] bcast_S_S2 (constant (F := Ideal) S_ .f32 0x3F800000#32))

/-- The best two thousand scores, and where they stand. -/
def best {N : ℕ} (f : (Nms.P 2 N).Slices (fun _ => 0) (Nms.P 2 2000)) (s : FVec Ideal (Nms.P 2 N) .f32) : FVec Ideal (Nms.P 2 2000) .f32 :=
  (Host.topK S2x2000 1 (FloatOps.cmpfTotal (F := Ideal) (φ := .f32) .gt) s f).1
def column (x : IVec (Nms.P 2 2000) 32) : IVec (Nms.Q 2 2000 1) 32 := broadcastInDim S2x2000x1 ![0, 1] bcast_S2x2000_S2x2000x1_0_1 x
def places {N : ℕ} (f : (Nms.P 2 N).Slices (fun _ => 0) (Nms.P 2 2000)) (s : FVec Ideal (Nms.P 2 N) .f32) : IVec (Nms.P 2 2000) 32 :=
  (Host.topK S2x2000 1 (FloatOps.cmpfTotal (F := Ideal) (φ := .f32) .gt) s f).2

variable (W : Valuation τ sig (Elt Ideal))

/-! ### Level 0 -/

/-- The rows of `x` at the places `i`. -/
def rows0 (x : FVec Ideal (Nms.Q 2 196608 4) .f32) (i : IVec (Nms.Q 2 2000 1) 32) : FVec Ideal (Nms.Q 2 2000 4) .f32 :=
  Nms.take4 gather_S2x196608x4_S2x2000x1_S2x2000x4_2_1_0_0_1_2_114 bcast_S_S2x2000x1 bcast_S1_S1x1x1_2 bcast_S1x1x1_S2x2000x1_0_1_2
    reducesTo_S2x2000x1_S2x2000_d2 h_S_ bcast_S2x2000_S2x2000x4_0_1 bcast_S_S2x2000x4 196608#32 196607#32 x i

theorem head0 : StableHlo.after hostOps0 W (Proc.devRef .tc main_values) = best sliceFits_S2x196608_S2x2000 (shapeCast S2x196608 (W (Proc.devRef .tc main_arg0)) shapeCasts_S2x256x256x3_S2x196608)
    ∧ StableHlo.after hostOps0 W (Proc.devRef .tc main_indices) = places sliceFits_S2x196608_S2x2000 (shapeCast S2x196608 (W (Proc.devRef .tc main_arg0)) shapeCasts_S2x256x256x3_S2x196608)
    ∧ StableHlo.after hostOps0 W (Proc.devRef .tc main_v11) = column (places sliceFits_S2x196608_S2x2000 (shapeCast S2x196608 (W (Proc.devRef .tc main_arg0)) shapeCasts_S2x256x256x3_S2x196608))
    ∧ StableHlo.after hostOps0 W (Proc.devRef .tc main_v9) = shapeCast S2x196608x4 (W (Proc.devRef .tc main_arg4)) shapeCasts_S2x256x256x12_S2x196608x4
    ∧ StableHlo.after hostOps0 W (Proc.devRef .tc main_v10) = shapeCast S2x196608x4 (W (Proc.devRef .tc main_arg8)) shapeCasts_S2x256x256x12_S2x196608x4 := by
  refine ⟨?_, ?_, ?_, ?_, ?_⟩ <;> after_reads_simp <;> rfl

theorem takeDeltas0 : StableHlo.after hostOps0_1 W (Proc.devRef .tc main_v12) = rows0 (W (Proc.devRef .tc main_v9)) (W (Proc.devRef .tc main_v11)) := by
  after_reads_simp
  unfold rows0 Nms.take4 Nms.within Nms.wrap
  rfl

theorem mid0 : StableHlo.after hostOps0_2 W (Proc.devRef .tc main_v13) = column (W (Proc.devRef .tc main_indices)) := by
  after_reads_simp
  rfl

theorem takeAnchors0 : StableHlo.after hostOps0_3 W (Proc.devRef .tc main_v14) = rows0 (W (Proc.devRef .tc main_v10)) (W (Proc.devRef .tc main_v13)) := by
  after_reads_simp
  unfold rows0 Nms.take4 Nms.within Nms.wrap
  rfl

/-- The lines that pad and lay out. -/
def lay0 : Valuation τ sig (Elt Ideal) :=
  StableHlo.after hostOps0_10 (StableHlo.after hostOps0_9 (StableHlo.after hostOps0_8 (StableHlo.after hostOps0_7
    (StableHlo.after hostOps0_6 (StableHlo.after hostOps0_5 (StableHlo.after hostOps0_4 W))))))

theorem lay0_reads : lay0 W (Proc.devRef .tc main_v18) = laidScores (W (Proc.devRef .tc main_values)) ∧ lay0 W (Proc.devRef .tc main_v20) = laid (W (Proc.devRef .tc main_v14))
    ∧ lay0 W (Proc.devRef .tc main_v22) = laid (W (Proc.devRef .tc main_v12)) ∧ lay0 W (Proc.devRef .tc main_v24) = wide (W (Proc.devRef .tc main_v3)) ∧ lay0 W (Proc.devRef .tc main_v26) = wide (W (Proc.devRef .tc main_v7)) := by
  unfold lay0
  refine ⟨?_, ?_, ?_, ?_, ?_⟩ <;> after_reads_simp <;> rfl

theorem back0 : StableHlo.after hostOps1 W (Proc.devRef .tc main_values_3)
      = (Host.topK S2x1000 1 (FloatOps.cmpfTotal (F := Ideal) (φ := .f32) .gt) (outScores (W (Proc.devRef .tc main_v27_1))) sliceFits_S2x2048_S2x1000).1
    ∧ StableHlo.after hostOps1 W (Proc.devRef .tc main_v29) = outBoxes (W (Proc.devRef .tc main_v27_0))
    ∧ StableHlo.after hostOps1 W (Proc.devRef .tc main_v31) = topAt (outScores (W (Proc.devRef .tc main_v27_1))) := by
  refine ⟨?_, ?_, ?_⟩ <;> after_reads_simp <;> rfl

theorem rois0 : StableHlo.after hostOps1_1 W (Proc.devRef .tc main_v32) = topRows (W (Proc.devRef .tc main_v29)) (W (Proc.devRef .tc main_v31)) := by
  after_reads_simp
  unfold topRows Nms.take4 Nms.within Nms.wrap
  rfl

/-! ### Level 1 -/

/-- The rows of `x` at the places `i`. -/
def rows1 (x : FVec Ideal (Nms.Q 2 49152 4) .f32) (i : IVec (Nms.Q 2 2000 1) 32) : FVec Ideal (Nms.Q 2 2000 4) .f32 :=
  Nms.take4 gather_S2x49152x4_S2x2000x1_S2x2000x4_2_1_0_0_1_2_114 bcast_S_S2x2000x1 bcast_S1_S1x1x1_2 bcast_S1x1x1_S2x2000x1_0_1_2
    reducesTo_S2x2000x1_S2x2000_d2 h_S_ bcast_S2x2000_S2x2000x4_0_1 bcast_S_S2x2000x4 49152#32 49151#32 x i

theorem head1 : StableHlo.after hostOps1_2 W (Proc.devRef .tc main_values_5) = best sliceFits_S2x49152_S2x2000 (shapeCast S2x49152 (W (Proc.devRef .tc main_arg1)) shapeCasts_S2x128x128x3_S2x49152)
    ∧ StableHlo.after hostOps1_2 W (Proc.devRef .tc main_indices_6) = places sliceFits_S2x49152_S2x2000 (shapeCast S2x49152 (W (Proc.devRef .tc main_arg1)) shapeCasts_S2x128x128x3_S2x49152)
    ∧ StableHlo.after hostOps1_2 W (Proc.devRef .tc main_v36) = column (places sliceFits_S2x49152_S2x2000 (shapeCast S2x49152 (W (Proc.devRef .tc main_arg1)) shapeCasts_S2x128x128x3_S2x49152))
    ∧ StableHlo.after hostOps1_2 W (Proc.devRef .tc main_v34) = shapeCast S2x49152x4 (W (Proc.devRef .tc main_arg5)) shapeCasts_S2x128x128x12_S2x49152x4
    ∧ StableHlo.after hostOps1_2 W (Proc.devRef .tc main_v35) = shapeCast S2x49152x4 (W (Proc.devRef .tc main_arg9)) shapeCasts_S2x128x128x12_S2x49152x4 := by
  refine ⟨?_, ?_, ?_, ?_, ?_⟩ <;> after_reads_simp <;> rfl

theorem takeDeltas1 : StableHlo.after hostOps1_3 W (Proc.devRef .tc main_v37) = rows1 (W (Proc.devRef .tc main_v34)) (W (Proc.devRef .tc main_v36)) := by
  after_reads_simp
  unfold rows1 Nms.take4 Nms.within Nms.wrap
  rfl

theorem mid1 : StableHlo.after hostOps1_4 W (Proc.devRef .tc main_v38) = column (W (Proc.devRef .tc main_indices_6)) := by
  after_reads_simp
  rfl

theorem takeAnchors1 : StableHlo.after hostOps1_5 W (Proc.devRef .tc main_v39) = rows1 (W (Proc.devRef .tc main_v35)) (W (Proc.devRef .tc main_v38)) := by
  after_reads_simp
  unfold rows1 Nms.take4 Nms.within Nms.wrap
  rfl

/-- The lines that pad and lay out. -/
def lay1 : Valuation τ sig (Elt Ideal) :=
  StableHlo.after hostOps1_12 (StableHlo.after hostOps1_11 (StableHlo.after hostOps1_10 (StableHlo.after hostOps1_9
    (StableHlo.after hostOps1_8 (StableHlo.after hostOps1_7 (StableHlo.after hostOps1_6 W))))))

theorem lay1_reads : lay1 W (Proc.devRef .tc main_v43) = laidScores (W (Proc.devRef .tc main_values_5)) ∧ lay1 W (Proc.devRef .tc main_v45) = laid (W (Proc.devRef .tc main_v39))
    ∧ lay1 W (Proc.devRef .tc main_v47) = laid (W (Proc.devRef .tc main_v37)) ∧ lay1 W (Proc.devRef .tc main_v49) = wide (W (Proc.devRef .tc main_v3)) ∧ lay1 W (Proc.devRef .tc main_v51) = wide (W (Proc.devRef .tc main_v7)) := by
  unfold lay1
  refine ⟨?_, ?_, ?_, ?_, ?_⟩ <;> after_reads_simp <;> rfl

theorem back1 : StableHlo.after hostOps2 W (Proc.devRef .tc main_values_10)
      = (Host.topK S2x1000 1 (FloatOps.cmpfTotal (F := Ideal) (φ := .f32) .gt) (outScores (W (Proc.devRef .tc main_v52_1))) sliceFits_S2x2048_S2x1000).1
    ∧ StableHlo.after hostOps2 W (Proc.devRef .tc main_v54) = outBoxes (W (Proc.devRef .tc main_v52_0))
    ∧ StableHlo.after hostOps2 W (Proc.devRef .tc main_v56) = topAt (outScores (W (Proc.devRef .tc main_v52_1))) := by
  refine ⟨?_, ?_, ?_⟩ <;> after_reads_simp <;> rfl

theorem rois1 : StableHlo.after hostOps2_1 W (Proc.devRef .tc main_v57) = topRows (W (Proc.devRef .tc main_v54)) (W (Proc.devRef .tc main_v56)) := by
  after_reads_simp
  unfold topRows Nms.take4 Nms.within Nms.wrap
  rfl

/-! ### Level 2 -/

/-- The rows of `x` at the places `i`. -/
def rows2 (x : FVec Ideal (Nms.Q 2 12288 4) .f32) (i : IVec (Nms.Q 2 2000 1) 32) : FVec Ideal (Nms.Q 2 2000 4) .f32 :=
  Nms.take4 gather_S2x12288x4_S2x2000x1_S2x2000x4_2_1_0_0_1_2_114 bcast_S_S2x2000x1 bcast_S1_S1x1x1_2 bcast_S1x1x1_S2x2000x1_0_1_2
    reducesTo_S2x2000x1_S2x2000_d2 h_S_ bcast_S2x2000_S2x2000x4_0_1 bcast_S_S2x2000x4 12288#32 12287#32 x i

theorem head2 : StableHlo.after hostOps2_2 W (Proc.devRef .tc main_values_12) = best sliceFits_S2x12288_S2x2000 (shapeCast S2x12288 (W (Proc.devRef .tc main_arg2)) shapeCasts_S2x64x64x3_S2x12288)
    ∧ StableHlo.after hostOps2_2 W (Proc.devRef .tc main_indices_13) = places sliceFits_S2x12288_S2x2000 (shapeCast S2x12288 (W (Proc.devRef .tc main_arg2)) shapeCasts_S2x64x64x3_S2x12288)
    ∧ StableHlo.after hostOps2_2 W (Proc.devRef .tc main_v61) = column (places sliceFits_S2x12288_S2x2000 (shapeCast S2x12288 (W (Proc.devRef .tc main_arg2)) shapeCasts_S2x64x64x3_S2x12288))
    ∧ StableHlo.after hostOps2_2 W (Proc.devRef .tc main_v59) = shapeCast S2x12288x4 (W (Proc.devRef .tc main_arg6)) shapeCasts_S2x64x64x12_S2x12288x4
    ∧ StableHlo.after hostOps2_2 W (Proc.devRef .tc main_v60) = shapeCast S2x12288x4 (W (Proc.devRef .tc main_arg10)) shapeCasts_S2x64x64x12_S2x12288x4 := by
  refine ⟨?_, ?_, ?_, ?_, ?_⟩ <;> after_reads_simp <;> rfl

theorem takeDeltas2 : StableHlo.after hostOps2_3 W (Proc.devRef .tc main_v62) = rows2 (W (Proc.devRef .tc main_v59)) (W (Proc.devRef .tc main_v61)) := by
  after_reads_simp
  unfold rows2 Nms.take4 Nms.within Nms.wrap
  rfl

theorem mid2 : StableHlo.after hostOps2_4 W (Proc.devRef .tc main_v63) = column (W (Proc.devRef .tc main_indices_13)) := by
  after_reads_simp
  rfl

theorem takeAnchors2 : StableHlo.after hostOps2_5 W (Proc.devRef .tc main_v64) = rows2 (W (Proc.devRef .tc main_v60)) (W (Proc.devRef .tc main_v63)) := by
  after_reads_simp
  unfold rows2 Nms.take4 Nms.within Nms.wrap
  rfl

/-- The lines that pad and lay out. -/
def lay2 : Valuation τ sig (Elt Ideal) :=
  StableHlo.after hostOps2_12 (StableHlo.after hostOps2_11 (StableHlo.after hostOps2_10 (StableHlo.after hostOps2_9
    (StableHlo.after hostOps2_8 (StableHlo.after hostOps2_7 (StableHlo.after hostOps2_6 W))))))

theorem lay2_reads : lay2 W (Proc.devRef .tc main_v68) = laidScores (W (Proc.devRef .tc main_values_12)) ∧ lay2 W (Proc.devRef .tc main_v70) = laid (W (Proc.devRef .tc main_v64))
    ∧ lay2 W (Proc.devRef .tc main_v72) = laid (W (Proc.devRef .tc main_v62)) ∧ lay2 W (Proc.devRef .tc main_v74) = wide (W (Proc.devRef .tc main_v3)) ∧ lay2 W (Proc.devRef .tc main_v76) = wide (W (Proc.devRef .tc main_v7)) := by
  unfold lay2
  refine ⟨?_, ?_, ?_, ?_, ?_⟩ <;> after_reads_simp <;> rfl

theorem back2 : StableHlo.after hostOps3 W (Proc.devRef .tc main_values_17)
      = (Host.topK S2x1000 1 (FloatOps.cmpfTotal (F := Ideal) (φ := .f32) .gt) (outScores (W (Proc.devRef .tc main_v77_1))) sliceFits_S2x2048_S2x1000).1
    ∧ StableHlo.after hostOps3 W (Proc.devRef .tc main_v79) = outBoxes (W (Proc.devRef .tc main_v77_0))
    ∧ StableHlo.after hostOps3 W (Proc.devRef .tc main_v81) = topAt (outScores (W (Proc.devRef .tc main_v77_1))) := by
  refine ⟨?_, ?_, ?_⟩ <;> after_reads_simp <;> rfl

theorem rois2 : StableHlo.after hostOps3_1 W (Proc.devRef .tc main_v82) = topRows (W (Proc.devRef .tc main_v79)) (W (Proc.devRef .tc main_v81)) := by
  after_reads_simp
  unfold topRows Nms.take4 Nms.within Nms.wrap
  rfl

/-! ### Level 3 -/

/-- The rows of `x` at the places `i`. -/
def rows3 (x : FVec Ideal (Nms.Q 2 3072 4) .f32) (i : IVec (Nms.Q 2 2000 1) 32) : FVec Ideal (Nms.Q 2 2000 4) .f32 :=
  Nms.take4 gather_S2x3072x4_S2x2000x1_S2x2000x4_2_1_0_0_1_2_114 bcast_S_S2x2000x1 bcast_S1_S1x1x1_2 bcast_S1x1x1_S2x2000x1_0_1_2
    reducesTo_S2x2000x1_S2x2000_d2 h_S_ bcast_S2x2000_S2x2000x4_0_1 bcast_S_S2x2000x4 3072#32 3071#32 x i

theorem head3 : StableHlo.after hostOps3_2 W (Proc.devRef .tc main_values_19) = best sliceFits_S2x3072_S2x2000 (shapeCast S2x3072 (W (Proc.devRef .tc main_arg3)) shapeCasts_S2x32x32x3_S2x3072)
    ∧ StableHlo.after hostOps3_2 W (Proc.devRef .tc main_indices_20) = places sliceFits_S2x3072_S2x2000 (shapeCast S2x3072 (W (Proc.devRef .tc main_arg3)) shapeCasts_S2x32x32x3_S2x3072)
    ∧ StableHlo.after hostOps3_2 W (Proc.devRef .tc main_v86) = column (places sliceFits_S2x3072_S2x2000 (shapeCast S2x3072 (W (Proc.devRef .tc main_arg3)) shapeCasts_S2x32x32x3_S2x3072))
    ∧ StableHlo.after hostOps3_2 W (Proc.devRef .tc main_v84) = shapeCast S2x3072x4 (W (Proc.devRef .tc main_arg7)) shapeCasts_S2x32x32x12_S2x3072x4
    ∧ StableHlo.after hostOps3_2 W (Proc.devRef .tc main_v85) = shapeCast S2x3072x4 (W (Proc.devRef .tc main_arg11)) shapeCasts_S2x32x32x12_S2x3072x4 := by
  refine ⟨?_, ?_, ?_, ?_, ?_⟩ <;> after_reads_simp <;> rfl

theorem takeDeltas3 : StableHlo.after hostOps3_3 W (Proc.devRef .tc main_v87) = rows3 (W (Proc.devRef .tc main_v84)) (W (Proc.devRef .tc main_v86)) := by
  after_reads_simp
  unfold rows3 Nms.take4 Nms.within Nms.wrap
  rfl

theorem mid3 : StableHlo.after hostOps3_4 W (Proc.devRef .tc main_v88) = column (W (Proc.devRef .tc main_indices_20)) := by
  after_reads_simp
  rfl

theorem takeAnchors3 : StableHlo.after hostOps3_5 W (Proc.devRef .tc main_v89) = rows3 (W (Proc.devRef .tc main_v85)) (W (Proc.devRef .tc main_v88)) := by
  after_reads_simp
  unfold rows3 Nms.take4 Nms.within Nms.wrap
  rfl

/-- The lines that pad and lay out. -/
def lay3 : Valuation τ sig (Elt Ideal) :=
  StableHlo.after hostOps3_12 (StableHlo.after hostOps3_11 (StableHlo.after hostOps3_10 (StableHlo.after hostOps3_9
    (StableHlo.after hostOps3_8 (StableHlo.after hostOps3_7 (StableHlo.after hostOps3_6 W))))))

theorem lay3_reads : lay3 W (Proc.devRef .tc main_v93) = laidScores (W (Proc.devRef .tc main_values_19)) ∧ lay3 W (Proc.devRef .tc main_v95) = laid (W (Proc.devRef .tc main_v89))
    ∧ lay3 W (Proc.devRef .tc main_v97) = laid (W (Proc.devRef .tc main_v87)) ∧ lay3 W (Proc.devRef .tc main_v99) = wide (W (Proc.devRef .tc main_v3)) ∧ lay3 W (Proc.devRef .tc main_v101) = wide (W (Proc.devRef .tc main_v7)) := by
  unfold lay3
  refine ⟨?_, ?_, ?_, ?_, ?_⟩ <;> after_reads_simp <;> rfl

theorem back3 : StableHlo.after hostOps4 W (Proc.devRef .tc main_values_24)
      = (Host.topK S2x1000 1 (FloatOps.cmpfTotal (F := Ideal) (φ := .f32) .gt) (outScores (W (Proc.devRef .tc main_v102_1))) sliceFits_S2x2048_S2x1000).1
    ∧ StableHlo.after hostOps4 W (Proc.devRef .tc main_v104) = outBoxes (W (Proc.devRef .tc main_v102_0))
    ∧ StableHlo.after hostOps4 W (Proc.devRef .tc main_v106) = topAt (outScores (W (Proc.devRef .tc main_v102_1))) := by
  refine ⟨?_, ?_, ?_⟩ <;> after_reads_simp <;> rfl

theorem rois3 : StableHlo.after hostOps4_1 W (Proc.devRef .tc main_v107) = topRows (W (Proc.devRef .tc main_v104)) (W (Proc.devRef .tc main_v106)) := by
  after_reads_simp
  unfold topRows Nms.take4 Nms.within Nms.wrap
  rfl

/-! ### The limits and the last lines -/

theorem limits : StableHlo.after hostOps0 W (Proc.devRef .tc main_v3) = less (extractStridedSlice S2x1 ![0, 0] (W (Proc.devRef .tc main_arg12)) slices_S2x5_S2x1_0_0)
    ∧ StableHlo.after hostOps0 W (Proc.devRef .tc main_v7) = less (extractStridedSlice S2x1 ![0, 1] (W (Proc.devRef .tc main_arg12)) slices_S2x5_S2x1_0_1) := by
  refine ⟨?_, ?_⟩ <;> after_reads_simp <;> rfl

/-- Four rows of scores, and of boxes, one after another. -/
def joinScores (x0 x1 x2 x3 : FVec Ideal (Nms.P 2 1000) .f32) : FVec Ideal (Nms.P 2 4000) .f32 :=
  concatenate S2x4000 1 [⟨S2x1000, x0⟩, ⟨S2x1000, x1⟩, ⟨S2x1000, x2⟩, ⟨S2x1000, x3⟩] concatenates_S2x1000_S2x1000_S2x1000_S2x1000_S2x4000_d1
def joinBoxes (x0 x1 x2 x3 : FVec Ideal (Nms.Q 2 1000 4) .f32) : FVec Ideal (Nms.Q 2 4000 4) .f32 :=
  concatenate S2x4000x4 1 [⟨S2x1000x4, x0⟩, ⟨S2x1000x4, x1⟩, ⟨S2x1000x4, x2⟩, ⟨S2x1000x4, x3⟩] concatenates_S2x1000x4_S2x1000x4_S2x1000x4_S2x1000x4_S2x4000x4_d1

/-- The best thousand of all scores, and their boxes. -/
def lastScores (x : FVec Ideal (Nms.P 2 4000) .f32) : FVec Ideal (Nms.P 2 1000) .f32 :=
  (Host.topK S2x1000 1 (FloatOps.cmpfTotal (F := Ideal) (φ := .f32) .gt) x sliceFits_S2x4000_S2x1000).1
def lastAt (x : FVec Ideal (Nms.P 2 4000) .f32) : IVec (Nms.Q 2 1000 1) 32 :=
  broadcastInDim S2x1000x1 ![0, 1] bcast_S2x1000_S2x1000x1_0_1
    (Host.topK S2x1000 1 (FloatOps.cmpfTotal (F := Ideal) (φ := .f32) .gt) x sliceFits_S2x4000_S2x1000).2
def lastRows (x : FVec Ideal (Nms.Q 2 4000 4) .f32) (i : IVec (Nms.Q 2 1000 1) 32) : FVec Ideal (Nms.Q 2 1000 4) .f32 :=
  Nms.take4 gather_S2x4000x4_S2x1000x1_S2x1000x4_2_1_0_0_1_2_114 bcast_S_S2x1000x1 bcast_S1_S1x1x1_2 bcast_S1x1x1_S2x1000x1_0_1_2
    reducesTo_S2x1000x1_S2x1000_d2 h_S_ bcast_S2x1000_S2x1000x4_0_1 bcast_S_S2x1000x4 4000#32 3999#32 x i

theorem joined : StableHlo.after hostOps4_2 W (Proc.devRef .tc main_values_26) = lastScores (joinScores (W (Proc.devRef .tc main_values_3)) (W (Proc.devRef .tc main_values_10)) (W (Proc.devRef .tc main_values_17)) (W (Proc.devRef .tc main_values_24)))
    ∧ StableHlo.after hostOps4_2 W (Proc.devRef .tc main_v110) = lastAt (joinScores (W (Proc.devRef .tc main_values_3)) (W (Proc.devRef .tc main_values_10)) (W (Proc.devRef .tc main_values_17)) (W (Proc.devRef .tc main_values_24)))
    ∧ StableHlo.after hostOps4_2 W (Proc.devRef .tc main_v109) = joinBoxes (W (Proc.devRef .tc main_v32)) (W (Proc.devRef .tc main_v57)) (W (Proc.devRef .tc main_v82)) (W (Proc.devRef .tc main_v107)) := by
  refine ⟨?_, ?_, ?_⟩ <;> after_reads_simp <;> rfl

theorem last_rows : StableHlo.after hostOps4_3 W (Proc.devRef .tc main_v111) = lastRows (W (Proc.devRef .tc main_v109)) (W (Proc.devRef .tc main_v110)) := by
  after_reads_simp
  unfold lastRows Nms.take4 Nms.within Nms.wrap
  rfl

end Cert.Proof.KernelIdeal

end
-- ==== Proof.KernelRun.lean ====
module

public import proofs.«01_k».proof.Proof.KernelReads

@[expose] public section

set_option maxRecDepth 16384

/-! What the kernel leaves in its two results. -/

noncomputable section

namespace Cert.Proof.KernelIdeal

open Cert.KernelIdeal Cert.KernelIdeal.Gen
open Idealize.ShloMosaic Idealize.ShloMosaic.TcCoe Idealize.ShloMosaic.Tactic

/-- A level's windows, from the best two thousand scores and the rows at their places. -/
theorem laid_from {N : ℕ} (hk : 2000 ≤ N) (s : FVec Ideal (Nms.P 2 N) .f32) (d a : FVec Ideal (Nms.Q 2 N 4) .f32)
    (im : FVec Ideal (Nms.P 2 5) .f32) (f : (Nms.P 2 N).Slices (fun _ => 0) (Nms.P 2 2000))
    (rows : FVec Ideal (Nms.Q 2 N 4) .f32 → IVec (Nms.Q 2 2000 1) 32 → FVec Ideal (Nms.Q 2 2000 4) .f32)
    (hrows : ∀ x i b j c (p : Fin N), i (ix3 b j 0) = BitVec.ofNat 32 p.val → rows x i (ix3 b j c) = x (ix3 b p c)) :
    Laid hk s d a im (laidScores (best f s)) (laid (rows a (column (places f s)))) (laid (rows d (column (places f s))))
      (wide (less (extractStridedSlice S2x1 ![0, 0] im slices_S2x5_S2x1_0_0)))
      (wide (less (extractStridedSlice S2x1 ![0, 1] im slices_S2x5_S2x1_0_1))) := by
  have hp : ∀ b j, column (places f s) (ix3 b j 0) = BitVec.ofNat 32 (spot hk s b j).val := fun b j => by
    refine Eq.trans ?_ (Nms.topK_snd f hk s b j)
    unfold column places
    pointwise
  exact laid_of hk s d a im _ _ _ (fun b j => Nms.topK_fst f hk s b j) (fun b j e => hrows _ _ b j e _ (hp b j))
    (fun b j e => hrows _ _ b j e _ (hp b j))

/-- A level's windows from its lines: what its head leaves, what the takes make of it, and what is kept in between. -/
theorem laid_by {N : ℕ} {hk : 2000 ≤ N} {s : FVec Ideal (Nms.P 2 N) .f32} {d a : FVec Ideal (Nms.Q 2 N 4) .f32}
    {im : FVec Ideal (Nms.P 2 5) .f32} {f : (Nms.P 2 N).Slices (fun _ => 0) (Nms.P 2 2000)}
    {rows : FVec Ideal (Nms.Q 2 N 4) .f32 → IVec (Nms.Q 2 2000 1) 32 → FVec Ideal (Nms.Q 2 2000 4) .f32}
    (hrows : ∀ x i b j c (p : Fin N), i (ix3 b j 0) = BitVec.ofNat 32 p.val → rows x i (ix3 b j c) = x (ix3 b p c))
    {v v' : FVec Ideal (Nms.P 2 2000) .f32} {i i' : IVec (Nms.P 2 2000) 32} {col col' : IVec (Nms.Q 2 2000 1) 32}
    {dl an an' : FVec Ideal (Nms.Q 2 N 4) .f32} {rd rd' ra : FVec Ideal (Nms.Q 2 2000 4) .f32} {y x y' x' : FVec Ideal S2 .f32}
    {w0 : FVec Ideal S2x1x16x128 .f32} {w1 w2 : FVec Ideal S2x4x16x128 .f32} {w3 w4 : FVec Ideal S2x1x1x128 .f32}
    (h : v = best f s ∧ i = places f s ∧ col = column (places f s) ∧ dl = d ∧ an = a)
    (hv : v' = v) (hd : rd = rows dl col) (hd' : rd' = rd) (ha : ra = rows an' col') (ha' : an' = an) (hc : col' = column i') (hi : i' = i)
    (hl : y = less (extractStridedSlice S2x1 ![0, 0] im slices_S2x5_S2x1_0_0) ∧ x = less (extractStridedSlice S2x1 ![0, 1] im slices_S2x5_S2x1_0_1))
    (hy : y' = y) (hx : x' = x)
    (r : w0 = laidScores v' ∧ w1 = laid ra ∧ w2 = laid rd' ∧ w3 = wide y' ∧ w4 = wide x') : Laid hk s d a im w0 w1 w2 w3 w4 := by
  obtain ⟨h0, h1, h2, h3, h4⟩ := h
  obtain ⟨l0, l1⟩ := hl
  obtain ⟨r0, r1, r2, r3, r4⟩ := r
  rw [r0, r1, r2, r3, r4, hv, h0, ha, ha', h4, hc, hi, h1, hd', hd, h3, h2, hy, hx, l0, l1]
  exact laid_from hk s d a im f rows hrows

/-- A level's results, from its windows, what its call leaves and what the lines after it do. -/
theorem level_by {N : ℕ} {hk : 2000 ≤ N} {s : FVec Ideal (Nms.P 2 N) .f32} {d a : FVec Ideal (Nms.Q 2 N 4) .f32}
    {im : FVec Ideal (Nms.P 2 5) .f32} {w0 : FVec Ideal S2x1x16x128 .f32} {w1 w2 : FVec Ideal S2x4x16x128 .f32} {w3 w4 : FVec Ideal S2x1x1x128 .f32}
    (hl : Laid hk s d a im w0 w1 w2 w3 w4) {o0 : FVec Ideal S2x4x16x128 .f32} {o1 : FVec Ideal S2x1x16x128 .f32}
    {v v' : FVec Ideal (Nms.P 2 1000) .f32} {bx : FVec Ideal S2x2048x4 .f32} {ix : IVec (Nms.Q 2 1000 1) 32} {rr : FVec Ideal (Nms.Q 2 1000 4) .f32}
    (g0 : o0 = boxesOut w0 w1 w2 w3 w4) (g1 : o1 = scoresOut w0 w1 w2 w3 w4)
    (b : v = (Host.topK S2x1000 1 (FloatOps.cmpfTotal (F := Ideal) (φ := .f32) .gt) (outScores o1) sliceFits_S2x2048_S2x1000).1
      ∧ bx = outBoxes o0 ∧ ix = topAt (outScores o1))
    (hv : v' = v) (hr : rr = topRows bx ix) : v' = topScores hk s d a im ∧ rr = topBoxes hk s d a im := by
  obtain ⟨b0, b1, b2⟩ := b
  rw [hv, hr, b0, b1, b2, g0, g1]
  exact ⟨top_values _ _ _ _ _ hl, top_boxes _ _ _ _ _ hl⟩

variable (m : (ℓ : Loc nD τ sig) → Buf (Elt Ideal) ℓ) (c : Dev nD)

/-- The image sizes. -/
def sizes : FVec Ideal (Nms.P 2 5) .f32 := m ((c.tc : Thread nD τ).loc main_arg12)

theorem limits_eq : V1 m c main_v3 = less (extractStridedSlice S2x1 ![0, 0] (sizes m c) slices_S2x5_S2x1_0_0)
    ∧ V1 m c main_v7 = less (extractStridedSlice S2x1 ![0, 1] (sizes m c) slices_S2x5_S2x1_0_1) := limits (V0 m c)

/-- What no line of a stretch writes is kept. -/
theorem over1 (r : Ref sig .tc) (h : r ∉ hostOps1_1_W ++ (hostOps1_W ++ ([main_v27_0, main_v27_1] ++ (hostOps0_10_W ++ (hostOps0_9_W ++ (hostOps0_8_W ++ (hostOps0_7_W ++ (hostOps0_6_W ++ (hostOps0_5_W ++ (hostOps0_4_W ++ (hostOps0_3_W ++ (hostOps0_2_W ++ (hostOps0_1_W))))))))))))) : V14 m (outs m) c r = V1 m c r := by
  rw [List.mem_append, not_or, List.mem_append, not_or, List.mem_append, not_or, List.mem_append, not_or, List.mem_append, not_or, List.mem_append, not_or, List.mem_append, not_or, List.mem_append, not_or, List.mem_append, not_or, List.mem_append, not_or, List.mem_append, not_or, List.mem_append, not_or] at h
  obtain ⟨h14, h13, h12, h11, h10, h9, h8, h7, h6, h5, h4, h3, h2⟩ := h
  exact ((V14_of m (outs m) c r h14).trans ((V13_of m (outs m) c r h13).trans ((V12_of m (outs m) c r h12).trans ((V11_of m c r h11).trans ((V10_of m c r h10).trans ((V9_of m c r h9).trans ((V8_of m c r h8).trans ((V7_of m c r h7).trans ((V6_of m c r h6).trans ((V5_of m c r h5).trans ((V4_of m c r h4).trans ((V3_of m c r h3).trans (V2_of m c r h2)))))))))))))

/-- What no line of a stretch writes is kept. -/
theorem over2 (r : Ref sig .tc) (h : r ∉ hostOps2_1_W ++ (hostOps2_W ++ ([main_v52_0, main_v52_1] ++ (hostOps1_12_W ++ (hostOps1_11_W ++ (hostOps1_10_W ++ (hostOps1_9_W ++ (hostOps1_8_W ++ (hostOps1_7_W ++ (hostOps1_6_W ++ (hostOps1_5_W ++ (hostOps1_4_W ++ (hostOps1_3_W ++ (hostOps1_2_W)))))))))))))) : V28 m (outs m) c r = V14 m (outs m) c r := by
  rw [List.mem_append, not_or, List.mem_append, not_or, List.mem_append, not_or, List.mem_append, not_or, List.mem_append, not_or, List.mem_append, not_or, List.mem_append, not_or, List.mem_append, not_or, List.mem_append, not_or, List.mem_append, not_or, List.mem_append, not_or, List.mem_append, not_or, List.mem_append, not_or] at h
  obtain ⟨h28, h27, h26, h25, h24, h23, h22, h21, h20, h19, h18, h17, h16, h15⟩ := h
  exact ((V28_of m (outs m) c r h28).trans ((V27_of m (outs m) c r h27).trans ((V26_of m (outs m) c r h26).trans ((V25_of m (outs m) c r h25).trans ((V24_of m (outs m) c r h24).trans ((V23_of m (outs m) c r h23).trans ((V22_of m (outs m) c r h22).trans ((V21_of m (outs m) c r h21).trans ((V20_of m (outs m) c r h20).trans ((V19_of m (outs m) c r h19).trans ((V18_of m (outs m) c r h18).trans ((V17_of m (outs m) c r h17).trans ((V16_of m (outs m) c r h16).trans (V15_of m (outs m) c r h15))))))))))))))

/-- What no line of a stretch writes is kept. -/
theorem over3 (r : Ref sig .tc) (h : r ∉ hostOps3_1_W ++ (hostOps3_W ++ ([main_v77_0, main_v77_1] ++ (hostOps2_12_W ++ (hostOps2_11_W ++ (hostOps2_10_W ++ (hostOps2_9_W ++ (hostOps2_8_W ++ (hostOps2_7_W ++ (hostOps2_6_W ++ (hostOps2_5_W ++ (hostOps2_4_W ++ (hostOps2_3_W ++ (hostOps2_2_W)))))))))))))) : V42 m (outs m) c r = V28 m (outs m) c r := by
  rw [List.mem_append, not_or, List.mem_append, not_or, List.mem_append, not_or, List.mem_append, not_or, List.mem_append, not_or, List.mem_append, not_or, List.mem_append, not_or, List.mem_append, not_or, List.mem_append, not_or, List.mem_append, not_or, List.mem_append, not_or, List.mem_append, not_or, List.mem_append, not_or] at h
  obtain ⟨h42, h41, h40, h39, h38, h37, h36, h35, h34, h33, h32, h31, h30, h29⟩ := h
  exact ((V42_of m (outs m) c r h42).trans ((V41_of m (outs m) c r h41).trans ((V40_of m (outs m) c r h40).trans ((V39_of m (outs m) c r h39).trans ((V38_of m (outs m) c r h38).trans ((V37_of m (outs m) c r h37).trans ((V36_of m (outs m) c r h36).trans ((V35_of m (outs m) c r h35).trans ((V34_of m (outs m) c r h34).trans ((V33_of m (outs m) c r h33).trans ((V32_of m (outs m) c r h32).trans ((V31_of m (outs m) c r h31).trans ((V30_of m (outs m) c r h30).trans (V29_of m (outs m) c r h29))))))))))))))

/-- What no line of a stretch writes is kept. -/
theorem over4 (r : Ref sig .tc) (h : r ∉ hostOps4_1_W ++ (hostOps4_W ++ ([main_v102_0, main_v102_1] ++ (hostOps3_12_W ++ (hostOps3_11_W ++ (hostOps3_10_W ++ (hostOps3_9_W ++ (hostOps3_8_W ++ (hostOps3_7_W ++ (hostOps3_6_W ++ (hostOps3_5_W ++ (hostOps3_4_W ++ (hostOps3_3_W ++ (hostOps3_2_W)))))))))))))) : V56 m (outs m) c r = V42 m (outs m) c r := by
  rw [List.mem_append, not_or, List.mem_append, not_or, List.mem_append, not_or, List.mem_append, not_or, List.mem_append, not_or, List.mem_append, not_or, List.mem_append, not_or, List.mem_append, not_or, List.mem_append, not_or, List.mem_append, not_or, List.mem_append, not_or, List.mem_append, not_or, List.mem_append, not_or] at h
  obtain ⟨h56, h55, h54, h53, h52, h51, h50, h49, h48, h47, h46, h45, h44, h43⟩ := h
  exact ((V56_of m (outs m) c r h56).trans ((V55_of m (outs m) c r h55).trans ((V54_of m (outs m) c r h54).trans ((V53_of m (outs m) c r h53).trans ((V52_of m (outs m) c r h52).trans ((V51_of m (outs m) c r h51).trans ((V50_of m (outs m) c r h50).trans ((V49_of m (outs m) c r h49).trans ((V48_of m (outs m) c r h48).trans ((V47_of m (outs m) c r h47).trans ((V46_of m (outs m) c r h46).trans ((V45_of m (outs m) c r h45).trans ((V44_of m (outs m) c r h44).trans (V43_of m (outs m) c r h43))))))))))))))

/-! ### Level 0 -/

/-- The raw scores, deltas and anchors by rows. -/
def scores0 : FVec Ideal (Nms.P 2 196608) .f32 := shapeCast S2x196608 (m ((c.tc : Thread nD τ).loc main_arg0)) shapeCasts_S2x256x256x3_S2x196608
def deltas0 : FVec Ideal (Nms.Q 2 196608 4) .f32 := shapeCast S2x196608x4 (m ((c.tc : Thread nD τ).loc main_arg4)) shapeCasts_S2x256x256x12_S2x196608x4
def anchors0 : FVec Ideal (Nms.Q 2 196608 4) .f32 := shapeCast S2x196608x4 (m ((c.tc : Thread nD τ).loc main_arg8)) shapeCasts_S2x256x256x12_S2x196608x4
theorem hk0 : 2000 ≤ 196608 := by decide

theorem rows0_apply (x : FVec Ideal (Nms.Q 2 196608 4) .f32) (i : IVec (Nms.Q 2 2000 1) 32) (b : Fin 2) (j : Fin 2000) (e : Fin 4) (p : Fin 196608)
    (h : i (ix3 b j 0) = BitVec.ofNat 32 p.val) : rows0 x i (ix3 b j e) = x (ix3 b p e) :=
  Nms.take4_apply _ _ _ _ _ _ _ _ _ _ _ _ (by decide) (by decide) ⟨rfl, rfl, rfl, rfl, rfl, rfl, rfl⟩ rfl b j e p h

/-- The windows the call finds. -/
theorem laid0 : Laid hk0 (scores0 m c) (deltas0 m c) (anchors0 m c) (sizes m c) (V11 m c main_v18) (V11 m c main_v20)
    (V11 m c main_v22) (V11 m c main_v24) (V11 m c main_v26) := by
  have h := head0 (V0 m c)
  exact laid_by (v := V1 m c main_values) (i := V1 m c main_indices) (col := V1 m c main_v11) (dl := V1 m c main_v9) (an := V1 m c main_v10)
    (v' := V4 m c main_values) (rd := V2 m c main_v12) (rd' := V4 m c main_v12) (ra := V4 m c main_v14)
    (an' := V3 m c main_v10) (col' := V3 m c main_v13) (i' := V2 m c main_indices) rows0_apply h
    ((V4_of m c main_values (by decide)).trans ((V3_of m c main_values (by decide)).trans (V2_of m c main_values (by decide))))
    (takeDeltas0 (V1 m c)) ((V4_of m c main_v12 (by decide)).trans (V3_of m c main_v12 (by decide)))
    (takeAnchors0 (V3 m c)) ((V3_of m c main_v10 (by decide)).trans (V2_of m c main_v10 (by decide)))
    (mid0 (V2 m c)) (V2_of m c main_indices (by decide))
    (limits_eq m c) ((V4_of m c main_v3 (by decide)).trans ((V3_of m c main_v3 (by decide)).trans (V2_of m c main_v3 (by decide))))
    ((V4_of m c main_v7 (by decide)).trans ((V3_of m c main_v7 (by decide)).trans (V2_of m c main_v7 (by decide))))
    (lay0_reads (V4 m c))

/-- What the level's call and the lines after it leave. -/
theorem level0 : V14 m (outs m) c main_values_3 = topScores hk0 (scores0 m c) (deltas0 m c) (anchors0 m c) (sizes m c)
    ∧ V14 m (outs m) c main_v32 = topBoxes hk0 (scores0 m c) (deltas0 m c) (anchors0 m c) (sizes m c) :=
  level_by (laid0 m c) (o0 := V12 m (outs m) c main_v27_0) (o1 := V12 m (outs m) c main_v27_1)
    ((Function.update_of_ne (by decide) _ _).trans ((Function.update_self _ _ _).trans
      ((Pipeline.afterRegion_arr _ _ launch0.win.arr_inj 5).trans (callBoxes0 (V11 m c) c))))
    ((Function.update_self _ _ _).trans
      ((Pipeline.afterRegion_arr _ _ launch0.win.arr_inj 6).trans (callScores0 (V11 m c) c)))
    (back0 (V12 m (outs m) c)) (V14_of m (outs m) c main_values_3 (by decide)) (rois0 (V13 m (outs m) c))

/-! ### Level 1 -/

/-- The raw scores, deltas and anchors by rows. -/
def scores1 : FVec Ideal (Nms.P 2 49152) .f32 := shapeCast S2x49152 (m ((c.tc : Thread nD τ).loc main_arg1)) shapeCasts_S2x128x128x3_S2x49152
def deltas1 : FVec Ideal (Nms.Q 2 49152 4) .f32 := shapeCast S2x49152x4 (m ((c.tc : Thread nD τ).loc main_arg5)) shapeCasts_S2x128x128x12_S2x49152x4
def anchors1 : FVec Ideal (Nms.Q 2 49152 4) .f32 := shapeCast S2x49152x4 (m ((c.tc : Thread nD τ).loc main_arg9)) shapeCasts_S2x128x128x12_S2x49152x4
theorem hk1 : 2000 ≤ 49152 := by decide

theorem rows1_apply (x : FVec Ideal (Nms.Q 2 49152 4) .f32) (i : IVec (Nms.Q 2 2000 1) 32) (b : Fin 2) (j : Fin 2000) (e : Fin 4) (p : Fin 49152)
    (h : i (ix3 b j 0) = BitVec.ofNat 32 p.val) : rows1 x i (ix3 b j e) = x (ix3 b p e) :=
  Nms.take4_apply _ _ _ _ _ _ _ _ _ _ _ _ (by decide) (by decide) ⟨rfl, rfl, rfl, rfl, rfl, rfl, rfl⟩ rfl b j e p h

/-- The windows the call finds. -/
theorem laid1 : Laid hk1 (scores1 m c) (deltas1 m c) (anchors1 m c) (sizes m c) (V25 m (outs m) c main_v43) (V25 m (outs m) c main_v45)
    (V25 m (outs m) c main_v47) (V25 m (outs m) c main_v49) (V25 m (outs m) c main_v51) := by
  have h := head1 (V14 m (outs m) c)
  have a0 : V14 m (outs m) c main_arg1 = m (c, main_arg1) := (over1 m c main_arg1 (by decide)).trans (V1_of m c main_arg1 (by decide))
  have a1 : V14 m (outs m) c main_arg5 = m (c, main_arg5) := (over1 m c main_arg5 (by decide)).trans (V1_of m c main_arg5 (by decide))
  have a2 : V14 m (outs m) c main_arg9 = m (c, main_arg9) := (over1 m c main_arg9 (by decide)).trans (V1_of m c main_arg9 (by decide))
  rw [a0, a1, a2] at h
  exact laid_by (v := V15 m (outs m) c main_values_5) (i := V15 m (outs m) c main_indices_6) (col := V15 m (outs m) c main_v36) (dl := V15 m (outs m) c main_v34) (an := V15 m (outs m) c main_v35)
    (v' := V18 m (outs m) c main_values_5) (rd := V16 m (outs m) c main_v37) (rd' := V18 m (outs m) c main_v37) (ra := V18 m (outs m) c main_v39)
    (an' := V17 m (outs m) c main_v35) (col' := V17 m (outs m) c main_v38) (i' := V16 m (outs m) c main_indices_6) rows1_apply h
    ((V18_of m (outs m) c main_values_5 (by decide)).trans ((V17_of m (outs m) c main_values_5 (by decide)).trans (V16_of m (outs m) c main_values_5 (by decide))))
    (takeDeltas1 (V15 m (outs m) c)) ((V18_of m (outs m) c main_v37 (by decide)).trans (V17_of m (outs m) c main_v37 (by decide)))
    (takeAnchors1 (V17 m (outs m) c)) ((V17_of m (outs m) c main_v35 (by decide)).trans (V16_of m (outs m) c main_v35 (by decide)))
    (mid1 (V16 m (outs m) c)) (V16_of m (outs m) c main_indices_6 (by decide))
    (limits_eq m c) (((V18_of m (outs m) c main_v3 (by decide)).trans ((V17_of m (outs m) c main_v3 (by decide)).trans ((V16_of m (outs m) c main_v3 (by decide)).trans (V15_of m (outs m) c main_v3 (by decide))))).trans (over1 m c main_v3 (by decide)))
    (((V18_of m (outs m) c main_v7 (by decide)).trans ((V17_of m (outs m) c main_v7 (by decide)).trans ((V16_of m (outs m) c main_v7 (by decide)).trans (V15_of m (outs m) c main_v7 (by decide))))).trans (over1 m c main_v7 (by decide)))
    (lay1_reads (V18 m (outs m) c))

/-- What the level's call and the lines after it leave. -/
theorem level1 : V28 m (outs m) c main_values_10 = topScores hk1 (scores1 m c) (deltas1 m c) (anchors1 m c) (sizes m c)
    ∧ V28 m (outs m) c main_v57 = topBoxes hk1 (scores1 m c) (deltas1 m c) (anchors1 m c) (sizes m c) :=
  level_by (laid1 m c) (o0 := V26 m (outs m) c main_v52_0) (o1 := V26 m (outs m) c main_v52_1)
    ((Function.update_of_ne (by decide) _ _).trans ((Function.update_self _ _ _).trans
      ((Pipeline.afterRegion_arr _ _ launch1.win.arr_inj 5).trans (callBoxes1 (V25 m (outs m) c) c))))
    ((Function.update_self _ _ _).trans
      ((Pipeline.afterRegion_arr _ _ launch1.win.arr_inj 6).trans (callScores1 (V25 m (outs m) c) c)))
    (back1 (V26 m (outs m) c)) (V28_of m (outs m) c main_values_10 (by decide)) (rois1 (V27 m (outs m) c))

/-! ### Level 2 -/

/-- The raw scores, deltas and anchors by rows. -/
def scores2 : FVec Ideal (Nms.P 2 12288) .f32 := shapeCast S2x12288 (m ((c.tc : Thread nD τ).loc main_arg2)) shapeCasts_S2x64x64x3_S2x12288
def deltas2 : FVec Ideal (Nms.Q 2 12288 4) .f32 := shapeCast S2x12288x4 (m ((c.tc : Thread nD τ).loc main_arg6)) shapeCasts_S2x64x64x12_S2x12288x4
def anchors2 : FVec Ideal (Nms.Q 2 12288 4) .f32 := shapeCast S2x12288x4 (m ((c.tc : Thread nD τ).loc main_arg10)) shapeCasts_S2x64x64x12_S2x12288x4
theorem hk2 : 2000 ≤ 12288 := by decide

theorem rows2_apply (x : FVec Ideal (Nms.Q 2 12288 4) .f32) (i : IVec (Nms.Q 2 2000 1) 32) (b : Fin 2) (j : Fin 2000) (e : Fin 4) (p : Fin 12288)
    (h : i (ix3 b j 0) = BitVec.ofNat 32 p.val) : rows2 x i (ix3 b j e) = x (ix3 b p e) :=
  Nms.take4_apply _ _ _ _ _ _ _ _ _ _ _ _ (by decide) (by decide) ⟨rfl, rfl, rfl, rfl, rfl, rfl, rfl⟩ rfl b j e p h

/-- The windows the call finds. -/
theorem laid2 : Laid hk2 (scores2 m c) (deltas2 m c) (anchors2 m c) (sizes m c) (V39 m (outs m) c main_v68) (V39 m (outs m) c main_v70)
    (V39 m (outs m) c main_v72) (V39 m (outs m) c main_v74) (V39 m (outs m) c main_v76) := by
  have h := head2 (V28 m (outs m) c)
  have a0 : V28 m (outs m) c main_arg2 = m (c, main_arg2) := ((over2 m c main_arg2 (by decide)).trans (over1 m c main_arg2 (by decide))).trans (V1_of m c main_arg2 (by decide))
  have a1 : V28 m (outs m) c main_arg6 = m (c, main_arg6) := ((over2 m c main_arg6 (by decide)).trans (over1 m c main_arg6 (by decide))).trans (V1_of m c main_arg6 (by decide))
  have a2 : V28 m (outs m) c main_arg10 = m (c, main_arg10) := ((over2 m c main_arg10 (by decide)).trans (over1 m c main_arg10 (by decide))).trans (V1_of m c main_arg10 (by decide))
  rw [a0, a1, a2] at h
  exact laid_by (v := V29 m (outs m) c main_values_12) (i := V29 m (outs m) c main_indices_13) (col := V29 m (outs m) c main_v61) (dl := V29 m (outs m) c main_v59) (an := V29 m (outs m) c main_v60)
    (v' := V32 m (outs m) c main_values_12) (rd := V30 m (outs m) c main_v62) (rd' := V32 m (outs m) c main_v62) (ra := V32 m (outs m) c main_v64)
    (an' := V31 m (outs m) c main_v60) (col' := V31 m (outs m) c main_v63) (i' := V30 m (outs m) c main_indices_13) rows2_apply h
    ((V32_of m (outs m) c main_values_12 (by decide)).trans ((V31_of m (outs m) c main_values_12 (by decide)).trans (V30_of m (outs m) c main_values_12 (by decide))))
    (takeDeltas2 (V29 m (outs m) c)) ((V32_of m (outs m) c main_v62 (by decide)).trans (V31_of m (outs m) c main_v62 (by decide)))
    (takeAnchors2 (V31 m (outs m) c)) ((V31_of m (outs m) c main_v60 (by decide)).trans (V30_of m (outs m) c main_v60 (by decide)))
    (mid2 (V30 m (outs m) c)) (V30_of m (outs m) c main_indices_13 (by decide))
    (limits_eq m c) (((V32_of m (outs m) c main_v3 (by decide)).trans ((V31_of m (outs m) c main_v3 (by decide)).trans ((V30_of m (outs m) c main_v3 (by decide)).trans (V29_of m (outs m) c main_v3 (by decide))))).trans ((over2 m c main_v3 (by decide)).trans (over1 m c main_v3 (by decide))))
    (((V32_of m (outs m) c main_v7 (by decide)).trans ((V31_of m (outs m) c main_v7 (by decide)).trans ((V30_of m (outs m) c main_v7 (by decide)).trans (V29_of m (outs m) c main_v7 (by decide))))).trans ((over2 m c main_v7 (by decide)).trans (over1 m c main_v7 (by decide))))
    (lay2_reads (V32 m (outs m) c))

/-- What the level's call and the lines after it leave. -/
theorem level2 : V42 m (outs m) c main_values_17 = topScores hk2 (scores2 m c) (deltas2 m c) (anchors2 m c) (sizes m c)
    ∧ V42 m (outs m) c main_v82 = topBoxes hk2 (scores2 m c) (deltas2 m c) (anchors2 m c) (sizes m c) :=
  level_by (laid2 m c) (o0 := V40 m (outs m) c main_v77_0) (o1 := V40 m (outs m) c main_v77_1)
    ((Function.update_of_ne (by decide) _ _).trans ((Function.update_self _ _ _).trans
      ((Pipeline.afterRegion_arr _ _ launch2.win.arr_inj 5).trans (callBoxes2 (V39 m (outs m) c) c))))
    ((Function.update_self _ _ _).trans
      ((Pipeline.afterRegion_arr _ _ launch2.win.arr_inj 6).trans (callScores2 (V39 m (outs m) c) c)))
    (back2 (V40 m (outs m) c)) (V42_of m (outs m) c main_values_17 (by decide)) (rois2 (V41 m (outs m) c))

/-! ### Level 3 -/

/-- The raw scores, deltas and anchors by rows. -/
def scores3 : FVec Ideal (Nms.P 2 3072) .f32 := shapeCast S2x3072 (m ((c.tc : Thread nD τ).loc main_arg3)) shapeCasts_S2x32x32x3_S2x3072
def deltas3 : FVec Ideal (Nms.Q 2 3072 4) .f32 := shapeCast S2x3072x4 (m ((c.tc : Thread nD τ).loc main_arg7)) shapeCasts_S2x32x32x12_S2x3072x4
def anchors3 : FVec Ideal (Nms.Q 2 3072 4) .f32 := shapeCast S2x3072x4 (m ((c.tc : Thread nD τ).loc main_arg11)) shapeCasts_S2x32x32x12_S2x3072x4
theorem hk3 : 2000 ≤ 3072 := by decide

theorem rows3_apply (x : FVec Ideal (Nms.Q 2 3072 4) .f32) (i : IVec (Nms.Q 2 2000 1) 32) (b : Fin 2) (j : Fin 2000) (e : Fin 4) (p : Fin 3072)
    (h : i (ix3 b j 0) = BitVec.ofNat 32 p.val) : rows3 x i (ix3 b j e) = x (ix3 b p e) :=
  Nms.take4_apply _ _ _ _ _ _ _ _ _ _ _ _ (by decide) (by decide) ⟨rfl, rfl, rfl, rfl, rfl, rfl, rfl⟩ rfl b j e p h

/-- The windows the call finds. -/
theorem laid3 : Laid hk3 (scores3 m c) (deltas3 m c) (anchors3 m c) (sizes m c) (V53 m (outs m) c main_v93) (V53 m (outs m) c main_v95)
    (V53 m (outs m) c main_v97) (V53 m (outs m) c main_v99) (V53 m (outs m) c main_v101) := by
  have h := head3 (V42 m (outs m) c)
  have a0 : V42 m (outs m) c main_arg3 = m (c, main_arg3) := ((over3 m c main_arg3 (by decide)).trans ((over2 m c main_arg3 (by decide)).trans (over1 m c main_arg3 (by decide)))).trans (V1_of m c main_arg3 (by decide))
  have a1 : V42 m (outs m) c main_arg7 = m (c, main_arg7) := ((over3 m c main_arg7 (by decide)).trans ((over2 m c main_arg7 (by decide)).trans (over1 m c main_arg7 (by decide)))).trans (V1_of m c main_arg7 (by decide))
  have a2 : V42 m (outs m) c main_arg11 = m (c, main_arg11) := ((over3 m c main_arg11 (by decide)).trans ((over2 m c main_arg11 (by decide)).trans (over1 m c main_arg11 (by decide)))).trans (V1_of m c main_arg11 (by decide))
  rw [a0, a1, a2] at h
  exact laid_by (v := V43 m (outs m) c main_values_19) (i := V43 m (outs m) c main_indices_20) (col := V43 m (outs m) c main_v86) (dl := V43 m (outs m) c main_v84) (an := V43 m (outs m) c main_v85)
    (v' := V46 m (outs m) c main_values_19) (rd := V44 m (outs m) c main_v87) (rd' := V46 m (outs m) c main_v87) (ra := V46 m (outs m) c main_v89)
    (an' := V45 m (outs m) c main_v85) (col' := V45 m (outs m) c main_v88) (i' := V44 m (outs m) c main_indices_20) rows3_apply h
    ((V46_of m (outs m) c main_values_19 (by decide)).trans ((V45_of m (outs m) c main_values_19 (by decide)).trans (V44_of m (outs m) c main_values_19 (by decide))))
    (takeDeltas3 (V43 m (outs m) c)) ((V46_of m (outs m) c main_v87 (by decide)).trans (V45_of m (outs m) c main_v87 (by decide)))
    (takeAnchors3 (V45 m (outs m) c)) ((V45_of m (outs m) c main_v85 (by decide)).trans (V44_of m (outs m) c main_v85 (by decide)))
    (mid3 (V44 m (outs m) c)) (V44_of m (outs m) c main_indices_20 (by decide))
    (limits_eq m c) (((V46_of m (outs m) c main_v3 (by decide)).trans ((V45_of m (outs m) c main_v3 (by decide)).trans ((V44_of m (outs m) c main_v3 (by decide)).trans (V43_of m (outs m) c main_v3 (by decide))))).trans ((over3 m c main_v3 (by decide)).trans ((over2 m c main_v3 (by decide)).trans (over1 m c main_v3 (by decide)))))
    (((V46_of m (outs m) c main_v7 (by decide)).trans ((V45_of m (outs m) c main_v7 (by decide)).trans ((V44_of m (outs m) c main_v7 (by decide)).trans (V43_of m (outs m) c main_v7 (by decide))))).trans ((over3 m c main_v7 (by decide)).trans ((over2 m c main_v7 (by decide)).trans (over1 m c main_v7 (by decide)))))
    (lay3_reads (V46 m (outs m) c))

/-- What the level's call and the lines after it leave. -/
theorem level3 : V56 m (outs m) c main_values_24 = topScores hk3 (scores3 m c) (deltas3 m c) (anchors3 m c) (sizes m c)
    ∧ V56 m (outs m) c main_v107 = topBoxes hk3 (scores3 m c) (deltas3 m c) (anchors3 m c) (sizes m c) :=
  level_by (laid3 m c) (o0 := V54 m (outs m) c main_v102_0) (o1 := V54 m (outs m) c main_v102_1)
    ((Function.update_of_ne (by decide) _ _).trans ((Function.update_self _ _ _).trans
      ((Pipeline.afterRegion_arr _ _ launch3.win.arr_inj 5).trans (callBoxes3 (V53 m (outs m) c) c))))
    ((Function.update_self _ _ _).trans
      ((Pipeline.afterRegion_arr _ _ launch3.win.arr_inj 6).trans (callScores3 (V53 m (outs m) c) c)))
    (back3 (V54 m (outs m) c)) (V56_of m (outs m) c main_values_24 (by decide)) (rois3 (V55 m (outs m) c))

abbrev levelScores0 : FVec Ideal (Nms.P 2 1000) .f32 := topScores hk0 (scores0 m c) (deltas0 m c) (anchors0 m c) (sizes m c)
abbrev levelBoxes0 : FVec Ideal (Nms.Q 2 1000 4) .f32 := topBoxes hk0 (scores0 m c) (deltas0 m c) (anchors0 m c) (sizes m c)
abbrev levelScores1 : FVec Ideal (Nms.P 2 1000) .f32 := topScores hk1 (scores1 m c) (deltas1 m c) (anchors1 m c) (sizes m c)
abbrev levelBoxes1 : FVec Ideal (Nms.Q 2 1000 4) .f32 := topBoxes hk1 (scores1 m c) (deltas1 m c) (anchors1 m c) (sizes m c)
abbrev levelScores2 : FVec Ideal (Nms.P 2 1000) .f32 := topScores hk2 (scores2 m c) (deltas2 m c) (anchors2 m c) (sizes m c)
abbrev levelBoxes2 : FVec Ideal (Nms.Q 2 1000 4) .f32 := topBoxes hk2 (scores2 m c) (deltas2 m c) (anchors2 m c) (sizes m c)
abbrev levelScores3 : FVec Ideal (Nms.P 2 1000) .f32 := topScores hk3 (scores3 m c) (deltas3 m c) (anchors3 m c) (sizes m c)
abbrev levelBoxes3 : FVec Ideal (Nms.Q 2 1000 4) .f32 := topBoxes hk3 (scores3 m c) (deltas3 m c) (anchors3 m c) (sizes m c)

theorem values_eq : V58 m (outs m) c main_values_26 = lastScores (joinScores (levelScores0 m c) (levelScores1 m c) (levelScores2 m c) (levelScores3 m c))
    ∧ V58 m (outs m) c main_v111 = lastRows (joinBoxes (levelBoxes0 m c) (levelBoxes1 m c) (levelBoxes2 m c) (levelBoxes3 m c)) (lastAt (joinScores (levelScores0 m c) (levelScores1 m c) (levelScores2 m c) (levelScores3 m c))) := by

  have s0 : V56 m (outs m) c main_values_3 = levelScores0 m c := by
    refine ((over4 m c main_values_3 (by decide)).trans ((over3 m c main_values_3 (by decide)).trans (over2 m c main_values_3 (by decide)))).trans ?_
    exact (level0 m c).1
  have x0 : V56 m (outs m) c main_v32 = levelBoxes0 m c := by
    refine ((over4 m c main_v32 (by decide)).trans ((over3 m c main_v32 (by decide)).trans (over2 m c main_v32 (by decide)))).trans ?_
    exact (level0 m c).2
  have s1 : V56 m (outs m) c main_values_10 = levelScores1 m c := by
    refine ((over4 m c main_values_10 (by decide)).trans (over3 m c main_values_10 (by decide))).trans ?_
    exact (level1 m c).1
  have x1 : V56 m (outs m) c main_v57 = levelBoxes1 m c := by
    refine ((over4 m c main_v57 (by decide)).trans (over3 m c main_v57 (by decide))).trans ?_
    exact (level1 m c).2
  have s2 : V56 m (outs m) c main_values_17 = levelScores2 m c := by
    refine (over4 m c main_values_17 (by decide)).trans ?_
    exact (level2 m c).1
  have x2 : V56 m (outs m) c main_v82 = levelBoxes2 m c := by
    refine (over4 m c main_v82 (by decide)).trans ?_
    exact (level2 m c).2
  obtain ⟨s3, x3⟩ := level3 m c
  obtain ⟨j0, j1, j2⟩ := joined (V56 m (outs m) c)
  rw [s0, s1, s2, s3] at j0 j1
  rw [x0, x1, x2, x3] at j2
  refine ⟨?_, ?_⟩
  · refine (V58_of m (outs m) c main_values_26 (by decide)).trans ?_
    exact j0
  · refine (last_rows _).trans ?_
    exact congrArg₂ lastRows j2 j1

variable (ρ : Dev nD → PrngReg)

/-- The kernel's results, from any memory with zero counters. -/
theorem results : θ_run defs (onTc (τ := τ) (main (F := Ideal))) ⟨m, fun _ => 0, ρ⟩ (fun r => ∀ c : Dev nD,
      r.2.mem ((c.tc : Thread nD τ).loc main_values_26) = lastScores (joinScores (levelScores0 m c) (levelScores1 m c) (levelScores2 m c) (levelScores3 m c))
      ∧ r.2.mem ((c.tc : Thread nD τ).loc main_v111) = lastRows (joinBoxes (levelBoxes0 m c) (levelBoxes1 m c) (levelBoxes2 m c) (levelBoxes3 m c)) (lastAt (joinScores (levelScores0 m c) (levelScores1 m c) (levelScores2 m c) (levelScores3 m c)))) :=
  (θ_run defs _ _).mono (fun _ h c =>
    ⟨(h.1 c _ (Pipeline.devRef_mem_ucRefs (b := main_values_26) (by decide))).trans (values_eq m c).1,
      (h.1 c _ (Pipeline.devRef_mem_ucRefs (b := main_v111) (by decide))).trans (values_eq m c).2⟩) (run m ρ)

end Cert.Proof.KernelIdeal

end
-- ==== Proof.Fair.lean ====
module

public import proofs.«01_k».proof.Defs
public import proofs.«01_k».proof.Proof.Gen.Pre_fair
public import proofs.«01_k».proof.Proof.KernelRun

@[expose] public section

set_option maxRecDepth 16384

/-! What the precondition says of the anchors and of the image sizes. -/

noncomputable section

namespace Cert.Proof.Fair

open Idealize.ShloMosaic Idealize.ShloMosaic.TcCoe Idealize.ShloMosaic.Tactic

section
variable {N : ℕ} (y : FVec Ideal (Nms.Q 2 N 4) .f32)

/-- One coordinate of every anchor. -/
theorem coordinate {k : ℕ} (k' : Fin 4) (hk : k'.val = k) (h : (Nms.Q 2 N 4).Slices ![0, 0, k] (Nms.Q 2 N 1)) (h' : (Nms.Q 2 N 1).ShapeCasts (Nms.P 2 N))
    (b : Fin 2) (p : Fin N) : shapeCast (Nms.P 2 N) (extractStridedSlice (Nms.Q 2 N 1) ![0, 0, k] y h) h' (ix2 b p) = y (ix3 b p k') := by
  subst hk
  unfold shapeCast
  rw [Shape.reshapeEquiv_eq_of_rowMajor (y := ix3 b p 0) h' (by
    rw [Shape.rowMajor_val_three, Shape.rowMajor_val_two]
    show (b.val * N + p.val) * 1 + 0 = b.val * N + p.val
    omega)]
  unfold extractStridedSlice
  congr 1
  funext a
  apply Fin.ext
  fin_cases a
  · exact Nat.zero_add _
  · exact Nat.zero_add _
  · rfl

/-- The test that the extent between two coordinates is not negative. -/
theorem extent_test {k l : ℕ} (k' l' : Fin 4) (hk : k'.val = k) (hl : l'.val = l) (h1 : (Nms.Q 2 N 4).Slices ![0, 0, k] (Nms.Q 2 N 1))
    (h2 : (Nms.Q 2 N 4).Slices ![0, 0, l] (Nms.Q 2 N 1)) (h' : (Nms.Q 2 N 1).ShapeCasts (Nms.P 2 N)) (hb : Nms.Z.BroadcastsInDim (Nms.P 2 N) ![])
    (b : Fin 2) (p : Fin N) :
    cmpf .oge (addf (subf (shapeCast (Nms.P 2 N) (extractStridedSlice (Nms.Q 2 N 1) ![0, 0, l] y h2) h')
        (shapeCast (Nms.P 2 N) (extractStridedSlice (Nms.Q 2 N 1) ![0, 0, k] y h1) h'))
      (broadcastInDim (Nms.P 2 N) ![] hb (constant (F := Ideal) Nms.Z .f32 0x3F800000#32)))
      (broadcastInDim (Nms.P 2 N) ![] hb (constant (F := Ideal) Nms.Z .f32 0x00000000#32)) (ix2 b p)
      = BitVec.ofBool (decide (0 ≤ Nms.ext (y (ix3 b p k')) (y (ix3 b p l')))) := by
  rw [← coordinate y k' hk h1 h' b p, ← coordinate y l' hl h2 h' b p, ← Ideal.ofBits_zero_f32]
  unfold Nms.ext
  rw [← Nms.ofBits_one]
  rfl
end

theorem first_two (x : FVec Ideal Cert.Pre_fair.S2x5 .f32) (b a : Fin 2) :
    (extractStridedSlice Cert.Pre_fair.S2x2 ![0, 0] x Cert.Pre_fair.Facts.slices_S2x5_S2x2_0_0) (ix2 b a) = x (ix2 b (a.castLE (by decide))) := by
  unfold extractStridedSlice
  congr 1
  funext i
  apply Fin.ext
  fin_cases i <;> exact Nat.zero_add _

theorem ofBits_top : Ideal.ofBits .f32 0x7F800000#32 = ⊤ := by
  simp [Ideal.ofBits, Ideal.ieee]
theorem ofBits_bot : Ideal.ofBits .f32 0xFF800000#32 = ⊥ := by
  simp [Ideal.ofBits, Ideal.ieee]

theorem below_test (x : FVec Ideal Cert.Pre_fair.S2x5 .f32) (b a : Fin 2) :
    cmpf .olt (extractStridedSlice Cert.Pre_fair.S2x2 ![0, 0] x Cert.Pre_fair.Facts.slices_S2x5_S2x2_0_0)
      (broadcastInDim Cert.Pre_fair.S2x2 ![] Cert.Pre_fair.Facts.bcast_S_S2x2 (constant (F := Ideal) Nms.Z .f32 0x7F800000#32)) (ix2 b a)
      = BitVec.ofBool (decide ((x (ix2 b (a.castLE (by decide))) : EReal) < ⊤)) := by
  rw [← first_two x b a, ← ofBits_top]
  rfl
theorem above_test (x : FVec Ideal Cert.Pre_fair.S2x5 .f32) (b a : Fin 2) :
    cmpf .ogt (extractStridedSlice Cert.Pre_fair.S2x2 ![0, 0] x Cert.Pre_fair.Facts.slices_S2x5_S2x2_0_0)
      (broadcastInDim Cert.Pre_fair.S2x2 ![] Cert.Pre_fair.Facts.bcast_S_S2x2 (constant (F := Ideal) Nms.Z .f32 0xFF800000#32)) (ix2 b a)
      = BitVec.ofBool (decide ((⊥ : EReal) < x (ix2 b (a.castLE (by decide))))) := by
  rw [← first_two x b a, ← ofBits_bot]
  rfl

theorem of_bit {p : Prop} [Decidable p] (h : BitVec.ofBool (decide p) = 1#1) : p := by
  by_contra hp
  rw [decide_eq_false hp] at h
  exact absurd h (by decide)

/-- Anchors whose extents are not negative, and image sizes that are real. -/
structure Good {N : ℕ} (a : FVec Ideal (Nms.Q 2 N 4) .f32) (im : FVec Ideal (Nms.P 2 5) .f32) : Prop where
  tall : ∀ b p, 0 ≤ Nms.ext (a (ix3 b p 0)) (a (ix3 b p 2))
  wide : ∀ b p, 0 ≤ Nms.ext (a (ix3 b p 1)) (a (ix3 b p 3))
  real : ∀ b e, ∃ L : ℝ, KernelIdeal.lim im b e = L

section
variable {N : ℕ} {hk : 2000 ≤ N} {s : FVec Ideal (Nms.P 2 N) .f32} {d a : FVec Ideal (Nms.Q 2 N 4) .f32} {im : FVec Ideal (Nms.P 2 5) .f32}
  (hg : Good a im)
include hg

theorem fine_y (b : Fin 2) (j : ℕ) (h : j < 2000) : Nms.Fine (KernelIdeal.line hk s d a im b 0 j) (KernelIdeal.line hk s d a im b 2 j) := by
  obtain ⟨L, hL⟩ := hg.real b 0
  unfold KernelIdeal.line Nms.line
  rw [dif_pos h, dif_pos h]
  show Nms.Fine (Nms.lowE _ _ _ _ (KernelIdeal.lim im b 0)) (Nms.highE _ _ _ _ (KernelIdeal.lim im b 0))
  rw [hL]
  exact Nms.fine_corners (hg.tall b _) _ _ L

theorem fine_x (b : Fin 2) (j : ℕ) (h : j < 2000) : Nms.Fine (KernelIdeal.line hk s d a im b 1 j) (KernelIdeal.line hk s d a im b 3 j) := by
  obtain ⟨L, hL⟩ := hg.real b 1
  unfold KernelIdeal.line Nms.line
  rw [dif_pos h, dif_pos h]
  show Nms.Fine (Nms.lowE _ _ _ _ (KernelIdeal.lim im b 1)) (Nms.highE _ _ _ _ (KernelIdeal.lim im b 1))
  rw [hL]
  exact Nms.fine_corners (hg.wide b _) _ _ L
end

section
open Cert.Proof.KernelIdeal
variable {m : (ℓ : Loc Cert.KernelIdeal.nD Cert.KernelIdeal.τ Cert.KernelIdeal.sig) → Buf (Elt Ideal) ℓ} (hf : Cert.Pre_KernelIdeal_fair m)
  (c : Dev Cert.KernelIdeal.nD)
include hf

theorem limit_real (b a : Fin 2) : ∃ L : ℝ, lim (sizes m c) b a = L := by
  have h1 : (sizes m c (ix2 b (a.castLE (by decide))) : EReal) < ⊤ := of_bit ((below_test _ b a).symm.trans (congrFun (hf c).1 (ix2 b a)))
  have h2 : (⊥ : EReal) < sizes m c (ix2 b (a.castLE (by decide))) := of_bit ((above_test _ b a).symm.trans (congrFun (hf c).2.1 (ix2 b a)))
  refine ⟨(sizes m c (ix2 b (a.castLE (by decide))) : EReal).toReal - 1, ?_⟩
  rw [EReal.coe_sub, EReal.coe_toReal h1.ne h2.ne']
  rfl

theorem good0 : Good (anchors0 m c) (sizes m c) where
  tall b p := of_bit ((extent_test _ 0 2 rfl rfl Cert.Pre_fair.Facts.slices_S2x196608x4_S2x196608x1_0_0_0 Cert.Pre_fair.Facts.slices_S2x196608x4_S2x196608x1_0_0_2 Cert.Pre_fair.Facts.shapeCasts_S2x196608x1_S2x196608 Cert.Pre_fair.Facts.bcast_S_S2x196608 b p).symm.trans (congrFun (hf c).2.2.1 (ix2 b p)))
  wide b p := of_bit ((extent_test _ 1 3 rfl rfl Cert.Pre_fair.Facts.slices_S2x196608x4_S2x196608x1_0_0_1 Cert.Pre_fair.Facts.slices_S2x196608x4_S2x196608x1_0_0_3 Cert.Pre_fair.Facts.shapeCasts_S2x196608x1_S2x196608 Cert.Pre_fair.Facts.bcast_S_S2x196608 b p).symm.trans (congrFun (hf c).2.2.2.1 (ix2 b p)))
  real := limit_real hf c
theorem good1 : Good (anchors1 m c) (sizes m c) where
  tall b p := of_bit ((extent_test _ 0 2 rfl rfl Cert.Pre_fair.Facts.slices_S2x49152x4_S2x49152x1_0_0_0 Cert.Pre_fair.Facts.slices_S2x49152x4_S2x49152x1_0_0_2 Cert.Pre_fair.Facts.shapeCasts_S2x49152x1_S2x49152 Cert.Pre_fair.Facts.bcast_S_S2x49152 b p).symm.trans (congrFun (hf c).2.2.2.2.1 (ix2 b p)))
  wide b p := of_bit ((extent_test _ 1 3 rfl rfl Cert.Pre_fair.Facts.slices_S2x49152x4_S2x49152x1_0_0_1 Cert.Pre_fair.Facts.slices_S2x49152x4_S2x49152x1_0_0_3 Cert.Pre_fair.Facts.shapeCasts_S2x49152x1_S2x49152 Cert.Pre_fair.Facts.bcast_S_S2x49152 b p).symm.trans (congrFun (hf c).2.2.2.2.2.1 (ix2 b p)))
  real := limit_real hf c
theorem good2 : Good (anchors2 m c) (sizes m c) where
  tall b p := of_bit ((extent_test _ 0 2 rfl rfl Cert.Pre_fair.Facts.slices_S2x12288x4_S2x12288x1_0_0_0 Cert.Pre_fair.Facts.slices_S2x12288x4_S2x12288x1_0_0_2 Cert.Pre_fair.Facts.shapeCasts_S2x12288x1_S2x12288 Cert.Pre_fair.Facts.bcast_S_S2x12288 b p).symm.trans (congrFun (hf c).2.2.2.2.2.2.1 (ix2 b p)))
  wide b p := of_bit ((extent_test _ 1 3 rfl rfl Cert.Pre_fair.Facts.slices_S2x12288x4_S2x12288x1_0_0_1 Cert.Pre_fair.Facts.slices_S2x12288x4_S2x12288x1_0_0_3 Cert.Pre_fair.Facts.shapeCasts_S2x12288x1_S2x12288 Cert.Pre_fair.Facts.bcast_S_S2x12288 b p).symm.trans (congrFun (hf c).2.2.2.2.2.2.2.1 (ix2 b p)))
  real := limit_real hf c
theorem good3 : Good (anchors3 m c) (sizes m c) where
  tall b p := of_bit ((extent_test _ 0 2 rfl rfl Cert.Pre_fair.Facts.slices_S2x3072x4_S2x3072x1_0_0_0 Cert.Pre_fair.Facts.slices_S2x3072x4_S2x3072x1_0_0_2 Cert.Pre_fair.Facts.shapeCasts_S2x3072x1_S2x3072 Cert.Pre_fair.Facts.bcast_S_S2x3072 b p).symm.trans (congrFun (hf c).2.2.2.2.2.2.2.2.1 (ix2 b p)))
  wide b p := of_bit ((extent_test _ 1 3 rfl rfl Cert.Pre_fair.Facts.slices_S2x3072x4_S2x3072x1_0_0_1 Cert.Pre_fair.Facts.slices_S2x3072x4_S2x3072x1_0_0_3 Cert.Pre_fair.Facts.shapeCasts_S2x3072x1_S2x3072 Cert.Pre_fair.Facts.bcast_S_S2x3072 b p).symm.trans (congrFun (hf c).2.2.2.2.2.2.2.2.2 (ix2 b p)))
  real := limit_real hf c
end

end Cert.Proof.Fair

end
-- ==== Proof.RefReads.lean ====
module

public import proofs.«01_k».proof.Proof.Gen.ReferenceIdeal.Run
public import Idealize.ShloMosaic.Lib.StableHlo.RunRead
public import proofs.«01_k».proof.Proof.Takes

@[expose] public section

set_option maxRecDepth 16384

/-! The reference's choice of the best two thousand of each level, as terms over what the lines read. -/

noncomputable section

namespace Cert.Proof.ReferenceIdeal

open Cert.ReferenceIdeal Cert.ReferenceIdeal.Gen
open Idealize.ShloMosaic Idealize.ShloMosaic.TcCoe Idealize.ShloMosaic.Tactic

section
variable {N : ℕ} (hb : Nms.Z.BroadcastsInDim (Nms.P 2 N) ![]) (f : (Nms.P 2 N).Slices (fun _ => 0) (Nms.P 2 2000)) (s : FVec Ideal (Nms.P 2 N) .f32)

/-- The scores between nought and one. -/
def squashed : FVec Ideal (Nms.P 2 N) .f32 :=
  Host.divf (broadcastInDim (Nms.P 2 N) ![] hb (constant (F := Ideal) Nms.Z .f32 0x3F800000#32))
    (addf (broadcastInDim (Nms.P 2 N) ![] hb (constant (F := Ideal) Nms.Z .f32 0x3F800000#32)) (Host.exp (Host.negf s)))
/-- The best two thousand, and where they stand. -/
def best : FVec Ideal (Nms.P 2 2000) .f32 := (Host.topK S2x2000 1 (FloatOps.cmpfTotal (F := Ideal) (φ := .f32) .gt) (squashed hb s) f).1
def places : IVec (Nms.P 2 2000) 32 := (Host.topK S2x2000 1 (FloatOps.cmpfTotal (F := Ideal) (φ := .f32) .gt) (squashed hb s) f).2
def column (x : IVec (Nms.P 2 2000) 32) : IVec (Nms.Q 2 2000 1) 32 := broadcastInDim S2x2000x1 ![0, 1] bcast_S2x2000_S2x2000x1_0_1 x
end

/-- The rows of `x` at the places `i`. -/
def rowsAt {N : ℕ} (d : GatherDims (Nms.Q 2 N 4) (Nms.Q 2 2000 1) (Nms.Q 2 2000 4)) (nb mb : BitVec 32)
    (x : FVec Ideal (Nms.Q 2 N 4) .f32) (i : IVec (Nms.Q 2 2000 1) 32) : FVec Ideal (Nms.Q 2 2000 4) .f32 :=
  Nms.take4 d bcast_S_S2x2000x1 bcast_S1_S1x1x1_2 bcast_S1x1x1_S2x2000x1_0_1_2
    reducesTo_S2x2000x1_S2x2000_d2 h_S_ bcast_S2x2000_S2x2000x4_0_1 bcast_S_S2x2000x4 nb mb x i

section
/-- A level's three arrays, from what its head leaves, what the takes make of it, and what is kept in between. -/
theorem level_by {N : ℕ} {s : FVec Ideal (Nms.P 2 2000) .f32} {p : IVec (Nms.P 2 2000) 32} {d a : FVec Ideal (Nms.Q 2 N 4) .f32}
    {rows : FVec Ideal (Nms.Q 2 N 4) .f32 → IVec (Nms.Q 2 2000 1) 32 → FVec Ideal (Nms.Q 2 2000 4) .f32}
    {v v' : FVec Ideal (Nms.P 2 2000) .f32} {i i' : IVec (Nms.P 2 2000) 32} {col col' : IVec (Nms.Q 2 2000 1) 32}
    {dl an an' : FVec Ideal (Nms.Q 2 N 4) .f32} {rd rd' ra : FVec Ideal (Nms.Q 2 2000 4) .f32}
    (h : v = s ∧ i = p ∧ col = column p ∧ dl = d ∧ an = a)
    (hv : v' = v) (hd : rd = rows dl col) (hd' : rd' = rd) (ha : ra = rows an' col') (ha' : an' = an) (hc : col' = column i') (hi : i' = i) :
    v' = s ∧ rd' = rows d (column p) ∧ ra = rows a (column p) := by
  obtain ⟨h0, h1, h2, h3, h4⟩ := h
  rw [hv, h0, ha, ha', h4, hc, hi, h1, hd', hd, h3, h2]
  exact ⟨rfl, rfl, rfl⟩

variable (W : Valuation τ sig (Elt Ideal))

/-! ### Level 0 -/

theorem head0 : StableHlo.after hostOps0 W (Proc.devRef .tc main_values) = best bcast_S_S2x196608 sliceFits_S2x196608_S2x2000 (shapeCast S2x196608 (W (Proc.devRef .tc main_arg0)) shapeCasts_S2x256x256x3_S2x196608)
    ∧ StableHlo.after hostOps0 W (Proc.devRef .tc main_indices) = places bcast_S_S2x196608 sliceFits_S2x196608_S2x2000 (shapeCast S2x196608 (W (Proc.devRef .tc main_arg0)) shapeCasts_S2x256x256x3_S2x196608)
    ∧ StableHlo.after hostOps0 W (Proc.devRef .tc main_v9) = column (places bcast_S_S2x196608 sliceFits_S2x196608_S2x2000 (shapeCast S2x196608 (W (Proc.devRef .tc main_arg0)) shapeCasts_S2x256x256x3_S2x196608))
    ∧ StableHlo.after hostOps0 W (Proc.devRef .tc main_v7) = shapeCast S2x196608x4 (W (Proc.devRef .tc main_arg4)) shapeCasts_S2x256x256x12_S2x196608x4
    ∧ StableHlo.after hostOps0 W (Proc.devRef .tc main_v8) = shapeCast S2x196608x4 (W (Proc.devRef .tc main_arg8)) shapeCasts_S2x256x256x12_S2x196608x4 := by
  refine ⟨?_, ?_, ?_, ?_, ?_⟩ <;> after_reads_simp <;> rfl
theorem takeDeltas0 : StableHlo.after hostOps0_1 W (Proc.devRef .tc main_v10) = rowsAt gather_S2x196608x4_S2x2000x1_S2x2000x4_2_1_0_0_1_2_114 196608#32 196607#32 (W (Proc.devRef .tc main_v7)) (W (Proc.devRef .tc main_v9)) := by
  after_reads_simp
  unfold rowsAt Nms.take4 Nms.within Nms.wrap
  rfl
theorem mid0 : StableHlo.after hostOps0_2 W (Proc.devRef .tc main_v11) = column (W (Proc.devRef .tc main_indices)) := by
  after_reads_simp
  rfl
theorem takeAnchors0 : StableHlo.after hostOps0_3 W (Proc.devRef .tc main_v12) = rowsAt gather_S2x196608x4_S2x2000x1_S2x2000x4_2_1_0_0_1_2_114 196608#32 196607#32 (W (Proc.devRef .tc main_v8)) (W (Proc.devRef .tc main_v11)) := by
  after_reads_simp
  unfold rowsAt Nms.take4 Nms.within Nms.wrap
  rfl

/-- The level's lines. -/
def level0 : Valuation τ sig (Elt Ideal) :=
  StableHlo.after hostOps0_3 (StableHlo.after hostOps0_2 (StableHlo.after hostOps0_1 (StableHlo.after hostOps0 W)))

theorem pass0 {r : Ref sig .tc} (h : r ∉ Value.hostOps0_W ∧ r ∉ Value.hostOps0_1_W ∧ r ∉ Value.hostOps0_2_W ∧ r ∉ Value.hostOps0_3_W) :
    level0 W (Proc.devRef .tc r) = W (Proc.devRef .tc r) :=
  (StableHlo.after_of_writes_sub hostOps0_3 _ Value.hostOps0_3_writes h.2.2.2).trans
    ((StableHlo.after_of_writes_sub hostOps0_2 _ Value.hostOps0_2_writes h.2.2.1).trans
      ((StableHlo.after_of_writes_sub hostOps0_1 _ Value.hostOps0_1_writes h.2.1).trans (StableHlo.after_of_writes_sub hostOps0 _ Value.hostOps0_writes h.1)))

theorem level0_reads : level0 W (Proc.devRef .tc main_values) = best bcast_S_S2x196608 sliceFits_S2x196608_S2x2000 (shapeCast S2x196608 (W (Proc.devRef .tc main_arg0)) shapeCasts_S2x256x256x3_S2x196608)
    ∧ level0 W (Proc.devRef .tc main_v10) = rowsAt gather_S2x196608x4_S2x2000x1_S2x2000x4_2_1_0_0_1_2_114 196608#32 196607#32 (shapeCast S2x196608x4 (W (Proc.devRef .tc main_arg4)) shapeCasts_S2x256x256x12_S2x196608x4) (column (places bcast_S_S2x196608 sliceFits_S2x196608_S2x2000 (shapeCast S2x196608 (W (Proc.devRef .tc main_arg0)) shapeCasts_S2x256x256x3_S2x196608)))
    ∧ level0 W (Proc.devRef .tc main_v12) = rowsAt gather_S2x196608x4_S2x2000x1_S2x2000x4_2_1_0_0_1_2_114 196608#32 196607#32 (shapeCast S2x196608x4 (W (Proc.devRef .tc main_arg8)) shapeCasts_S2x256x256x12_S2x196608x4) (column (places bcast_S_S2x196608 sliceFits_S2x196608_S2x2000 (shapeCast S2x196608 (W (Proc.devRef .tc main_arg0)) shapeCasts_S2x256x256x3_S2x196608))) :=
  level_by (rows := rowsAt gather_S2x196608x4_S2x2000x1_S2x2000x4_2_1_0_0_1_2_114 196608#32 196607#32) (head0 W)
    ((StableHlo.after_of_writes_sub hostOps0_3 _ Value.hostOps0_3_writes (by decide)).trans ((StableHlo.after_of_writes_sub hostOps0_2 _ Value.hostOps0_2_writes (by decide)).trans (StableHlo.after_of_writes_sub hostOps0_1 _ Value.hostOps0_1_writes (by decide))))
    (takeDeltas0 _) ((StableHlo.after_of_writes_sub hostOps0_3 _ Value.hostOps0_3_writes (by decide)).trans (StableHlo.after_of_writes_sub hostOps0_2 _ Value.hostOps0_2_writes (by decide)))
    (takeAnchors0 _) ((StableHlo.after_of_writes_sub hostOps0_2 _ Value.hostOps0_2_writes (by decide)).trans (StableHlo.after_of_writes_sub hostOps0_1 _ Value.hostOps0_1_writes (by decide)))
    (mid0 _) (StableHlo.after_of_writes_sub hostOps0_1 _ Value.hostOps0_1_writes (by decide))

/-! ### Level 1 -/

theorem head1 : StableHlo.after hostOps0_4 W (Proc.devRef .tc main_values_3) = best bcast_S_S2x49152 sliceFits_S2x49152_S2x2000 (shapeCast S2x49152 (W (Proc.devRef .tc main_arg1)) shapeCasts_S2x128x128x3_S2x49152)
    ∧ StableHlo.after hostOps0_4 W (Proc.devRef .tc main_indices_4) = places bcast_S_S2x49152 sliceFits_S2x49152_S2x2000 (shapeCast S2x49152 (W (Proc.devRef .tc main_arg1)) shapeCasts_S2x128x128x3_S2x49152)
    ∧ StableHlo.after hostOps0_4 W (Proc.devRef .tc main_v22) = column (places bcast_S_S2x49152 sliceFits_S2x49152_S2x2000 (shapeCast S2x49152 (W (Proc.devRef .tc main_arg1)) shapeCasts_S2x128x128x3_S2x49152))
    ∧ StableHlo.after hostOps0_4 W (Proc.devRef .tc main_v20) = shapeCast S2x49152x4 (W (Proc.devRef .tc main_arg5)) shapeCasts_S2x128x128x12_S2x49152x4
    ∧ StableHlo.after hostOps0_4 W (Proc.devRef .tc main_v21) = shapeCast S2x49152x4 (W (Proc.devRef .tc main_arg9)) shapeCasts_S2x128x128x12_S2x49152x4 := by
  refine ⟨?_, ?_, ?_, ?_, ?_⟩ <;> after_reads_simp <;> rfl
theorem takeDeltas1 : StableHlo.after hostOps0_5 W (Proc.devRef .tc main_v23) = rowsAt gather_S2x49152x4_S2x2000x1_S2x2000x4_2_1_0_0_1_2_114 49152#32 49151#32 (W (Proc.devRef .tc main_v20)) (W (Proc.devRef .tc main_v22)) := by
  after_reads_simp
  unfold rowsAt Nms.take4 Nms.within Nms.wrap
  rfl
theorem mid1 : StableHlo.after hostOps0_6 W (Proc.devRef .tc main_v24) = column (W (Proc.devRef .tc main_indices_4)) := by
  after_reads_simp
  rfl
theorem takeAnchors1 : StableHlo.after hostOps0_7 W (Proc.devRef .tc main_v25) = rowsAt gather_S2x49152x4_S2x2000x1_S2x2000x4_2_1_0_0_1_2_114 49152#32 49151#32 (W (Proc.devRef .tc main_v21)) (W (Proc.devRef .tc main_v24)) := by
  after_reads_simp
  unfold rowsAt Nms.take4 Nms.within Nms.wrap
  rfl

/-- The level's lines. -/
def level1 : Valuation τ sig (Elt Ideal) :=
  StableHlo.after hostOps0_7 (StableHlo.after hostOps0_6 (StableHlo.after hostOps0_5 (StableHlo.after hostOps0_4 W)))

theorem pass1 {r : Ref sig .tc} (h : r ∉ Value.hostOps0_4_W ∧ r ∉ Value.hostOps0_5_W ∧ r ∉ Value.hostOps0_6_W ∧ r ∉ Value.hostOps0_7_W) :
    level1 W (Proc.devRef .tc r) = W (Proc.devRef .tc r) :=
  (StableHlo.after_of_writes_sub hostOps0_7 _ Value.hostOps0_7_writes h.2.2.2).trans
    ((StableHlo.after_of_writes_sub hostOps0_6 _ Value.hostOps0_6_writes h.2.2.1).trans
      ((StableHlo.after_of_writes_sub hostOps0_5 _ Value.hostOps0_5_writes h.2.1).trans (StableHlo.after_of_writes_sub hostOps0_4 _ Value.hostOps0_4_writes h.1)))

theorem level1_reads : level1 W (Proc.devRef .tc main_values_3) = best bcast_S_S2x49152 sliceFits_S2x49152_S2x2000 (shapeCast S2x49152 (W (Proc.devRef .tc main_arg1)) shapeCasts_S2x128x128x3_S2x49152)
    ∧ level1 W (Proc.devRef .tc main_v23) = rowsAt gather_S2x49152x4_S2x2000x1_S2x2000x4_2_1_0_0_1_2_114 49152#32 49151#32 (shapeCast S2x49152x4 (W (Proc.devRef .tc main_arg5)) shapeCasts_S2x128x128x12_S2x49152x4) (column (places bcast_S_S2x49152 sliceFits_S2x49152_S2x2000 (shapeCast S2x49152 (W (Proc.devRef .tc main_arg1)) shapeCasts_S2x128x128x3_S2x49152)))
    ∧ level1 W (Proc.devRef .tc main_v25) = rowsAt gather_S2x49152x4_S2x2000x1_S2x2000x4_2_1_0_0_1_2_114 49152#32 49151#32 (shapeCast S2x49152x4 (W (Proc.devRef .tc main_arg9)) shapeCasts_S2x128x128x12_S2x49152x4) (column (places bcast_S_S2x49152 sliceFits_S2x49152_S2x2000 (shapeCast S2x49152 (W (Proc.devRef .tc main_arg1)) shapeCasts_S2x128x128x3_S2x49152))) :=
  level_by (rows := rowsAt gather_S2x49152x4_S2x2000x1_S2x2000x4_2_1_0_0_1_2_114 49152#32 49151#32) (head1 W)
    ((StableHlo.after_of_writes_sub hostOps0_7 _ Value.hostOps0_7_writes (by decide)).trans ((StableHlo.after_of_writes_sub hostOps0_6 _ Value.hostOps0_6_writes (by decide)).trans (StableHlo.after_of_writes_sub hostOps0_5 _ Value.hostOps0_5_writes (by decide))))
    (takeDeltas1 _) ((StableHlo.after_of_writes_sub hostOps0_7 _ Value.hostOps0_7_writes (by decide)).trans (StableHlo.after_of_writes_sub hostOps0_6 _ Value.hostOps0_6_writes (by decide)))
    (takeAnchors1 _) ((StableHlo.after_of_writes_sub hostOps0_6 _ Value.hostOps0_6_writes (by decide)).trans (StableHlo.after_of_writes_sub hostOps0_5 _ Value.hostOps0_5_writes (by decide)))
    (mid1 _) (StableHlo.after_of_writes_sub hostOps0_5 _ Value.hostOps0_5_writes (by decide))

/-! ### Level 2 -/

theorem head2 : StableHlo.after hostOps0_8 W (Proc.devRef .tc main_values_7) = best bcast_S_S2x12288 sliceFits_S2x12288_S2x2000 (shapeCast S2x12288 (W (Proc.devRef .tc main_arg2)) shapeCasts_S2x64x64x3_S2x12288)
    ∧ StableHlo.after hostOps0_8 W (Proc.devRef .tc main_indices_8) = places bcast_S_S2x12288 sliceFits_S2x12288_S2x2000 (shapeCast S2x12288 (W (Proc.devRef .tc main_arg2)) shapeCasts_S2x64x64x3_S2x12288)
    ∧ StableHlo.after hostOps0_8 W (Proc.devRef .tc main_v35) = column (places bcast_S_S2x12288 sliceFits_S2x12288_S2x2000 (shapeCast S2x12288 (W (Proc.devRef .tc main_arg2)) shapeCasts_S2x64x64x3_S2x12288))
    ∧ StableHlo.after hostOps0_8 W (Proc.devRef .tc main_v33) = shapeCast S2x12288x4 (W (Proc.devRef .tc main_arg6)) shapeCasts_S2x64x64x12_S2x12288x4
    ∧ StableHlo.after hostOps0_8 W (Proc.devRef .tc main_v34) = shapeCast S2x12288x4 (W (Proc.devRef .tc main_arg10)) shapeCasts_S2x64x64x12_S2x12288x4 := by
  refine ⟨?_, ?_, ?_, ?_, ?_⟩ <;> after_reads_simp <;> rfl
theorem takeDeltas2 : StableHlo.after hostOps0_9 W (Proc.devRef .tc main_v36) = rowsAt gather_S2x12288x4_S2x2000x1_S2x2000x4_2_1_0_0_1_2_114 12288#32 12287#32 (W (Proc.devRef .tc main_v33)) (W (Proc.devRef .tc main_v35)) := by
  after_reads_simp
  unfold rowsAt Nms.take4 Nms.within Nms.wrap
  rfl
theorem mid2 : StableHlo.after hostOps0_10 W (Proc.devRef .tc main_v37) = column (W (Proc.devRef .tc main_indices_8)) := by
  after_reads_simp
  rfl
theorem takeAnchors2 : StableHlo.after hostOps0_11 W (Proc.devRef .tc main_v38) = rowsAt gather_S2x12288x4_S2x2000x1_S2x2000x4_2_1_0_0_1_2_114 12288#32 12287#32 (W (Proc.devRef .tc main_v34)) (W (Proc.devRef .tc main_v37)) := by
  after_reads_simp
  unfold rowsAt Nms.take4 Nms.within Nms.wrap
  rfl

/-- The level's lines. -/
def level2 : Valuation τ sig (Elt Ideal) :=
  StableHlo.after hostOps0_11 (StableHlo.after hostOps0_10 (StableHlo.after hostOps0_9 (StableHlo.after hostOps0_8 W)))

theorem pass2 {r : Ref sig .tc} (h : r ∉ Value.hostOps0_8_W ∧ r ∉ Value.hostOps0_9_W ∧ r ∉ Value.hostOps0_10_W ∧ r ∉ Value.hostOps0_11_W) :
    level2 W (Proc.devRef .tc r) = W (Proc.devRef .tc r) :=
  (StableHlo.after_of_writes_sub hostOps0_11 _ Value.hostOps0_11_writes h.2.2.2).trans
    ((StableHlo.after_of_writes_sub hostOps0_10 _ Value.hostOps0_10_writes h.2.2.1).trans
      ((StableHlo.after_of_writes_sub hostOps0_9 _ Value.hostOps0_9_writes h.2.1).trans (StableHlo.after_of_writes_sub hostOps0_8 _ Value.hostOps0_8_writes h.1)))

theorem level2_reads : level2 W (Proc.devRef .tc main_values_7) = best bcast_S_S2x12288 sliceFits_S2x12288_S2x2000 (shapeCast S2x12288 (W (Proc.devRef .tc main_arg2)) shapeCasts_S2x64x64x3_S2x12288)
    ∧ level2 W (Proc.devRef .tc main_v36) = rowsAt gather_S2x12288x4_S2x2000x1_S2x2000x4_2_1_0_0_1_2_114 12288#32 12287#32 (shapeCast S2x12288x4 (W (Proc.devRef .tc main_arg6)) shapeCasts_S2x64x64x12_S2x12288x4) (column (places bcast_S_S2x12288 sliceFits_S2x12288_S2x2000 (shapeCast S2x12288 (W (Proc.devRef .tc main_arg2)) shapeCasts_S2x64x64x3_S2x12288)))
    ∧ level2 W (Proc.devRef .tc main_v38) = rowsAt gather_S2x12288x4_S2x2000x1_S2x2000x4_2_1_0_0_1_2_114 12288#32 12287#32 (shapeCast S2x12288x4 (W (Proc.devRef .tc main_arg10)) shapeCasts_S2x64x64x12_S2x12288x4) (column (places bcast_S_S2x12288 sliceFits_S2x12288_S2x2000 (shapeCast S2x12288 (W (Proc.devRef .tc main_arg2)) shapeCasts_S2x64x64x3_S2x12288))) :=
  level_by (rows := rowsAt gather_S2x12288x4_S2x2000x1_S2x2000x4_2_1_0_0_1_2_114 12288#32 12287#32) (head2 W)
    ((StableHlo.after_of_writes_sub hostOps0_11 _ Value.hostOps0_11_writes (by decide)).trans ((StableHlo.after_of_writes_sub hostOps0_10 _ Value.hostOps0_10_writes (by decide)).trans (StableHlo.after_of_writes_sub hostOps0_9 _ Value.hostOps0_9_writes (by decide))))
    (takeDeltas2 _) ((StableHlo.after_of_writes_sub hostOps0_11 _ Value.hostOps0_11_writes (by decide)).trans (StableHlo.after_of_writes_sub hostOps0_10 _ Value.hostOps0_10_writes (by decide)))
    (takeAnchors2 _) ((StableHlo.after_of_writes_sub hostOps0_10 _ Value.hostOps0_10_writes (by decide)).trans (StableHlo.after_of_writes_sub hostOps0_9 _ Value.hostOps0_9_writes (by decide)))
    (mid2 _) (StableHlo.after_of_writes_sub hostOps0_9 _ Value.hostOps0_9_writes (by decide))

/-! ### Level 3 -/

theorem head3 : StableHlo.after hostOps0_12 W (Proc.devRef .tc main_values_11) = best bcast_S_S2x3072 sliceFits_S2x3072_S2x2000 (shapeCast S2x3072 (W (Proc.devRef .tc main_arg3)) shapeCasts_S2x32x32x3_S2x3072)
    ∧ StableHlo.after hostOps0_12 W (Proc.devRef .tc main_indices_12) = places bcast_S_S2x3072 sliceFits_S2x3072_S2x2000 (shapeCast S2x3072 (W (Proc.devRef .tc main_arg3)) shapeCasts_S2x32x32x3_S2x3072)
    ∧ StableHlo.after hostOps0_12 W (Proc.devRef .tc main_v48) = column (places bcast_S_S2x3072 sliceFits_S2x3072_S2x2000 (shapeCast S2x3072 (W (Proc.devRef .tc main_arg3)) shapeCasts_S2x32x32x3_S2x3072))
    ∧ StableHlo.after hostOps0_12 W (Proc.devRef .tc main_v46) = shapeCast S2x3072x4 (W (Proc.devRef .tc main_arg7)) shapeCasts_S2x32x32x12_S2x3072x4
    ∧ StableHlo.after hostOps0_12 W (Proc.devRef .tc main_v47) = shapeCast S2x3072x4 (W (Proc.devRef .tc main_arg11)) shapeCasts_S2x32x32x12_S2x3072x4 := by
  refine ⟨?_, ?_, ?_, ?_, ?_⟩ <;> after_reads_simp <;> rfl
theorem takeDeltas3 : StableHlo.after hostOps0_13 W (Proc.devRef .tc main_v49) = rowsAt gather_S2x3072x4_S2x2000x1_S2x2000x4_2_1_0_0_1_2_114 3072#32 3071#32 (W (Proc.devRef .tc main_v46)) (W (Proc.devRef .tc main_v48)) := by
  after_reads_simp
  unfold rowsAt Nms.take4 Nms.within Nms.wrap
  rfl
theorem mid3 : StableHlo.after hostOps0_14 W (Proc.devRef .tc main_v50) = column (W (Proc.devRef .tc main_indices_12)) := by
  after_reads_simp
  rfl
theorem takeAnchors3 : StableHlo.after hostOps0_15 W (Proc.devRef .tc main_v51) = rowsAt gather_S2x3072x4_S2x2000x1_S2x2000x4_2_1_0_0_1_2_114 3072#32 3071#32 (W (Proc.devRef .tc main_v47)) (W (Proc.devRef .tc main_v50)) := by
  after_reads_simp
  unfold rowsAt Nms.take4 Nms.within Nms.wrap
  rfl

/-- The level's lines. -/
def level3 : Valuation τ sig (Elt Ideal) :=
  StableHlo.after hostOps0_15 (StableHlo.after hostOps0_14 (StableHlo.after hostOps0_13 (StableHlo.after hostOps0_12 W)))

theorem pass3 {r : Ref sig .tc} (h : r ∉ Value.hostOps0_12_W ∧ r ∉ Value.hostOps0_13_W ∧ r ∉ Value.hostOps0_14_W ∧ r ∉ Value.hostOps0_15_W) :
    level3 W (Proc.devRef .tc r) = W (Proc.devRef .tc r) :=
  (StableHlo.after_of_writes_sub hostOps0_15 _ Value.hostOps0_15_writes h.2.2.2).trans
    ((StableHlo.after_of_writes_sub hostOps0_14 _ Value.hostOps0_14_writes h.2.2.1).trans
      ((StableHlo.after_of_writes_sub hostOps0_13 _ Value.hostOps0_13_writes h.2.1).trans (StableHlo.after_of_writes_sub hostOps0_12 _ Value.hostOps0_12_writes h.1)))

theorem level3_reads : level3 W (Proc.devRef .tc main_values_11) = best bcast_S_S2x3072 sliceFits_S2x3072_S2x2000 (shapeCast S2x3072 (W (Proc.devRef .tc main_arg3)) shapeCasts_S2x32x32x3_S2x3072)
    ∧ level3 W (Proc.devRef .tc main_v49) = rowsAt gather_S2x3072x4_S2x2000x1_S2x2000x4_2_1_0_0_1_2_114 3072#32 3071#32 (shapeCast S2x3072x4 (W (Proc.devRef .tc main_arg7)) shapeCasts_S2x32x32x12_S2x3072x4) (column (places bcast_S_S2x3072 sliceFits_S2x3072_S2x2000 (shapeCast S2x3072 (W (Proc.devRef .tc main_arg3)) shapeCasts_S2x32x32x3_S2x3072)))
    ∧ level3 W (Proc.devRef .tc main_v51) = rowsAt gather_S2x3072x4_S2x2000x1_S2x2000x4_2_1_0_0_1_2_114 3072#32 3071#32 (shapeCast S2x3072x4 (W (Proc.devRef .tc main_arg11)) shapeCasts_S2x32x32x12_S2x3072x4) (column (places bcast_S_S2x3072 sliceFits_S2x3072_S2x2000 (shapeCast S2x3072 (W (Proc.devRef .tc main_arg3)) shapeCasts_S2x32x32x3_S2x3072))) :=
  level_by (rows := rowsAt gather_S2x3072x4_S2x2000x1_S2x2000x4_2_1_0_0_1_2_114 3072#32 3071#32) (head3 W)
    ((StableHlo.after_of_writes_sub hostOps0_15 _ Value.hostOps0_15_writes (by decide)).trans ((StableHlo.after_of_writes_sub hostOps0_14 _ Value.hostOps0_14_writes (by decide)).trans (StableHlo.after_of_writes_sub hostOps0_13 _ Value.hostOps0_13_writes (by decide))))
    (takeDeltas3 _) ((StableHlo.after_of_writes_sub hostOps0_15 _ Value.hostOps0_15_writes (by decide)).trans (StableHlo.after_of_writes_sub hostOps0_14 _ Value.hostOps0_14_writes (by decide)))
    (takeAnchors3 _) ((StableHlo.after_of_writes_sub hostOps0_14 _ Value.hostOps0_14_writes (by decide)).trans (StableHlo.after_of_writes_sub hostOps0_13 _ Value.hostOps0_13_writes (by decide)))
    (mid3 _) (StableHlo.after_of_writes_sub hostOps0_13 _ Value.hostOps0_13_writes (by decide))

/-! ### The four levels joined -/

/-- Four rows of scores, and of boxes, one after another. -/
def joinScores (x0 x1 x2 x3 : FVec Ideal (Nms.P 2 1000) .f32) : FVec Ideal (Nms.P 2 4000) .f32 :=
  concatenate S2x4000 1 [⟨S2x1000, x0⟩, ⟨S2x1000, x1⟩, ⟨S2x1000, x2⟩, ⟨S2x1000, x3⟩] concatenates_S2x1000_S2x1000_S2x1000_S2x1000_S2x4000_d1
def joinBoxes (x0 x1 x2 x3 : FVec Ideal (Nms.Q 2 1000 4) .f32) : FVec Ideal (Nms.Q 2 4000 4) .f32 :=
  concatenate S2x4000x4 1 [⟨S2x1000x4, x0⟩, ⟨S2x1000x4, x1⟩, ⟨S2x1000x4, x2⟩, ⟨S2x1000x4, x3⟩] concatenates_S2x1000x4_S2x1000x4_S2x1000x4_S2x1000x4_S2x4000x4_d1

/-- The best thousand of all scores, and their boxes. -/
def lastScores (x : FVec Ideal (Nms.P 2 4000) .f32) : FVec Ideal (Nms.P 2 1000) .f32 :=
  (Host.topK S2x1000 1 (FloatOps.cmpfTotal (F := Ideal) (φ := .f32) .gt) x sliceFits_S2x4000_S2x1000).1
def lastAt (x : FVec Ideal (Nms.P 2 4000) .f32) : IVec (Nms.Q 2 1000 1) 32 :=
  broadcastInDim S2x1000x1 ![0, 1] bcast_S2x1000_S2x1000x1_0_1
    (Host.topK S2x1000 1 (FloatOps.cmpfTotal (F := Ideal) (φ := .f32) .gt) x sliceFits_S2x4000_S2x1000).2
def lastRows (x : FVec Ideal (Nms.Q 2 4000 4) .f32) (i : IVec (Nms.Q 2 1000 1) 32) : FVec Ideal (Nms.Q 2 1000 4) .f32 :=
  Nms.take4 gather_S2x4000x4_S2x1000x1_S2x1000x4_2_1_0_0_1_2_114 bcast_S_S2x1000x1 bcast_S1_S1x1x1_2 bcast_S1x1x1_S2x1000x1_0_1_2
    reducesTo_S2x1000x1_S2x1000_d2 h_S_ bcast_S2x1000_S2x1000x4_0_1 bcast_S_S2x1000x4 4000#32 3999#32 x i

/-- The rows of each level, one level after another. -/
def alongScores (x : FVec Ideal (Nms.P 8 1000) .f32) : FVec Ideal (Nms.P 2 4000) .f32 :=
  joinScores (extractStridedSlice S2x1000 ![0, 0] x slices_S8x1000_S2x1000_0_0) (extractStridedSlice S2x1000 ![2, 0] x slices_S8x1000_S2x1000_2_0)
    (extractStridedSlice S2x1000 ![4, 0] x slices_S8x1000_S2x1000_4_0) (extractStridedSlice S2x1000 ![6, 0] x slices_S8x1000_S2x1000_6_0)
def alongBoxes (x : FVec Ideal (Nms.Q 8 1000 4) .f32) : FVec Ideal (Nms.Q 2 4000 4) .f32 :=
  joinBoxes (extractStridedSlice S2x1000x4 ![0, 0, 0] x slices_S8x1000x4_S2x1000x4_0_0_0) (extractStridedSlice S2x1000x4 ![2, 0, 0] x slices_S8x1000x4_S2x1000x4_2_0_0)
    (extractStridedSlice S2x1000x4 ![4, 0, 0] x slices_S8x1000x4_S2x1000x4_4_0_0) (extractStridedSlice S2x1000x4 ![6, 0, 0] x slices_S8x1000x4_S2x1000x4_6_0_0)

theorem joined : StableHlo.after hostOps0_34 W (Proc.devRef .tc main_values_49) = lastScores (alongScores (W (Proc.devRef .tc main_values_47)))
    ∧ StableHlo.after hostOps0_34 W (Proc.devRef .tc main_v233) = lastAt (alongScores (W (Proc.devRef .tc main_values_47)))
    ∧ StableHlo.after hostOps0_34 W (Proc.devRef .tc main_v232) = alongBoxes (W (Proc.devRef .tc main_v222)) := by
  refine ⟨?_, ?_, ?_⟩ <;> after_reads_simp <;> rfl

theorem last_rows : StableHlo.after hostOps0_35 W (Proc.devRef .tc main_v234) = lastRows (W (Proc.devRef .tc main_v232)) (W (Proc.devRef .tc main_v233)) := by
  after_reads_simp
  unfold lastRows Nms.take4 Nms.within Nms.wrap
  rfl
theorem pass35_values : StableHlo.after hostOps0_35 W (Proc.devRef .tc main_values_49) = W (Proc.devRef .tc main_values_49) := by
  after_reads_simp
end

end Cert.Proof.ReferenceIdeal

end
-- ==== Proof.RefHost.lean ====
module

public import proofs.«01_k».proof.Proof.RefReads

@[expose] public section

set_option maxRecDepth 16384

/-! The reference's lines before its loop, as terms over what they read. -/

noncomputable section

namespace Cert.Proof.ReferenceIdeal

open Cert.ReferenceIdeal Cert.ReferenceIdeal.Gen
open Idealize.ShloMosaic Idealize.ShloMosaic.TcCoe Idealize.ShloMosaic.Tactic

/-- Columns of boxes, and numbers spread over them. -/
abbrev Col : Type := FVec Ideal S8x2000 .f32
abbrev Boxes : Type := FVec Ideal S8x2000x4 .f32

def spread (w : BitVec 32) : Col := broadcastInDim S8x2000 ![] bcast_S_S8x2000 (constant (F := Ideal) S_ .f32 w)
def col0 (x : Boxes) : Col := shapeCast S8x2000 (extractStridedSlice S8x2000x1 ![0, 0, 0] x slices_S8x2000x4_S8x2000x1_0_0_0) shapeCasts_S8x2000x1_S8x2000
def col1 (x : Boxes) : Col := shapeCast S8x2000 (extractStridedSlice S8x2000x1 ![0, 0, 1] x slices_S8x2000x4_S8x2000x1_0_0_1) shapeCasts_S8x2000x1_S8x2000
def col2 (x : Boxes) : Col := shapeCast S8x2000 (extractStridedSlice S8x2000x1 ![0, 0, 2] x slices_S8x2000x4_S8x2000x1_0_0_2) shapeCasts_S8x2000x1_S8x2000
def col3 (x : Boxes) : Col := shapeCast S8x2000 (extractStridedSlice S8x2000x1 ![0, 0, 3] x slices_S8x2000x4_S8x2000x1_0_0_3) shapeCasts_S8x2000x1_S8x2000
def stack (a b c d : Col) : Boxes :=
  concatenate S8x2000x4 2 [⟨S8x2000x1, broadcastInDim S8x2000x1 ![0, 1] bcast_S8x2000_S8x2000x1_0_1 a⟩,
    ⟨S8x2000x1, broadcastInDim S8x2000x1 ![0, 1] bcast_S8x2000_S8x2000x1_0_1 b⟩,
    ⟨S8x2000x1, broadcastInDim S8x2000x1 ![0, 1] bcast_S8x2000_S8x2000x1_0_1 c⟩,
    ⟨S8x2000x1, broadcastInDim S8x2000x1 ![0, 1] bcast_S8x2000_S8x2000x1_0_1 d⟩] concatenates_S8x2000x1_S8x2000x1_S8x2000x1_S8x2000x1_S8x2000x4_d2

/-- Decoding, a column at a time. -/
def extents (lo hi : Col) : Col := addf (subf hi lo) (spread 0x3F800000#32)
def centres (lo hi d : Col) : Col :=
  addf (mulf (Host.divf d (spread 0x3F800000#32)) (extents lo hi)) (addf lo (mulf (spread 0x3F000000#32) (extents lo hi)))
def halves (lo hi s : Col) : Col :=
  mulf (spread 0x3F000000#32) (mulf (Host.exp (minimumf (Host.divf s (spread 0x3F800000#32)) (spread 0x40845349#32))) (extents lo hi))
def lows (lo hi d s : Col) : Col := subf (centres lo hi d) (halves lo hi s)
def highs (lo hi d s : Col) : Col := subf (addf (centres lo hi d) (halves lo hi s)) (spread 0x3F800000#32)

def decoded (d a : Boxes) : Boxes :=
  stack (lows (col0 a) (col2 a) (col0 d) (col2 d)) (lows (col1 a) (col3 a) (col1 d) (col3 d))
    (highs (col0 a) (col2 a) (col0 d) (col2 d)) (highs (col1 a) (col3 a) (col1 d) (col3 d))

/-- The levels' rows under one another, and the sizes of the images for each. -/
def stackRows (x0 x1 x2 x3 : FVec Ideal (Nms.Q 2 2000 4) .f32) : Boxes :=
  concatenate S8x2000x4 0 [⟨S2x2000x4, x0⟩, ⟨S2x2000x4, x1⟩, ⟨S2x2000x4, x2⟩, ⟨S2x2000x4, x3⟩] concatenates_S2x2000x4_S2x2000x4_S2x2000x4_S2x2000x4_S8x2000x4_d0
def stackCol (x0 x1 x2 x3 : FVec Ideal (Nms.P 2 2000) .f32) : Col :=
  concatenate S8x2000 0 [⟨S2x2000, x0⟩, ⟨S2x2000, x1⟩, ⟨S2x2000, x2⟩, ⟨S2x2000, x3⟩] concatenates_S2x2000_S2x2000_S2x2000_S2x2000_S8x2000_d0
def firstTwo (x : FVec Ideal S2x5 .f32) : FVec Ideal S2x2 .f32 := extractStridedSlice S2x2 ![0, 0] x slices_S2x5_S2x2_0_0
def stackSizes (x : FVec Ideal S2x5 .f32) : FVec Ideal S8x2 .f32 :=
  concatenate S8x2 0 [⟨S2x2, firstTwo x⟩, ⟨S2x2, firstTwo x⟩, ⟨S2x2, firstTwo x⟩, ⟨S2x2, firstTwo x⟩] concatenates_S2x2_S2x2_S2x2_S2x2_S8x2_d0

/-- The sizes of the images. -/
def size0 (x : FVec Ideal S8x2 .f32) : FVec Ideal S8x1 .f32 :=
  broadcastInDim S8x1 ![0] bcast_S8_S8x1_0 (shapeCast S8 (extractStridedSlice S8x1 ![0, 0] x slices_S8x2_S8x1_0_0) shapeCasts_S8x1_S8)
def size1 (x : FVec Ideal S8x2 .f32) : FVec Ideal S8x1 .f32 :=
  broadcastInDim S8x1 ![0] bcast_S8_S8x1_0 (shapeCast S8 (extractStridedSlice S8x1 ![0, 1] x slices_S8x2_S8x1_0_1) shapeCasts_S8x1_S8)
def lessOne (x : FVec Ideal S8x1 .f32) : FVec Ideal S8x1 .f32 :=
  subf x (broadcastInDim S8x1 ![] bcast_S_S8x1 (constant (F := Ideal) S_ .f32 0x3F800000#32))

/-- Clipping to an image. -/
def clipped (lim : FVec Ideal S8x1 .f32) (x : Col) : Col :=
  minimumf (broadcastInDim S8x2000 ![0, 1] bcast_S8x1_S8x2000_0_1 lim) (maximumf (spread 0x00000000#32) x)

section
variable (W : Valuation τ sig (Elt Ideal))

/-- The lines of a list, a first part and then the others. -/
theorem after_parts (n : ℕ) (l : List (HloOp τ sig (Elt Ideal))) : StableHlo.after l W = StableHlo.after (l.drop n) (StableHlo.after (l.take n) W) := by
  induction n generalizing l W with
  | zero => rfl
  | succ n ih =>
    cases l with
    | nil => rfl
    | cons a l => exact ih _ l
theorem decode_v122 : StableHlo.after (hostOps0_16.drop 2) W (Proc.devRef .tc main_v122) = decoded (W (Proc.devRef .tc main_v53)) (W (Proc.devRef .tc main_v52)) := by
  after_reads_simp
  rfl
theorem decode_v132 : StableHlo.after (hostOps0_16.drop 2) W (Proc.devRef .tc main_v132) = col0 (decoded (W (Proc.devRef .tc main_v53)) (W (Proc.devRef .tc main_v52))) := by
  after_reads_simp
  rfl
theorem read_v53 : StableHlo.after (hostOps0_16.take 2) W (Proc.devRef .tc main_v53) = stackRows (W (Proc.devRef .tc main_v10)) (W (Proc.devRef .tc main_v23)) (W (Proc.devRef .tc main_v36)) (W (Proc.devRef .tc main_v49)) := by
  after_reads_simp
  rfl
theorem read_v52 : StableHlo.after (hostOps0_16.take 2) W (Proc.devRef .tc main_v52) = stackRows (W (Proc.devRef .tc main_v12)) (W (Proc.devRef .tc main_v25)) (W (Proc.devRef .tc main_v38)) (W (Proc.devRef .tc main_v51)) := by
  after_reads_simp
  rfl
theorem read_v122 : StableHlo.after hostOps0_16 W (Proc.devRef .tc main_v122)
    = decoded (stackRows (W (Proc.devRef .tc main_v10)) (W (Proc.devRef .tc main_v23)) (W (Proc.devRef .tc main_v36)) (W (Proc.devRef .tc main_v49))) (stackRows (W (Proc.devRef .tc main_v12)) (W (Proc.devRef .tc main_v25)) (W (Proc.devRef .tc main_v38)) (W (Proc.devRef .tc main_v51))) := by
  rw [after_parts W 2 hostOps0_16, decode_v122, read_v52, read_v53]
theorem read_v127 : StableHlo.after hostOps0_16 W (Proc.devRef .tc main_v127) = size0 (stackSizes (W (Proc.devRef .tc main_arg12))) := by
  after_reads_simp
  rfl
theorem read_v130 : StableHlo.after hostOps0_16 W (Proc.devRef .tc main_v130) = size1 (stackSizes (W (Proc.devRef .tc main_arg12))) := by
  after_reads_simp
  rfl
theorem read_v132 : StableHlo.after hostOps0_16 W (Proc.devRef .tc main_v132)
    = col0 (decoded (stackRows (W (Proc.devRef .tc main_v10)) (W (Proc.devRef .tc main_v23)) (W (Proc.devRef .tc main_v36)) (W (Proc.devRef .tc main_v49))) (stackRows (W (Proc.devRef .tc main_v12)) (W (Proc.devRef .tc main_v25)) (W (Proc.devRef .tc main_v38)) (W (Proc.devRef .tc main_v51)))) := by
  rw [after_parts W 2 hostOps0_16, decode_v132, read_v52, read_v53]
theorem read_v134 : StableHlo.after hostOps0_16 W (Proc.devRef .tc main_v134) = lessOne (size0 (stackSizes (W (Proc.devRef .tc main_arg12)))) := by
  after_reads_simp
  rfl
theorem read_cst30 : StableHlo.after hostOps0_16 W (Proc.devRef .tc main_cst_30) = constant (F := Ideal) S_ .f32 0x00000000#32 := by
  after_reads_simp
end

section
variable (W : Valuation τ sig (Elt Ideal))

/-- The lines that clip. -/
def clipOps : Valuation τ sig (Elt Ideal) :=
  StableHlo.after hostOps0_23 (StableHlo.after hostOps0_22 (StableHlo.after hostOps0_21
    (StableHlo.after hostOps0_20 (StableHlo.after hostOps0_19 (StableHlo.after hostOps0_18 (StableHlo.after hostOps0_17 W))))))

theorem read_v135 (h : W (Proc.devRef .tc main_cst_30) = constant (F := Ideal) S_ .f32 0x00000000#32) :
    clipOps W (Proc.devRef .tc main_v135) = clipped (W (Proc.devRef .tc main_v134)) (W (Proc.devRef .tc main_v132)) := by
  unfold clipOps
  after_reads_simp
  rw [h]
  rfl
theorem read_v140 : clipOps W (Proc.devRef .tc main_v140)
    = clipped (lessOne (W (Proc.devRef .tc main_v130))) (col1 (W (Proc.devRef .tc main_v122))) := by
  unfold clipOps
  after_reads_simp
  rfl
theorem read_v145 : clipOps W (Proc.devRef .tc main_v145)
    = clipped (lessOne (W (Proc.devRef .tc main_v127))) (col2 (W (Proc.devRef .tc main_v122))) := by
  unfold clipOps
  after_reads_simp
  rfl
theorem read_v150 : clipOps W (Proc.devRef .tc main_v150)
    = clipped (lessOne (W (Proc.devRef .tc main_v130))) (col3 (W (Proc.devRef .tc main_v122))) := by
  unfold clipOps
  after_reads_simp
  rfl
theorem read_v155 : StableHlo.after hostOps0_24 W (Proc.devRef .tc main_v155)
    = stack (W (Proc.devRef .tc main_v135)) (W (Proc.devRef .tc main_v140)) (W (Proc.devRef .tc main_v145)) (W (Proc.devRef .tc main_v150)) := by
  after_reads_simp
  rfl
theorem read_v156 : StableHlo.after hostOps0_24 W (Proc.devRef .tc main_v156) = stackCol (W (Proc.devRef .tc main_values)) (W (Proc.devRef .tc main_values_3)) (W (Proc.devRef .tc main_values_7)) (W (Proc.devRef .tc main_values_11)) := by
  after_reads_simp
  rfl
theorem read_v157 : StableHlo.after hostOps0_24 W (Proc.devRef .tc main_v157)
    = Host.negf (F := Ideal) (s := S8x2000) (φ := .f32) (stackCol (W (Proc.devRef .tc main_values)) (W (Proc.devRef .tc main_values_3)) (W (Proc.devRef .tc main_values_7)) (W (Proc.devRef .tc main_values_11))) := by
  after_reads_simp
  rfl

/-- The argsort, and the lines that take by it. -/
def sortOps : Valuation τ sig (Elt Ideal) := StableHlo.after hostOps0_26 (StableHlo.after hostOps0_25 W)

theorem read_v158 : sortOps W (Proc.devRef .tc main_v158)
    = (Host.sort2 S8x2000 1 (comparator_f32_i32_d1 (F := Ideal)) (W (Proc.devRef .tc main_v157)) (iotaInDim S8x2000 32 1)).2 := by
  unfold sortOps
  after_reads_simp
  rfl
theorem read_v159 : sortOps W (Proc.devRef .tc main_v159) = broadcastInDim S8x2000x1 ![0, 1] bcast_S8x2000_S8x2000x1_0_1
    ((Host.sort2 S8x2000 1 (comparator_f32_i32_d1 (F := Ideal)) (W (Proc.devRef .tc main_v157)) (iotaInDim S8x2000 32 1)).2) := by
  unfold sortOps
  after_reads_simp
  rfl
theorem pass26_values : sortOps W (Proc.devRef .tc main_v156) = W (Proc.devRef .tc main_v156) := by
  unfold sortOps
  after_reads_simp
theorem pass26_v155 : sortOps W (Proc.devRef .tc main_v155) = W (Proc.devRef .tc main_v155) := by
  unfold sortOps
  after_reads_simp

/-- Rows taken by place. -/
def rowsOf (x : Boxes) (i : IVec (Nms.Q 8 2000 1) 32) : Boxes :=
  Nms.take4 gather_S8x2000x4_S8x2000x1_S8x2000x4_2_1_0_0_1_2_114 bcast_S_S8x2000x1 bcast_S1_S1x1x1_2 bcast_S1x1x1_S8x2000x1_0_1_2
    reducesTo_S8x2000x1_S8x2000_d2 h_S_ bcast_S8x2000_S8x2000x4_0_1 bcast_S_S8x2000x4 2000#32 1999#32 x i
def scoresOf (x : Col) (i : IVec (Nms.P 8 2000) 32) : Col :=
  Nms.take1 gather_S8x2000_S8x2000x1_S8x2000_n_1_0_0_1_2_11 bcast_S_S8x2000 shapeCasts_S8x2000_S8x2000x1 bcast_S_S8x2000x1
    bcast_S1_S1x1x1_2 bcast_S1x1x1_S8x2000x1_0_1_2 reducesTo_S8x2000x1_S8x2000_d2 h_S_ 2000#32 1999#32 x i
def bestOf (x : Boxes) (i : IVec (Nms.Q 8 1000 1) 32) : FVec Ideal (Nms.Q 8 1000 4) .f32 :=
  Nms.take4 gather_S8x2000x4_S8x1000x1_S8x1000x4_2_1_0_0_1_2_114 bcast_S_S8x1000x1 bcast_S1_S1x1x1_2 bcast_S1x1x1_S8x1000x1_0_1_2
    reducesTo_S8x1000x1_S8x1000_d2 h_S_ bcast_S8x1000_S8x1000x4_0_1 bcast_S_S8x1000x4 2000#32 1999#32 x i

theorem take_v160 : StableHlo.after hostOps0_27 W (Proc.devRef .tc main_v160)
    = rowsOf (W (Proc.devRef .tc main_v155)) (W (Proc.devRef .tc main_v159)) := by
  after_reads_simp
  unfold rowsOf Nms.take4 Nms.within Nms.wrap
  rfl
theorem take_v161 : StableHlo.after hostOps0_28 W (Proc.devRef .tc main_v161)
    = scoresOf (W (Proc.devRef .tc main_v156)) (W (Proc.devRef .tc main_v158)) := by
  after_reads_simp
  unfold scoresOf Nms.take1 Nms.within Nms.wrap1
  rfl
theorem take_v222 : StableHlo.after hostOps0_33 W (Proc.devRef .tc main_v222)
    = bestOf (W (Proc.devRef .tc main_v160)) (W (Proc.devRef .tc main_v221)) := by
  after_reads_simp
  unfold bestOf Nms.take4 Nms.within Nms.wrap
  rfl
theorem pass27_values : StableHlo.after hostOps0_27 W (Proc.devRef .tc main_v156) = W (Proc.devRef .tc main_v156) := by
  after_reads_simp
theorem pass27_v158 : StableHlo.after hostOps0_27 W (Proc.devRef .tc main_v158) = W (Proc.devRef .tc main_v158) := by
  after_reads_simp
theorem pass28_v160 : StableHlo.after hostOps0_28 W (Proc.devRef .tc main_v160) = W (Proc.devRef .tc main_v160) := by
  after_reads_simp
end

end Cert.Proof.ReferenceIdeal

end
-- ==== Proof.RefLoop.lean ====
module

public import proofs.«01_k».proof.Proof.RefHost
public import proofs.«01_k».proof.Proof.Over

@[expose] public section

set_option maxRecDepth 16384

/-! The reference's loop: after `k` trips the first `k` boxes are settled. -/

noncomputable section

namespace Cert.Proof.ReferenceIdeal

open Cert.ReferenceIdeal Cert.ReferenceIdeal.Gen
open Idealize.ShloMosaic Idealize.ShloMosaic.TcCoe Idealize.ShloMosaic.Tactic

/-! ## One trip -/

theorem bit_or (x y : BitVec 1) : IntOp.ori x y = 1#1 ↔ x = 1#1 ∨ y = 1#1 := by revert x y; decide
theorem bit_and (x y : BitVec 1) : IntOp.andi x y = 1#1 ↔ x = 1#1 ∧ y = 1#1 := by revert x y; decide
theorem bit_of (b : Bool) : BitVec.ofBool b = 1#1 ↔ b = true := by revert b; decide

theorem foldl_or {ι : Type} (f : ι → BitVec 1) (l : List ι) (i : BitVec 1) :
    l.foldl (fun r n => IntOp.ori r (f n)) i = 1#1 ↔ i = 1#1 ∨ ∃ n ∈ l, f n = 1#1 := by
  induction l generalizing i with
  | nil => simp
  | cons a l ih => rw [List.foldl_cons, ih, bit_or]; simp [or_assoc]

theorem any_iff (x : IVec S8x2000 1) (b : Fin 8) :
    Host.reduce IntOp.ori x (constantI S_ 1 0#1) reducesTo_S8x2000_S8_d1 h_S_ (ix1 b) = 1#1 ↔ ∃ j, x (ix2 b j) = 1#1 := by
  rw [Host.reduce_eq_foldl, foldl_or]
  constructor
  · rintro (h | ⟨i, hi, h⟩)
    · exact absurd h (by decide)
    · have hd := of_decide_eq_true (List.mem_filter.1 hi).2
      obtain ⟨b', j', rfl⟩ : ∃ b' j', i = ix2 b' j' := ⟨_, _, Idealize.ShloMosaic.eq_ix2 i⟩
      have e0 : b' = b := congrFun hd 0
      exact ⟨j', e0 ▸ h⟩
  · rintro ⟨j, h⟩
    refine .inr ⟨ix2 b j, List.mem_filter.2 ⟨?_, decide_eq_true ?_⟩, h⟩
    · exact List.mem_map.2 ⟨S8x2000.rowMajor (ix2 b j), List.mem_finRange _, Equiv.symm_apply_apply _ _⟩
    · funext a
      fin_cases a
      rfl

/-- Whether box `k` of a row is suppressed by an earlier one, and the row after that. -/
def hits (iou : FVec Ideal S8x2000x2000 .f32) (ids : IVec S2000 32) (k : IVec S_ 32) (keep : Col) : IVec S8x2000 1 :=
  andi (andi (cmpf .ogt (shapeCast S8x2000 (Host.dynamicSlice S8x1x2000 iou
      (fun a => (((![constantI S_ 32 0#32, select (cmpi .slt k (constantI S_ 32 0#32)) (addi (id k) (constantI S_ 32 2000#32)) k,
        constantI S_ 32 0#32] : Fin 3 → (⟨S_, .i32⟩ : BufTy).Contents (Elt Ideal))) a (Shape.Idx.first h_S_)).toInt)
      sliceFits_S8x2000x2000_S8x1x2000) shapeCasts_S8x1x2000_S8x2000) (spread 0x3F333333#32)) (cmpf .ogt keep (spread 0x3F000000#32)))
    (broadcastInDim S8x2000 ![0, 1] bcast_S1x2000_S8x2000_0_1 (cmpi .slt (broadcastInDim S1x2000 ![1] bcast_S2000_S1x2000_1 ids)
      (broadcastInDim S1x2000 ![] bcast_S_S1x2000 (id k))))

def trip (iou : FVec Ideal S8x2000x2000 .f32) (ids : IVec S2000 32) (k : IVec S_ 32) (keep : Col) : Col :=
  select (andi (broadcastInDim S8x2000 ![0, 1] bcast_S1x2000_S8x2000_0_1 (cmpi .eq (broadcastInDim S1x2000 ![1] bcast_S2000_S1x2000_1 ids)
      (broadcastInDim S1x2000 ![] bcast_S_S1x2000 (id k))))
    (broadcastInDim S8x2000 ![0, 1] bcast_S8x1_S8x2000_0_1 (broadcastInDim S8x1 ![0] bcast_S8_S8x1_0
      (Host.reduce IntOp.ori (hits iou ids k keep) (constantI S_ 1 0#1) reducesTo_S8x2000_S8_d1 h_S_))))
    (broadcastInDim S8x2000 ![] bcast_S_S8x2000 (id (constant (F := Ideal) S_ .f32 0x00000000#32))) keep

theorem trip_eq (W : Valuation τ sig (Elt Ideal)) : Value.step_main_v217_4 W
    = trip (W (Proc.devRef .tc main_v217_0)) (W (Proc.devRef .tc main_v217_1)) (W (Proc.devRef .tc main_v217_3)) (W (Proc.devRef .tc main_v217_4)) := by
  unfold Value.step_main_v217_4 trip hits spread
  rfl

abbrev word (k : ℕ) : IVec S_ 32 := fun _ => BitVec.ofNat 32 k
def ids : IVec S2000 32 := iotaInDim S2000 32 0

theorem word_lt {a b : ℕ} (ha : a < 2000) (hb : b < 2000) : (BitVec.ofNat 32 a).slt (BitVec.ofNat 32 b) = decide (a < b) := by
  have h : ∀ n, n < 2000 → (BitVec.ofNat 32 n).toInt = n := fun n hn => by
    rw [BitVec.toInt_eq_toNat_cond, BitVec.toNat_ofNat, Nat.mod_eq_of_lt (by omega), if_pos (by omega)]
  rw [BitVec.slt, h a ha, h b hb]
  simp

theorem word_eq {a b : ℕ} (ha : a < 2000) (hb : b < 2000) : (BitVec.ofNat 32 a == BitVec.ofNat 32 b) = decide (a = b) := by
  rw [Bool.eq_iff_iff, beq_iff_eq, decide_eq_true_iff]
  constructor
  · intro h
    have := congrArg BitVec.toNat h
    rwa [BitVec.toNat_ofNat, BitVec.toNat_ofNat, Nat.mod_eq_of_lt (by omega), Nat.mod_eq_of_lt (by omega)] at this
  · rintro rfl; rfl

theorem row_apply (iou : FVec Ideal S8x2000x2000 .f32) (k : Fin 2000) (b : Fin 8) (j : Fin 2000) :
    shapeCast S8x2000 (Host.dynamicSlice S8x1x2000 iou
      (fun a => (((![constantI S_ 32 0#32, select (cmpi .slt (word k.val) (constantI S_ 32 0#32)) (addi (id (word k.val)) (constantI S_ 32 2000#32)) (word k.val),
        constantI S_ 32 0#32] : Fin 3 → (⟨S_, .i32⟩ : BufTy).Contents (Elt Ideal))) a (Shape.Idx.first h_S_)).toInt)
      sliceFits_S8x2000x2000_S8x1x2000) shapeCasts_S8x1x2000_S8x2000 (ix2 b j) = iou (ix3 b k j) := by
  have hw := Nms.place_word (n := 2000) (by decide) k
  have hk : (select (cmpi .slt (word k.val) (constantI S_ 32 0#32)) (addi (id (word k.val)) (constantI S_ 32 2000#32)) (word k.val))
      (Shape.Idx.first h_S_) = BitVec.ofNat 32 k.val := by
    show Scalar.select (BitVec.ofBool ((BitVec.ofNat 32 k.val).slt 0#32)) _ (BitVec.ofNat 32 k.val) = _
    rw [hw.1]
    rfl
  unfold shapeCast
  rw [Shape.reshapeEquiv_eq_of_rowMajor (y := ix3 b 0 j) shapeCasts_S8x1x2000_S8x2000 (by
    rw [Shape.rowMajor_val_three, Shape.rowMajor_val_two]
    show (b.val * 1 + 0) * 2000 + j.val = b.val * 2000 + j.val
    omega), Host.dynamicSlice_apply]
  congr 1
  funext a
  apply Fin.ext
  have hlt := k.isLt
  fin_cases a
  · show (min (max (0 : Int) 0) ((8 - 8 : ℕ) : Int)).toNat + b.val = b.val
    simp
  · show (min (max ((select (cmpi .slt (word k.val) (constantI S_ 32 0#32)) (addi (id (word k.val)) (constantI S_ 32 2000#32)) (word k.val))
      (Shape.Idx.first h_S_)).toInt 0) ((2000 - 1 : ℕ) : Int)).toNat + 0 = k.val
    rw [hk]
    have h2 : (BitVec.ofNat 32 k.val).toInt = k.val := by
      rw [BitVec.toInt_eq_toNat_cond, BitVec.toNat_ofNat, Nat.mod_eq_of_lt (by omega), if_pos (by omega)]
    rw [h2]
    omega
  · show (min (max (0 : Int) 0) ((2000 - 2000 : ℕ) : Int)).toNat + j.val = j.val
    simp

theorem hits_iff (iou : FVec Ideal S8x2000x2000 .f32) (k : Fin 2000) (keep : Col) (b : Fin 8) (j : Fin 2000) :
    hits iou ids (word k.val) keep (ix2 b j) = 1#1
      ↔ (Ideal.ofBits .f32 0x3F333333#32 < iou (ix3 b k j) ∧ Ideal.ofBits .f32 0x3F000000#32 < keep (ix2 b j)) ∧ j.val < k.val := by
  have e : hits iou ids (word k.val) keep (ix2 b j)
      = IntOp.andi (IntOp.andi (BitVec.ofBool (decide (Ideal.ofBits .f32 0x3F333333#32 < iou (ix3 b k j))))
        (BitVec.ofBool (decide (Ideal.ofBits .f32 0x3F000000#32 < keep (ix2 b j)))))
        (BitVec.ofBool ((BitVec.ofNat 32 j.val).slt (BitVec.ofNat 32 k.val))) := by
    rw [← row_apply iou k b j]
    rfl
  rw [e, bit_and, bit_and, bit_of, bit_of, bit_of, word_lt j.isLt k.isLt]
  simp only [decide_eq_true_eq]

theorem trip_apply (iou : FVec Ideal S8x2000x2000 .f32) (k : Fin 2000) (keep : Col) (b : Fin 8) (j : Fin 2000) :
    trip iou ids (word k.val) keep (ix2 b j)
      = @ite _ (j = k ∧ ∃ i : Fin 2000, (Ideal.ofBits .f32 0x3F333333#32 < iou (ix3 b k i)
          ∧ Ideal.ofBits .f32 0x3F000000#32 < keep (ix2 b i)) ∧ i.val < k.val) (Classical.propDecidable _) 0 (keep (ix2 b j)) := by
  have e : trip iou ids (word k.val) keep (ix2 b j)
      = Scalar.select (IntOp.andi (BitVec.ofBool (BitVec.ofNat 32 j.val == BitVec.ofNat 32 k.val))
        (Host.reduce IntOp.ori (hits iou ids (word k.val) keep) (constantI S_ 1 0#1) reducesTo_S8x2000_S8_d1 h_S_ (ix1 b)))
        (Ideal.ofBits .f32 0x00000000#32) (keep (ix2 b j)) := by
    unfold trip
    generalize Host.reduce IntOp.ori (hits iou ids (word k.val) keep) (constantI S_ 1 0#1) reducesTo_S8x2000_S8_d1 h_S_ = r
    have hb : broadcastInDim S8x2000 ![0, 1] bcast_S8x1_S8x2000_0_1 (broadcastInDim S8x1 ![0] bcast_S8_S8x1_0 r) (ix2 b j) = r (ix1 b) := by
      pointwise
    rw [← hb]
    rfl
  have hc : IntOp.andi (BitVec.ofBool (BitVec.ofNat 32 j.val == BitVec.ofNat 32 k.val))
        (Host.reduce IntOp.ori (hits iou ids (word k.val) keep) (constantI S_ 1 0#1) reducesTo_S8x2000_S8_d1 h_S_ (ix1 b)) = 1#1
      ↔ j = k ∧ ∃ i : Fin 2000, (Ideal.ofBits .f32 0x3F333333#32 < iou (ix3 b k i)
          ∧ Ideal.ofBits .f32 0x3F000000#32 < keep (ix2 b i)) ∧ i.val < k.val := by
    rw [bit_and, bit_of, word_eq j.isLt k.isLt, any_iff, decide_eq_true_iff, Fin.ext_iff]
    simp only [hits_iff]
  rw [e]
  unfold Scalar.select
  by_cases h : j = k ∧ ∃ i : Fin 2000, (Ideal.ofBits .f32 0x3F333333#32 < iou (ix3 b k i)
          ∧ Ideal.ofBits .f32 0x3F000000#32 < keep (ix2 b i)) ∧ i.val < k.val
  · rw [if_pos h]
    exact (if_pos (hc.2 h)).trans Ideal.ofBits_zero_f32
  · rw [if_neg h]
    exact if_neg fun h' => h (hc.1 h')

/-! ## All trips -/

theorem half_lt_ind (p : Prop) : Ideal.ofBits .f32 0x3F000000#32 < Nms.ind p ↔ p := by
  rw [Nms.ofBits_half]
  by_cases h : p
  · rw [Nms.ind_pos h]
    simp only [h, iff_true]
    exact_mod_cast (by norm_num : (1 / 2 : ℝ) < 1)
  · rw [Nms.ind_neg h]
    simp only [h, iff_false, not_lt]
    exact_mod_cast (by norm_num : (0 : ℝ) ≤ 1 / 2)

/-- Settled up to `k`: a box before `k` is marked exactly if it is kept, the others are all marked. -/
def Settled (over : Fin 8 → ℕ → ℕ → Prop) (k : ℕ) (keep : Col) : Prop :=
  ∀ b (j : Fin 2000), keep (ix2 b j) = Nms.ind (j.val < k → Nms.Kept (over b) j.val)

theorem settled_trip {over : Fin 8 → ℕ → ℕ → Prop} {iou : FVec Ideal S8x2000x2000 .f32}
    (ho : ∀ b (j i : Fin 2000), Ideal.ofBits .f32 0x3F333333#32 < iou (ix3 b j i) ↔ over b j.val i.val)
    (k : Fin 2000) {keep : Col} (h : Settled over k.val keep) : Settled over (k.val + 1) (trip iou ids (word k.val) keep) := by
  intro b j
  rw [trip_apply]
  have he : (∃ i : Fin 2000, (Ideal.ofBits .f32 0x3F333333#32 < iou (ix3 b k i)
      ∧ Ideal.ofBits .f32 0x3F000000#32 < keep (ix2 b i)) ∧ i.val < k.val) ↔ ¬ Nms.Kept (over b) k.val := by
    rw [Nms.kept_iff (over b) k.val k.val le_rfl, not_not]
    constructor
    · rintro ⟨i, ⟨h1, h2⟩, h3⟩
      rw [h b i, half_lt_ind] at h2
      exact ⟨i.val, h3, h3, h2 h3, (ho b k i).1 h1⟩
    · rintro ⟨i, h3, -, h2, h1⟩
      refine ⟨⟨i, by omega⟩, ⟨(ho b k ⟨i, by omega⟩).2 h1, ?_⟩, h3⟩
      rw [h b ⟨i, by omega⟩, half_lt_ind]
      exact fun _ => h2
  by_cases hj : j = k
  · subst hj
    by_cases hk : Nms.Kept (over b) j.val
    · rw [if_neg fun e => (he.1 e.2) hk, h b j, Nms.ind_pos fun e => absurd e (lt_irrefl _), Nms.ind_pos fun _ => hk]
    · rw [if_pos ⟨rfl, he.2 hk⟩, Nms.ind_neg fun e => hk (e (Nat.lt_succ_self _))]
  · rw [if_neg fun e => hj e.1, h b j]
    refine Nms.ind_congr ?_
    have : j.val ≠ k.val := fun e => hj (Fin.ext e)
    rw [show j.val < k.val + 1 ↔ j.val < k.val by omega]

section
variable (E : Valuation τ sig (Elt Ideal))

theorem iterate_0 (k : ℕ) : (Value.STEP^[k] E) (Proc.devRef .tc main_v217_0) = E (Proc.devRef .tc main_v217_0) := by
  induction k with
  | zero => rfl
  | succ k ih => rw [Function.iterate_succ_apply', Value.STEP_main_v217_0, ih]
theorem iterate_1 (k : ℕ) : (Value.STEP^[k] E) (Proc.devRef .tc main_v217_1) = E (Proc.devRef .tc main_v217_1) := by
  induction k with
  | zero => rfl
  | succ k ih => rw [Function.iterate_succ_apply', Value.STEP_main_v217_1, ih]
theorem iterate_3 (h : E (Proc.devRef .tc main_v217_3) = word 0) (k : ℕ) :
    (Value.STEP^[k] E) (Proc.devRef .tc main_v217_3) = word k := by
  induction k with
  | zero => exact h
  | succ k ih =>
    rw [Function.iterate_succ_apply', Value.STEP_main_v217_3]
    unfold Value.step_main_v217_3
    rw [ih]
    funext i
    show BitVec.ofNat 32 k + BitVec.ofNat 32 1 = BitVec.ofNat 32 (k + 1)
    rw [BitVec.ofNat_add]

theorem iterate_4 {over : Fin 8 → ℕ → ℕ → Prop} {iou : FVec Ideal S8x2000x2000 .f32}
    (ho : ∀ b (j i : Fin 2000), Ideal.ofBits .f32 0x3F333333#32 < iou (ix3 b j i) ↔ over b j.val i.val)
    (h0 : E (Proc.devRef .tc main_v217_0) = iou) (h1 : E (Proc.devRef .tc main_v217_1) = ids)
    (h3 : E (Proc.devRef .tc main_v217_3) = word 0)
    (h4 : E (Proc.devRef .tc main_v217_4) = spread 0x3F800000#32) (k : ℕ) (hk : k ≤ 2000) :
    Settled over k ((Value.STEP^[k] E) (Proc.devRef .tc main_v217_4)) := by
  induction k with
  | zero => exact fun b j => ((congrFun h4 (ix2 b j)).trans Nms.ofBits_one).trans (Nms.ind_pos fun e => absurd e (Nat.not_lt_zero _)).symm
  | succ k ih =>
    rw [Function.iterate_succ_apply', Value.STEP_main_v217_4, trip_eq, iterate_0, iterate_1, iterate_3 E h3, h0, h1]
    exact settled_trip ho ⟨k, hk⟩ (ih (by omega))

end

end Cert.Proof.ReferenceIdeal

end
-- ==== Proof.RefEntry.lean ====
module

public import proofs.«01_k».proof.Proof.RefLoop

@[expose] public section

set_option maxRecDepth 16384

/-! The reference's overlaps, what the loop leaves alone, and the lines after it. -/

noncomputable section

namespace Cert.Proof.ReferenceIdeal

open Cert.ReferenceIdeal Cert.ReferenceIdeal.Gen
open Idealize.ShloMosaic Idealize.ShloMosaic.TcCoe Idealize.ShloMosaic.Tactic

/-- A column along the rows of the table of pairs, and along its columns. -/
abbrev Table : Type := FVec Ideal S8x2000x2000 .f32
def down (a : Col) : Table := broadcastInDim S8x2000x2000 ![0, 1, 2] bcast_S8x2000x1_S8x2000x2000_0_1_2
  (broadcastInDim S8x2000x1 ![0, 1] bcast_S8x2000_S8x2000x1_0_1 a)
def across (a : Col) : Table := broadcastInDim S8x2000x2000 ![0, 1, 2] bcast_S8x1x2000_S8x2000x2000_0_1_2
  (broadcastInDim S8x1x2000 ![0, 2] bcast_S8x2000_S8x1x2000_0_2 a)
def spread3 (w : BitVec 32) : Table := broadcastInDim S8x2000x2000 ![] bcast_S_S8x2000x2000 (constant (F := Ideal) S_ .f32 w)
def laps (lo hi : Col) : Table :=
  maximumf (addf (subf (minimumf (down hi) (across hi)) (maximumf (down lo) (across lo))) (spread3 0x3F800000#32)) (spread3 0x00000000#32)
def areas (x : Boxes) : Col := mulf (extents (col0 x) (col2 x)) (extents (col1 x) (col3 x))
def common (x : Boxes) : Table := mulf (laps (col0 x) (col2 x)) (laps (col1 x) (col3 x))
def overlaps (x : Boxes) : Table := Host.divf (common x) (subf (addf (down (areas x)) (across (areas x))) (common x))

section
variable (W : Valuation τ sig (Elt Ideal))

theorem read_iou : StableHlo.after hostOps0_29 W (Proc.devRef .tc main_v217_0) = overlaps (W (Proc.devRef .tc main_v160)) := by
  after_reads_simp
  rfl
theorem read_ids : StableHlo.after hostOps0_29 W (Proc.devRef .tc main_v217_1) = ids := by
  after_reads_simp
  rfl
theorem read_count : StableHlo.after hostOps0_29 W (Proc.devRef .tc main_v217_3) = word 0 := by
  after_reads_simp
  rfl
theorem read_keep : StableHlo.after hostOps0_29 W (Proc.devRef .tc main_v217_4) = spread 0x3F800000#32 := by
  after_reads_simp
  rfl
theorem pass29_v160 : StableHlo.after hostOps0_29 W (Proc.devRef .tc main_v160) = W (Proc.devRef .tc main_v160) := by
  after_reads_simp
theorem pass29_v161 : StableHlo.after hostOps0_29 W (Proc.devRef .tc main_v161) = W (Proc.devRef .tc main_v161) := by
  after_reads_simp

/-- The scores of the marked, −1 for the others. -/
def chosen (keep s : Col) : Col := select (cmpf .ogt keep (spread 0x3F000000#32)) s (spread 0xBF800000#32)

/-- The best scores, and where they stand. -/
def topValues (x : Col) : FVec Ideal S8x1000 .f32 :=
  (Host.topK S8x1000 1 (FloatOps.cmpfTotal (F := Ideal) (φ := .f32) .gt) x sliceFits_S8x2000_S8x1000).1
def topPlaces (x : Col) : IVec S8x1000 32 :=
  (Host.topK S8x1000 1 (FloatOps.cmpfTotal (F := Ideal) (φ := .f32) .gt) x sliceFits_S8x2000_S8x1000).2

theorem read_v220 : StableHlo.after hostOps0_31 (StableHlo.after hostOps0_30 W) (Proc.devRef .tc main_v220)
    = chosen (W (Proc.devRef .tc main_v217_4)) (W (Proc.devRef .tc main_v161)) := by
  after_reads_simp
  rfl
theorem pass31_v160 : StableHlo.after hostOps0_31 (StableHlo.after hostOps0_30 W) (Proc.devRef .tc main_v160) = W (Proc.devRef .tc main_v160) := by
  after_reads_simp
theorem read_values : StableHlo.after hostOps0_32 W (Proc.devRef .tc main_values_47)
    = topValues (W (Proc.devRef .tc main_v220)) := by
  after_reads_simp
  rfl
theorem read_v221 : StableHlo.after hostOps0_32 W (Proc.devRef .tc main_v221) = broadcastInDim S8x1000x1 ![0, 1] bcast_S8x1000_S8x1000x1_0_1
    (topPlaces (W (Proc.devRef .tc main_v220))) := by
  after_reads_simp
  rfl
theorem pass32_v160 : StableHlo.after hostOps0_32 W (Proc.devRef .tc main_v160) = W (Proc.devRef .tc main_v160) := by
  after_reads_simp
theorem pass33_values : StableHlo.after hostOps0_33 W (Proc.devRef .tc main_values_47) = W (Proc.devRef .tc main_values_47) := by
  after_reads_simp
end

section
variable (m : (ℓ : Loc nD τ sig) → Buf (Elt Ideal) ℓ) (c : Dev nD)

/-- The loop leaves what it does not write. -/
theorem loop_pass {r : Ref sig .tc} (hc : r ∉ Value.condOps_W) (h0 : r ∉ Value.while0Ops0_W) (h1 : r ∉ Value.while0Ops0_1_W) (h2 : r ∉ Value.while0Ops0_2_W)
    (h3 : r ∉ Value.while0Ops0_3_W) (h4 : r ∉ Value.while0Ops0_4_W) (k : ℕ) :
    Value.atK m k c (Proc.devRef .tc r) = StableHlo.entryContents Value.preI m c (Proc.devRef .tc r) := by
  induction k with
  | zero => rfl
  | succ k ih =>
    rw [← ih]
    show StableHlo.after while0Ops0_4 (StableHlo.after while0Ops0_3 (StableHlo.after while0Ops0_2
      (StableHlo.after while0Ops0_1 (StableHlo.after while0Ops0 (StableHlo.after Value.condOps (Value.atK m k c))))))
      (Proc.devRef .tc r) = _
    rw [StableHlo.after_of_writes_sub while0Ops0_4 _ Value.while0Ops0_4_writes h4, StableHlo.after_of_writes_sub while0Ops0_3 _ Value.while0Ops0_3_writes h3,
      StableHlo.after_of_writes_sub while0Ops0_2 _ Value.while0Ops0_2_writes h2, StableHlo.after_of_writes_sub while0Ops0_1 _ Value.while0Ops0_1_writes h1,
      StableHlo.after_of_writes_sub while0Ops0 _ Value.while0Ops0_writes h0, StableHlo.after_of_writes_sub Value.condOps _ Value.condOps_writes hc]

/-- The buffers when the loop ends. -/
def ended : Valuation τ sig (Elt Ideal) := StableHlo.after Value.condOps (Value.atK m 2000 c)

theorem ended_pass {r : Ref sig .tc} (hc : r ∉ Value.condOps_W) (h0 : r ∉ Value.while0Ops0_W) (h1 : r ∉ Value.while0Ops0_1_W) (h2 : r ∉ Value.while0Ops0_2_W)
    (h3 : r ∉ Value.while0Ops0_3_W) (h4 : r ∉ Value.while0Ops0_4_W) :
    ended m c (Proc.devRef .tc r) = StableHlo.entryContents Value.preI m c (Proc.devRef .tc r) :=
  (StableHlo.after_of_writes_sub Value.condOps _ Value.condOps_writes hc).trans (loop_pass m c hc h0 h1 h2 h3 h4 2000)

theorem ended_keep : ended m c (Proc.devRef .tc main_v217_4)
    = (Value.STEP^[2000] (StableHlo.entryContents Value.preI m c)) (Proc.devRef .tc main_v217_4) :=
  (Value.cond_keeps (Value.atK m 2000 c) main_v217_4 (by decide)).trans (Value.atK_agree m c 2000 main_v217_4 (by decide))

/-- Level 0: raw scores, deltas and anchors by rows. -/
def scores0 : FVec Ideal (Nms.P 2 196608) .f32 := shapeCast S2x196608 (m ((c.tc : Thread nD τ).loc main_arg0)) shapeCasts_S2x256x256x3_S2x196608
def deltas0 : FVec Ideal (Nms.Q 2 196608 4) .f32 := shapeCast S2x196608x4 (m ((c.tc : Thread nD τ).loc main_arg4)) shapeCasts_S2x256x256x12_S2x196608x4
def anchors0 : FVec Ideal (Nms.Q 2 196608 4) .f32 := shapeCast S2x196608x4 (m ((c.tc : Thread nD τ).loc main_arg8)) shapeCasts_S2x256x256x12_S2x196608x4
def best0 : FVec Ideal (Nms.P 2 2000) .f32 := best bcast_S_S2x196608 sliceFits_S2x196608_S2x2000 (scores0 m c)
def picks0 (x : FVec Ideal (Nms.Q 2 196608 4) .f32) : FVec Ideal (Nms.Q 2 2000 4) .f32 :=
  rowsAt gather_S2x196608x4_S2x2000x1_S2x2000x4_2_1_0_0_1_2_114 196608#32 196607#32 x (column (places bcast_S_S2x196608 sliceFits_S2x196608_S2x2000 (scores0 m c)))
/-- Level 1: raw scores, deltas and anchors by rows. -/
def scores1 : FVec Ideal (Nms.P 2 49152) .f32 := shapeCast S2x49152 (m ((c.tc : Thread nD τ).loc main_arg1)) shapeCasts_S2x128x128x3_S2x49152
def deltas1 : FVec Ideal (Nms.Q 2 49152 4) .f32 := shapeCast S2x49152x4 (m ((c.tc : Thread nD τ).loc main_arg5)) shapeCasts_S2x128x128x12_S2x49152x4
def anchors1 : FVec Ideal (Nms.Q 2 49152 4) .f32 := shapeCast S2x49152x4 (m ((c.tc : Thread nD τ).loc main_arg9)) shapeCasts_S2x128x128x12_S2x49152x4
def best1 : FVec Ideal (Nms.P 2 2000) .f32 := best bcast_S_S2x49152 sliceFits_S2x49152_S2x2000 (scores1 m c)
def picks1 (x : FVec Ideal (Nms.Q 2 49152 4) .f32) : FVec Ideal (Nms.Q 2 2000 4) .f32 :=
  rowsAt gather_S2x49152x4_S2x2000x1_S2x2000x4_2_1_0_0_1_2_114 49152#32 49151#32 x (column (places bcast_S_S2x49152 sliceFits_S2x49152_S2x2000 (scores1 m c)))
/-- Level 2: raw scores, deltas and anchors by rows. -/
def scores2 : FVec Ideal (Nms.P 2 12288) .f32 := shapeCast S2x12288 (m ((c.tc : Thread nD τ).loc main_arg2)) shapeCasts_S2x64x64x3_S2x12288
def deltas2 : FVec Ideal (Nms.Q 2 12288 4) .f32 := shapeCast S2x12288x4 (m ((c.tc : Thread nD τ).loc main_arg6)) shapeCasts_S2x64x64x12_S2x12288x4
def anchors2 : FVec Ideal (Nms.Q 2 12288 4) .f32 := shapeCast S2x12288x4 (m ((c.tc : Thread nD τ).loc main_arg10)) shapeCasts_S2x64x64x12_S2x12288x4
def best2 : FVec Ideal (Nms.P 2 2000) .f32 := best bcast_S_S2x12288 sliceFits_S2x12288_S2x2000 (scores2 m c)
def picks2 (x : FVec Ideal (Nms.Q 2 12288 4) .f32) : FVec Ideal (Nms.Q 2 2000 4) .f32 :=
  rowsAt gather_S2x12288x4_S2x2000x1_S2x2000x4_2_1_0_0_1_2_114 12288#32 12287#32 x (column (places bcast_S_S2x12288 sliceFits_S2x12288_S2x2000 (scores2 m c)))
/-- Level 3: raw scores, deltas and anchors by rows. -/
def scores3 : FVec Ideal (Nms.P 2 3072) .f32 := shapeCast S2x3072 (m ((c.tc : Thread nD τ).loc main_arg3)) shapeCasts_S2x32x32x3_S2x3072
def deltas3 : FVec Ideal (Nms.Q 2 3072 4) .f32 := shapeCast S2x3072x4 (m ((c.tc : Thread nD τ).loc main_arg7)) shapeCasts_S2x32x32x12_S2x3072x4
def anchors3 : FVec Ideal (Nms.Q 2 3072 4) .f32 := shapeCast S2x3072x4 (m ((c.tc : Thread nD τ).loc main_arg11)) shapeCasts_S2x32x32x12_S2x3072x4
def best3 : FVec Ideal (Nms.P 2 2000) .f32 := best bcast_S_S2x3072 sliceFits_S2x3072_S2x2000 (scores3 m c)
def picks3 (x : FVec Ideal (Nms.Q 2 3072 4) .f32) : FVec Ideal (Nms.Q 2 2000 4) .f32 :=
  rowsAt gather_S2x3072x4_S2x2000x1_S2x2000x4_2_1_0_0_1_2_114 3072#32 3071#32 x (column (places bcast_S_S2x3072 sliceFits_S2x3072_S2x2000 (scores3 m c)))

/-- The lines before the decoding, the clipping, and the sort. -/
def start : Valuation τ sig (Elt Ideal) := fun b => m (c, b)
def taken : Valuation τ sig (Elt Ideal) := level3 (level2 (level1 (level0 (start m c))))
def stacked : Valuation τ sig (Elt Ideal) := StableHlo.after hostOps0_24 (clipOps (StableHlo.after hostOps0_16 (taken m c)))
def sorted : Valuation τ sig (Elt Ideal) := sortOps (stacked m c)
def entered : Valuation τ sig (Elt Ideal) := StableHlo.after hostOps0_29 (StableHlo.after hostOps0_28 (StableHlo.after hostOps0_27 (sorted m c)))

theorem entry_eq : StableHlo.entryContents Value.preI m c = entered m c := rfl

/-- The four levels under one another. -/
def bests : Col := stackCol (best0 m c) (best1 m c) (best2 m c) (best3 m c)
def drows : Boxes := stackRows (picks0 m c (deltas0 m c)) (picks1 m c (deltas1 m c)) (picks2 m c (deltas2 m c)) (picks3 m c (deltas3 m c))
def arows : Boxes := stackRows (picks0 m c (anchors0 m c)) (picks1 m c (anchors1 m c)) (picks2 m c (anchors2 m c)) (picks3 m c (anchors3 m c))
def image : FVec Ideal S2x5 .f32 := m ((c.tc : Thread nD τ).loc main_arg12)
def limits : FVec Ideal S8x2 .f32 := stackSizes (image m c)
/-- The boxes as decoded and clipped. -/
def boxes : Boxes :=
  stack (clipped (lessOne (size0 (limits m c))) (col0 (decoded (drows m c) (arows m c))))
    (clipped (lessOne (size1 (limits m c))) (col1 (decoded (drows m c) (arows m c))))
    (clipped (lessOne (size0 (limits m c))) (col2 (decoded (drows m c) (arows m c))))
    (clipped (lessOne (size1 (limits m c))) (col3 (decoded (drows m c) (arows m c))))

theorem taken0 : taken m c (Proc.devRef .tc main_values) = best0 m c
    ∧ taken m c (Proc.devRef .tc main_v10) = picks0 m c (deltas0 m c)
    ∧ taken m c (Proc.devRef .tc main_v12) = picks0 m c (anchors0 m c) := by
  have e0 : (start m c) (Proc.devRef .tc main_arg0) = m ((c.tc : Thread nD τ).loc main_arg0) := rfl
  have e4 : (start m c) (Proc.devRef .tc main_arg4) = m ((c.tc : Thread nD τ).loc main_arg4) := rfl
  have e8 : (start m c) (Proc.devRef .tc main_arg8) = m ((c.tc : Thread nD τ).loc main_arg8) := rfl
  have h := level0_reads (start m c)
  rw [e0, e4, e8] at h
  exact ⟨(pass3 _ (by decide)).trans ((pass2 _ (by decide)).trans ((pass1 _ (by decide)).trans (h.1))), (pass3 _ (by decide)).trans ((pass2 _ (by decide)).trans ((pass1 _ (by decide)).trans (h.2.1))), (pass3 _ (by decide)).trans ((pass2 _ (by decide)).trans ((pass1 _ (by decide)).trans (h.2.2)))⟩
theorem taken1 : taken m c (Proc.devRef .tc main_values_3) = best1 m c
    ∧ taken m c (Proc.devRef .tc main_v23) = picks1 m c (deltas1 m c)
    ∧ taken m c (Proc.devRef .tc main_v25) = picks1 m c (anchors1 m c) := by
  have e1 : (level0 (start m c)) (Proc.devRef .tc main_arg1) = m ((c.tc : Thread nD τ).loc main_arg1) := pass0 _ (by decide)
  have e5 : (level0 (start m c)) (Proc.devRef .tc main_arg5) = m ((c.tc : Thread nD τ).loc main_arg5) := pass0 _ (by decide)
  have e9 : (level0 (start m c)) (Proc.devRef .tc main_arg9) = m ((c.tc : Thread nD τ).loc main_arg9) := pass0 _ (by decide)
  have h := level1_reads (level0 (start m c))
  rw [e1, e5, e9] at h
  exact ⟨(pass3 _ (by decide)).trans ((pass2 _ (by decide)).trans (h.1)), (pass3 _ (by decide)).trans ((pass2 _ (by decide)).trans (h.2.1)), (pass3 _ (by decide)).trans ((pass2 _ (by decide)).trans (h.2.2))⟩
theorem taken2 : taken m c (Proc.devRef .tc main_values_7) = best2 m c
    ∧ taken m c (Proc.devRef .tc main_v36) = picks2 m c (deltas2 m c)
    ∧ taken m c (Proc.devRef .tc main_v38) = picks2 m c (anchors2 m c) := by
  have e2 : (level1 (level0 (start m c))) (Proc.devRef .tc main_arg2) = m ((c.tc : Thread nD τ).loc main_arg2) := (pass1 _ (by decide)).trans (pass0 _ (by decide))
  have e6 : (level1 (level0 (start m c))) (Proc.devRef .tc main_arg6) = m ((c.tc : Thread nD τ).loc main_arg6) := (pass1 _ (by decide)).trans (pass0 _ (by decide))
  have e10 : (level1 (level0 (start m c))) (Proc.devRef .tc main_arg10) = m ((c.tc : Thread nD τ).loc main_arg10) := (pass1 _ (by decide)).trans (pass0 _ (by decide))
  have h := level2_reads (level1 (level0 (start m c)))
  rw [e2, e6, e10] at h
  exact ⟨(pass3 _ (by decide)).trans (h.1), (pass3 _ (by decide)).trans (h.2.1), (pass3 _ (by decide)).trans (h.2.2)⟩
theorem taken3 : taken m c (Proc.devRef .tc main_values_11) = best3 m c
    ∧ taken m c (Proc.devRef .tc main_v49) = picks3 m c (deltas3 m c)
    ∧ taken m c (Proc.devRef .tc main_v51) = picks3 m c (anchors3 m c) := by
  have e3 : (level2 (level1 (level0 (start m c)))) (Proc.devRef .tc main_arg3) = m ((c.tc : Thread nD τ).loc main_arg3) := (pass2 _ (by decide)).trans ((pass1 _ (by decide)).trans (pass0 _ (by decide)))
  have e7 : (level2 (level1 (level0 (start m c)))) (Proc.devRef .tc main_arg7) = m ((c.tc : Thread nD τ).loc main_arg7) := (pass2 _ (by decide)).trans ((pass1 _ (by decide)).trans (pass0 _ (by decide)))
  have e11 : (level2 (level1 (level0 (start m c)))) (Proc.devRef .tc main_arg11) = m ((c.tc : Thread nD τ).loc main_arg11) := (pass2 _ (by decide)).trans ((pass1 _ (by decide)).trans (pass0 _ (by decide)))
  have h := level3_reads (level2 (level1 (level0 (start m c))))
  rw [e3, e7, e11] at h
  exact ⟨h.1, h.2.1, h.2.2⟩
theorem taken_arg12 : taken m c (Proc.devRef .tc main_arg12) = image m c :=
  (pass3 _ (by decide)).trans ((pass2 _ (by decide)).trans ((pass1 _ (by decide)).trans (pass0 _ (by decide))))

theorem mid_pass (W : Valuation τ sig (Elt Ideal)) {r : Ref sig .tc} (h : r ∉ Value.hostOps0_16_W ∧ r ∉ Value.hostOps0_17_W ∧ r ∉ Value.hostOps0_18_W
      ∧ r ∉ Value.hostOps0_19_W ∧ r ∉ Value.hostOps0_20_W ∧ r ∉ Value.hostOps0_21_W ∧ r ∉ Value.hostOps0_22_W ∧ r ∉ Value.hostOps0_23_W) :
    clipOps (StableHlo.after hostOps0_16 W) (Proc.devRef .tc r) = W (Proc.devRef .tc r) := by
  obtain ⟨h0, h1, h2, h3, h4, h5, h6, h7⟩ := h
  unfold clipOps
  rw [StableHlo.after_of_writes_sub hostOps0_23 _ Value.hostOps0_23_writes h7, StableHlo.after_of_writes_sub hostOps0_22 _ Value.hostOps0_22_writes h6,
    StableHlo.after_of_writes_sub hostOps0_21 _ Value.hostOps0_21_writes h5, StableHlo.after_of_writes_sub hostOps0_20 _ Value.hostOps0_20_writes h4,
    StableHlo.after_of_writes_sub hostOps0_19 _ Value.hostOps0_19_writes h3, StableHlo.after_of_writes_sub hostOps0_18 _ Value.hostOps0_18_writes h2,
    StableHlo.after_of_writes_sub hostOps0_17 _ Value.hostOps0_17_writes h1, StableHlo.after_of_writes_sub hostOps0_16 _ Value.hostOps0_16_writes h0]

theorem stacked_v155 : stacked m c (Proc.devRef .tc main_v155) = boxes m c := by
  unfold stacked
  rw [read_v155, read_v135 _ (read_cst30 _), read_v140, read_v145, read_v150, read_v134, read_v132, read_v130, read_v127, read_v122,
    (taken0 m c).2.1, (taken1 m c).2.1, (taken2 m c).2.1, (taken3 m c).2.1,
    (taken0 m c).2.2, (taken1 m c).2.2, (taken2 m c).2.2, (taken3 m c).2.2, taken_arg12]
  rfl
theorem stacked_v156 : stacked m c (Proc.devRef .tc main_v156) = bests m c := by
  unfold stacked
  rw [read_v156, mid_pass _ (by decide), mid_pass _ (by decide), mid_pass _ (by decide), mid_pass _ (by decide),
    (taken0 m c).1, (taken1 m c).1, (taken2 m c).1, (taken3 m c).1]
  rfl
theorem stacked_v157 : stacked m c (Proc.devRef .tc main_v157) = Host.negf (F := Ideal) (s := S8x2000) (φ := .f32) (bests m c) := by
  unfold stacked
  rw [read_v157, mid_pass _ (by decide), mid_pass _ (by decide), mid_pass _ (by decide), mid_pass _ (by decide),
    (taken0 m c).1, (taken1 m c).1, (taken2 m c).1, (taken3 m c).1]
  rfl

/-- The order of the scores, once more. -/
def order : IVec (Nms.P 8 2000) 32 :=
  (Host.sort2 S8x2000 1 (comparator_f32_i32_d1 (F := Ideal)) (Host.negf (F := Ideal) (s := S8x2000) (φ := .f32) (bests m c)) (iotaInDim S8x2000 32 1)).2

theorem sorted_v158 : sorted m c (Proc.devRef .tc main_v158) = order m c := by
  unfold sorted
  rw [read_v158, stacked_v157]
  rfl
theorem sorted_v159 : sorted m c (Proc.devRef .tc main_v159) = broadcastInDim S8x2000x1 ![0, 1] bcast_S8x2000_S8x2000x1_0_1 (order m c) := by
  unfold sorted
  rw [read_v159, stacked_v157]
  rfl

theorem entered_v160 : entered m c (Proc.devRef .tc main_v160)
    = rowsOf (boxes m c) (broadcastInDim S8x2000x1 ![0, 1] bcast_S8x2000_S8x2000x1_0_1 (order m c)) := by
  unfold entered
  rw [pass29_v160, pass28_v160, take_v160, sorted_v159]
  unfold sorted
  rw [pass26_v155, stacked_v155]
theorem entered_v161 : entered m c (Proc.devRef .tc main_v161) = scoresOf (bests m c) (order m c) := by
  unfold entered
  rw [pass29_v161, take_v161, pass27_values, pass27_v158, sorted_v158]
  unfold sorted
  rw [pass26_values, stacked_v156]
end

end Cert.Proof.ReferenceIdeal

end
-- ==== Proof.RefPoint.lean ====
module

public import proofs.«01_k».proof.Proof.RefEntry
public import proofs.«01_k».proof.Proof.Level

@[expose] public section

set_option maxRecDepth 16384

/-! The reference's boxes, scores and overlaps at a place. -/

noncomputable section

namespace Cert.Proof.ReferenceIdeal

open Cert.ReferenceIdeal Cert.ReferenceIdeal.Gen
open Idealize.ShloMosaic Idealize.ShloMosaic.TcCoe Idealize.ShloMosaic.Tactic

theorem div_one' (x : EReal) : Ideal.div x 1 = x := by
  have h := Ideal.div_coe (one_ne_zero (α := ℝ)) x
  rw [EReal.coe_one] at h
  rw [h]
  simp

section Columns
variable (x : Boxes) (a b' c' d' : Col) (b : Fin 8) (j : Fin 2000)

theorem spread_apply (w : BitVec 32) : spread w (ix2 b j) = Ideal.ofBits .f32 w := rfl

theorem col0_apply : col0 x (ix2 b j) = x (ix3 b j 0) := by
  unfold col0
  pointwise
theorem col1_apply : col1 x (ix2 b j) = x (ix3 b j 1) := by
  unfold col1
  pointwise
theorem col2_apply : col2 x (ix2 b j) = x (ix3 b j 2) := by
  unfold col2
  pointwise
theorem col3_apply : col3 x (ix2 b j) = x (ix3 b j 3) := by
  unfold col3
  pointwise

theorem stack_0 : stack a b' c' d' (ix3 b j 0) = a (ix2 b j) := by
  unfold stack
  pointwise
theorem stack_1 : stack a b' c' d' (ix3 b j 1) = b' (ix2 b j) := by
  unfold stack
  pointwise
theorem stack_2 : stack a b' c' d' (ix3 b j 2) = c' (ix2 b j) := by
  unfold stack
  pointwise
theorem stack_3 : stack a b' c' d' (ix3 b j 3) = d' (ix2 b j) := by
  unfold stack
  pointwise

theorem extents_apply (lo hi : Col) : extents lo hi (ix2 b j) = Nms.ext (lo (ix2 b j)) (hi (ix2 b j)) := by
  show hi (ix2 b j) - lo (ix2 b j) + Ideal.ofBits .f32 0x3F800000#32 = _
  rw [Nms.ofBits_one]
  rfl

theorem centres_apply (lo hi d : Col) :
    centres lo hi d (ix2 b j) = Nms.centreE (lo (ix2 b j)) (hi (ix2 b j)) (d (ix2 b j)) := by
  show Ideal.div (d (ix2 b j)) (Ideal.ofBits .f32 0x3F800000#32) * extents lo hi (ix2 b j)
    + (lo (ix2 b j) + Ideal.ofBits .f32 0x3F000000#32 * extents lo hi (ix2 b j)) = _
  rw [Nms.ofBits_one, Nms.ofBits_half, div_one', extents_apply]
  rfl

theorem halves_apply (lo hi s : Col) :
    halves lo hi s (ix2 b j) = Nms.halfE (lo (ix2 b j)) (hi (ix2 b j)) (s (ix2 b j)) := by
  show Ideal.ofBits .f32 0x3F000000#32 * (Ideal.exp (min (Ideal.div (s (ix2 b j)) (Ideal.ofBits .f32 0x3F800000#32))
    (Ideal.ofBits .f32 0x40845349#32)) * extents lo hi (ix2 b j)) = _
  rw [Nms.ofBits_one, Nms.ofBits_half, div_one', extents_apply]
  rfl

theorem clipped_apply (lim : FVec Ideal S8x1 .f32) : clipped lim a (ix2 b j) = Nms.clipE (lim (ix2 b 0)) (a (ix2 b j)) := by
  have h : clipped lim a (ix2 b j) = min (lim (ix2 b 0)) (max (Ideal.ofBits .f32 0x00000000#32) (a (ix2 b j))) := by
    unfold clipped spread
    pointwise
  rw [h, Ideal.ofBits_zero_f32]
  rfl

theorem clipped_lows (lim : FVec Ideal S8x1 .f32) (lo hi d s : Col) :
    clipped lim (lows lo hi d s) (ix2 b j)
      = Nms.lowE (lo (ix2 b j)) (hi (ix2 b j)) (d (ix2 b j)) (s (ix2 b j)) (lim (ix2 b 0)) := by
  rw [clipped_apply]
  show Nms.clipE _ (centres lo hi d (ix2 b j) - halves lo hi s (ix2 b j)) = _
  rw [centres_apply, halves_apply]
  rfl

theorem clipped_highs (lim : FVec Ideal S8x1 .f32) (lo hi d s : Col) :
    clipped lim (highs lo hi d s) (ix2 b j)
      = Nms.highE (lo (ix2 b j)) (hi (ix2 b j)) (d (ix2 b j)) (s (ix2 b j)) (lim (ix2 b 0)) := by
  rw [clipped_apply]
  show Nms.clipE _ (centres lo hi d (ix2 b j) + halves lo hi s (ix2 b j) - Ideal.ofBits .f32 0x3F800000#32) = _
  rw [centres_apply, halves_apply, Nms.ofBits_one]
  rfl

theorem lessOne_apply (y : FVec Ideal S8x1 .f32) : lessOne y (ix2 b 0) = (y (ix2 b 0) : EReal) - 1 := by
  show (y (ix2 b 0) : EReal) - Ideal.ofBits .f32 0x3F800000#32 = _
  rw [Nms.ofBits_one]

theorem size0_apply (y : FVec Ideal S8x2 .f32) : size0 y (ix2 b 0) = y (ix2 b 0) := by
  unfold size0
  pointwise
theorem size1_apply (y : FVec Ideal S8x2 .f32) : size1 y (ix2 b 0) = y (ix2 b 1) := by
  unfold size1
  pointwise
end Columns

section Overlaps
variable (x : Boxes) (b : Fin 8) (j i : Fin 2000)

theorem down_apply (a : Col) : down a (ix3 b j i) = a (ix2 b j) := by
  unfold down
  pointwise
theorem across_apply (a : Col) : across a (ix3 b j i) = a (ix2 b i) := by
  unfold across
  pointwise

theorem laps_apply (lo hi : Col) :
    laps lo hi (ix3 b j i) = Nms.lap (lo (ix2 b j)) (hi (ix2 b j)) (lo (ix2 b i)) (hi (ix2 b i)) := by
  show max (min (down hi (ix3 b j i)) (across hi (ix3 b j i)) - max (down lo (ix3 b j i)) (across lo (ix3 b j i))
    + Ideal.ofBits .f32 0x3F800000#32) (Ideal.ofBits .f32 0x00000000#32) = _
  rw [down_apply, across_apply, down_apply, across_apply, Nms.ofBits_one, Ideal.ofBits_zero_f32]
  rfl

theorem areas_apply : areas x (ix2 b j) = Nms.ext (x (ix3 b j 0)) (x (ix3 b j 2)) * Nms.ext (x (ix3 b j 1)) (x (ix3 b j 3)) := by
  show extents (col0 x) (col2 x) (ix2 b j) * extents (col1 x) (col3 x) (ix2 b j) = _
  rw [extents_apply, extents_apply, col0_apply, col1_apply, col2_apply, col3_apply]

theorem common_apply : common x (ix3 b j i)
    = Nms.lap (x (ix3 b j 0)) (x (ix3 b j 2)) (x (ix3 b i 0)) (x (ix3 b i 2)) * Nms.lap (x (ix3 b j 1)) (x (ix3 b j 3)) (x (ix3 b i 1)) (x (ix3 b i 3)) := by
  show laps (col0 x) (col2 x) (ix3 b j i) * laps (col1 x) (col3 x) (ix3 b j i) = _
  rw [laps_apply, laps_apply]
  simp only [col0_apply, col1_apply, col2_apply, col3_apply]

theorem overlaps_apply : overlaps x (ix3 b j i) = Ideal.div (common x (ix3 b j i)) (areas x (ix2 b j) + areas x (ix2 b i) - common x (ix3 b j i)) := by
  show Ideal.div (common x (ix3 b j i)) (down (areas x) (ix3 b j i) + across (areas x) (ix3 b j i) - common x (ix3 b j i)) = _
  rw [down_apply, across_apply]

theorem ofBits_thresh : Ideal.ofBits .f32 0x3F333333#32 = ((11744051 / 16777216 : ℝ) : EReal) := by
  simp [Ideal.ofBits, Ideal.ieee, -EReal.coe_mul]
  norm_num

theorem over_apply {L : Fin 4 → ℕ → EReal} (h : ∀ (j : Fin 2000) (e : Fin 4), x (ix3 b j e) = L e j.val) :
    Ideal.ofBits .f32 0x3F333333#32 < overlaps x (ix3 b j i)
      ↔ Nms.OverR ((11744051 / 16777216 : ℝ) : EReal) (L 0) (L 1) (L 2) (L 3) j.val i.val := by
  rw [overlaps_apply, areas_apply, areas_apply, common_apply, ofBits_thresh]
  simp only [h]
  rfl
end Overlaps

end Cert.Proof.ReferenceIdeal

end
-- ==== Proof.RefRows.lean ====
module

public import proofs.«01_k».proof.Proof.RefEntry
public import proofs.«01_k».proof.Proof.RefPoint
public import proofs.«01_k».proof.Proof.Level

@[expose] public section

set_option maxRecDepth 16384

/-! The reference's eight rows: row `2 K + b` holds level `K` of image `b`. -/

noncomputable section

namespace Cert.Proof.ReferenceIdeal

open Cert.ReferenceIdeal Cert.ReferenceIdeal.Gen
open Idealize.ShloMosaic Idealize.ShloMosaic.TcCoe Idealize.ShloMosaic.Tactic

/-! ## Orders -/

/-- A strictly increasing function of the scores leaves their order. -/
theorem place_mono {B n : ℕ} {x y : FVec Ideal (Nms.P B n) .f32} {f : EReal → EReal} (hf : StrictMono f) (b : Fin B)
    (h : ∀ i : Fin n, y (ix2 b i) = f (x (ix2 b i))) (k : Fin n) : Nms.place y b k = Nms.place x b k := by
  unfold Nms.place
  congr 1
  funext i j
  unfold Nms.gtBefore
  rw [decide_eq_decide]
  show y (ix2 b j) < y (ix2 b i) ↔ x (ix2 b j) < x (ix2 b i)
  rw [h, h]
  exact hf.lt_iff_lt

/-! ## A level -/

section
variable {N : ℕ} (hb : Nms.Z.BroadcastsInDim (Nms.P 2 N) ![]) (f : (Nms.P 2 N).Slices (fun _ => 0) (Nms.P 2 2000)) (hk : 2000 ≤ N)
  (s : FVec Ideal (Nms.P 2 N) .f32)

theorem squashed_apply (b : Fin 2) (j : Fin N) : squashed hb s (ix2 b j) = Ideal.logistic (s (ix2 b j)) := by
  show Ideal.div (Ideal.ofBits .f32 0x3F800000#32) (Ideal.ofBits .f32 0x3F800000#32 + Ideal.exp (-(s (ix2 b j) : EReal))) = _
  rw [Nms.ofBits_one]
  rfl

theorem place_squashed (b : Fin 2) (k : Fin N) : Nms.place (squashed hb s) b k = Nms.place s b k :=
  place_mono Nms.logistic_strictMono b (squashed_apply hb s b) k

theorem best_place (b : Fin 2) (j : Fin 2000) : best hb f s (ix2 b j) = squashed hb s (ix2 b (Nms.place (squashed hb s) b (j.castLE hk))) :=
  Nms.topK_fst f hk (squashed hb s) b j

theorem best_apply (b : Fin 2) (j : Fin 2000) : best hb f s (ix2 b j) = Ideal.logistic (Nms.raw hk s b j.val) := by
  rw [best_place hb f hk, squashed_apply, place_squashed]
  unfold Nms.raw
  rw [dif_pos j.isLt]
  rfl

include hk in
theorem best_antitone (b : Fin 2) (i j : Fin 2000) (h : i ≤ j) : best hb f s (ix2 b j) ≤ best hb f s (ix2 b i) := by
  rw [best_place hb f hk, best_place hb f hk]
  exact Nms.key_sortedFrom_antitone (fun i => squashed hb s (ix2 b i)) (Fin.castLE_le_castLE_iff _ |>.2 h)

theorem places_apply (b : Fin 2) (j : Fin 2000) : column (places hb f s) (ix3 b j 0) = BitVec.ofNat 32 (Nms.spot hk s b j).val := by
  have h := Nms.topK_snd f hk (squashed hb s) b j
  rw [place_squashed] at h
  refine Eq.trans ?_ h
  unfold column places
  pointwise

theorem rowsAt_apply (g : GatherDims (Nms.Q 2 N 4) (Nms.Q 2 2000 1) (Nms.Q 2 2000 4)) (nb mb : BitVec 32) (hn : N < 2 ^ 31)
    (hg : g.offsetDims = [2] ∧ g.collapsedSliceDims = [1] ∧ g.operandBatchingDims = [0]
      ∧ g.startIndicesBatchingDims = [0] ∧ g.startIndexMap = [1] ∧ g.indexVectorDim = 2 ∧ g.sliceSizes = ![1, 1, 4])
    (hmb : mb = BitVec.ofNat 32 (N - 1)) (x : FVec Ideal (Nms.Q 2 N 4) .f32) (b : Fin 2) (j : Fin 2000) (e : Fin 4) :
    rowsAt g nb mb x (column (places hb f s)) (ix3 b j e) = x (ix3 b (Nms.spot hk s b j) e) :=
  Nms.take4_apply _ _ _ _ _ _ _ _ _ _ _ _ hn (by decide) hg hmb b j e _ (places_apply hb f hk s b j)
end

/-! ## The rows -/

/-- The row of level `K` of image `b`. -/
def row (K : Fin 4) (b : Fin 2) : Fin 8 := ⟨2 * K.val + b.val, by omega⟩

theorem row_all (r : Fin 8) : ∃ K b, r = row K b := by revert r; decide

theorem stackCol_apply (x : Fin 4 → FVec Ideal (Nms.P 2 2000) .f32) (K : Fin 4) (b : Fin 2) (j : Fin 2000) :
    stackCol (x 0) (x 1) (x 2) (x 3) (ix2 (row K b) j) = x K (ix2 b j) := by
  unfold stackCol
  fin_cases K <;> fin_cases b <;> simp only [row] <;> pointwise
theorem stackRows_apply (x : Fin 4 → FVec Ideal (Nms.Q 2 2000 4) .f32) (K : Fin 4) (b : Fin 2) (j : Fin 2000) (e : Fin 4) :
    stackRows (x 0) (x 1) (x 2) (x 3) (ix3 (row K b) j e) = x K (ix3 b j e) := by
  unfold stackRows
  fin_cases K <;> fin_cases b <;> simp only [row] <;> pointwise
theorem stackSizes_apply (x : FVec Ideal S2x5 .f32) (K : Fin 4) (b a : Fin 2) : stackSizes x (ix2 (row K b) a) = x (ix2 b (a.castLE (by decide))) := by
  have h : stackSizes x (ix2 (row K b) a) = firstTwo x (ix2 b a) := by
    unfold stackSizes
    fin_cases K <;> fin_cases b <;> simp only [row] <;> pointwise
  rw [h]
  unfold firstTwo extractStridedSlice
  congr 1
  funext i
  apply Fin.ext
  fin_cases i <;> exact Nat.zero_add _

end Cert.Proof.ReferenceIdeal

end
-- ==== Proof.RefResult.lean ====
module

public import proofs.«01_k».proof.Proof.RefRows

@[expose] public section

set_option maxRecDepth 16384

/-! What the reference leaves in its two results. -/

noncomputable section

namespace Cert.Proof.ReferenceIdeal

open Cert.ReferenceIdeal Cert.ReferenceIdeal.Gen
open Idealize.ShloMosaic Idealize.ShloMosaic.TcCoe Idealize.ShloMosaic.Tactic

theorem place_sorted {n : ℕ} {x : FVec Ideal (Nms.P 8 n) .f32} (b : Fin 8)
    (h : ∀ i j : Fin n, i ≤ j → x (ix2 b j) ≤ x (ix2 b i)) (k : Fin n) : Nms.place x b k = k :=
  Nms.sortedFrom_sorted _ h k

theorem select_eq {c x : EReal} : Scalar.select (BitVec.ofBool (decide (x = c))) c x = x := by
  unfold Scalar.select
  by_cases h : x = c
  · simp [h]
  · simp [h]

theorem comparator_eq (l r : EReal × BitVec 32) :
    comparator_f32_i32_d1 (F := Ideal) l r = BitVec.ofBool (decide ((fun x : EReal => -x) r.1 < (fun x : EReal => -x) l.1)) := by
  have h : ∀ c w x : EReal, Scalar.select (BitVec.ofBool (decide (x ≠ x))) w (Scalar.select (BitVec.ofBool (decide (x = c))) c x) = x := by
    intro c w x
    rw [select_eq]
    unfold Scalar.select
    simp
  show BitVec.ofBool (decide (Scalar.select (BitVec.ofBool (decide (l.1 ≠ l.1))) (Ideal.ofBits .f32 0x7FC00000#32)
      (Scalar.select (BitVec.ofBool (decide (l.1 = Ideal.ofBits .f32 0x00000000#32))) (Ideal.ofBits .f32 0x00000000#32) l.1)
    < Scalar.select (BitVec.ofBool (decide (r.1 ≠ r.1))) (Ideal.ofBits .f32 0x7FC00000#32)
      (Scalar.select (BitVec.ofBool (decide (r.1 = Ideal.ofBits .f32 0x00000000#32))) (Ideal.ofBits .f32 0x00000000#32) r.1))) = _
  rw [h, h]
  simp only [EReal.neg_lt_neg_iff]

section
variable (m : (ℓ : Loc nD τ sig) → Buf (Elt Ideal) ℓ) (c : Dev nD)

def lim (im : FVec Ideal (Nms.P 2 5) .f32) (b a : Fin 2) : EReal := im (ix2 b (a.castLE (by decide))) - 1

/-- Level `K` of the rows: its scores best first, and its boxes in that order. -/
structure Follows {N : ℕ} (hk : 2000 ≤ N) (s : FVec Ideal (Nms.P 2 N) .f32) (d a : FVec Ideal (Nms.Q 2 N 4) .f32) (K : Fin 4) : Prop where
  scores : ∀ (b : Fin 2) (j : Fin 2000), bests m c (ix2 (row K b) j) = Ideal.logistic (Nms.raw hk s b j.val)
  boxes : ∀ (b : Fin 2) (j : Fin 2000) (e : Fin 4), boxes m c (ix3 (row K b) j e) = Nms.line hk s d a (lim (image m c)) b e j.val
  down : ∀ (b : Fin 2) (i j : Fin 2000), i ≤ j → bests m c (ix2 (row K b) j) ≤ bests m c (ix2 (row K b) i)

theorem size0_limits (K : Fin 4) (b : Fin 2) : lessOne (size0 (limits m c)) (ix2 (row K b) 0) = lim (image m c) b 0 := by
  rw [lessOne_apply, size0_apply]
  unfold limits
  rw [stackSizes_apply]
  rfl
theorem size1_limits (K : Fin 4) (b : Fin 2) : lessOne (size1 (limits m c)) (ix2 (row K b) 0) = lim (image m c) b 1 := by
  rw [lessOne_apply, size1_apply]
  unfold limits
  rw [stackSizes_apply]
  rfl

theorem boxes_row {N : ℕ} {hk : 2000 ≤ N} {s : FVec Ideal (Nms.P 2 N) .f32} {d a : FVec Ideal (Nms.Q 2 N 4) .f32} {K : Fin 4}
    (hd : ∀ b j e, drows m c (ix3 (row K b) j e) = d (ix3 b (Nms.spot hk s b j) e))
    (ha : ∀ b j e, arows m c (ix3 (row K b) j e) = a (ix3 b (Nms.spot hk s b j) e)) (b : Fin 2) (j : Fin 2000) (e : Fin 4) :
    boxes m c (ix3 (row K b) j e) = Nms.line hk s d a (lim (image m c)) b e j.val := by
  unfold Nms.line
  rw [dif_pos j.isLt]
  unfold boxes decoded
  fin_cases e
  · refine (stack_0 _ _ _ _ (row K b) j).trans ?_
    rw [clipped_apply, col0_apply, stack_0, ← clipped_apply, clipped_lows, size0_limits]
    simp only [col0_apply, col1_apply, col2_apply, col3_apply, hd, ha]
    rfl
  · refine (stack_1 _ _ _ _ (row K b) j).trans ?_
    rw [clipped_apply, col1_apply, stack_1, ← clipped_apply, clipped_lows, size1_limits]
    simp only [col0_apply, col1_apply, col2_apply, col3_apply, hd, ha]
    rfl
  · refine (stack_2 _ _ _ _ (row K b) j).trans ?_
    rw [clipped_apply, col2_apply, stack_2, ← clipped_apply, clipped_highs, size0_limits]
    simp only [col0_apply, col1_apply, col2_apply, col3_apply, hd, ha]
    rfl
  · refine (stack_3 _ _ _ _ (row K b) j).trans ?_
    rw [clipped_apply, col3_apply, stack_3, ← clipped_apply, clipped_highs, size1_limits]
    simp only [col0_apply, col1_apply, col2_apply, col3_apply, hd, ha]
    rfl

theorem follows_of {N : ℕ} (hb : Nms.Z.BroadcastsInDim (Nms.P 2 N) ![]) (f : (Nms.P 2 N).Slices (fun _ => 0) (Nms.P 2 2000)) {hk : 2000 ≤ N}
    {s : FVec Ideal (Nms.P 2 N) .f32} {d a : FVec Ideal (Nms.Q 2 N 4) .f32} {K : Fin 4}
    (g : GatherDims (Nms.Q 2 N 4) (Nms.Q 2 2000 1) (Nms.Q 2 2000 4)) (nb mb : BitVec 32) (hn : N < 2 ^ 31)
    (hg : g.offsetDims = [2] ∧ g.collapsedSliceDims = [1] ∧ g.operandBatchingDims = [0]
      ∧ g.startIndicesBatchingDims = [0] ∧ g.startIndexMap = [1] ∧ g.indexVectorDim = 2 ∧ g.sliceSizes = ![1, 1, 4])
    (hmb : mb = BitVec.ofNat 32 (N - 1))
    (h0 : ∀ b j, bests m c (ix2 (row K b) j) = best hb f s (ix2 b j))
    (hd : ∀ b j e, drows m c (ix3 (row K b) j e) = rowsAt g nb mb d (column (places hb f s)) (ix3 b j e))
    (ha : ∀ b j e, arows m c (ix3 (row K b) j e) = rowsAt g nb mb a (column (places hb f s)) (ix3 b j e)) : Follows m c hk s d a K where
  scores b j := (h0 b j).trans (best_apply hb f hk s b j)
  boxes := boxes_row m c (fun b j e => (hd b j e).trans (rowsAt_apply hb f hk s g nb mb hn hg hmb d b j e))
    (fun b j e => (ha b j e).trans (rowsAt_apply hb f hk s g nb mb hn hg hmb a b j e))
  down b i j h := by
    rw [h0, h0]
    exact best_antitone hb f hk s b i j h

theorem hk0 : 2000 ≤ 196608 := by decide
theorem follows0 : Follows m c hk0 (scores0 m c) (deltas0 m c) (anchors0 m c) 0 :=
  follows_of m c bcast_S_S2x196608 sliceFits_S2x196608_S2x2000 gather_S2x196608x4_S2x2000x1_S2x2000x4_2_1_0_0_1_2_114 196608#32 196607#32 (by decide)
    ⟨rfl, rfl, rfl, rfl, rfl, rfl, rfl⟩ rfl (stackCol_apply ![best0 m c, best1 m c, best2 m c, best3 m c] 0)
    (stackRows_apply ![picks0 m c (deltas0 m c), picks1 m c (deltas1 m c), picks2 m c (deltas2 m c), picks3 m c (deltas3 m c)] 0)
    (stackRows_apply ![picks0 m c (anchors0 m c), picks1 m c (anchors1 m c), picks2 m c (anchors2 m c), picks3 m c (anchors3 m c)] 0)
theorem hk1 : 2000 ≤ 49152 := by decide
theorem follows1 : Follows m c hk1 (scores1 m c) (deltas1 m c) (anchors1 m c) 1 :=
  follows_of m c bcast_S_S2x49152 sliceFits_S2x49152_S2x2000 gather_S2x49152x4_S2x2000x1_S2x2000x4_2_1_0_0_1_2_114 49152#32 49151#32 (by decide)
    ⟨rfl, rfl, rfl, rfl, rfl, rfl, rfl⟩ rfl (stackCol_apply ![best0 m c, best1 m c, best2 m c, best3 m c] 1)
    (stackRows_apply ![picks0 m c (deltas0 m c), picks1 m c (deltas1 m c), picks2 m c (deltas2 m c), picks3 m c (deltas3 m c)] 1)
    (stackRows_apply ![picks0 m c (anchors0 m c), picks1 m c (anchors1 m c), picks2 m c (anchors2 m c), picks3 m c (anchors3 m c)] 1)
theorem hk2 : 2000 ≤ 12288 := by decide
theorem follows2 : Follows m c hk2 (scores2 m c) (deltas2 m c) (anchors2 m c) 2 :=
  follows_of m c bcast_S_S2x12288 sliceFits_S2x12288_S2x2000 gather_S2x12288x4_S2x2000x1_S2x2000x4_2_1_0_0_1_2_114 12288#32 12287#32 (by decide)
    ⟨rfl, rfl, rfl, rfl, rfl, rfl, rfl⟩ rfl (stackCol_apply ![best0 m c, best1 m c, best2 m c, best3 m c] 2)
    (stackRows_apply ![picks0 m c (deltas0 m c), picks1 m c (deltas1 m c), picks2 m c (deltas2 m c), picks3 m c (deltas3 m c)] 2)
    (stackRows_apply ![picks0 m c (anchors0 m c), picks1 m c (anchors1 m c), picks2 m c (anchors2 m c), picks3 m c (anchors3 m c)] 2)
theorem hk3 : 2000 ≤ 3072 := by decide
theorem follows3 : Follows m c hk3 (scores3 m c) (deltas3 m c) (anchors3 m c) 3 :=
  follows_of m c bcast_S_S2x3072 sliceFits_S2x3072_S2x2000 gather_S2x3072x4_S2x2000x1_S2x2000x4_2_1_0_0_1_2_114 3072#32 3071#32 (by decide)
    ⟨rfl, rfl, rfl, rfl, rfl, rfl, rfl⟩ rfl (stackCol_apply ![best0 m c, best1 m c, best2 m c, best3 m c] 3)
    (stackRows_apply ![picks0 m c (deltas0 m c), picks1 m c (deltas1 m c), picks2 m c (deltas2 m c), picks3 m c (deltas3 m c)] 3)
    (stackRows_apply ![picks0 m c (anchors0 m c), picks1 m c (anchors1 m c), picks2 m c (anchors2 m c), picks3 m c (anchors3 m c)] 3)

theorem bests_antitone (r : Fin 8) (i j : Fin 2000) (h : i ≤ j) : bests m c (ix2 r j) ≤ bests m c (ix2 r i) := by
  obtain ⟨K, b, rfl⟩ := row_all r
  fin_cases K
  · exact (follows0 m c).down b i j h
  · exact (follows1 m c).down b i j h
  · exact (follows2 m c).down b i j h
  · exact (follows3 m c).down b i j h

/-- The boxes' coordinates, best first. -/
def line (r : Fin 8) (e : Fin 4) (j : ℕ) : EReal := if h : j < 2000 then boxes m c (ix3 r ⟨j, h⟩ e) else 0
theorem boxes_apply (r : Fin 8) (j : Fin 2000) (e : Fin 4) : boxes m c (ix3 r j e) = line m c r e j.val := by
  unfold line
  rw [dif_pos j.isLt]

theorem hq : 1000 ≤ 2000 := by decide

theorem order_apply (b : Fin 8) (j : Fin 2000) : order m c (ix2 b j) = BitVec.ofNat 32 j.val := by
  have h := (Nms.sort2_place (n := 2000) (comparator_f32_i32_d1 (F := Ideal)) (fun x => -x) comparator_eq
    (Host.negf (F := Ideal) (s := S8x2000) (φ := .f32) (bests m c)) (iotaInDim S8x2000 32 1) b j).2
  refine Eq.trans h ?_
  rw [place_sorted b (fun i i' hi => ?_)]
  · rfl
  · show -(-(bests m c (ix2 b i') : EReal)) ≤ -(-(bests m c (ix2 b i) : EReal))
    rw [neg_neg, neg_neg]
    exact bests_antitone m c b i i' hi

theorem rows_apply (b : Fin 8) (j : Fin 2000) (e : Fin 4) :
    rowsOf (boxes m c) (broadcastInDim S8x2000x1 ![0, 1] bcast_S8x2000_S8x2000x1_0_1 (order m c)) (ix3 b j e) = line m c b e j.val := by
  refine (Nms.take4_apply _ _ _ _ _ _ _ _ _ _ _ _ (by decide) (by decide) ⟨rfl, rfl, rfl, rfl, rfl, rfl, rfl⟩ rfl b j e j ?_).trans (boxes_apply m c b j e)
  refine Eq.trans ?_ (order_apply m c b j)
  pointwise

theorem bests_apply (b : Fin 8) (j : Fin 2000) : scoresOf (bests m c) (order m c) (ix2 b j) = bests m c (ix2 b j) :=
  (Nms.take1_apply _ _ _ _ _ _ _ _ _ _ _ _ (by decide) ⟨rfl, rfl, rfl, rfl, rfl, rfl, rfl⟩ rfl b j j (order_apply m c b j))

/-! ## The results -/

/-- The reference's overlap test on the boxes, best first. -/
abbrev over (b : Fin 8) (j k : ℕ) : Prop :=
  Nms.OverR ((11744051 / 16777216 : ℝ) : EReal) (line m c b 0) (line m c b 1) (line m c b 2) (line m c b 3) j k

theorem settled : Settled (over m c) 2000 (ended m c (Proc.devRef .tc main_v217_4)) := by
  rw [ended_keep, entry_eq]
  unfold entered
  refine iterate_4 _ (fun b j i => ?_) (read_iou _) (read_ids _) (read_count _) (read_keep _) 2000 (le_refl _)
  refine over_apply _ b j i (L := line m c b) fun j e => ?_
  have h := entered_v160 m c
  unfold entered at h
  rw [pass29_v160] at h
  rw [h]
  exact rows_apply m c b j e

open Classical in
/-- The scores of the boxes that are kept, −1 for the others. -/
def picked : FVec Ideal (Nms.P 8 2000) .f32 := fun i =>
  if Nms.Kept (over m c (i 0)) (i 1).val then bests m c i else ((-1 : ℝ) : EReal)

open Classical in
theorem chosen_eq : chosen (ended m c (Proc.devRef .tc main_v217_4)) (scoresOf (bests m c) (order m c)) = picked m c := by
  funext i
  obtain ⟨b, j, rfl⟩ : ∃ b j, i = ix2 b j := ⟨_, _, Idealize.ShloMosaic.eq_ix2 i⟩
  show Scalar.select (BitVec.ofBool (decide (Ideal.ofBits .f32 0x3F000000#32 < ended m c (Proc.devRef .tc main_v217_4) (ix2 b j))))
    (scoresOf (bests m c) (order m c) (ix2 b j)) (Ideal.ofBits .f32 0xBF800000#32)
    = if Nms.Kept (over m c b) j.val then bests m c (ix2 b j) else ((-1 : ℝ) : EReal)
  rw [settled m c b j, bests_apply, Nms.ofBits_neg_one]
  by_cases h : Nms.Kept (over m c b) j.val
  · rw [if_pos h, decide_eq_true ((half_lt_ind _).2 fun _ => h)]
    rfl
  · rw [if_neg h, decide_eq_false fun h' => h ((half_lt_ind (j.val < 2000 → Nms.Kept (over m c b) j.val)).1 h' j.isLt)]
    rfl

/-- The best of the picked scores, in order. -/
def topScores : FVec Ideal (Nms.P 8 1000) .f32 := fun i => picked m c (ix2 (i 0) (Nms.place (picked m c) (i 0) ((i 1).castLE hq)))
/-- The boxes of the best of the picked scores, in order. -/
def topBoxes : FVec Ideal (Nms.Q 8 1000 4) .f32 :=
  fun i => line m c (i 0) (i 2) (Nms.place (picked m c) (i 0) ((i 1).castLE hq)).val

/-- The lines after the loop. -/
def masking : Valuation τ sig (Elt Ideal) := StableHlo.after hostOps0_31 (StableHlo.after hostOps0_30 (ended m c))
def cut : Valuation τ sig (Elt Ideal) := StableHlo.after hostOps0_33 (StableHlo.after hostOps0_32 (masking m c))
def done : Valuation τ sig (Elt Ideal) := StableHlo.after hostOps0_35 (StableHlo.after hostOps0_34 (cut m c))

theorem final_eq : StableHlo.finalContents Value.condOps Value.preI Value.bodyI Value.postI 2000 m c = done m c := rfl

theorem masking_v220 : masking m c (Proc.devRef .tc main_v220) = picked m c := by
  unfold masking
  rw [read_v220, ended_pass m c (r := main_v161) (by decide) (by decide) (by decide) (by decide) (by decide) (by decide), entry_eq, entered_v161, chosen_eq]

theorem masking_v160 : masking m c (Proc.devRef .tc main_v160)
    = rowsOf (boxes m c) (broadcastInDim S8x2000x1 ![0, 1] bcast_S8x2000_S8x2000x1_0_1 (order m c)) := by
  unfold masking
  rw [pass31_v160, ended_pass m c (r := main_v160) (by decide) (by decide) (by decide) (by decide) (by decide) (by decide), entry_eq, entered_v160]

theorem cut_values : cut m c (Proc.devRef .tc main_values_47) = topScores m c := by
  unfold cut
  rw [pass33_values, read_values, masking_v220]
  funext i
  obtain ⟨b, q, rfl⟩ : ∃ b q, i = ix2 b q := ⟨_, _, Idealize.ShloMosaic.eq_ix2 i⟩
  exact Nms.topK_fst _ hq (picked m c) b q

theorem cut_boxes : cut m c (Proc.devRef .tc main_v222) = topBoxes m c := by
  unfold cut
  rw [take_v222, read_v221, pass32_v160, masking_v220, masking_v160]
  funext i
  obtain ⟨b, q, e, rfl⟩ : ∃ b q e, i = ix3 b q e := ⟨_, _, _, Idealize.ShloMosaic.eq_ix3 i⟩
  refine (Nms.take4_apply _ _ _ _ _ _ _ _ _ _ _ _ (by decide) (by decide) ⟨rfl, rfl, rfl, rfl, rfl, rfl, rfl⟩ rfl b q e
    (Nms.place (picked m c) b (q.castLE hq)) ?_).trans ?_
  · refine Eq.trans ?_ (Nms.topK_snd sliceFits_S8x2000_S8x1000 hq (picked m c) b q)
    unfold topPlaces
    pointwise
  · exact rows_apply m c b _ e

theorem done_values : done m c (Proc.devRef .tc main_values_49) = lastScores (alongScores (topScores m c)) := by
  unfold done
  rw [pass35_values, (joined _).1, cut_values]
theorem done_rows : done m c (Proc.devRef .tc main_v234) = lastRows (alongBoxes (topBoxes m c)) (lastAt (alongScores (topScores m c))) := by
  unfold done
  rw [last_rows, (joined _).2.1, (joined _).2.2, cut_values, cut_boxes]

/-! ## The arguments -/

theorem entered_pass {r : Ref sig .tc} (h : r ∉ Value.hostOps0_W ∧ r ∉ Value.hostOps0_1_W ∧ r ∉ Value.hostOps0_2_W ∧ r ∉ Value.hostOps0_3_W ∧ r ∉ Value.hostOps0_4_W ∧ r ∉ Value.hostOps0_5_W ∧ r ∉ Value.hostOps0_6_W ∧ r ∉ Value.hostOps0_7_W ∧ r ∉ Value.hostOps0_8_W ∧ r ∉ Value.hostOps0_9_W ∧ r ∉ Value.hostOps0_10_W ∧ r ∉ Value.hostOps0_11_W ∧ r ∉ Value.hostOps0_12_W ∧ r ∉ Value.hostOps0_13_W ∧ r ∉ Value.hostOps0_14_W ∧ r ∉ Value.hostOps0_15_W ∧ r ∉ Value.hostOps0_16_W ∧ r ∉ Value.hostOps0_17_W ∧ r ∉ Value.hostOps0_18_W ∧ r ∉ Value.hostOps0_19_W ∧ r ∉ Value.hostOps0_20_W ∧ r ∉ Value.hostOps0_21_W ∧ r ∉ Value.hostOps0_22_W ∧ r ∉ Value.hostOps0_23_W ∧ r ∉ Value.hostOps0_24_W ∧ r ∉ Value.hostOps0_25_W ∧ r ∉ Value.hostOps0_26_W ∧ r ∉ Value.hostOps0_27_W ∧ r ∉ Value.hostOps0_28_W ∧ r ∉ Value.hostOps0_29_W) :
    entered m c (Proc.devRef .tc r) = m ((c.tc : Thread nD τ).loc r) := by
  obtain ⟨h0, h1, h2, h3, h4, h5, h6, h7, h8, h9, h10, h11, h12, h13, h14, h15, h16, h17, h18, h19, h20, h21, h22, h23, h24, h25, h26, h27, h28, h29⟩ := h
  unfold entered sorted sortOps stacked clipOps taken level3 level2 level1 level0 start
  rw [StableHlo.after_of_writes_sub hostOps0_29 _ Value.hostOps0_29_writes h29,
    StableHlo.after_of_writes_sub hostOps0_28 _ Value.hostOps0_28_writes h28,
    StableHlo.after_of_writes_sub hostOps0_27 _ Value.hostOps0_27_writes h27,
    StableHlo.after_of_writes_sub hostOps0_26 _ Value.hostOps0_26_writes h26,
    StableHlo.after_of_writes_sub hostOps0_25 _ Value.hostOps0_25_writes h25,
    StableHlo.after_of_writes_sub hostOps0_24 _ Value.hostOps0_24_writes h24,
    StableHlo.after_of_writes_sub hostOps0_23 _ Value.hostOps0_23_writes h23,
    StableHlo.after_of_writes_sub hostOps0_22 _ Value.hostOps0_22_writes h22,
    StableHlo.after_of_writes_sub hostOps0_21 _ Value.hostOps0_21_writes h21,
    StableHlo.after_of_writes_sub hostOps0_20 _ Value.hostOps0_20_writes h20,
    StableHlo.after_of_writes_sub hostOps0_19 _ Value.hostOps0_19_writes h19,
    StableHlo.after_of_writes_sub hostOps0_18 _ Value.hostOps0_18_writes h18,
    StableHlo.after_of_writes_sub hostOps0_17 _ Value.hostOps0_17_writes h17,
    StableHlo.after_of_writes_sub hostOps0_16 _ Value.hostOps0_16_writes h16,
    StableHlo.after_of_writes_sub hostOps0_15 _ Value.hostOps0_15_writes h15,
    StableHlo.after_of_writes_sub hostOps0_14 _ Value.hostOps0_14_writes h14,
    StableHlo.after_of_writes_sub hostOps0_13 _ Value.hostOps0_13_writes h13,
    StableHlo.after_of_writes_sub hostOps0_12 _ Value.hostOps0_12_writes h12,
    StableHlo.after_of_writes_sub hostOps0_11 _ Value.hostOps0_11_writes h11,
    StableHlo.after_of_writes_sub hostOps0_10 _ Value.hostOps0_10_writes h10,
    StableHlo.after_of_writes_sub hostOps0_9 _ Value.hostOps0_9_writes h9,
    StableHlo.after_of_writes_sub hostOps0_8 _ Value.hostOps0_8_writes h8,
    StableHlo.after_of_writes_sub hostOps0_7 _ Value.hostOps0_7_writes h7,
    StableHlo.after_of_writes_sub hostOps0_6 _ Value.hostOps0_6_writes h6,
    StableHlo.after_of_writes_sub hostOps0_5 _ Value.hostOps0_5_writes h5,
    StableHlo.after_of_writes_sub hostOps0_4 _ Value.hostOps0_4_writes h4,
    StableHlo.after_of_writes_sub hostOps0_3 _ Value.hostOps0_3_writes h3,
    StableHlo.after_of_writes_sub hostOps0_2 _ Value.hostOps0_2_writes h2,
    StableHlo.after_of_writes_sub hostOps0_1 _ Value.hostOps0_1_writes h1,
    StableHlo.after_of_writes_sub hostOps0 _ Value.hostOps0_writes h0]

/-- The arguments. -/
def arguments : List (Ref sig .tc) := [main_arg0, main_arg1, main_arg2, main_arg3, main_arg4, main_arg5, main_arg6, main_arg7, main_arg8, main_arg9, main_arg10, main_arg11, main_arg12]

theorem last_pass (W : Valuation τ sig (Elt Ideal)) (r : Ref sig .tc) (h : r ∈ arguments) :
    StableHlo.after hostOps0_35 (StableHlo.after hostOps0_34 (StableHlo.after hostOps0_33 (StableHlo.after hostOps0_32
      (StableHlo.after hostOps0_31 (StableHlo.after hostOps0_30 W))))) (Proc.devRef .tc r) = W (Proc.devRef .tc r) := by
  simp only [arguments, List.mem_cons, List.not_mem_nil, or_false] at h
  rcases h with rfl | rfl | rfl | rfl | rfl | rfl | rfl | rfl | rfl | rfl | rfl | rfl | rfl <;> after_reads_simp

theorem done_pass (r : Ref sig .tc) (h : r ∈ arguments) : done m c (Proc.devRef .tc r) = m ((c.tc : Thread nD τ).loc r) := by
  refine (last_pass (ended m c) r h).trans ?_
  refine (ended_pass m c (by revert r; decide) (by revert r; decide) (by revert r; decide) (by revert r; decide) (by revert r; decide) (by revert r; decide)).trans ?_
  rw [entry_eq]
  exact entered_pass m c (by refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (revert r; decide))

end

section
variable (m : (ℓ : Loc nD τ sig) → Buf (Elt Ideal) ℓ) (ρ : Dev nD → PrngReg)

theorem run_done : θ_run (defs (F := Ideal)) (onTc (τ := τ) (main (F := Ideal))) ⟨m, fun _ => 0, ρ⟩ (fun r => ∀ (c : Dev nD) (b : Ref sig .tc),
      (Proc.devRef .tc b : DevRef τ sig).isScoped = false → r.2.mem ((c.tc : Thread nD τ).loc b) = done m c (Proc.devRef .tc b)) :=
  Value.run_fold m ρ

/-- The reference's results, and its arguments unchanged. -/
theorem results : θ_run (defs (F := Ideal)) (onTc (τ := τ) (main (F := Ideal))) ⟨m, fun _ => 0, ρ⟩ (fun r => ∀ c : Dev nD,
      (r.2.mem ((c.tc : Thread nD τ).loc main_values_49) = lastScores (alongScores (topScores m c))
      ∧ r.2.mem ((c.tc : Thread nD τ).loc main_v234) = lastRows (alongBoxes (topBoxes m c)) (lastAt (alongScores (topScores m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  have ha : ∀ a ∈ arguments, (Proc.devRef .tc a : DevRef τ sig).isScoped = false := by decide
  refine (θ_run defs _ _).mono (fun r h c => ?_) (run_done m ρ)
  have e : ∀ a ∈ arguments, r.2.mem ((c.tc : Thread nD τ).loc a) = m ((c.tc : Thread nD τ).loc a) :=
    fun a h' => (h c a (ha a h')).trans (done_pass m c a h')
  exact ⟨⟨(h c main_values_49 (by decide)).trans (done_values m c), (h c main_v234 (by decide)).trans (done_rows m c)⟩,
    e main_arg0 (by decide), e main_arg1 (by decide), e main_arg2 (by decide), e main_arg3 (by decide), e main_arg4 (by decide), e main_arg5 (by decide), e main_arg6 (by decide), e main_arg7 (by decide), e main_arg8 (by decide), e main_arg9 (by decide), e main_arg10 (by decide), e main_arg11 (by decide), e main_arg12 (by decide)⟩

/-- The frame: the arguments unchanged, and no counters to speak of. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => (h c).2, sem_eq_zero_of_no_sems (by decide) r.2⟩) (results m ρ)
end

end Cert.Proof.ReferenceIdeal

end
-- ==== Proof.Join.lean ====
module

public import proofs.«01_k».proof.Proof.Fair
public import proofs.«01_k».proof.Proof.RefResult

@[expose] public section

set_option maxRecDepth 16384

/-! The kernel's results and the reference's are the same. -/

noncomputable section

namespace Cert.Proof.Join

open Idealize.ShloMosaic Idealize.ShloMosaic.TcCoe Idealize.ShloMosaic.Tactic
open ReferenceIdeal (row)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD}

/-! ## A level -/

theorem top_picked (r : Fin 8) (q : Fin 1000) : ReferenceIdeal.topScores m' c (ix2 r q)
    = ReferenceIdeal.picked m' c (ix2 r (Nms.place (ReferenceIdeal.picked m' c) r (q.castLE ReferenceIdeal.hq))) := rfl

section
variable {N : ℕ} {hk : 2000 ≤ N} {s : FVec Ideal (Nms.P 2 N) .f32} {d a : FVec Ideal (Nms.Q 2 N 4) .f32} {im : FVec Ideal (Nms.P 2 5) .f32} {K : Fin 4}
  (hi : ReferenceIdeal.image m' c = im) (H : ReferenceIdeal.Follows m' c hk s d a K) (hg : Fair.Good a im)

theorem masked_apply (b : Fin 2) (j : Fin 2000) : KernelIdeal.masked hk s d a im (ix2 b j) = KernelIdeal.score hk s d a im b j.val := rfl

include hi H

theorem line_same (b : Fin 2) (e : Fin 4) (j : ℕ) (h : j < 2000) :
    ReferenceIdeal.line m' c (row K b) e j = KernelIdeal.line hk s d a im b e j := by
  subst hi
  unfold ReferenceIdeal.line
  rw [dif_pos h]
  exact H.boxes b ⟨j, h⟩ e

include hg

theorem kept_same (b : Fin 2) (j : ℕ) (hj : j < 2000) :
    Nms.Kept (ReferenceIdeal.over m' c (row K b)) j ↔ Nms.Stays hk s d a (KernelIdeal.lim im) b j := by
  refine Nms.kept_congr (n := 2000) (fun j k hj hkj => ?_) j hj
  have hl : ∀ e i, i < 2000 → ReferenceIdeal.line m' c (row K b) e i = KernelIdeal.line hk s d a im b e i := fun e i => line_same hi H b e i
  have hn : k < 2000 := by omega
  refine Iff.trans ?_ (Nms.over_iff (Fair.fine_y (hk := hk) (s := s) (d := d) hg b j hj) (Fair.fine_x (hk := hk) (s := s) (d := d) hg b j hj)
    (Fair.fine_y (hk := hk) (s := s) (d := d) hg b k hn) (Fair.fine_x (hk := hk) (s := s) (d := d) hg b k hn))
  unfold ReferenceIdeal.over Nms.OverR
  rw [hl _ j hj, hl _ j hj, hl _ j hj, hl _ j hj, hl _ k hn, hl _ k hn, hl _ k hn, hl _ k hn]

theorem picked_same (b : Fin 2) (j : Fin 2000) : ReferenceIdeal.picked m' c (ix2 (row K b) j) = KernelIdeal.masked hk s d a im (ix2 b j) := by
  classical
  show ReferenceIdeal.picked m' c (ix2 (row K b) j) = Nms.score hk s d a (KernelIdeal.lim im) b j.val
  unfold ReferenceIdeal.picked Nms.score
  have e := kept_same hi H hg b j.val j.isLt
  by_cases hs : Nms.Kept (ReferenceIdeal.over m' c (row K b)) j.val
  · exact (if_pos hs).trans ((H.scores b j).trans (if_pos ⟨j.isLt, e.1 hs⟩).symm)
  · exact (if_neg hs).trans (if_neg fun h' => hs (e.2 h'.2)).symm

theorem place_same (b : Fin 2) (k : Fin 2000) :
    Nms.place (ReferenceIdeal.picked m' c) (row K b) k = Nms.place (KernelIdeal.masked hk s d a im) b k :=
  congrArg (fun g : Fin 2000 → EReal => sortedFrom (Nms.gtBefore g) k) (funext (picked_same hi H hg b))

theorem scores_same (b : Fin 2) (q : Fin 1000) :
    ReferenceIdeal.topScores m' c (ix2 (row K b) q) = KernelIdeal.topScores hk s d a im (ix2 b q) := by
  refine (top_picked (row K b) q).trans ?_
  rw [place_same hi H hg, picked_same hi H hg, masked_apply]
  rfl

theorem boxes_same (b : Fin 2) (q : Fin 1000) (e : Fin 4) :
    ReferenceIdeal.topBoxes m' c (ix3 (row K b) q e) = KernelIdeal.topBoxes hk s d a im (ix3 b q e) := by
  show ReferenceIdeal.line m' c (row K b) e (Nms.place (ReferenceIdeal.picked m' c) (row K b) (q.castLE ReferenceIdeal.hq)).val
    = KernelIdeal.line hk s d a im b e (Nms.place (KernelIdeal.masked hk s d a im) b (q.castLE KernelIdeal.hq')).val
  rw [place_same hi H hg]
  exact line_same hi H b e _ (Fin.isLt _)

theorem cut_scores {o : ℕ} (ho : o = 2 * K.val) (h : (Nms.P 8 1000).Slices ![o, 0] (Nms.P 2 1000)) :
    extractStridedSlice (Nms.P 2 1000) ![o, 0] (ReferenceIdeal.topScores m' c) h = KernelIdeal.topScores hk s d a im := by
  funext i
  obtain ⟨b, q, rfl⟩ : ∃ b q, i = ix2 b q := ⟨_, _, Idealize.ShloMosaic.eq_ix2 i⟩
  refine Eq.trans ?_ (scores_same hi H hg b q)
  unfold extractStridedSlice
  congr 1
  funext i
  apply Fin.ext
  subst ho
  fin_cases i
  · rfl
  · exact Nat.zero_add _

theorem cut_boxes {o : ℕ} (ho : o = 2 * K.val) (h : (Nms.Q 8 1000 4).Slices ![o, 0, 0] (Nms.Q 2 1000 4)) :
    extractStridedSlice (Nms.Q 2 1000 4) ![o, 0, 0] (ReferenceIdeal.topBoxes m' c) h = KernelIdeal.topBoxes hk s d a im := by
  funext i
  obtain ⟨b, q, e, rfl⟩ : ∃ b q e, i = ix3 b q e := ⟨_, _, _, Idealize.ShloMosaic.eq_ix3 i⟩
  refine Eq.trans ?_ (boxes_same hi H hg b q e)
  unfold extractStridedSlice
  congr 1
  funext i
  apply Fin.ext
  subst ho
  fin_cases i
  · rfl
  · exact Nat.zero_add _
  · exact Nat.zero_add _
end

/-! ## The four levels -/

/-- The two memories hold the same arguments. -/
def Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

section
variable (h : Same m m' c)
include h

theorem image_same : ReferenceIdeal.image m' c = KernelIdeal.sizes m c := h.2.2.2.2.2.2.2.2.2.2.2.2
theorem follows0 : ReferenceIdeal.Follows m' c KernelIdeal.hk0 (KernelIdeal.scores0 m c) (KernelIdeal.deltas0 m c) (KernelIdeal.anchors0 m c) 0 := by
  have e0 : ReferenceIdeal.scores0 m' c = KernelIdeal.scores0 m c := congrArg (fun x => shapeCast _ x _) h.1
  have e1 : ReferenceIdeal.deltas0 m' c = KernelIdeal.deltas0 m c := congrArg (fun x => shapeCast _ x _) h.2.2.2.2.1
  have e2 : ReferenceIdeal.anchors0 m' c = KernelIdeal.anchors0 m c := congrArg (fun x => shapeCast _ x _) h.2.2.2.2.2.2.2.2.1
  have F := ReferenceIdeal.follows0 m' c
  rwa [e0, e1, e2] at F
theorem follows1 : ReferenceIdeal.Follows m' c KernelIdeal.hk1 (KernelIdeal.scores1 m c) (KernelIdeal.deltas1 m c) (KernelIdeal.anchors1 m c) 1 := by
  have e0 : ReferenceIdeal.scores1 m' c = KernelIdeal.scores1 m c := congrArg (fun x => shapeCast _ x _) h.2.1
  have e1 : ReferenceIdeal.deltas1 m' c = KernelIdeal.deltas1 m c := congrArg (fun x => shapeCast _ x _) h.2.2.2.2.2.1
  have e2 : ReferenceIdeal.anchors1 m' c = KernelIdeal.anchors1 m c := congrArg (fun x => shapeCast _ x _) h.2.2.2.2.2.2.2.2.2.1
  have F := ReferenceIdeal.follows1 m' c
  rwa [e0, e1, e2] at F
theorem follows2 : ReferenceIdeal.Follows m' c KernelIdeal.hk2 (KernelIdeal.scores2 m c) (KernelIdeal.deltas2 m c) (KernelIdeal.anchors2 m c) 2 := by
  have e0 : ReferenceIdeal.scores2 m' c = KernelIdeal.scores2 m c := congrArg (fun x => shapeCast _ x _) h.2.2.1
  have e1 : ReferenceIdeal.deltas2 m' c = KernelIdeal.deltas2 m c := congrArg (fun x => shapeCast _ x _) h.2.2.2.2.2.2.1
  have e2 : ReferenceIdeal.anchors2 m' c = KernelIdeal.anchors2 m c := congrArg (fun x => shapeCast _ x _) h.2.2.2.2.2.2.2.2.2.2.1
  have F := ReferenceIdeal.follows2 m' c
  rwa [e0, e1, e2] at F
theorem follows3 : ReferenceIdeal.Follows m' c KernelIdeal.hk3 (KernelIdeal.scores3 m c) (KernelIdeal.deltas3 m c) (KernelIdeal.anchors3 m c) 3 := by
  have e0 : ReferenceIdeal.scores3 m' c = KernelIdeal.scores3 m c := congrArg (fun x => shapeCast _ x _) h.2.2.2.1
  have e1 : ReferenceIdeal.deltas3 m' c = KernelIdeal.deltas3 m c := congrArg (fun x => shapeCast _ x _) h.2.2.2.2.2.2.2.1
  have e2 : ReferenceIdeal.anchors3 m' c = KernelIdeal.anchors3 m c := congrArg (fun x => shapeCast _ x _) h.2.2.2.2.2.2.2.2.2.2.2.1
  have F := ReferenceIdeal.follows3 m' c
  rwa [e0, e1, e2] at F

variable (hf : Cert.Pre_KernelIdeal_fair m)
include hf

theorem along_scores : ReferenceIdeal.alongScores (ReferenceIdeal.topScores m' c)
    = KernelIdeal.joinScores (KernelIdeal.levelScores0 m c) (KernelIdeal.levelScores1 m c) (KernelIdeal.levelScores2 m c) (KernelIdeal.levelScores3 m c) := by
  unfold ReferenceIdeal.alongScores
  rw [cut_scores (o := 0) (image_same h) (follows0 h) (Fair.good0 hf c) rfl,
    cut_scores (o := 2) (image_same h) (follows1 h) (Fair.good1 hf c) rfl,
    cut_scores (o := 4) (image_same h) (follows2 h) (Fair.good2 hf c) rfl,
    cut_scores (o := 6) (image_same h) (follows3 h) (Fair.good3 hf c) rfl]
  rfl

theorem along_boxes : ReferenceIdeal.alongBoxes (ReferenceIdeal.topBoxes m' c)
    = KernelIdeal.joinBoxes (KernelIdeal.levelBoxes0 m c) (KernelIdeal.levelBoxes1 m c) (KernelIdeal.levelBoxes2 m c) (KernelIdeal.levelBoxes3 m c) := by
  unfold ReferenceIdeal.alongBoxes
  rw [cut_boxes (o := 0) (image_same h) (follows0 h) (Fair.good0 hf c) rfl,
    cut_boxes (o := 2) (image_same h) (follows1 h) (Fair.good1 hf c) rfl,
    cut_boxes (o := 4) (image_same h) (follows2 h) (Fair.good2 hf c) rfl,
    cut_boxes (o := 6) (image_same h) (follows3 h) (Fair.good3 hf c) rfl]
  rfl
end

/-- The scores of the four levels, joined, and the boxes. -/
def allScores (m : (ℓ : Loc Cert.KernelIdeal.nD Cert.KernelIdeal.τ Cert.KernelIdeal.sig) → Buf (Elt Ideal) ℓ) (c : Dev Cert.KernelIdeal.nD) :
    FVec Ideal (Nms.P 2 4000) .f32 :=
  KernelIdeal.joinScores (KernelIdeal.levelScores0 m c) (KernelIdeal.levelScores1 m c) (KernelIdeal.levelScores2 m c) (KernelIdeal.levelScores3 m c)
def allBoxes (m : (ℓ : Loc Cert.KernelIdeal.nD Cert.KernelIdeal.τ Cert.KernelIdeal.sig) → Buf (Elt Ideal) ℓ) (c : Dev Cert.KernelIdeal.nD) :
    FVec Ideal (Nms.Q 2 4000 4) .f32 :=
  KernelIdeal.joinBoxes (KernelIdeal.levelBoxes0 m c) (KernelIdeal.levelBoxes1 m c) (KernelIdeal.levelBoxes2 m c) (KernelIdeal.levelBoxes3 m c)

theorem last_scores : ReferenceIdeal.lastScores = KernelIdeal.lastScores := rfl
theorem last_rows (x : FVec Ideal (Nms.Q 2 4000 4) .f32) (y : FVec Ideal (Nms.P 2 4000) .f32) :
    ReferenceIdeal.lastRows x (ReferenceIdeal.lastAt y) = KernelIdeal.lastRows x (KernelIdeal.lastAt y) := rfl

/-- The claim's last part. -/
theorem algebraic : Cert.algebraic_KernelIdeal_ReferenceIdeal_pre_fair := by
  intro m g m' g' hf hs
  refine ⟨fun c => KernelIdeal.lastScores (allScores m c), fun c => KernelIdeal.lastRows (allBoxes m c) (KernelIdeal.lastAt (allScores m c)), ?_, ?_⟩
  · exact (θ_run _ _ _).mono (fun _ h c => ⟨(h.1 c).1, (h.1 c).2, h.2.1 c⟩) (θ_run_and (KernelIdeal.results m g) (KernelIdeal.frame m g))
  · refine (θ_run _ _ _).mono (fun _ h c => ⟨(h c).1.1.trans ?_, (h c).1.2.trans ?_, (h c).2⟩) (ReferenceIdeal.results m' g')
    · exact (congrArg ReferenceIdeal.lastScores (along_scores (hs c) hf)).trans (congrFun last_scores _)
    · exact (congrArg₂ (fun x y => ReferenceIdeal.lastRows x (ReferenceIdeal.lastAt y)) (along_boxes (hs c) hf) (along_scores (hs c) hf)).trans (last_rows _ _)

end Cert.Proof.Join

end
-- ==== Proof.lean ====
module

public import proofs.«01_k».proof.Defs
public import proofs.«01_k».proof.Proof.FrameKernel
public import proofs.«01_k».proof.Proof.FrameKernelIdeal
public import proofs.«01_k».proof.Proof.Join

@[expose] public section

/-! The proof of the claim. -/

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_fair.Gen.facts,
    fun m g _ => Kernel.frame m g, fun m g _ => KernelIdeal.frame m g, fun m g _ => KernelIdeal.frame m g,
    fun m g _ => ReferenceIdeal.frame m g, fun m g _ => ReferenceIdeal.frame m g,
    IdealRules.named_const.statement Cert.KernelIdeal.κ "ratio" .f32 0x3ED2D2D3#32 ((11744051 / 28521267 : ℝ) : EReal) rfl,
    Join.algebraic⟩

end Cert.Proof

end
